-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_rows_finite [hPre_rows_finite : Cert.Pre_rows_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_rows_finite [hPre_rows_finite : Cert.Pre_rows_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_rows_finite [hKernel4Ideal : Cert.Kernel4Ideal.Facts] [hPre_rows_finite : Cert.Pre_rows_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_rows_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_rows_finite [hReference4Ideal : Cert.Reference4Ideal.Facts] [hPre_rows_finite : Cert.Pre_rows_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rows_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v300) = v0 c
          ∧ r.2.mem ((c.tc : Thread Cert.Reference3Ideal.nD Cert.Reference3Ideal.τ).loc Cert.Reference3Ideal.main_v301) = v1 c
          ∧ r.2.mem ((c.tc : Thread Cert.Reference3Ideal.nD Cert.Reference3Ideal.τ).loc Cert.Reference3Ideal.main_v302) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_rows_finite [hKernel4Ideal : Cert.Kernel4Ideal.Facts] [hReference4Ideal : Cert.Reference4Ideal.Facts] [hPre_rows_finite : Cert.Pre_rows_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_rows_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v79) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)) (v6 : (c : Dev Cert.Kernel5Ideal.nD) → Buf (Elt Ideal) ((c.tc : Thread Cert.Kernel5Ideal.nD Cert.Kernel5Ideal.τ).loc Cert.Kernel5Ideal.main_v3_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_v3_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_v54) = v3 c
          ∧ r.2.mem ((c.tc : Thread Cert.Reference5Ideal.nD Cert.Reference5Ideal.τ).loc Cert.Reference5Ideal.main_v56) = v4 c
          ∧ r.2.mem ((c.tc : Thread Cert.Reference5Ideal.nD Cert.Reference5Ideal.τ).loc Cert.Reference5Ideal.main_v58) = v5 c
          ∧ r.2.mem ((c.tc : Thread Cert.Reference5Ideal.nD Cert.Reference5Ideal.τ).loc Cert.Reference5Ideal.main_v61) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gains_finite : Cert.Pre_gains_finite.Facts) (hPre_rows_finite : Cert.Pre_rows_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_rows_finite (hKernel4Ideal := hKernel4Ideal) (hPre_rows_finite := hPre_rows_finite)
    ∧ quiescent_Reference4Ideal (hReference4Ideal := hReference4Ideal)
    ∧ quiescent_Reference4Ideal_pre_rows_finite (hReference4Ideal := hReference4Ideal) (hPre_rows_finite := hPre_rows_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_rows_finite (hKernel4Ideal := hKernel4Ideal) (hReference4Ideal := hReference4Ideal) (hPre_rows_finite := hPre_rows_finite)
    ∧ preserves_Kernel5_Kernel5Ideal
    ∧ algebraic_Kernel5Ideal_Reference5Ideal (hKernel5Ideal := hKernel5Ideal) (hReference5Ideal := hReference5Ideal)
-- ==== Pre_gains_finite.lean ====
abbrev S8x2048x1024 : Shape := ⟨3, ![8, 2048, 1024]⟩
abbrev S512x1024 : Shape := ⟨2, ![512, 1024]⟩
abbrev S1024 : Shape := ⟨1, ![1024]⟩
abbrev S4x256x256 : Shape := ⟨3, ![4, 256, 256]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S8x2048x1024 .f32) (main_arg1 : FVec F S512x1024 .f32) (main_arg2 : FVec F S1024 .f32) (main_arg3 : FVec F S4x256x256 .f32) (main_arg4 : FVec F S1024 .f32) (main_arg5 : FVec F S1024 .f32) (main_arg6 : FVec F S1024 .f32) (main_arg7 : FVec F S1024x5632 .f32) (main_arg8 : FVec F S2816x1024 .f32) (main_arg9 : FVec F S1024 .f32) : IVec S_ 1 :=
  let main_v0 : FVec F S1024 .f32 := subf main_arg2 main_arg2
  let main_cst : FVec F S_ .f32 := constant S_ .f32 0x00000000#32
  let main_v1 : FVec F S1024 .f32 := broadcastInDim S1024 ![] bcast_S_S1024 main_cst
  let main_v2 : IVec S1024 1 := cmpf .oeq main_v0 main_v1
  let main_c : IVec S_ 1 := constantI S_ 1 1#1
  let main_v3 : IVec S_ 1 := (fun x v => Host.reduce IntOp.andi x v reducesTo_S1024_S_d0 h_S_) main_v2 main_c
  main_v3
-- ==== Pre_rows_finite.lean ====
abbrev S512x1024 : Shape := ⟨2, ![512, 1024]⟩
abbrev S15x128x1024 : Shape := ⟨3, ![15, 128, 1024]⟩
abbrev S1024 : Shape := ⟨1, ![1024]⟩
abbrev S4x256x256 : Shape := ⟨3, ![4, 256, 256]⟩
abbrev S_ : Shape := ⟨0, ![]⟩

class Facts : Prop where
  bcast_S_S15x128x1024 : S_.BroadcastsInDim S15x128x1024 (![] : Fin 0 → Fin S15x128x1024.rank)
  reducesTo_S15x128x1024_S_d0_1_2 : S15x128x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S512x1024 .f32) (main_arg1 : FVec F S15x128x1024 .f32) (main_arg2 : FVec F S1024 .f32) (main_arg3 : FVec F S4x256x256 .f32) (main_arg4 : FVec F S1024 .f32) (main_arg5 : FVec F S1024 .f32) : IVec S_ 1 :=
  let main_v0 : FVec F S15x128x1024 .f32 := subf main_arg1 main_arg1
  let main_cst : FVec F S_ .f32 := constant S_ .f32 0x00000000#32
  let main_v1 : FVec F S15x128x1024 .f32 := broadcastInDim S15x128x1024 ![] bcast_S_S15x128x1024 main_cst
  let main_v2 : IVec S15x128x1024 1 := cmpf .oeq main_v0 main_v1
  let main_c : IVec S_ 1 := constantI S_ 1 1#1
  let main_v3 : IVec S_ 1 := (fun x v => Host.reduce IntOp.andi x v reducesTo_S15x128x1024_S_d0_1_2 h_S_) main_v2 main_c
  let main_v4 : FVec F S1024 .f32 := subf main_arg2 main_arg2
  let main_cst_0 : FVec F S_ .f32 := constant S_ .f32 0x00000000#32
  let main_v5 : FVec F S1024 .f32 := broadcastInDim S1024 ![] bcast_S_S1024 main_cst_0
  let main_v6 : IVec S1024 1 := cmpf .oeq main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S8x2048x1024 : Shape := ⟨3, ![8, 2048, 1024]⟩
abbrev S512x1024 : Shape := ⟨2, ![512, 1024]⟩
abbrev S1024 : Shape := ⟨1, ![1024]⟩
abbrev S4x256x256 : Shape := ⟨3, ![4, 256, 256]⟩
abbrev S1024x5632 : Shape := ⟨2, ![1024, 5632]⟩
abbrev S2816x1024 : Shape := ⟨2, ![2816, 1024]⟩
abbrev S1024x256 : Shape := ⟨2, ![1024, 256]⟩
abbrev S16384x1024 : Shape := ⟨2, ![16384, 1024]⟩
abbrev S1x1024 : Shape := ⟨2, ![1, 1024]⟩
abbrev S8x15x1024 : Shape := ⟨3, ![8, 15, 1024]⟩
abbrev S1x15x1024 : Shape := ⟨3, ![1, 15, 1024]⟩
abbrev S512x2816 : Shape := ⟨2, ![512, 2816]⟩
abbrev S528x1024 : Shape := ⟨2, ![528, 1024]⟩
abbrev S16x1024 : Shape := ⟨2, ![16, 1024]⟩
abbrev S512 : Shape := ⟨1, ![512]⟩
abbrev S512x1 : Shape := ⟨2, ![512, 1]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S15x1024 : Shape := ⟨2, ![15, 1024]⟩

abbrev nBuf : Space → Nat
  | .hbm => 24
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1024x5632, .bf16⟩
  | .hbm, ⟨11, _⟩ => ⟨S2816x1024, .bf16⟩
  | .hbm, ⟨12, _⟩ => ⟨S1024x256, .f32⟩
  | .hbm, ⟨13, _⟩ => ⟨S1024x256, .bf16⟩
  | .hbm, ⟨14, _⟩ => ⟨S4x256x256, .bf16⟩
  | .hbm, ⟨15, _⟩ => ⟨S16384x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S512x1024, .f32⟩
  | .hbm, ⟨23, _⟩ => ⟨S8x15x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x15x1024, .f32⟩
  | .local _ .vmem, ⟨15, _⟩ => ⟨S1x15x1024, .f32⟩
  | .local _ .vmem, ⟨16, _⟩ => ⟨S512x2816, .bf16⟩
  | .local _ .vmem, ⟨17, _⟩ => ⟨S528x1024, .f32⟩
  | .local _ .vmem, ⟨18, _⟩ => ⟨S512x1024, .f32⟩
  | .local _ .vmem, ⟨19, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 1 := Scalar.cmpi .sge v0 c0_i32_0
  let c32_i32 : BitVec 32 := 32#32
  let v2 : BitVec 1 := Scalar.cmpi .slt v0 c32_i32
  let v3 : BitVec 1 := Scalar.andi v1 v2
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c0_i32 : BitVec 32 := 0#32
  let v0 : BitVec 32 := Scalar.subi arg0 c0_i32
  let c32_i32_2 : BitVec 32 := 32#32
  let v6 : BitVec 1 := Scalar.cmpi .eq v0 c32_i32_2
  let v7 : BitVec 32 := Scalar.extui v6
  let c0_i32_3 : BitVec 32 := 0#32
  let v8 : BitVec 1 := Scalar.cmpi .ne v7 c0_i32_3
  v8

def k0_cond3 (i : grid0.Coords) : BitVec 1 :=
  let arg0 : BitVec 32 := BitVec.ofNat 32 (i 0).val
  let c0_i32 : BitVec 32 := 0#32
  let v0 : BitVec 32 := Scalar.subi arg0 c0_i32
  let c4_i32 : BitVec 32 := 4#32
  let v9 : BitVec 32 := Scalar.remsi v0 c4_i32
  let c3_i32 : BitVec 32 := 3#32
  let v142 : BitVec 1 := Scalar.cmpi .eq v9 c3_i32
  let v143 : BitVec 32 := Scalar.extui v142
  let c0_i32_73 : BitVec 32 := 0#32
  let v144 : BitVec 1 := Scalar.cmpi .ne v143 c0_i32_73
  v144

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x15x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x2048x1024 : Shape := ⟨3, ![8, 2048, 1024]⟩
abbrev S512x1024 : Shape := ⟨2, ![512, 1024]⟩
abbrev S1024 : Shape := ⟨1, ![1024]⟩
abbrev S4x256x256 : Shape := ⟨3, ![4, 256, 256]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x15x1024 : Shape := ⟨3, ![8, 15, 1024]⟩
abbrev S8x2063x1024 : Shape := ⟨3, ![8, 2063, 1024]⟩
abbrev S8x2064x1024 : Shape := ⟨3, ![8, 2064, 1024]⟩
abbrev S2048 : Shape := ⟨1, ![2048]⟩
abbrev S8x2048x256 : Shape := ⟨3, ![8, 2048, 256]⟩
abbrev S1x2048x1 : Shape := ⟨3, ![1, 2048, 1]⟩
abbrev S8x2048x4x256 : Shape := ⟨4, ![8, 2048, 4, 256]⟩
abbrev S4x256x8x2048 : Shape := ⟨4, ![4, 256, 8, 2048]⟩
abbrev S8x2048x5632 : Shape := ⟨3, ![8, 2048, 5632]⟩
abbrev S8x2048x2816 : Shape := ⟨3, ![8, 2048, 2816]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩
abbrev S16384x1024 : Shape := ⟨2, ![16384, 1024]⟩

abbrev nBuf : Space → Nat
  | .hbm => 203
  | .vmem => 0
  | .smem => 0
  | _ => 0

abbrev hbmTy0_0 (i : Nat) : BufTy := match i % 128 with
  | 0 => ⟨S8x2048x1024, .f32⟩
  | 1 => ⟨S512x1024, .f32⟩
  | 2 => ⟨S1024, .f32⟩
  | 3 => ⟨S4x256x256, .f32⟩
  | 4 => ⟨S1024, .f32⟩
  | 5 => ⟨S1024, .f32⟩
  | 6 => ⟨S1024, .f32⟩
  | 7 => ⟨S1024x5632, .f32⟩
  | 8 => ⟨S2816x1024, .f32⟩
  | 9 => ⟨S1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S_, .f32⟩
  | 27 => ⟨S8x15x1024, .f32⟩
  | 28 => ⟨S8x2063x1024, .f32⟩
  | 29 => ⟨S_, .f32⟩
  | 30 => ⟨S_, .f32⟩
  | 31 => ⟨S8x2063x1024, .f32⟩
  | 32 => ⟨S_, .i32⟩
  | 33 => ⟨S_, .f32⟩
  | 34 => ⟨S8x2064x1024, .f32⟩
  | 35 => ⟨S2048, .i32⟩
  | 36 => ⟨S_, .i32⟩
  | 37 => ⟨S2048, .i32⟩
  | 38 => ⟨S2048, .i32⟩
  | 39 => ⟨S2048, .f32⟩
  | 40 => ⟨S8x2048x256, .f32⟩
  | 41 => ⟨S8x2048x256, .f32⟩
  | 42 => ⟨S_, .f32⟩
  | 43 => ⟨S2048, .f32⟩
  | 44 => ⟨S2048, .f32⟩
  | 45 => ⟨S_, .f32⟩
  | 46 => ⟨S2048, .f32⟩
  | 47 => ⟨S2048, .f32⟩
  | 48 => ⟨S1x2048x1, .f32⟩
  | 49 => ⟨S8x2048x256, .f32⟩
  | 50 => ⟨S8x2048x256, .f32⟩
  | 51 => ⟨S8x2048x256, .f32⟩
  | 52 => ⟨S8x2048x256, .f32⟩
  | 53 => ⟨S8x2048x256, .f32⟩
  | 54 => ⟨S_, .f32⟩
  | 55 => ⟨S2048, .f32⟩
  | 56 => ⟨S2048, .f32⟩
  | 57 => ⟨S_, .f32⟩
  | 58 => ⟨S2048, .f32⟩
  | 59 => ⟨S2048, .f32⟩
  | 60 => ⟨S1x2048x1, .f32⟩
  | 61 => ⟨S8x2048x256, .f32⟩
  | 62 => ⟨S8x2048x256, .f32⟩
  | 63 => ⟨S8x2048x256, .f32⟩
  | 64 => ⟨S8x2048x256, .f32⟩
  | 65 => ⟨S8x2048x256, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S1x2048x1, .f32⟩
  | 73 => ⟨S8x2048x256, .f32⟩
  | 74 => ⟨S8x2048x256, .f32⟩
  | 75 => ⟨S8x2048x256, .f32⟩
  | 76 => ⟨S8x2048x256, .f32⟩
  | 77 => ⟨S8x2048x256, .f32⟩
  | 78 => ⟨S_, .f32⟩
  | 79 => ⟨S2048, .f32⟩
  | 80 => ⟨S2048, .f32⟩
  | 81 => ⟨S_, .f32⟩
  | 82 => ⟨S2048, .f32⟩
  | 83 => ⟨S2048, .f32⟩
  | 84 => ⟨S1x2048x1, .f32⟩
  | 85 => ⟨S8x2048x256, .f32⟩
  | 86 => ⟨S8x2048x256, .f32⟩
  | 87 => ⟨S8x2048x256, .f32⟩
  | 88 => ⟨S8x2048x1024, .f32⟩
  | 89 => ⟨S8x2048x1024, .f32⟩
  | 90 => ⟨S8x2048x4x256, .f32⟩
  | 91 => ⟨S4x256x8x2048, .f32⟩
  | 92 => ⟨S8x2048x4x256, .f32⟩
  | 93 => ⟨S8x2048x1024, .f32⟩
  | 94 => ⟨S1x1x1024, .f32⟩
  | 95 => ⟨S8x2048x1024, .f32⟩
  | 96 => ⟨S8x2048x1024, .f32⟩
  | 97 => ⟨S1x1x1024, .f32⟩
  | 98 => ⟨S8x2048x1024, .f32⟩
  | 99 => ⟨S8x2048x1024, .f32⟩
  | 100 => ⟨S8x15x1024, .f32⟩
  | 101 => ⟨S8x2048x1024, .f32⟩
  | 102 => ⟨S8x2048x1024, .f32⟩
  | 103 => ⟨S_, .f32⟩
  | 104 => ⟨S8x2048, .f32⟩
  | 105 => ⟨S8x2048x1, .f32⟩
  | 106 => ⟨S_, .f32⟩
  | 107 => ⟨S8x2048x1, .f32⟩
  | 108 => ⟨S8x2048x1, .f32⟩
  | 109 => ⟨S_, .f32⟩
  | 110 => ⟨S8x2048x1, .f32⟩
  | 111 => ⟨S8x2048x1, .f32⟩
  | 112 => ⟨S8x2048x1, .f32⟩
  | 113 => ⟨S8x2048x1024, .f32⟩
  | 114 => ⟨S8x2048x1024, .f32⟩
  | 115 => ⟨S1x1x1024, .f32⟩
  | 116 => ⟨S8x2048x1024, .f32⟩
  | 117 => ⟨S8x2048x1024, .f32⟩
  | 118 => ⟨S8x2048x5632, .f32⟩
  | 119 => ⟨S8x2048x2816, .f32⟩
  | 120 => ⟨S8x2048x2816, .f32⟩
  | 121 => ⟨S8x2048x2816, .f32⟩
  | 122 => ⟨S8x2048x2816, .f32⟩
  | 123 => ⟨S_, .f32⟩
  | 124 => ⟨S8x2048x2816, .f32⟩
  | 125 => ⟨S8x2048x2816, .f32⟩
  | 126 => ⟨S_, .f32⟩
  | 127 => ⟨S8x2048x2816, .f32⟩
  | _ => ⟨S8x2048x1024, .f32⟩

abbrev hbmTy0_1 (i : Nat) : BufTy := match i % 128 with
  | 0 => ⟨S8x2048x2816, .f32⟩
  | 1 => ⟨S8x2048x2816, .f32⟩
  | 2 => ⟨S8x2048x2816, .f32⟩
  | 3 => ⟨S8x2048x1024, .f32⟩
  | 4 => ⟨S_, .f32⟩
  | 5 => ⟨S8x2048x1024, .f32⟩
  | 6 => ⟨S8x2048x1024, .f32⟩
  | 7 => ⟨S8x2048x1024, .f32⟩
  | 8 => ⟨S512x1024, .f32⟩
  | 9 => ⟨S_, .f32⟩
  | 10 => ⟨S512, .f32⟩
  | 11 => ⟨S512x1, .f32⟩
  | 12 => ⟨S_, .f32⟩
  | 13 => ⟨S512x1, .f32⟩
  | 14 => ⟨S512x1, .f32⟩
  | 15 => ⟨S_, .f32⟩
  | 16 => ⟨S512x1, .f32⟩
  | 17 => ⟨S512x1, .f32⟩
  | 18 => ⟨S512x1, .f32⟩
  | 19 => ⟨S512x1024, .f32⟩
  | 20 => ⟨S512x1024, .f32⟩
  | 21 => ⟨S1x1024, .f32⟩
  | 22 => ⟨S512x1024, .f32⟩
  | 23 => ⟨S512x1024, .f32⟩
  | 24 => ⟨S512x5632, .f32⟩
  | 25 => ⟨S512x2816, .f32⟩
  | 26 => ⟨S512x2816, .f32⟩
  | 27 => ⟨S512x2816, .f32⟩
  | 28 => ⟨S512x2816, .f32⟩
  | 29 => ⟨S_, .f32⟩
  | 30 => ⟨S512x2816, .f32⟩
  | 31 => ⟨S512x2816, .f32⟩
  | 32 => ⟨S_, .f32⟩
  | 33 => ⟨S512x2816, .f32⟩
  | 34 => ⟨S512x2816, .f32⟩
  | 35 => ⟨S512x2816, .f32⟩
  | 36 => ⟨S512x2816, .f32⟩
  | 37 => ⟨S512x1024, .f32⟩
  | 38 => ⟨S_, .f32⟩
  | 39 => ⟨S512x1024, .f32⟩
  | 40 => ⟨S512x1024, .f32⟩
  | 41 => ⟨S512x1024, .f32⟩
  | 42 => ⟨S8x2048x1024, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .f32⟩
  | 50 => ⟨S8x2048x1, .f32⟩
  | 51 => ⟨S8x2048x1, .f32⟩
  | 52 => ⟨S8x2048x1, .f32⟩
  | 53 => ⟨S8x2048x1024, .f32⟩
  | 54 => ⟨S8x2048x1024, .f32⟩
  | 55 => ⟨S1x1x1024, .f32⟩
  | 56 => ⟨S8x2048x1024, .f32⟩
  | 57 => ⟨S8x2048x1024, .f32⟩
  | 58 => ⟨S16384x1024, .f32⟩
  | 59 => ⟨S512x1024, .f32⟩
  | 60 => ⟨S_, .f32⟩
  | 61 => ⟨S512, .f32⟩
  | 62 => ⟨S512x1, .f32⟩
  | 63 => ⟨S_, .f32⟩
  | 64 => ⟨S512x1, .f32⟩
  | 65 => ⟨S512x1, .f32⟩
  | 66 => ⟨S_, .f32⟩
  | 67 => ⟨S512x1, .f32⟩
  | 68 => ⟨S512x1, .f32⟩
  | 69 => ⟨S512x1, .f32⟩
  | 70 => ⟨S512x1024, .f32⟩
  | 71 => ⟨S512x1024, .f32⟩
  | 72 => ⟨S1x1024, .f32⟩
  | 73 => ⟨S512x1024, .f32⟩
  | 74 => ⟨S512x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_call0_call0_cst : Ref sig .tc := ⟨.hbm, 29, rfl⟩
abbrev main_call0_call0_v0 : Ref sig .tc := ⟨.hbm, 30, rfl⟩
abbrev main_v15 : Ref sig .tc := ⟨.hbm, 31, rfl⟩
abbrev main_c : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call2_v0 : Ref sig .tc := ⟨.hbm, 121, rfl⟩
abbrev main_call2_v1 : Ref sig .tc := ⟨.hbm, 122, rfl⟩
abbrev main_call2_cst : Ref sig .tc := ⟨.hbm, 123, rfl⟩
abbrev main_call2_v2 : Ref sig .tc := ⟨.hbm, 124, rfl⟩
abbrev main_call2_v3 : Ref sig .tc := ⟨.hbm, 125, rfl⟩
abbrev main_call2_cst_0 : Ref sig .tc := ⟨.hbm, 126, rfl⟩
abbrev main_call2_v4 : Ref sig .tc := ⟨.hbm, 127, rfl⟩
abbrev main_call2_v5 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_15 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_16 : Ref sig .tc := ⟨.hbm, 137, rfl⟩
abbrev main_v98 : Ref sig .tc := ⟨.hbm, 138, rfl⟩
abbrev main_v99 : Ref sig .tc := ⟨.hbm, 139, rfl⟩
abbrev main_cst_17 : Ref sig .tc := ⟨.hbm, 140, rfl⟩
abbrev main_v100 : Ref sig .tc := ⟨.hbm, 141, rfl⟩
abbrev main_v101 : Ref sig .tc := ⟨.hbm, 142, rfl⟩
abbrev main_cst_18 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_call3_v0 : Ref sig .tc := ⟨.hbm, 155, rfl⟩
abbrev main_call3_v1 : Ref sig .tc := ⟨.hbm, 156, rfl⟩
abbrev main_call3_cst : Ref sig .tc := ⟨.hbm, 157, rfl⟩
abbrev main_call3_v2 : Ref sig .tc := ⟨.hbm, 158, rfl⟩
abbrev main_call3_v3 : Ref sig .tc := ⟨.hbm, 159, rfl⟩
abbrev main_call3_cst_0 : Ref sig .tc := ⟨.hbm, 160, rfl⟩
abbrev main_call3_v4 : Ref sig .tc := ⟨.hbm, 161, rfl⟩
abbrev main_call3_v5 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_19 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_20 : Ref sig .tc := ⟨.hbm, 171, rfl⟩
abbrev main_v120 : Ref sig .tc := ⟨.hbm, 172, rfl⟩
abbrev main_v121 : Ref sig .tc := ⟨.hbm, 173, rfl⟩
abbrev main_cst_21 : Ref sig .tc := ⟨.hbm, 174, rfl⟩
abbrev main_v122 : Ref sig .tc := ⟨.hbm, 175, rfl⟩
abbrev main_v123 : Ref sig .tc := ⟨.hbm, 176, rfl⟩
abbrev main_cst_22 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_23 : Ref sig .tc := ⟨.hbm, 188, rfl⟩
abbrev main_v134 : Ref sig .tc := ⟨.hbm, 189, rfl⟩
abbrev main_v135 : Ref sig .tc := ⟨.hbm, 190, rfl⟩
abbrev main_cst_24 : Ref sig .tc := ⟨.hbm, 191, rfl⟩
abbrev main_v136 : Ref sig .tc := ⟨.hbm, 192, rfl⟩
abbrev main_v137 : Ref sig .tc := ⟨.hbm, 193, rfl⟩
abbrev main_cst_25 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩

abbrev nD : Nat := 1
abbrev τ : Topo := Topo.v7x

variable {F : FTy → Type} [FloatOps F]
-- ==== Kernel2.lean ====
abbrev S8x2048x1024 : Shape := ⟨3, ![8, 2048, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S16384x1024 : Shape := ⟨2, ![16384, 1024]⟩
abbrev S1x1024 : Shape := ⟨2, ![1, 1024]⟩
abbrev S1x1x32x5632 : Shape := ⟨4, ![1, 1, 32, 5632]⟩
abbrev S1x1x176x1024 : Shape := ⟨4, ![1, 1, 176, 1024]⟩
abbrev S32x5632 : Shape := ⟨2, ![32, 5632]⟩
abbrev S176x1024 : Shape := ⟨2, ![176, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 15
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x2x1024x5632, .f32⟩
  | .hbm, ⟨6, _⟩ => ⟨S2x2x2816x1024, .f32⟩
  | .hbm, ⟨7, _⟩ => ⟨S16384x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S16384x1024, .f32⟩
  | .hbm, ⟨12, _⟩ => ⟨S512x1024, .f32⟩
  | .hbm, ⟨13, _⟩ => ⟨S1024x5632, .bf16⟩
  | .hbm, ⟨14, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1x32x5632, .f32⟩
  | .local _ .vmem, ⟨7, _⟩ => ⟨S1x1x32x5632, .f32⟩
  | .local _ .vmem, ⟨8, _⟩ => ⟨S1x1x176x1024, .f32⟩
  | .local _ .vmem, ⟨9, _⟩ => ⟨S1x1x176x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S32x5632, .bf16⟩
  | .local _ .vmem, ⟨14, _⟩ => ⟨S32x5632, .bf16⟩
  | .local _ .vmem, ⟨15, _⟩ => ⟨S176x1024, .bf16⟩
  | .local _ .vmem, ⟨16, _⟩ => ⟨S176x1024, .bf16⟩
  | .local _ .vmem, ⟨17, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 32 := Scalar.subi arg0 c0_i32
  let c0_i32_11 : BitVec 32 := 0#32
  let v9 : BitVec 1 := Scalar.cmpi .sge v0 c0_i32_11
  let c32_i32 : BitVec 32 := 32#32
  let v10 : BitVec 1 := Scalar.cmpi .slt v0 c32_i32
  let v11 : BitVec 1 := Scalar.andi v9 v10
  let v12 : BitVec 32 := Scalar.extui v11
  let c0_i32_12 : BitVec 32 := 0#32
  let v13 : BitVec 1 := Scalar.cmpi .ne v12 c0_i32_12
  v13

def k0_cond2 (i : grid0.Coords) : BitVec 1 :=
  let arg0 : BitVec 32 := BitVec.ofNat 32 (i 0).val
  let c0_i32 : BitVec 32 := 0#32
  let v0 : BitVec 32 := Scalar.subi arg0 c0_i32
  let c32_i32_13 : BitVec 32 := 32#32
  let v14 : BitVec 1 := Scalar.cmpi .eq v0 c32_i32_13
  let v15 : BitVec 32 := Scalar.extui v14
  let c0_i32_14 : BitVec 32 := 0#32
  let v16 : BitVec 1 := Scalar.cmpi .ne v15 c0_i32_14
  v16

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c1_i32_8 : BitVec 32 := 1#32
  let c0_i32_9 : BitVec 32 := 0#32
  let c0_i32_10 : BitVec 32 := 0#32
  ![c1_i32_7.toNat, c1_i32_8.toNat, v19.toNat, c0_i32_9.toNat]

def cc0_transform_6 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let c1_i32_7 : BitVec 32 := 1#32
  let c0_i32_8 : BitVec 32 := 0#32
  let c0_i32_9 : BitVec 32 := 0#32
  ![c1_i32_6.toNat, c1_i32_7.toNat, v19.toNat, c0_i32_8.toNat]

def cc0_transform_7 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  let c0_i32_8 : BitVec 32 := 0#32
  ![v19.toNat, c0_i32_7.toNat]

def cc0_transform_10 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let c0_i32_7 : BitVec 32 := 0#32
  ![v19.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x32x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x2048x1024 : Shape := ⟨3, ![8, 2048, 1024]⟩
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S2x2x1024x5632 : Shape := ⟨4, ![2, 2, 1024, 5632]⟩
abbrev S2x2x2816x1024 : Shape := ⟨4, ![2, 2, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩
abbrev S16384x1024 : Shape := ⟨2, ![16384, 1024]⟩
abbrev S1x1x1024x5632 : Shape := ⟨4, ![1, 1, 1024, 5632]⟩
abbrev S1x1x2816x1024 : Shape := ⟨4, ![1, 1, 2816, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x2x1024x5632, .f32⟩
  | .hbm, ⟨6, _⟩ => ⟨S2x2x2816x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x5632, .f32⟩
  | .hbm, ⟨24, _⟩ => ⟨S8x2048x2816, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x1024, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S512x1024, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x1, .f32⟩
  | .hbm, ⟨52, _⟩ => ⟨S512x1024, .f32⟩
  | .hbm, ⟨53, _⟩ => ⟨S512x1024, .f32⟩
  | .hbm, ⟨54, _⟩ => ⟨S1x1024, .f32⟩
  | .hbm, ⟨55, _⟩ => ⟨S512x1024, .f32⟩
  | .hbm, ⟨56, _⟩ => ⟨S512x1024, .f32⟩
  | .hbm, ⟨57, _⟩ => ⟨S512x5632, .f32⟩
  | .hbm, ⟨58, _⟩ => ⟨S512x2816, .f32⟩
  | .hbm, ⟨59, _⟩ => ⟨S512x2816, .f32⟩
  | .hbm, ⟨60, _⟩ => ⟨S512x2816, .f32⟩
  | .hbm, ⟨61, _⟩ => ⟨S512x2816, .f32⟩
  | .hbm, ⟨62, _⟩ => ⟨S_, .f32⟩
  | .hbm, ⟨63, _⟩ => ⟨S512x2816, .f32⟩
  | .hbm, ⟨64, _⟩ => ⟨S512x2816, .f32⟩
  | .hbm, ⟨65, _⟩ => ⟨S_, .f32⟩
  | .hbm, ⟨66, _⟩ => ⟨S512x2816, .f32⟩
  | .hbm, ⟨67, _⟩ => ⟨S512x2816, .f32⟩
  | .hbm, ⟨68, _⟩ => ⟨S512x2816, .f32⟩
  | .hbm, ⟨69, _⟩ => ⟨S512x2816, .f32⟩
  | .hbm, ⟨70, _⟩ => ⟨S512x1024, .f32⟩
  | .hbm, ⟨71, _⟩ => ⟨S_, .f32⟩
  | .hbm, ⟨72, _⟩ => ⟨S512x1024, .f32⟩
  | .hbm, ⟨73, _⟩ => ⟨S512x1024, .f32⟩
  | .hbm, ⟨74, _⟩ => ⟨S512x1024, .f32⟩
  | .hbm, ⟨75, _⟩ => ⟨S16384x1024, .f32⟩
  | .hbm, ⟨76, _⟩ => ⟨S1x1x1024x5632, .f32⟩
  | .hbm, ⟨77, _⟩ => ⟨S1024x5632, .f32⟩
  | .hbm, ⟨78, _⟩ => ⟨S1024x5632, .bf16⟩
  | .hbm, ⟨79, _⟩ => ⟨S1x1x2816x1024, .f32⟩
  | .hbm, ⟨80, _⟩ => ⟨S2816x1024, .f32⟩
  | .hbm, ⟨81, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩

abbrev nD : Nat := 1
abbrev τ : Topo := Topo.v7x

variable {F : FTy → Type} [FloatOps F]
-- ==== Kernel3.lean ====
abbrev S512x1024 : Shape := ⟨2, ![512, 1024]⟩
abbrev S30x128x512 : Shape := ⟨3, ![30, 128, 512]⟩
abbrev S2x128x512 : Shape := ⟨3, ![2, 128, 512]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S1x1024 : Shape := ⟨2, ![1, 1024]⟩
abbrev S1x512 : Shape := ⟨2, ![1, 512]⟩
abbrev S512x512 : Shape := ⟨2, ![512, 512]⟩
abbrev S512x1 : Shape := ⟨2, ![512, 1]⟩
abbrev S512x2560 : Shape := ⟨2, ![512, 2560]⟩
abbrev S128x512 : Shape := ⟨2, ![128, 512]⟩
abbrev S1x128x512 : Shape := ⟨3, ![1, 128, 512]⟩
abbrev S128 : Shape := ⟨1, ![128]⟩
abbrev S128x1 : Shape := ⟨2, ![128, 1]⟩

abbrev nBuf : Space → Nat
  | .hbm => 20
  | .vmem => 17
  | .smem => 0
  | _ => 0

abbrev bufTy : (tb : Table) → Fin (tcTables nBuf tb) → BufTy
  | .hbm, ⟨0, _⟩ => ⟨S512x1024, .f32⟩
  | .hbm, ⟨1, _⟩ => ⟨S30x128x512, .f32⟩
  | .hbm, ⟨2, _⟩ => ⟨S2x128x512, .f32⟩
  | .hbm, ⟨3, _⟩ => ⟨S1024, .f32⟩
  | .hbm, ⟨4, _⟩ => ⟨S1024x2560, .f32⟩
  | .hbm, ⟨5, _⟩ => ⟨S31x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S3x512, .f32⟩
  | .hbm, ⟨10, _⟩ => ⟨S1024x1024, .f32⟩
  | .hbm, ⟨11, _⟩ => ⟨S1024x2560, .bf16⟩
  | .hbm, ⟨12, _⟩ => ⟨S1024x1024, .bf16⟩
  | .hbm, ⟨13, _⟩ => ⟨S1x1024, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S512x1024, .f32⟩
  | .hbm, ⟨18, _⟩ => ⟨S30x128x512, .f32⟩
  | .hbm, ⟨19, _⟩ => ⟨S2x128x512, .f32⟩
  | .local _ .vmem, ⟨0, _⟩ => ⟨S512x1024, .f32⟩
  | .local _ .vmem, ⟨1, _⟩ => ⟨S30x128x512, .f32⟩
  | .local _ .vmem, ⟨2, _⟩ => ⟨S2x128x512, .f32⟩
  | .local _ .vmem, ⟨3, _⟩ => ⟨S1x1024, .f32⟩
  | .local _ .vmem, ⟨4, _⟩ => ⟨S1024x2560, .bf16⟩
  | .local _ .vmem, ⟨5, _⟩ => ⟨S31x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S3x512, .f32⟩
  | .local _ .vmem, ⟨10, _⟩ => ⟨S1024x1024, .bf16⟩
  | .local _ .vmem, ⟨11, _⟩ => ⟨S512x1024, .f32⟩
  | .local _ .vmem, ⟨12, _⟩ => ⟨S30x128x512, .f32⟩
  | .local _ .vmem, ⟨13, _⟩ => ⟨S2x128x512, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S30x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference3Ideal.lean ====
abbrev S512x1024 : Shape := ⟨2, ![512, 1024]⟩
abbrev S30x128x512 : Shape := ⟨3, ![30, 128, 512]⟩
abbrev S2x128x512 : Shape := ⟨3, ![2, 128, 512]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S_ : Shape := ⟨0, ![]⟩
abbrev S512x1 : Shape := ⟨2, ![512, 1]⟩
abbrev S1x1024 : Shape := ⟨2, ![1, 1024]⟩
abbrev S4x128x1024 : Shape := ⟨3, ![4, 128, 1024]⟩
abbrev S4x128x2560 : Shape := ⟨3, ![4, 128, 2560]⟩
abbrev S4x128x512 : Shape := ⟨3, ![4, 128, 512]⟩
abbrev S34x128x512 : Shape := ⟨3, ![34, 128, 512]⟩
abbrev S1x512 : Shape := ⟨2, ![1, 512]⟩
abbrev S1x1x512 : Shape := ⟨3, ![1, 1, 512]⟩
abbrev S4x128 : Shape := ⟨2, ![4, 128]⟩
abbrev S4x128x1 : Shape := ⟨3, ![4, 128, 1]⟩
abbrev S6x128x512 : Shape := ⟨3, ![6, 128, 512]⟩

abbrev nBuf : Space → Nat
  | .hbm => 334
  | .vmem => 0
  | .smem => 0
  | _ => 0

abbrev hbmTy0_0 (i : Nat) : BufTy := match i % 128 with
  | 0 => ⟨S512x1024, .f32⟩
  | 1 => ⟨S30x128x512, .f32⟩
  | 2 => ⟨S2x128x512, .f32⟩
  | 3 => ⟨S1024, .f32⟩
  | 4 => ⟨S1024x2560, .f32⟩
  | 5 => ⟨S31x512, .f32⟩
  | 6 => ⟨S512, .f32⟩
  | 7 => ⟨S512, .f32⟩
  | 8 => ⟨S512, .f32⟩
  | 9 => ⟨S3x512, .f32⟩
  | 10 => ⟨S1024x1024, .f32⟩
  | 11 => ⟨S512x1024, .f32⟩
  | 12 => ⟨S_, .f32⟩
  | 13 => ⟨S512, .f32⟩
  | 14 => ⟨S512x1, .f32⟩
  | 15 => ⟨S_, .f32⟩
  | 16 => ⟨S512x1, .f32⟩
  | 17 => ⟨S512x1, .f32⟩
  | 18 => ⟨S_, .f32⟩
  | 19 => ⟨S512x1, .f32⟩
  | 20 => ⟨S512x1, .f32⟩
  | 21 => ⟨S512x1, .f32⟩
  | 22 => ⟨S512x1024, .f32⟩
  | 23 => ⟨S512x1024, .f32⟩
  | 24 => ⟨S1x1024, .f32⟩
  | 25 => ⟨S512x1024, .f32⟩
  | 26 => ⟨S512x1024, .f32⟩
  | 27 => ⟨S4x128x1024, .f32⟩
  | 28 => ⟨S4x128x2560, .f32⟩
  | 29 => ⟨S4x128x512, .f32⟩
  | 30 => ⟨S4x128x512, .f32⟩
  | 31 => ⟨S4x128x512, .f32⟩
  | 32 => ⟨S4x128x512, .f32⟩
  | 33 => ⟨S4x128x512, .f32⟩
  | 34 => ⟨S4x128x512, .f32⟩
  | 35 => ⟨S4x128x512, .f32⟩
  | 36 => ⟨S_, .f32⟩
  | 37 => ⟨S4x128x512, .f32⟩
  | 38 => ⟨S4x128x512, .f32⟩
  | 39 => ⟨S_, .f32⟩
  | 40 => ⟨S4x128x512, .f32⟩
  | 41 => ⟨S4x128x512, .f32⟩
  | 42 => ⟨S4x128x512, .f32⟩
  | 43 => ⟨S34x128x512, .f32⟩
  | 44 => ⟨S4x128x512, .f32⟩
  | 45 => ⟨S1x512, .f32⟩
  | 46 => ⟨S512, .f32⟩
  | 47 => ⟨S1x1x512, .f32⟩
  | 48 => ⟨S4x128x512, .f32⟩
  | 49 => ⟨S4x128x512, .f32⟩
  | 50 => ⟨S_, .f32⟩
  | 51 => ⟨S4x128x512, .f32⟩
  | 52 => ⟨S4x128x512, .f32⟩
  | 53 => ⟨S4x128x512, .f32⟩
  | 54 => ⟨S1x512, .f32⟩
  | 55 => ⟨S512, .f32⟩
  | 56 => ⟨S1x1x512, .f32⟩
  | 57 => ⟨S4x128x512, .f32⟩
  | 58 => ⟨S4x128x512, .f32⟩
  | 59 => ⟨S4x128x512, .f32⟩
  | 60 => ⟨S4x128x512, .f32⟩
  | 61 => ⟨S1x512, .f32⟩
  | 62 => ⟨S512, .f32⟩
  | 63 => ⟨S1x1x512, .f32⟩
  | 64 => ⟨S4x128x512, .f32⟩
  | 65 => ⟨S4x128x512, .f32⟩
  | 66 => ⟨S4x128x512, .f32⟩
  | 67 => ⟨S4x128x512, .f32⟩
  | 68 => ⟨S1x512, .f32⟩
  | 69 => ⟨S512, .f32⟩
  | 70 => ⟨S1x1x512, .f32⟩
  | 71 => ⟨S4x128x512, .f32⟩
  | 72 => ⟨S4x128x512, .f32⟩
  | 73 => ⟨S4x128x512, .f32⟩
  | 74 => ⟨S4x128x512, .f32⟩
  | 75 => ⟨S1x512, .f32⟩
  | 76 => ⟨S512, .f32⟩
  | 77 => ⟨S1x1x512, .f32⟩
  | 78 => ⟨S4x128x512, .f32⟩
  | 79 => ⟨S4x128x512, .f32⟩
  | 80 => ⟨S4x128x512, .f32⟩
  | 81 => ⟨S4x128x512, .f32⟩
  | 82 => ⟨S1x512, .f32⟩
  | 83 => ⟨S512, .f32⟩
  | 84 => ⟨S1x1x512, .f32⟩
  | 85 => ⟨S4x128x512, .f32⟩
  | 86 => ⟨S4x128x512, .f32⟩
  | 87 => ⟨S4x128x512, .f32⟩
  | 88 => ⟨S4x128x512, .f32⟩
  | 89 => ⟨S1x512, .f32⟩
  | 90 => ⟨S512, .f32⟩
  | 91 => ⟨S1x1x512, .f32⟩
  | 92 => ⟨S4x128x512, .f32⟩
  | 93 => ⟨S4x128x512, .f32⟩
  | 94 => ⟨S4x128x512, .f32⟩
  | 95 => ⟨S4x128x512, .f32⟩
  | 96 => ⟨S1x512, .f32⟩
  | 97 => ⟨S512, .f32⟩
  | 98 => ⟨S1x1x512, .f32⟩
  | 99 => ⟨S4x128x512, .f32⟩
  | 100 => ⟨S4x128x512, .f32⟩
  | 101 => ⟨S4x128x512, .f32⟩
  | 102 => ⟨S4x128x512, .f32⟩
  | 103 => ⟨S1x512, .f32⟩
  | 104 => ⟨S512, .f32⟩
  | 105 => ⟨S1x1x512, .f32⟩
  | 106 => ⟨S4x128x512, .f32⟩
  | 107 => ⟨S4x128x512, .f32⟩
  | 108 => ⟨S4x128x512, .f32⟩
  | 109 => ⟨S4x128x512, .f32⟩
  | 110 => ⟨S1x512, .f32⟩
  | 111 => ⟨S512, .f32⟩
  | 112 => ⟨S1x1x512, .f32⟩
  | 113 => ⟨S4x128x512, .f32⟩
  | 114 => ⟨S4x128x512, .f32⟩
  | 115 => ⟨S4x128x512, .f32⟩
  | 116 => ⟨S4x128x512, .f32⟩
  | 117 => ⟨S1x512, .f32⟩
  | 118 => ⟨S512, .f32⟩
  | 119 => ⟨S1x1x512, .f32⟩
  | 120 => ⟨S4x128x512, .f32⟩
  | 121 => ⟨S4x128x512, .f32⟩
  | 122 => ⟨S4x128x512, .f32⟩
  | 123 => ⟨S4x128x512, .f32⟩
  | 124 => ⟨S1x512, .f32⟩
  | 125 => ⟨S512, .f32⟩
  | 126 => ⟨S1x1x512, .f32⟩
  | 127 => ⟨S4x128x512, .f32⟩
  | _ => ⟨S512x1024, .f32⟩

abbrev hbmTy0_1 (i : Nat) : BufTy := match i % 128 with
  | 0 => ⟨S4x128x512, .f32⟩
  | 1 => ⟨S4x128x512, .f32⟩
  | 2 => ⟨S4x128x512, .f32⟩
  | 3 => ⟨S1x512, .f32⟩
  | 4 => ⟨S512, .f32⟩
  | 5 => ⟨S1x1x512, .f32⟩
  | 6 => ⟨S4x128x512, .f32⟩
  | 7 => ⟨S4x128x512, .f32⟩
  | 8 => ⟨S4x128x512, .f32⟩
  | 9 => ⟨S4x128x512, .f32⟩
  | 10 => ⟨S1x512, .f32⟩
  | 11 => ⟨S512, .f32⟩
  | 12 => ⟨S1x1x512, .f32⟩
  | 13 => ⟨S4x128x512, .f32⟩
  | 14 => ⟨S4x128x512, .f32⟩
  | 15 => ⟨S4x128x512, .f32⟩
  | 16 => ⟨S4x128x512, .f32⟩
  | 17 => ⟨S1x512, .f32⟩
  | 18 => ⟨S512, .f32⟩
  | 19 => ⟨S1x1x512, .f32⟩
  | 20 => ⟨S4x128x512, .f32⟩
  | 21 => ⟨S4x128x512, .f32⟩
  | 22 => ⟨S4x128x512, .f32⟩
  | 23 => ⟨S4x128x512, .f32⟩
  | 24 => ⟨S1x512, .f32⟩
  | 25 => ⟨S512, .f32⟩
  | 26 => ⟨S1x1x512, .f32⟩
  | 27 => ⟨S4x128x512, .f32⟩
  | 28 => ⟨S4x128x512, .f32⟩
  | 29 => ⟨S4x128x512, .f32⟩
  | 30 => ⟨S4x128x512, .f32⟩
  | 31 => ⟨S1x512, .f32⟩
  | 32 => ⟨S512, .f32⟩
  | 33 => ⟨S1x1x512, .f32⟩
  | 34 => ⟨S4x128x512, .f32⟩
  | 35 => ⟨S4x128x512, .f32⟩
  | 36 => ⟨S4x128x512, .f32⟩
  | 37 => ⟨S4x128x512, .f32⟩
  | 38 => ⟨S1x512, .f32⟩
  | 39 => ⟨S512, .f32⟩
  | 40 => ⟨S1x1x512, .f32⟩
  | 41 => ⟨S4x128x512, .f32⟩
  | 42 => ⟨S4x128x512, .f32⟩
  | 43 => ⟨S4x128x512, .f32⟩
  | 44 => ⟨S4x128x512, .f32⟩
  | 45 => ⟨S1x512, .f32⟩
  | 46 => ⟨S512, .f32⟩
  | 47 => ⟨S1x1x512, .f32⟩
  | 48 => ⟨S4x128x512, .f32⟩
  | 49 => ⟨S4x128x512, .f32⟩
  | 50 => ⟨S4x128x512, .f32⟩
  | 51 => ⟨S4x128x512, .f32⟩
  | 52 => ⟨S1x512, .f32⟩
  | 53 => ⟨S512, .f32⟩
  | 54 => ⟨S1x1x512, .f32⟩
  | 55 => ⟨S4x128x512, .f32⟩
  | 56 => ⟨S4x128x512, .f32⟩
  | 57 => ⟨S4x128x512, .f32⟩
  | 58 => ⟨S4x128x512, .f32⟩
  | 59 => ⟨S1x512, .f32⟩
  | 60 => ⟨S512, .f32⟩
  | 61 => ⟨S1x1x512, .f32⟩
  | 62 => ⟨S4x128x512, .f32⟩
  | 63 => ⟨S4x128x512, .f32⟩
  | 64 => ⟨S4x128x512, .f32⟩
  | 65 => ⟨S4x128x512, .f32⟩
  | 66 => ⟨S1x512, .f32⟩
  | 67 => ⟨S512, .f32⟩
  | 68 => ⟨S1x1x512, .f32⟩
  | 69 => ⟨S4x128x512, .f32⟩
  | 70 => ⟨S4x128x512, .f32⟩
  | 71 => ⟨S4x128x512, .f32⟩
  | 72 => ⟨S4x128x512, .f32⟩
  | 73 => ⟨S1x512, .f32⟩
  | 74 => ⟨S512, .f32⟩
  | 75 => ⟨S1x1x512, .f32⟩
  | 76 => ⟨S4x128x512, .f32⟩
  | 77 => ⟨S4x128x512, .f32⟩
  | 78 => ⟨S4x128x512, .f32⟩
  | 79 => ⟨S4x128x512, .f32⟩
  | 80 => ⟨S1x512, .f32⟩
  | 81 => ⟨S512, .f32⟩
  | 82 => ⟨S1x1x512, .f32⟩
  | 83 => ⟨S4x128x512, .f32⟩
  | 84 => ⟨S4x128x512, .f32⟩
  | 85 => ⟨S4x128x512, .f32⟩
  | 86 => ⟨S4x128x512, .f32⟩
  | 87 => ⟨S1x512, .f32⟩
  | 88 => ⟨S512, .f32⟩
  | 89 => ⟨S1x1x512, .f32⟩
  | 90 => ⟨S4x128x512, .f32⟩
  | 91 => ⟨S4x128x512, .f32⟩
  | 92 => ⟨S4x128x512, .f32⟩
  | 93 => ⟨S4x128x512, .f32⟩
  | 94 => ⟨S1x512, .f32⟩
  | 95 => ⟨S512, .f32⟩
  | 96 => ⟨S1x1x512, .f32⟩
  | 97 => ⟨S4x128x512, .f32⟩
  | 98 => ⟨S4x128x512, .f32⟩
  | 99 => ⟨S4x128x512, .f32⟩
  | 100 => ⟨S4x128x512, .f32⟩
  | 101 => ⟨S1x512, .f32⟩
  | 102 => ⟨S512, .f32⟩
  | 103 => ⟨S1x1x512, .f32⟩
  | 104 => ⟨S4x128x512, .f32⟩
  | 105 => ⟨S4x128x512, .f32⟩
  | 106 => ⟨S4x128x512, .f32⟩
  | 107 => ⟨S4x128x512, .f32⟩
  | 108 => ⟨S1x512, .f32⟩
  | 109 => ⟨S512, .f32⟩
  | 110 => ⟨S1x1x512, .f32⟩
  | 111 => ⟨S4x128x512, .f32⟩
  | 112 => ⟨S4x128x512, .f32⟩
  | 113 => ⟨S4x128x512, .f32⟩
  | 114 => ⟨S4x128x512, .f32⟩
  | 115 => ⟨S1x512, .f32⟩
  | 116 => ⟨S512, .f32⟩
  | 117 => ⟨S1x1x512, .f32⟩
  | 118 => ⟨S4x128x512, .f32⟩
  | 119 => ⟨S4x128x512, .f32⟩
  | 120 => ⟨S4x128x512, .f32⟩
  | 121 => ⟨S4x128x512, .f32⟩
  | 122 => ⟨S1x512, .f32⟩
  | 123 => ⟨S512, .f32⟩
  | 124 => ⟨S1x1x512, .f32⟩
  | 125 => ⟨S4x128x512, .f32⟩
  | 126 => ⟨S4x128x512, .f32⟩
  | 127 => ⟨S4x128x512, .f32⟩
  | _ => ⟨S512x1024, .f32⟩

abbrev hbmTy0_2 (i : Nat) : BufTy := match i % 128 with
  | 0 => ⟨S4x128x512, .f32⟩
  | 1 => ⟨S1x512, .f32⟩
  | 2 => ⟨S512, .f32⟩
  | 3 => ⟨S1x1x512, .f32⟩
  | 4 => ⟨S4x128x512, .f32⟩
  | 5 => ⟨S4x128x512, .f32⟩
  | 6 => ⟨S4x128x512, .f32⟩
  | 7 => ⟨S1x1x512, .f32⟩
  | 8 => ⟨S4x128x512, .f32⟩
  | 9 => ⟨S4x128x512, .f32⟩
  | 10 => ⟨S_, .f32⟩
  | 11 => ⟨S4x128, .f32⟩
  | 12 => ⟨S4x128x1, .f32⟩
  | 13 => ⟨S_, .f32⟩
  | 14 => ⟨S4x128x1, .f32⟩
  | 15 => ⟨S4x128x1, .f32⟩
  | 16 => ⟨S4x128x512, .f32⟩
  | 17 => ⟨S4x128x512, .f32⟩
  | 18 => ⟨S4x128x512, .f32⟩
  | 19 => ⟨S_, .f32⟩
  | 20 => ⟨S4x128, .f32⟩
  | 21 => ⟨S4x128x1, .f32⟩
  | 22 => ⟨S_, .f32⟩
  | 23 => ⟨S4x128x1, .f32⟩
  | 24 => ⟨S4x128x1, .f32⟩
  | 25 => ⟨S_, .f32⟩
  | 26 => ⟨S4x128x1, .f32⟩
  | 27 => ⟨S4x128x1, .f32⟩
  | 28 => ⟨S4x128x1, .f32⟩
  | 29 => ⟨S4x128x512, .f32⟩
  | 30 => ⟨S4x128x512, .f32⟩
  | 31 => ⟨S1x1x512, .f32⟩
  | 32 => ⟨S4x128x512, .f32⟩
  | 33 => ⟨S4x128x512, .f32⟩
  | 34 => ⟨S1x1x512, .f32⟩
  | 35 => ⟨S4x128x512, .f32⟩
  | 36 => ⟨S4x128x512, .f32⟩
  | 37 => ⟨S4x128x512, .f32⟩
  | 38 => ⟨S4x128x512, .f32⟩
  | 39 => ⟨S_, .f32⟩
  | 40 => ⟨S4x128x512, .f32⟩
  | 41 => ⟨S4x128x512, .f32⟩
  | 42 => ⟨S_, .f32⟩
  | 43 => ⟨S4x128x512, .f32⟩
  | 44 => ⟨S4x128x512, .f32⟩
  | 45 => ⟨S4x128x512, .f32⟩
  | 46 => ⟨S4x128x512, .f32⟩
  | 47 => ⟨S6x128x512, .f32⟩
  | 48 => ⟨S4x128x512, .f32⟩
  | 49 => ⟨S1x512, .f32⟩
  | 50 => ⟨S512, .f32⟩
  | 51 => ⟨S1x1x512, .f32⟩
  | 52 => ⟨S4x128x512, .f32⟩
  | 53 => ⟨S4x128x512, .f32⟩
  | 54 => ⟨S_, .f32⟩
  | 55 => ⟨S4x128x512, .f32⟩
  | 56 => ⟨S4x128x512, .f32⟩
  | 57 => ⟨S4x128x512, .f32⟩
  | 58 => ⟨S1x512, .f32⟩
  | 59 => ⟨S512, .f32⟩
  | 60 => ⟨S1x1x512, .f32⟩
  | 61 => ⟨S4x128x512, .f32⟩
  | 62 => ⟨S4x128x512, .f32⟩
  | 63 => ⟨S4x128x512, .f32⟩
  | 64 => ⟨S4x128x512, .f32⟩
  | 65 => ⟨S1x512, .f32⟩
  | 66 => ⟨S512, .f32⟩
  | 67 => ⟨S1x1x512, .f32⟩
  | 68 => ⟨S4x128x512, .f32⟩
  | 69 => ⟨S4x128x512, .f32⟩
  | 70 => ⟨S4x128x512, .f32⟩
  | 71 => ⟨S4x128x512, .f32⟩
  | 72 => ⟨S4x128x1024, .f32⟩
  | 73 => ⟨S4x128x1024, .f32⟩
  | 74 => ⟨S512x1024, .f32⟩
  | 75 => ⟨S512x1024, .f32⟩
  | 76 => ⟨S30x128x512, .f32⟩
  | 77 => ⟨S2x128x512, .f32⟩
  | _ => ⟨S512x1024, .f32⟩

abbrev hbmTy (i : Nat) : BufTy := match i / 128 with
  | 0 => hbmTy0_0 i
  | 1 => hbmTy0_1 i
  | 2 => hbmTy0_2 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_cst_5 : Ref sig .tc := ⟨.hbm, 266, rfl⟩
abbrev main_v249 : Ref sig .tc := ⟨.hbm, 267, rfl⟩
abbrev main_v250 : Ref sig .tc := ⟨.hbm, 268, rfl⟩
abbrev main_cst_6 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_cst_7 : Ref sig .tc := ⟨.hbm, 275, rfl⟩
abbrev main_v256 : Ref sig .tc := ⟨.hbm, 276, rfl⟩
abbrev main_v257 : Ref sig .tc := ⟨.hbm, 277, rfl⟩
abbrev main_cst_8 : Ref sig .tc := ⟨.hbm, 278, rfl⟩
abbrev main_v258 : Ref sig .tc := ⟨.hbm, 279, rfl⟩
abbrev main_v259 : Ref sig .tc := ⟨.hbm, 280, rfl⟩
abbrev main_cst_9 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_call0_v0 : Ref sig .tc := ⟨.hbm, 293, rfl⟩
abbrev main_call0_v1 : Ref sig .tc := ⟨.hbm, 294, rfl⟩
abbrev main_call0_cst : Ref sig .tc := ⟨.hbm, 295, rfl⟩
abbrev main_call0_v2 : Ref sig .tc := ⟨.hbm, 296, rfl⟩
abbrev main_call0_v3 : Ref sig .tc := ⟨.hbm, 297, rfl⟩
abbrev main_call0_cst_0 : Ref sig .tc := ⟨.hbm, 298, rfl⟩
abbrev main_call0_v4 : Ref sig .tc := ⟨.hbm, 299, rfl⟩
abbrev main_call0_v5 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_cst_10 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩

abbrev nD : Nat := 1
abbrev τ : Topo := Topo.v7x

variable {F : FTy → Type} [FloatOps F]
-- ==== Kernel4.lean ====
abbrev S512x1024 : Shape := ⟨2, ![512, 1024]⟩
abbrev S15x128x1024 : Shape := ⟨3, ![15, 128, 1024]⟩
abbrev S1024 : Shape := ⟨1, ![1024]⟩
abbrev S4x256x256 : Shape := ⟨3, ![4, 256, 256]⟩
abbrev S1x1024 : Shape := ⟨2, ![1, 1024]⟩
abbrev S512 : Shape := ⟨1, ![512]⟩
abbrev S512x1 : Shape := ⟨2, ![512, 1]⟩
abbrev S128x256 : Shape := ⟨2, ![128, 256]⟩
abbrev S1x128x256 : Shape := ⟨3, ![1, 128, 256]⟩
abbrev S512x256 : Shape := ⟨2, ![512, 256]⟩
abbrev S1x256x256 : Shape := ⟨3, ![1, 256, 256]⟩
abbrev S256x256 : Shape := ⟨2, ![256, 256]⟩
abbrev S1x128x1024 : Shape := ⟨3, ![1, 128, 1024]⟩
abbrev S128x1024 : Shape := ⟨2, ![128, 1024]⟩

abbrev nBuf : Space → Nat
  | .hbm => 12
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S15x128x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S4x256x256, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S512x1024, .f32⟩
  | .hbm, ⟨11, _⟩ => ⟨S15x128x1024, .f32⟩
  | .local _ .vmem, ⟨0, _⟩ => ⟨S512x1024, .f32⟩
  | .local _ .vmem, ⟨1, _⟩ => ⟨S15x128x1024, .f32⟩
  | .local _ .vmem, ⟨2, _⟩ => ⟨S1x1024, .f32⟩
  | .local _ .vmem, ⟨3, _⟩ => ⟨S4x256x256, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S15x128x1024, .f32⟩
  | .local _ .vmem, ⟨8, _⟩ => ⟨S512x1024, .f32⟩
  | .local _ .vmem, ⟨9, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference4Ideal.lean ====
abbrev S512x1024 : Shape := ⟨2, ![512, 1024]⟩
abbrev S15x128x1024 : Shape := ⟨3, ![15, 128, 1024]⟩
abbrev S1024 : Shape := ⟨1, ![1024]⟩
abbrev S4x256x256 : Shape := ⟨3, ![4, 256, 256]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S4x128x1024 : Shape := ⟨3, ![4, 128, 1024]⟩
abbrev S128x4x1024 : Shape := ⟨3, ![128, 4, 1024]⟩
abbrev S128x15x1024 : Shape := ⟨3, ![128, 15, 1024]⟩
abbrev S128x19x1024 : Shape := ⟨3, ![128, 19, 1024]⟩
abbrev S128x20x1024 : Shape := ⟨3, ![128, 20, 1024]⟩
abbrev S4 : Shape := ⟨1, ![4]⟩
abbrev S128x4x256 : Shape := ⟨3, ![128, 4, 256]⟩
abbrev S1x4x1 : Shape := ⟨3, ![1, 4, 1]⟩
abbrev S128x4x4x256 : Shape := ⟨4, ![128, 4, 4, 256]⟩
abbrev S4x256x128x4 : Shape := ⟨4, ![4, 256, 128, 4]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S15x128x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S4x128x1024, .f32⟩
  | .hbm, ⟨23, _⟩ => ⟨S128x4x1024, .f32⟩
  | .hbm, ⟨24, _⟩ => ⟨S128x15x1024, .f32⟩
  | .hbm, ⟨25, _⟩ => ⟨S128x19x1024, .f32⟩
  | .hbm, ⟨26, _⟩ => ⟨S_, .f32⟩
  | .hbm, ⟨27, _⟩ => ⟨S_, .f32⟩
  | .hbm, ⟨28, _⟩ => ⟨S128x19x1024, .f32⟩
  | .hbm, ⟨29, _⟩ => ⟨S_, .i32⟩
  | .hbm, ⟨30, _⟩ => ⟨S_, .f32⟩
  | .hbm, ⟨31, _⟩ => ⟨S128x20x1024, .f32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S4, .f32⟩
  | .hbm, ⟨37, _⟩ => ⟨S128x4x256, .f32⟩
  | .hbm, ⟨38, _⟩ => ⟨S128x4x256, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S1x4x1, .f32⟩
  | .hbm, ⟨46, _⟩ => ⟨S128x4x256, .f32⟩
  | .hbm, ⟨47, _⟩ => ⟨S128x4x256, .f32⟩
  | .hbm, ⟨48, _⟩ => ⟨S128x4x256, .f32⟩
  | .hbm, ⟨49, _⟩ => ⟨S128x4x256, .f32⟩
  | .hbm, ⟨50, _⟩ => ⟨S128x4x256, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S1x4x1, .f32⟩
  | .hbm, ⟨58, _⟩ => ⟨S128x4x256, .f32⟩
  | .hbm, ⟨59, _⟩ => ⟨S128x4x256, .f32⟩
  | .hbm, ⟨60, _⟩ => ⟨S128x4x256, .f32⟩
  | .hbm, ⟨61, _⟩ => ⟨S128x4x256, .f32⟩
  | .hbm, ⟨62, _⟩ => ⟨S128x4x256, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S1x4x1, .f32⟩
  | .hbm, ⟨70, _⟩ => ⟨S128x4x256, .f32⟩
  | .hbm, ⟨71, _⟩ => ⟨S128x4x256, .f32⟩
  | .hbm, ⟨72, _⟩ => ⟨S128x4x256, .f32⟩
  | .hbm, ⟨73, _⟩ => ⟨S128x4x256, .f32⟩
  | .hbm, ⟨74, _⟩ => ⟨S128x4x256, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S1x4x1, .f32⟩
  | .hbm, ⟨82, _⟩ => ⟨S128x4x256, .f32⟩
  | .hbm, ⟨83, _⟩ => ⟨S128x4x256, .f32⟩
  | .hbm, ⟨84, _⟩ => ⟨S128x4x256, .f32⟩
  | .hbm, ⟨85, _⟩ => ⟨S128x4x1024, .f32⟩
  | .hbm, ⟨86, _⟩ => ⟨S128x4x1024, .f32⟩
  | .hbm, ⟨87, _⟩ => ⟨S128x4x4x256, .f32⟩
  | .hbm, ⟨88, _⟩ => ⟨S4x256x128x4, .f32⟩
  | .hbm, ⟨89, _⟩ => ⟨S128x4x4x256, .f32⟩
  | .hbm, ⟨90, _⟩ => ⟨S128x4x1024, .f32⟩
  | .hbm, ⟨91, _⟩ => ⟨S1x1x1024, .f32⟩
  | .hbm, ⟨92, _⟩ => ⟨S128x4x1024, .f32⟩
  | .hbm, ⟨93, _⟩ => ⟨S128x4x1024, .f32⟩
  | .hbm, ⟨94, _⟩ => ⟨S1x1x1024, .f32⟩
  | .hbm, ⟨95, _⟩ => ⟨S128x4x1024, .f32⟩
  | .hbm, ⟨96, _⟩ => ⟨S128x4x1024, .f32⟩
  | .hbm, ⟨97, _⟩ => ⟨S128x15x1024, .f32⟩
  | .hbm, ⟨98, _⟩ => ⟨S4x128x1024, .f32⟩
  | .hbm, ⟨99, _⟩ => ⟨S512x1024, .f32⟩
  | .hbm, ⟨100, _⟩ => ⟨S512x1024, .f32⟩
  | .hbm, ⟨101, _⟩ => ⟨S15x128x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_call0_cst : Ref sig .tc := ⟨.hbm, 26, rfl⟩
abbrev main_call0_call0_v0 : Ref sig .tc := ⟨.hbm, 27, rfl⟩
abbrev main_v17 : Ref sig .tc := ⟨.hbm, 28, rfl⟩
abbrev main_c : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Kernel5.lean ====
abbrev S8x2048x1024 : Shape := ⟨3, ![8, 2048, 1024]⟩
abbrev S512x1024 : Shape := ⟨2, ![512, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024x2560 : Shape := ⟨3, ![1, 1024, 2560]⟩
abbrev S1x1024x1024 : Shape := ⟨3, ![1, 1024, 1024]⟩
abbrev S1x4x256x256 : Shape := ⟨4, ![1, 4, 256, 256]⟩
abbrev S1x1024x256 : Shape := ⟨3, ![1, 1024, 256]⟩
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S1024x2560 : Shape := ⟨2, ![1024, 2560]⟩
abbrev S1024x1024 : Shape := ⟨2, ![1024, 1024]⟩
abbrev S1024x256 : Shape := ⟨2, ![1024, 256]⟩
abbrev S1x1x128x5632 : Shape := ⟨4, ![1, 1, 128, 5632]⟩
abbrev S1x1x352x1024 : Shape := ⟨4, ![1, 1, 352, 1024]⟩
abbrev S1x1x32x5632 : Shape := ⟨4, ![1, 1, 32, 5632]⟩
abbrev S1x1x176x1024 : Shape := ⟨4, ![1, 1, 176, 1024]⟩
abbrev S1x32x2560 : Shape := ⟨3, ![1, 32, 2560]⟩
abbrev S1x32x1024 : Shape := ⟨3, ![1, 32, 1024]⟩
abbrev S1x32x256 : Shape := ⟨3, ![1, 32, 256]⟩
abbrev S32x5632 : Shape := ⟨2, ![32, 5632]⟩
abbrev S176x1024 : Shape := ⟨2, ![176, 1024]⟩
abbrev S32x2560 : Shape := ⟨2, ![32, 2560]⟩
abbrev S32x1024 : Shape := ⟨2, ![32, 1024]⟩
abbrev S32x256 : Shape := ⟨2, ![32, 256]⟩
abbrev S512x2816 : Shape := ⟨2, ![512, 2816]⟩
abbrev S128x5632 : Shape := ⟨2, ![128, 5632]⟩
abbrev S352x1024 : Shape := ⟨2, ![352, 1024]⟩
abbrev S512 : Shape := ⟨1, ![512]⟩
abbrev S512x1 : Shape := ⟨2, ![512, 1]⟩
abbrev S512x256 : Shape := ⟨2, ![512, 256]⟩

abbrev nBuf : Space → Nat
  | .hbm => 18
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1x1024x2560, .f32⟩
  | .hbm, ⟨6, _⟩ => ⟨S1x1024x1024, .f32⟩
  | .hbm, ⟨7, _⟩ => ⟨S1x4x256x256, .f32⟩
  | .hbm, ⟨8, _⟩ => ⟨S1x1024x256, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S512x1024, .f32⟩
  | .hbm, ⟨13, _⟩ => ⟨S1024x5632, .bf16⟩
  | .hbm, ⟨14, _⟩ => ⟨S2816x1024, .bf16⟩
  | .hbm, ⟨15, _⟩ => ⟨S1024x2560, .bf16⟩
  | .hbm, ⟨16, _⟩ => ⟨S1024x1024, .bf16⟩
  | .hbm, ⟨17, _⟩ => ⟨S1024x256, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x1x128x5632, .f32⟩
  | .local _ .vmem, ⟨5, _⟩ => ⟨S1x1x128x5632, .f32⟩
  | .local _ .vmem, ⟨6, _⟩ => ⟨S1x1x352x1024, .f32⟩
  | .local _ .vmem, ⟨7, _⟩ => ⟨S1x1x352x1024, .f32⟩
  | .local _ .vmem, ⟨8, _⟩ => ⟨S1x1x32x5632, .f32⟩
  | .local _ .vmem, ⟨9, _⟩ => ⟨S1x1x32x5632, .f32⟩
  | .local _ .vmem, ⟨10, _⟩ => ⟨S1x1x176x1024, .f32⟩
  | .local _ .vmem, ⟨11, _⟩ => ⟨S1x1x176x1024, .f32⟩
  | .local _ .vmem, ⟨12, _⟩ => ⟨S1x32x2560, .f32⟩
  | .local _ .vmem, ⟨13, _⟩ => ⟨S1x32x2560, .f32⟩
  | .local _ .vmem, ⟨14, _⟩ => ⟨S1x32x1024, .f32⟩
  | .local _ .vmem, ⟨15, _⟩ => ⟨S1x32x1024, .f32⟩
  | .local _ .vmem, ⟨16, _⟩ => ⟨S1x32x256, .f32⟩
  | .local _ .vmem, ⟨17, _⟩ => ⟨S1x32x256, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S32x5632, .bf16⟩
  | .local _ .vmem, ⟨22, _⟩ => ⟨S32x5632, .bf16⟩
  | .local _ .vmem, ⟨23, _⟩ => ⟨S176x1024, .bf16⟩
  | .local _ .vmem, ⟨24, _⟩ => ⟨S176x1024, .bf16⟩
  | .local _ .vmem, ⟨25, _⟩ => ⟨S32x2560, .bf16⟩
  | .local _ .vmem, ⟨26, _⟩ => ⟨S32x2560, .bf16⟩
  | .local _ .vmem, ⟨27, _⟩ => ⟨S32x1024, .bf16⟩
  | .local _ .vmem, ⟨28, _⟩ => ⟨S32x1024, .bf16⟩
  | .local _ .vmem, ⟨29, _⟩ => ⟨S32x256, .bf16⟩
  | .local _ .vmem, ⟨30, _⟩ => ⟨S32x256, .bf16⟩
  | .local _ .vmem, ⟨31, _⟩ => ⟨S1024x5632, .bf16⟩
  | .local _ .vmem, ⟨32, _⟩ => ⟨S2816x1024, .bf16⟩
  | .local _ .vmem, ⟨33, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![41], ![false]⟩

def k0_cond1 (i : grid0.Coords) : BitVec 1 :=
  let arg0 : BitVec 32 := BitVec.ofNat 32 (i 0).val
  let c8_i32_0 : BitVec 32 := 8#32
  let v1 : BitVec 1 := Scalar.cmpi .slt arg0 c8_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c128_i32 : BitVec 32 := 128#32
  let v35 : BitVec 32 := Scalar.muli arg0 c128_i32
  v35
def k0_off1 (i : grid0.Coords) : Fin 2 → Nat :=
  let arg0 : BitVec 32 := BitVec.ofNat 32 (i 0).val
  let c128_i32 : BitVec 32 := 128#32
  let v35 : BitVec 32 := Scalar.muli arg0 c128_i32
  let v36 : BitVec 32 := v35
  let v37 : Index := Scalar.indexCast v36
  let c0_35 : Index := 0#32
  ![v37.toNat, 0]
def k0_mult2 (i : grid0.Coords) : BitVec 32 :=
  let arg0 : BitVec 32 := BitVec.ofNat 32 (i 0).val
  let c352_i32 : BitVec 32 := 352#32
  let v44 : BitVec 32 := Scalar.muli arg0 c352_i32
  v44
def k0_off2 (i : grid0.Coords) : Fin 2 → Nat :=
  let arg0 : BitVec 32 := BitVec.ofNat 32 (i 0).val
  let c352_i32 : BitVec 32 := 352#32
  let v44 : BitVec 32 := Scalar.muli arg0 c352_i32
  let v45 : BitVec 32 := v44
  let v46 : Index := Scalar.indexCast v45
  let c0_40 : Index := 0#32
  ![v46.toNat, 0]
def k0_cond2 (i : grid0.Coords) : BitVec 1 :=
  let arg0 : BitVec 32 := BitVec.ofNat 32 (i 0).val
  let c8_i32 : BitVec 32 := 8#32
  let v0 : BitVec 32 := Scalar.subi arg0 c8_i32
  let c0_i32_27 : BitVec 32 := 0#32
  let v24 : BitVec 1 := Scalar.cmpi .sge v0 c0_i32_27
  let c32_i32 : BitVec 32 := 32#32
  let v25 : BitVec 1 := Scalar.cmpi .slt v0 c32_i32
  let v26 : BitVec 1 := Scalar.andi v24 v25
  let v27 : BitVec 32 := Scalar.extui v26
  let c0_i32_28 : BitVec 32 := 0#32
  let v28 : BitVec 1 := Scalar.cmpi .ne v27 c0_i32_28
  v28

def k0_cond3 (i : grid0.Coords) : BitVec 1 :=
  let arg0 : BitVec 32 := BitVec.ofNat 32 (i 0).val
  let c8_i32 : BitVec 32 := 8#32
  let v0 : BitVec 32 := Scalar.subi arg0 c8_i32
  let c32_i32_29 : BitVec 32 := 32#32
  let v29 : BitVec 1 := Scalar.cmpi .eq v0 c32_i32_29
  let v30 : BitVec 32 := Scalar.extui v29
  let c0_i32_30 : BitVec 32 := 0#32
  let v31 : BitVec 1 := Scalar.cmpi .ne v30 c0_i32_30
  v31

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_4 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_5 (i : grid0.Coords) : Fin 4 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c1_i32_7 : BitVec 32 := 1#32
  let c0_i32_8 : BitVec 32 := 0#32
  let c0_i32_9 : BitVec 32 := 0#32
  ![c0_i32_6.toNat, c1_i32_7.toNat, v19.toNat, c0_i32_8.toNat]

def cc0_transform_6 (i : grid0.Coords) : Fin 4 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c1_i32_6 : BitVec 32 := 1#32
  let c0_i32_7 : BitVec 32 := 0#32
  let c0_i32_8 : BitVec 32 := 0#32
  ![c0_i32_5.toNat, c1_i32_6.toNat, v19.toNat, c0_i32_7.toNat]

def cc0_transform_7 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![c0_i32_6.toNat, v19.toNat, c0_i32_7.toNat]

def cc0_transform_8 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![c0_i32_6.toNat, v19.toNat, c0_i32_7.toNat]

def cc0_transform_9 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![c0_i32_6.toNat, v19.toNat, c0_i32_7.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![v19.toNat, c0_i32_6.toNat]

def cc0_transform_13 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_14 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![v19.toNat, c0_i32_6.toNat]

def cc0_transform_15 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![v19.toNat, c0_i32_6.toNat]

def cc0_transform_16 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let v3 : BitVec 32 := Scalar.divsi v2 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1_i32 c0_i32_2
  let v10 : BitVec 32 := Scalar.extui v9
  let c0_i32_3 : BitVec 32 := 0#32
  let v11 : BitVec 1 := Scalar.cmpi .slt c1_i32 c0_i32_3
  let v12 : BitVec 32 := Scalar.extui v11
  let v13 : BitVec 32 := Scalar.subi v10 v12
  let v14 : BitVec 1 := Scalar.cmpi .ne v8 v13
  let v15 : BitVec 32 := Scalar.remsi v2 c1_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![v19.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S8x2048x1024 : Shape := ⟨3, ![8, 2048, 1024]⟩
abbrev S512x1024 : Shape := ⟨2, ![512, 1024]⟩
abbrev S1024 : Shape := ⟨1, ![1024]⟩
abbrev S2x2x1024x5632 : Shape := ⟨4, ![2, 2, 1024, 5632]⟩
abbrev S2x2x2816x1024 : Shape := ⟨4, ![2, 2, 2816, 1024]⟩
abbrev S1x1024x2560 : Shape := ⟨3, ![1, 1024, 2560]⟩
abbrev S1x1024x1024 : Shape := ⟨3, ![1, 1024, 1024]⟩
abbrev S1x4x256x256 : Shape := ⟨4, ![1, 4, 256, 256]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩
abbrev S16384x1024 : Shape := ⟨2, ![16384, 1024]⟩
abbrev S1024x2560 : Shape := ⟨2, ![1024, 2560]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S512x1024, .f32⟩
  | .hbm, ⟨2, _⟩ => ⟨S1024, .f32⟩
  | .hbm, ⟨3, _⟩ => ⟨S2x2x1024x5632, .f32⟩
  | .hbm, ⟨4, _⟩ => ⟨S2x2x2816x1024, .f32⟩
  | .hbm, ⟨5, _⟩ => ⟨S1x1024x2560, .f32⟩
  | .hbm, ⟨6, _⟩ => ⟨S1x1024x1024, .f32⟩
  | .hbm, ⟨7, _⟩ => ⟨S1x4x256x256, .f32⟩
  | .hbm, ⟨8, _⟩ => ⟨S1x1x1024x5632, .f32⟩
  | .hbm, ⟨9, _⟩ => ⟨S1024x5632, .f32⟩
  | .hbm, ⟨10, _⟩ => ⟨S1x1x2816x1024, .f32⟩
  | .hbm, ⟨11, _⟩ => ⟨S2816x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x5632, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S_, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x1024, .f32⟩
  | .hbm, ⟨42, _⟩ => ⟨S_, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S512x1024, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S_, .f32⟩
  | .hbm, ⟨54, _⟩ => ⟨S512x1, .f32⟩
  | .hbm, ⟨55, _⟩ => ⟨S512x1, .f32⟩
  | .hbm, ⟨56, _⟩ => ⟨S512x1, .f32⟩
  | .hbm, ⟨57, _⟩ => ⟨S512x1024, .f32⟩
  | .hbm, ⟨58, _⟩ => ⟨S512x1024, .f32⟩
  | .hbm, ⟨59, _⟩ => ⟨S1x1024, .f32⟩
  | .hbm, ⟨60, _⟩ => ⟨S512x1024, .f32⟩
  | .hbm, ⟨61, _⟩ => ⟨S512x1024, .f32⟩
  | .hbm, ⟨62, _⟩ => ⟨S512x5632, .f32⟩
  | .hbm, ⟨63, _⟩ => ⟨S512x2816, .f32⟩
  | .hbm, ⟨64, _⟩ => ⟨S512x2816, .f32⟩
  | .hbm, ⟨65, _⟩ => ⟨S512x2816, .f32⟩
  | .hbm, ⟨66, _⟩ => ⟨S512x2816, .f32⟩
  | .hbm, ⟨67, _⟩ => ⟨S_, .f32⟩
  | .hbm, ⟨68, _⟩ => ⟨S512x2816, .f32⟩
  | .hbm, ⟨69, _⟩ => ⟨S512x2816, .f32⟩
  | .hbm, ⟨70, _⟩ => ⟨S_, .f32⟩
  | .hbm, ⟨71, _⟩ => ⟨S512x2816, .f32⟩
  | .hbm, ⟨72, _⟩ => ⟨S512x2816, .f32⟩
  | .hbm, ⟨73, _⟩ => ⟨S512x2816, .f32⟩
  | .hbm, ⟨74, _⟩ => ⟨S512x2816, .f32⟩
  | .hbm, ⟨75, _⟩ => ⟨S512x1024, .f32⟩
  | .hbm, ⟨76, _⟩ => ⟨S_, .f32⟩
  | .hbm, ⟨77, _⟩ => ⟨S512x1024, .f32⟩
  | .hbm, ⟨78, _⟩ => ⟨S512x1024, .f32⟩
  | .hbm, ⟨79, _⟩ => ⟨S512x1024, .f32⟩
  | .hbm, ⟨80, _⟩ => ⟨S16384x1024, .f32⟩
  | .hbm, ⟨81, _⟩ => ⟨S1x1x1024x5632, .f32⟩
  | .hbm, ⟨82, _⟩ => ⟨S1024x5632, .f32⟩
  | .hbm, ⟨83, _⟩ => ⟨S1024x5632, .bf16⟩
  | .hbm, ⟨84, _⟩ => ⟨S1x1x2816x1024, .f32⟩
  | .hbm, ⟨85, _⟩ => ⟨S2816x1024, .f32⟩
  | .hbm, ⟨86, _⟩ => ⟨S2816x1024, .bf16⟩
  | .hbm, ⟨87, _⟩ => ⟨S1024x2560, .f32⟩
  | .hbm, ⟨88, _⟩ => ⟨S1024x2560, .bf16⟩
  | .hbm, ⟨89, _⟩ => ⟨S1024x1024, .f32⟩
  | .hbm, ⟨90, _⟩ => ⟨S1024x1024, .bf16⟩
  | .hbm, ⟨91, _⟩ => ⟨S1x1024x256, .f32⟩
  | .hbm, ⟨92, _⟩ => ⟨S1024x256, .f32⟩
  | .hbm, ⟨93, _⟩ => ⟨S1024x256, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Proof.Pool.Setup.lean ====
module

public import proofs.«01_k».proof.Proof.Gen.KernelIdeal.Frame
public import proofs.«01_k».proof.Proof.Gen.KernelIdeal.Skeleton

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Branch 0 of the body is taken: the point takes a tile of the first batch. -/
abbrev cond0_0 (i : grid0.Coords) : Prop := k0_cond1 i = 1#1
/-- When branch 0 is taken, by the position of the point. -/
theorem hcond0_0 : ∀ t : Fin cfg0.N, cond0_0 (grid0.coords t) ↔ t.val < 32 :=
  (by decide +kernel : ∀ t : Fin grid0.N, cond0_0 (grid0.coords t) ↔ t.val < 32)

/-- Branch 1 of the body is taken: the point takes the first tile of a sequence. -/
abbrev cond0_1 (i : grid0.Coords) : Prop := (Scalar.cmpi .ne (Scalar.extui (Scalar.cmpi .eq (Scalar.remsi (Scalar.subi (BitVec.ofNat 32 (i 0).val) 0#32) 4#32) 0#32)) 0#32) = 1#1
/-- When branch 1 is taken, by the position of the point. -/
theorem hcond0_1 : ∀ t : Fin cfg0.N, cond0_1 (grid0.coords t) ↔ t.val % 4 = 0 :=
  (by decide +kernel : ∀ t : Fin grid0.N, cond0_1 (grid0.coords t) ↔ t.val % 4 = 0)

/-- Branch 2 of the body is taken: the point takes the last tile of a sequence. -/
abbrev cond0_2 (i : grid0.Coords) : Prop := k0_cond3 i = 1#1
/-- When branch 2 is taken, by the position of the point. -/
theorem hcond0_2 : ∀ t : Fin cfg0.N, cond0_2 (grid0.coords t) ↔ t.val % 4 = 3 :=
  (by decide +kernel : ∀ t : Fin grid0.N, cond0_2 (grid0.coords t) ↔ t.val % 4 = 3)

/-- Branch 3 of the body is taken: the point takes the second batch. -/
abbrev cond0_3 (i : grid0.Coords) : Prop := k0_cond4 i = 1#1
/-- When branch 3 is taken, by the position of the point. -/
theorem hcond0_3 : ∀ t : Fin cfg0.N, cond0_3 (grid0.coords t) ↔ t.val = 32 :=
  (by decide +kernel : ∀ t : Fin grid0.N, cond0_3 (grid0.coords t) ↔ t.val = 32)

/-! The buffer that stages window `w` at point `t`, and that it is a whole buffer. -/
abbrev st0 (t : Fin cfg0.N) : Memref sig .tc .vmem S512x1024 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S512x1024 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S4x256x256 .bf16 := win0_3.stage (cfg0.slots t 3)
abbrev hst3 (t : Fin cfg0.N) : (st3 t).IsWhole := hstage0_3 ((cfg0.slots t 3).cast nbuf0_3)
abbrev st4 (t : Fin cfg0.N) : Memref sig .tc .vmem S1x1024 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x1024 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x1024 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S1024x5632 .bf16 := win0_7.stage (cfg0.slots t 7)
abbrev hst7 (t : Fin cfg0.N) : (st7 t).IsWhole := hstage0_7 ((cfg0.slots t 7).cast nbuf0_7)
abbrev st8 (t : Fin cfg0.N) : Memref sig .tc .vmem S2816x1024 .bf16 := win0_8.stage (cfg0.slots t 8)
abbrev hst8 (t : Fin cfg0.N) : (st8 t).IsWhole := hstage0_8 ((cfg0.slots t 8).cast nbuf0_8)
abbrev st9 (t : Fin cfg0.N) : Memref sig .tc .vmem S1x1024 .f32 := win0_9.stage (cfg0.slots t 9)
abbrev hst9 (t : Fin cfg0.N) : (st9 t).IsWhole := hstage0_9 ((cfg0.slots t 9).cast nbuf0_9)
abbrev st10 (t : Fin cfg0.N) : Memref sig .tc .vmem S512x1024 .f32 := win0_10.stage (cfg0.slots t 10)
abbrev hst10 (t : Fin cfg0.N) : (st10 t).IsWhole := hstage0_10 ((cfg0.slots t 10).cast nbuf0_10)
abbrev st11 (t : Fin cfg0.N) : Memref sig .tc .vmem S512x1024 .f32 := win0_11.stage (cfg0.slots t 11)
abbrev hst11 (t : Fin cfg0.N) : (st11 t).IsWhole := hstage0_11 ((cfg0.slots t 11).cast nbuf0_11)
abbrev st12 (t : Fin cfg0.N) : Memref sig .tc .vmem S1x15x1024 .f32 := win0_12.stage (cfg0.slots t 12)
abbrev hst12 (t : Fin cfg0.N) : (st12 t).IsWhole := hstage0_12 ((cfg0.slots t 12).cast nbuf0_12)
/-! The scratch buffers: the gated activations, the normalised rows with the sixteen rows before them, the pooled rows, the rows after the mixer. -/
abbrev sc0 : Memref sig .tc .vmem S512x2816 .bf16 := Memref.whole cc0_scratch0
abbrev sc1 : Memref sig .tc .vmem S528x1024 .f32 := Memref.whole cc0_scratch1
abbrev sc2 : Memref sig .tc .vmem S512x1024 .f32 := Memref.whole cc0_scratch2
abbrev sc3 : Memref sig .tc .vmem S512x1024 .f32 := Memref.whole cc0_scratch3
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl

/-- The scoped buffers beside the windows, as the four scratch buffers at some contents each, and the generator's register. -/
theorem scoped_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Pool

end
-- ==== Proof.Pool.RunA.lean ====
module

public import proofs.«01_k».proof.Proof.Pool.Setup

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run once at the first tile of a sequence: the carried rows are cleared first. The lists are what its
    stores leave, last store first, in the buffers it writes; the buffers of the results it does not write come back as they were. -/
noncomputable def runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x15x1024 .f32) (harg13 : arg13.IsWhole) (arg14 : Memref sig .tc .vmem S512x2816 .bf16) (harg14 : arg14.IsWhole) (arg15 : Memref sig .tc .vmem S528x1024 .f32) (harg15 : arg15.IsWhole) (arg16 : Memref sig .tc .vmem S512x1024 .f32) (harg16 : arg16.IsWhole) (arg17 : Memref sig .tc .vmem S512x1024 .f32) (harg17 : arg17.IsWhole) (hc0 : cond0_0 i) (hc1 : cond0_1 i) (hc2 : ¬cond0_2 i) (hc3 : ¬cond0_3 i)
    (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (d11 : Vec F S512x1024 .f32) (d12 : Vec F S1x15x1024 .f32) :
    { L : List (View.Piece (Elt F) S512x1024 .f32) × List (View.Piece (Elt F) S528x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare d11 ∗ owns (c : Thread nD τ) arg13 fullShare d12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L.1) ∗ owns (c : Thread nD τ) arg12 fullShare d11 ∗ owns (c : Thread nD τ) arg13 fullShare d12 ∗ (∃ d, owns (c : Thread nD τ) arg14 fullShare d) ∗ (∃ f, arg15.view.loc (c : Thread nD τ) ↦[arg15.view.set]{fullShare} arg15.view.writes (Elt F) f L.2) ∗ (∃ d, owns (c : Thread nD τ) arg16 fullShare d) ∗ (∃ d, owns (c : Thread nD τ) arg17 fullShare d)) -∗ K ⟨⟩))
          ⊢ wp frame (wpE (defs₀ (F := F)) Variants.none c none) E (cc0_pool_ffn_final i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_⟩, fun E K => ?run⟩
  case run =>
    simp only [cc0_pool_ffn_final_eq_skeleton]; unfold cc0_pool_ffn_final_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%e10, %f10, -, H10⟩, ⟨%f11, %hf11, H11⟩, ⟨%f12, %hf12, H12⟩, ⟨%e13, %f13, -, H13⟩, ⟨%e14, %f14, -, H14⟩, ⟨%e15, %f15, -, H15⟩, ⟨%e16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _; iexact H14
    isplitl [H15]
    · iexists _, _; isplitr; swap; · iexact H15
      ipureintro; rfl
    iexists _, _; isplitr; swap; · iexact H16
    ipureintro; rfl

end Cert.KernelIdeal.Pool

end
-- ==== Proof.Pool.RunB.lean ====
module

public import proofs.«01_k».proof.Proof.Pool.RunA

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run once at an inner tile of a sequence. The lists are what its
    stores leave, last store first, in the buffers it writes; the buffers of the results it does not write come back as they were. -/
noncomputable def runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x15x1024 .f32) (harg13 : arg13.IsWhole) (arg14 : Memref sig .tc .vmem S512x2816 .bf16) (harg14 : arg14.IsWhole) (arg15 : Memref sig .tc .vmem S528x1024 .f32) (harg15 : arg15.IsWhole) (arg16 : Memref sig .tc .vmem S512x1024 .f32) (harg16 : arg16.IsWhole) (arg17 : Memref sig .tc .vmem S512x1024 .f32) (harg17 : arg17.IsWhole) (hc0 : cond0_0 i) (hc1 : ¬cond0_1 i) (hc2 : ¬cond0_2 i) (hc3 : ¬cond0_3 i)
    (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (xs : Vec F S528x1024 .f32) (d11 : Vec F S512x1024 .f32) (d12 : Vec F S1x15x1024 .f32) :
    { L : List (View.Piece (Elt F) S512x1024 .f32) × List (View.Piece (Elt F) S528x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare d11 ∗ owns (c : Thread nD τ) arg13 fullShare d12 ∗ (∃ d, owns (c : Thread nD τ) arg14 fullShare d) ∗ owns (c : Thread nD τ) arg15 fullShare xs ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L.1) ∗ owns (c : Thread nD τ) arg12 fullShare d11 ∗ owns (c : Thread nD τ) arg13 fullShare d12 ∗ (∃ d, owns (c : Thread nD τ) arg14 fullShare d) ∗ (∃ f, arg15.view.loc (c : Thread nD τ) ↦[arg15.view.set]{fullShare} arg15.view.writes (Elt F) f L.2) ∗ (∃ d, owns (c : Thread nD τ) arg16 fullShare d) ∗ (∃ d, owns (c : Thread nD τ) arg17 fullShare d)) -∗ K ⟨⟩))
          ⊢ wp frame (wpE (defs₀ (F := F)) Variants.none c none) E (cc0_pool_ffn_final i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_⟩, fun E K => ?run⟩
  case run =>
    simp only [cc0_pool_ffn_final_eq_skeleton]; unfold cc0_pool_ffn_final_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%e10, %f10, -, H10⟩, ⟨%f11, %hf11, H11⟩, ⟨%f12, %hf12, H12⟩, ⟨%e13, %f13, -, H13⟩, ⟨%f14, %hf14, H14⟩, ⟨%e15, %f15, -, H15⟩, ⟨%e16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg15.eq_unread hf14
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _; iexact H14
    isplitl [H15]
    · iexists _, _; isplitr; swap; · iexact H15
      ipureintro; rfl
    iexists _, _; isplitr; swap; · iexact H16
    ipureintro; rfl

end Cert.KernelIdeal.Pool

end
-- ==== Proof.Pool.RunC.lean ====
module

public import proofs.«01_k».proof.Proof.Pool.RunB

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run once at the last tile of a sequence: its last fifteen normalised rows are stored. The lists are what its
    stores leave, last store first, in the buffers it writes; the buffers of the results it does not write come back as they were. -/
noncomputable def runC (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x15x1024 .f32) (harg13 : arg13.IsWhole) (arg14 : Memref sig .tc .vmem S512x2816 .bf16) (harg14 : arg14.IsWhole) (arg15 : Memref sig .tc .vmem S528x1024 .f32) (harg15 : arg15.IsWhole) (arg16 : Memref sig .tc .vmem S512x1024 .f32) (harg16 : arg16.IsWhole) (arg17 : Memref sig .tc .vmem S512x1024 .f32) (harg17 : arg17.IsWhole) (hc0 : cond0_0 i) (hc1 : ¬cond0_1 i) (hc2 : cond0_2 i) (hc3 : ¬cond0_3 i)
    (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (xs : Vec F S528x1024 .f32) (d11 : Vec F S512x1024 .f32) :
    { L : List (View.Piece (Elt F) S512x1024 .f32) × List (View.Piece (Elt F) S1x15x1024 .f32) × List (View.Piece (Elt F) S528x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare d11 ∗ (∃ d, owns (c : Thread nD τ) arg13 fullShare d) ∗ (∃ d, owns (c : Thread nD τ) arg14 fullShare d) ∗ owns (c : Thread nD τ) arg15 fullShare xs ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L.1) ∗ owns (c : Thread nD τ) arg12 fullShare d11 ∗ (∃ f, arg13.view.loc (c : Thread nD τ) ↦[arg13.view.set]{fullShare} arg13.view.writes (Elt F) f L.2.1) ∗ (∃ d, owns (c : Thread nD τ) arg14 fullShare d) ∗ (∃ f, arg15.view.loc (c : Thread nD τ) ↦[arg15.view.set]{fullShare} arg15.view.writes (Elt F) f L.2.2) ∗ (∃ d, owns (c : Thread nD τ) arg16 fullShare d) ∗ (∃ d, owns (c : Thread nD τ) arg17 fullShare d)) -∗ K ⟨⟩))
          ⊢ wp frame (wpE (defs₀ (F := F)) Variants.none c none) E (cc0_pool_ffn_final i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_⟩, fun E K => ?run⟩
  case run =>
    simp only [cc0_pool_ffn_final_eq_skeleton]; unfold cc0_pool_ffn_final_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%e10, %f10, -, H10⟩, ⟨%f11, %hf11, H11⟩, ⟨%e12, %f12, -, H12⟩, ⟨%e13, %f13, -, H13⟩, ⟨%f14, %hf14, H14⟩, ⟨%e15, %f15, -, H15⟩, ⟨%e16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg15.eq_unread hf14
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; isplitr; · ipureintro; exact harg12.read_unread _
      iexact H11
    isplitl [H12]
    · iexists _; iexact H12
    isplitl [H13]
    · iexists _, _; isplitr; swap; · iexact H13
      ipureintro; rfl
    isplitl [H14]
    · iexists _; iexact H14
    isplitl [H15]
    · iexists _, _; isplitr; swap; · iexact H15
      ipureintro; rfl
    iexists _, _; isplitr; swap; · iexact H16
    ipureintro; rfl

end Cert.KernelIdeal.Pool

end
-- ==== Proof.Pool.RunD.lean ====
module

public import proofs.«01_k».proof.Proof.Pool.RunC

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run once at the last point, which takes the second batch. The lists are what its
    stores leave, last store first, in the buffers it writes; the buffers of the results it does not write come back as they were. -/
noncomputable def runD (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x15x1024 .f32) (harg13 : arg13.IsWhole) (arg14 : Memref sig .tc .vmem S512x2816 .bf16) (harg14 : arg14.IsWhole) (arg15 : Memref sig .tc .vmem S528x1024 .f32) (harg15 : arg15.IsWhole) (arg16 : Memref sig .tc .vmem S512x1024 .f32) (harg16 : arg16.IsWhole) (arg17 : Memref sig .tc .vmem S512x1024 .f32) (harg17 : arg17.IsWhole) (hc0 : ¬cond0_0 i) (hc1 : cond0_1 i) (hc2 : ¬cond0_2 i) (hc3 : cond0_3 i)
    (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (xs : Vec F S528x1024 .f32) (d10 : Vec F S512x1024 .f32) (d12 : Vec F S1x15x1024 .f32) :
    { L : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d10 ∗ (∃ d, owns (c : Thread nD τ) arg12 fullShare d) ∗ owns (c : Thread nD τ) arg13 fullShare d12 ∗ (∃ d, owns (c : Thread nD τ) arg14 fullShare d) ∗ owns (c : Thread nD τ) arg15 fullShare xs ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d10 ∗ (∃ f, arg12.view.loc (c : Thread nD τ) ↦[arg12.view.set]{fullShare} arg12.view.writes (Elt F) f L) ∗ owns (c : Thread nD τ) arg13 fullShare d12 ∗ (∃ d, owns (c : Thread nD τ) arg14 fullShare d) ∗ owns (c : Thread nD τ) arg15 fullShare xs ∗ (∃ d, owns (c : Thread nD τ) arg16 fullShare d) ∗ (∃ d, owns (c : Thread nD τ) arg17 fullShare d)) -∗ K ⟨⟩))
          ⊢ wp frame (wpE (defs₀ (F := F)) Variants.none c none) E (cc0_pool_ffn_final i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_pool_ffn_final_eq_skeleton]; unfold cc0_pool_ffn_final_skel
    simp only [k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%e11, %f11, -, H11⟩, ⟨%f12, %hf12, H12⟩, ⟨%e13, %f13, -, H13⟩, ⟨%f14, %hf14, H14⟩, ⟨%e15, %f15, -, H15⟩, ⟨%e16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg15.eq_unread hf14
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [H12]
    · iexists _; isplitr; · ipureintro; exact harg13.read_unread _
      iexact H12
    isplitl [H13]
    · iexists _, _; isplitr; swap; · iexact H13
      ipureintro; rfl
    isplitl [H14]
    · iexists _; isplitr; · ipureintro; exact harg15.read_unread _
      iexact H14
    isplitl [H15]
    · iexists _, _; isplitr; swap; · iexact H15
      ipureintro; rfl
    iexists _, _; isplitr; swap; · iexact H16
    ipureintro; rfl

end Cert.KernelIdeal.Pool

end
-- ==== Proof.Pool.Tile.lean ====
module

public import proofs.«01_k».proof.Proof.Pool.RunD
public import Idealize.ShloMosaic.Lib.Pipeline.ReadBack

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normalised rows of a tile under the sixteen rows before it. -/
def ext (top : Vec F S16x1024 .f32) (h : Vec F S512x1024 .f32) : Vec F S528x1024 .f32 :=
  id (View.canon [⟨Rect.unit (s := S528x1024) ![16, 0] S512x1024.size inb_S528x1024_S512x1024_16_0, h⟩,
    ⟨Rect.unit (s := S528x1024) ![0, 0] S16x1024.size inb_S528x1024_S16x1024_0_0, top⟩])

/-- The last sixteen rows. -/
def last16 (X : Vec F S528x1024 .f32) : Vec F S16x1024 .f32 :=
  View.ld X (Rect.unit (s := S528x1024) ![512, 0] S16x1024.size inb_S528x1024_S16x1024_512_0)

/-- The first sixteen rows. -/
def first16 (X : Vec F S528x1024 .f32) : Vec F S16x1024 .f32 :=
  View.ld X (Rect.unit (s := S528x1024) ![0, 0] S16x1024.size inb_S528x1024_S16x1024_0_0)

/-- The column chunk of 528 rows at column `o`. -/
abbrev col528 (X : Vec F S528x1024 .f32) (o : ℕ) (h : ∀ a, (![0, o] : Fin 2 → Nat) a + S528x256.size a ≤ S528x1024.size a) : Vec F S528x256 .f32 :=
  View.ld X (Rect.unit (s := S528x1024) ![0, o] S528x256.size h)

/-- The column chunk of the tile's own rows at column `o`. -/
abbrev col512 (X : Vec F S528x1024 .f32) (o : ℕ) (h : ∀ a, (![16, o] : Fin 2 → Nat) a + S512x256.size a ≤ S528x1024.size a) : Vec F S512x256 .f32 :=
  View.ld X (Rect.unit (s := S528x1024) ![16, o] S512x256.size h)

/-- The pooled rows of a tile: each column chunk averaged over its own window, less the row itself. -/
def pooled (v0 : BitVec 32) (X : Vec F S528x1024 .f32) : Vec F S512x1024 .f32 :=
  View.canon [
    ⟨Rect.unit (s := S512x1024) ![0, 768] S512x256.size inb_S512x1024_S512x256_0_768, k0_pay10 (k0_pay4 v0) (col528 X 768 (by decide)) (col512 X 768 (by decide))⟩,
    ⟨Rect.unit (s := S512x1024) ![0, 512] S512x256.size inb_S512x1024_S512x256_0_512, k0_pay9 (k0_pay8 (k0_pay4 v0) (col528 X 512 (by decide)) (col512 X 512 (by decide)))⟩,
    ⟨Rect.unit (s := S512x1024) ![0, 256] S512x256.size inb_S512x1024_S512x256_0_256, k0_pay7 (k0_pay4 v0) (col528 X 256 (by decide)) (col512 X 256 (by decide))⟩,
    ⟨Rect.unit (s := S512x1024) ![0, 0] S512x256.size inb_S512x1024_S512x256_0_0, k0_pay6 (k0_pay5 v0 (col528 X 0 (by decide))) (col512 X 0 (by decide))⟩]

/-- One group's weights. -/
abbrev wgroup (W : Vec F S4x256x256 .bf16) (k : ℕ) (h : ∀ a, (![k, 0, 0] : Fin 3 → Nat) a + S1x256x256.size a ≤ S4x256x256.size a) : Vec F S1x256x256 .bf16 :=
  View.ld W (Rect.unit (s := S4x256x256) ![k, 0, 0] S1x256x256.size h)

/-- The rows after the mixer: the pooled rows `p` through the four groups' weights, with bias and scale, added to the rows. -/
def mixed (x p : Vec F S512x1024 .f32) (W : Vec F S4x256x256 .bf16) (b s : Vec F S1x1024 .f32) : Vec F S512x1024 .f32 :=
  k0_pay17 (k0_pay11 x) p (k0_pay12 p (wgroup W 0 (by decide))) (k0_pay13 p) (k0_pay14 (wgroup W 1 (by decide)))
    (wgroup W 2 (by decide)) (wgroup W 3 (by decide)) b s

/-- One chunk of 256 columns of the gated activations of the normalised rows `h`. -/
def gate (h : FVec F S512x1024 .bf16) (w : Vec F S1024x5632 .bf16) (o o' : ℕ)
    (i : ∀ a, (![0, o] : Fin 2 → Nat) a + S1024x256.size a ≤ S1024x5632.size a) (i' : ∀ a, (![0, o'] : Fin 2 → Nat) a + S1024x256.size a ≤ S1024x5632.size a) : FVec F S512x256 .bf16 :=
  k0_pay22 h (View.ld w (Rect.unit (s := S1024x5632) ![0, o] S1024x256.size i)) (View.ld w (Rect.unit (s := S1024x5632) ![0, o'] S1024x256.size i'))

/-- The gated activations of the rows `y`, chunk by chunk. -/
def gated (h : FVec F S512x1024 .bf16) (w : Vec F S1024x5632 .bf16) : Vec F S512x2816 .bf16 :=
  View.canon [
    ⟨Rect.unit (s := S512x2816) ![0, 2560] S512x256.size inb_S512x2816_S512x256_0_2560, gate h w 2560 5376 (by decide) (by decide)⟩,
    ⟨Rect.unit (s := S512x2816) ![0, 2304] S512x256.size inb_S512x2816_S512x256_0_2304, gate h w 2304 5120 (by decide) (by decide)⟩,
    ⟨Rect.unit (s := S512x2816) ![0, 2048] S512x256.size inb_S512x2816_S512x256_0_2048, gate h w 2048 4864 (by decide) (by decide)⟩,
    ⟨Rect.unit (s := S512x2816) ![0, 1792] S512x256.size inb_S512x2816_S512x256_0_1792, gate h w 1792 4608 (by decide) (by decide)⟩,
    ⟨Rect.unit (s := S512x2816) ![0, 1536] S512x256.size inb_S512x2816_S512x256_0_1536, gate h w 1536 4352 (by decide) (by decide)⟩,
    ⟨Rect.unit (s := S512x2816) ![0, 1280] S512x256.size inb_S512x2816_S512x256_0_1280, gate h w 1280 4096 (by decide) (by decide)⟩,
    ⟨Rect.unit (s := S512x2816) ![0, 1024] S512x256.size inb_S512x2816_S512x256_0_1024, gate h w 1024 3840 (by decide) (by decide)⟩,
    ⟨Rect.unit (s := S512x2816) ![0, 768] S512x256.size inb_S512x2816_S512x256_0_768, gate h w 768 3584 (by decide) (by decide)⟩,
    ⟨Rect.unit (s := S512x2816) ![0, 512] S512x256.size inb_S512x2816_S512x256_0_512, gate h w 512 3328 (by decide) (by decide)⟩,
    ⟨Rect.unit (s := S512x2816) ![0, 256] S512x256.size inb_S512x2816_S512x256_0_256, gate h w 256 3072 (by decide) (by decide)⟩,
    ⟨Rect.unit (s := S512x2816) ![0, 0] S512x256.size inb_S512x2816_S512x256_0_0, gate h w 0 2816 (by decide) (by decide)⟩]

/-- The rows after half the feed-forward layer, normalised for the last time. -/
def ffnOut (y : Vec F S512x1024 .f32) (g : Vec F S1x1024 .f32) (win : Vec F S1024x5632 .bf16) (wout : Vec F S2816x1024 .bf16) (fg : Vec F S1x1024 .f32) : Vec F S512x1024 .f32 :=
  k0_pay1 (k0_pay34 (gated (k0_pay18 y g) win) wout y) (k0_pay35 fg) (k0_pay36 (gated (k0_pay18 y g) win) wout y)

/-- What a tile of the first batch puts out, of its rows `x` and of all the normalised rows `X` it sees. -/
def tileOut (v0 : BitVec 32) (X : Vec F S528x1024 .f32) (x : Vec F S512x1024 .f32) (W : Vec F S4x256x256 .bf16) (b s g : Vec F S1x1024 .f32)
    (win : Vec F S1024x5632 .bf16) (wout : Vec F S2816x1024 .bf16) (fg : Vec F S1x1024 .f32) : Vec F S512x1024 .f32 :=
  ffnOut (mixed x (pooled v0 X) W b s) g win wout fg

/-- The state left of a sequence: fifteen of the sixteen rows carried. -/
def stateOut (X : Vec F S528x1024 .f32) : Vec F S1x15x1024 .f32 :=
  k0_pay16 (View.ld X (Rect.unit (s := S528x1024) ![1, 0] S15x1024.size inb_S528x1024_S15x1024_1_0))

theorem ext_eq (top : Vec F S16x1024 .f32) (h : Vec F S512x1024 .f32) : ext top h = View.canon [⟨Rect.unit (s := S528x1024) ![16, 0] S512x1024.size inb_S528x1024_S512x1024_16_0, h⟩,
    ⟨Rect.unit (s := S528x1024) ![0, 0] S16x1024.size inb_S528x1024_S16x1024_0_0, top⟩] := by unfold ext; rw [id]

/-- The upper rows' rectangle and the lower rows'. -/
abbrev rTop : Rect S528x1024 := Rect.unit (s := S528x1024) ![0, 0] S16x1024.size inb_S528x1024_S16x1024_0_0
abbrev rLow : Rect S528x1024 := Rect.unit (s := S528x1024) ![16, 0] S512x1024.size inb_S528x1024_S512x1024_16_0

theorem rows_disjoint : Disjoint rTop.set rLow.set := Rect.unit_disjoint 0 (by decide)

/-- Every index is among the upper sixteen rows or among the rows below. -/
theorem rows_cases (y : S528x1024.Idx) : (∃ x : S16x1024.Idx, rTop.emb x = y) ∨ (∃ x : S512x1024.Idx, rLow.emb x = y) := by
  by_cases h : (y 0 : ℕ) < 16
  · left
    have hy : y ∈ rTop.set := by
      rw [Rect.mem_set_unit]; intro a; fin_cases a
      · exact ⟨Nat.zero_le _, by simpa using h⟩
      · exact ⟨Nat.zero_le _, by have := (y 1).isLt; simpa using this⟩
    exact LoadRect.exists_idx_of_mem _ hy
  · right
    have hy : y ∈ rLow.set := by
      rw [Rect.mem_set_unit]; intro a; fin_cases a
      · exact ⟨by simpa using h, by have := (y 0).isLt; simpa using this⟩
      · exact ⟨Nat.zero_le _, by have := (y 1).isLt; simpa using this⟩
    exact LoadRect.exists_idx_of_mem _ hy

theorem ext_low (top : Vec F S16x1024 .f32) (h : Vec F S512x1024 .f32) (x : S512x1024.Idx) : ext top h (rLow.emb x) = h x := by
  rw [ext_eq]; exact View.canon_cons_emb rLow h _ x

theorem top_not_low (x : S16x1024.Idx) : rTop.emb x ∉ rLow.set := by
  have h := LoadRect.idx_mem rTop.toLoadRect x
  exact fun hm => Finset.disjoint_left.mp rows_disjoint h hm
theorem low_not_top (x : S512x1024.Idx) : rLow.emb x ∉ rTop.set := by
  have h := LoadRect.idx_mem rLow.toLoadRect x
  exact fun hm => Finset.disjoint_right.mp rows_disjoint h hm

theorem ext_top (top : Vec F S16x1024 .f32) (h : Vec F S512x1024 .f32) (x : S16x1024.Idx) : ext top h (rTop.emb x) = top x := by
  rw [ext_eq, View.canon_cons_of_not_mem]
  · exact View.canon_cons_emb rTop top _ x
  · exact top_not_low x

/-- The last sixteen rows of a tile. -/
def tail16 (h : Vec F S512x1024 .f32) : Vec F S16x1024 .f32 :=
  View.ld h (Rect.unit (s := S512x1024) ![496, 0] S16x1024.size (by decide))

/-- The last sixteen of all the rows seen are the tile's own last sixteen. -/
theorem last16_ext (top : Vec F S16x1024 .f32) (h : Vec F S512x1024 .f32) : last16 (ext top h) = tail16 h := by
  funext j
  have e : (Rect.unit (s := S528x1024) ![512, 0] S16x1024.size inb_S528x1024_S16x1024_512_0).emb j
      = rLow.emb ((Rect.unit (s := S512x1024) ![496, 0] S16x1024.size (by decide)).emb j) := by
    funext a
    fin_cases a
    · apply Fin.ext; show 512 + 1 * (j 0 : ℕ) = 16 + 1 * (496 + 1 * (j 0 : ℕ)); omega
    · apply Fin.ext; show 0 + 1 * (j 1 : ℕ) = 0 + 1 * (0 + 1 * (j 1 : ℕ)); omega
  show ext top h ((Rect.unit (s := S528x1024) ![512, 0] S16x1024.size inb_S528x1024_S16x1024_512_0).emb j) = _
  rw [e, ext_low]; rfl

theorem first16_ext (top : Vec F S16x1024 .f32) (h : Vec F S512x1024 .f32) : first16 (ext top h) = top := by
  funext j
  exact ext_top top h j

end Cert.KernelIdeal.Pool
-- ==== Proof.Pool.Link.lean ====
module

public import proofs.«01_k».proof.Proof.Pool.Tile
public import Idealize.ShloMosaic.Lib.Pipeline.ValueKit.Acc
public import Idealize.ShloMosaic.Lib.WritesUnit

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The batch position's own word, as the body computes it. -/
abbrev v0 (i : grid0.Coords) : BitVec 32 := Scalar.subi (BitVec.ofNat 32 (i 0).val) 0#32

/-- A row above is below row sixteen. -/
theorem top_row (x : S16x1024.Idx) : ((rTop.emb x) (0 : Fin 2) : ℕ) < 16 := by
  have h0 : (x 0 : ℕ) < 16 := (x 0).isLt
  show 0 + 1 * (x 0 : ℕ) < 16
  omega

/-- A buffer that keeps its upper rows and is stored below them. -/
theorem read_kept (m : Memref sig .tc .vmem S528x1024 .f32) (hm : m.IsWhole) (xs : Vec F S528x1024 .f32) (h : Vec F S512x1024 .f32) :
    m.view.read (Elt F) (m.view.writes (Elt F) (hm.unread xs) [⟨Rect.unit (s := S528x1024) ![16, 0] S512x1024.size inb_S528x1024_S512x1024_16_0, h⟩]) = ext (first16 xs) h := by
  funext y
  rcases rows_cases y with ⟨x, rfl⟩ | ⟨x, rfl⟩
  · rw [ext_top]
    have key := View.read_writes_cons_unit_of_not_mem (Val := Elt F) m.view (hm.unread xs) (off := ![16, 0]) (off' := ![16, 0]) (size := S512x1024.size)
      inb_S528x1024_S512x1024_16_0 h [] (rTop.emb x) rfl 0 (Or.inl (top_row x))
    refine key.trans ?_
    rw [View.writes_nil, hm.read_unread]; rfl
  · rw [ext_low]
    exact View.read_writes_cons_emb _ _ _ _ _ _

/-- The same two stores in the other order. -/
theorem canon_swap (top : Vec F S16x1024 .f32) (h : Vec F S512x1024 .f32) :
    View.canon (Val := Elt F) (e := .f32) [⟨rTop, top⟩, ⟨rLow, h⟩] = ext top h := by
  funext y
  rcases rows_cases y with ⟨x, rfl⟩ | ⟨x, rfl⟩
  · rw [ext_top]; exact View.canon_cons_emb rTop top _ x
  · rw [ext_low, View.canon_cons_of_not_mem]
    · exact View.canon_cons_emb rLow h _ x
    · exact low_not_top x

/-- Upper rows stored again. -/
theorem canon_again (top top' : Vec F S16x1024 .f32) (h : Vec F S512x1024 .f32) :
    View.canon (Val := Elt F) (e := .f32) [⟨rTop, top⟩, ⟨rLow, h⟩, ⟨rTop, top'⟩] = ext top h := by
  funext y
  rcases rows_cases y with ⟨x, rfl⟩ | ⟨x, rfl⟩
  · rw [ext_top]; exact View.canon_cons_emb rTop top _ x
  · rw [ext_low, View.canon_cons_of_not_mem]
    · exact View.canon_cons_emb rLow h _ x
    · exact low_not_top x

/-! The chunks of the gated activations are one computation, however the body cuts it. -/
section chunks
variable (h : FVec F S512x1024 .bf16) (y : Vec F S512x1024 .f32) (g : Vec F S1x1024 .f32) (w w2 : Vec F S1024x256 .bf16)
theorem chunk_19 : k0_pay19 y g w w2 = k0_pay22 (k0_pay18 y g) w w2 := rfl
theorem chunk_21 : k0_pay21 (k0_pay20 y g w w2) = k0_pay22 (k0_pay18 y g) w w2 := rfl
theorem chunk_23 : k0_pay23 h w w2 = k0_pay22 h w w2 := rfl
theorem chunk_27 : k0_pay27 h w w2 = k0_pay22 h w w2 := rfl
theorem chunk_28 : k0_pay28 h w w2 = k0_pay22 h w w2 := rfl
theorem chunk_31 : k0_pay31 h w w2 = k0_pay22 h w w2 := rfl
theorem chunk_32 : k0_pay32 h w w2 = k0_pay22 h w w2 := rfl
theorem chunk_33 : k0_pay33 h w w2 = k0_pay22 h w w2 := rfl
theorem chunk_41 : k0_pay41 h w w2 = k0_pay22 h w w2 := rfl
theorem chunk_42 : k0_pay42 h w w2 = k0_pay22 h w w2 := rfl
theorem chunk_45 : k0_pay45 h w w2 = k0_pay22 h w w2 := rfl
theorem chunk_46 : k0_pay46 h w w2 = k0_pay22 h w w2 := rfl
theorem chunk_47 : k0_pay47 h w w2 = k0_pay22 h w w2 := rfl
theorem chunk_48 : k0_pay48 h w w2 = k0_pay22 h w w2 := rfl
theorem chunk_51 : k0_pay51 h w w2 = k0_pay22 h w w2 := rfl
theorem chunk_26 : k0_pay26 (k0_pay24 h w2) (k0_pay25 h w) = k0_pay22 h w w2 := rfl
theorem chunk_30 : k0_pay30 h (k0_pay29 h w) w2 = k0_pay22 h w w2 := rfl
theorem chunk_37 : k0_pay37 y g = k0_pay18 y g := rfl
theorem chunk_38 : k0_pay38 y g w w2 = k0_pay22 (k0_pay18 y g) w w2 := rfl
theorem chunk_40 : k0_pay40 (k0_pay39 y g w w2) = k0_pay22 (k0_pay18 y g) w w2 := rfl
theorem chunk_44 : k0_pay44 h (k0_pay43 h w) w2 = k0_pay22 h w w2 := rfl
theorem chunk_50 : k0_pay50 (k0_pay49 h w w2) = k0_pay22 h w w2 := rfl
end chunks

theorem pay15_eq (X : Vec F S16x1024 .f32) : k0_pay15 X = X := shapeCast_self _ _

/-- A load of a whole buffer after stores is their contents. -/
theorem cov_whole {S : Shape} {e : EltTy} (v : View sig .tc .vmem S e) (L : List (View.Piece (Elt F) S e)) {off : Fin S.rank → ℕ}
    (inb : ∀ a, off a + S.size a ≤ S.size a) (h : ∀ a, off a = 0) :
    v.readCov L (Rect.unit off (no_index S.size) inb).toLoadRect = View.canon L := by
  rw [View.readCov_eq_canon']
  exact View.ld_unit_lit' inb (View.canon L) h

/-- A load after both stores of the carried rows. -/
theorem cov_ext (v : View sig .tc .vmem S528x1024 .f32) (top : Vec F S16x1024 .f32) (h : Vec F S512x1024 .f32) (r : Rect S528x1024) :
    v.readCov (Val := Elt F) [⟨Rect.unit (s := S528x1024) ![16, 0] S512x1024.size inb_S528x1024_S512x1024_16_0, h⟩,
      ⟨Rect.unit (s := S528x1024) ![0, 0] S16x1024.size inb_S528x1024_S16x1024_0_0, top⟩] r.toLoadRect = View.ld (ext top h) r := by
  rw [View.readCov_eq_canon', ext_eq]

theorem canon_low_eq (top : Vec F S16x1024 .f32) (h : Vec F S512x1024 .f32) (y : S528x1024.Idx) (hy : ¬ (y (0 : Fin 2) : ℕ) < 16) :
    View.canon (Val := Elt F) (e := .f32) [⟨rLow, h⟩] y = ext top h y := by
  rcases rows_cases y with ⟨x, rfl⟩ | ⟨x, rfl⟩
  · exact absurd (top_row x) hy
  · rw [ext_low]; exact View.canon_cons_emb rLow h _ x

/-- A load of rows stored last, whatever the rows above hold. -/
theorem cov_low (v : View sig .tc .vmem S528x1024 .f32) (top : Vec F S16x1024 .f32) (h : Vec F S512x1024 .f32) (r : Rect S528x1024)
    (hr : ∀ j : r.shape.Idx, ¬ ((r.emb j) (0 : Fin 2) : ℕ) < 16) :
    v.readCov (Val := Elt F) [⟨Rect.unit (s := S528x1024) ![16, 0] S512x1024.size inb_S528x1024_S512x1024_16_0, h⟩] r.toLoadRect = View.ld (ext top h) r := by
  rw [View.readCov_eq_canon']
  funext j
  exact canon_low_eq top h (r.emb j) (hr j)

/-- A load after both stores in the other order. -/
theorem cov_swap (v : View sig .tc .vmem S528x1024 .f32) (top : Vec F S16x1024 .f32) (h : Vec F S512x1024 .f32) (r : Rect S528x1024) :
    v.readCov (Val := Elt F) [⟨Rect.unit (s := S528x1024) ![0, 0] S16x1024.size inb_S528x1024_S16x1024_0_0, top⟩,
      ⟨Rect.unit (s := S528x1024) ![16, 0] S512x1024.size inb_S528x1024_S512x1024_16_0, h⟩] r.toLoadRect = View.ld (ext top h) r := by
  rw [View.readCov_eq_canon']
  funext j
  exact congrFun (canon_swap top h) (r.emb j)

/-- The rows loaded from row `o` on are not among the upper sixteen. -/
theorem low_rect {o p : ℕ} (ho : 16 ≤ o) {size : Fin 2 → ℕ} (inb : ∀ a, (![o, p] : Fin 2 → ℕ) a + size a ≤ S528x1024.size a)
    (j : (Rect.unit (s := S528x1024) ![o, p] size inb).shape.Idx) : ¬ (((Rect.unit (s := S528x1024) ![o, p] size inb).emb j) (0 : Fin 2) : ℕ) < 16 := by
  show ¬ o + 1 * ((j 0 : _) : ℕ) < 16
  omega

section runs
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x15x1024 .f32) (harg13 : arg13.IsWhole) (arg14 : Memref sig .tc .vmem S512x2816 .bf16) (harg14 : arg14.IsWhole) (arg15 : Memref sig .tc .vmem S528x1024 .f32) (harg15 : arg15.IsWhole) (arg16 : Memref sig .tc .vmem S512x1024 .f32) (harg16 : arg16.IsWhole) (arg17 : Memref sig .tc .vmem S512x1024 .f32) (harg17 : arg17.IsWhole)

/-! What `runA` leaves. -/
section
variable (hc0 : cond0_0 i) (hc1 : cond0_1 i) (hc2 : ¬cond0_2 i) (hc3 : ¬cond0_3 i) (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (d11 : Vec F S512x1024 .f32) (d12 : Vec F S1x15x1024 .f32)

/-- What the tile puts out, case A. -/
theorem tileA :
    View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 d11 d12).1.1 = tileOut (v0 i) (ext (k0_pay2) (k0_pay3 x0 x2)) x0 x3 x4 x5 x6 x7 x8 x9 := by
  frame_open
  simp (disch := decide) only [↓cov_ext, ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  rfl

/-- The rows carried on, case A. -/
theorem extA :
    View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 d11 d12).1.2 = ext (last16 (ext (k0_pay2) (k0_pay3 x0 x2))) (k0_pay3 x0 x2) := by
  frame_open
  simp (disch := decide) only [↓cov_ext, ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  exact canon_again _ _ _

theorem readTileA (f) :
    arg11.view.read (Elt F) (arg11.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 d11 d12).1.1) = tileOut (v0 i) (ext (k0_pay2) (k0_pay3 x0 x2)) x0 x3 x4 x5 x6 x7 x8 x9 :=
  (View.read_writes_eq_canon _ f _ (View.cover_of_tiledBy _ ![512, 1024] (by sl_kernel_rfl))).trans ((tileA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 d11 d12))

theorem readExtA (f) :
    arg15.view.read (Elt F) (arg15.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 d11 d12).1.2) = ext (tail16 (k0_pay3 x0 x2)) (k0_pay3 x0 x2) :=
  (View.read_writes_eq_canon _ f _ (View.cover_of_tiledBy _ ![16, 1024] (by sl_kernel_rfl))).trans ((extA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 d11 d12).trans (by rw [last16_ext]))

end

/-! What `runB` leaves. -/
section
variable (hc0 : cond0_0 i) (hc1 : ¬cond0_1 i) (hc2 : ¬cond0_2 i) (hc3 : ¬cond0_3 i) (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (xs : Vec F S528x1024 .f32) (d11 : Vec F S512x1024 .f32) (d12 : Vec F S1x15x1024 .f32)

/-- What the tile puts out, case B. -/
theorem tileB :
    View.canon (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11 d12).1.1 = tileOut (v0 i) (ext (first16 xs) (k0_pay3 x0 x2)) x0 x3 x4 x5 x6 x7 x8 x9 := by
  frame_open
  simp (disch := decide) only [↓cov_ext, ↓cov_low _ (first16 xs) _ (Rect.unit (s := S528x1024) ![16, 0] S512x256.size inb_S528x1024_S512x256_16_0) (low_rect (by decide) _), ↓cov_low _ (first16 xs) _ (Rect.unit (s := S528x1024) ![16, 256] S512x256.size inb_S528x1024_S512x256_16_256) (low_rect (by decide) _), ↓cov_low _ (first16 xs) _ (Rect.unit (s := S528x1024) ![16, 512] S512x256.size inb_S528x1024_S512x256_16_512) (low_rect (by decide) _), ↓cov_low _ (first16 xs) _ (Rect.unit (s := S528x1024) ![16, 768] S512x256.size inb_S528x1024_S512x256_16_768) (low_rect (by decide) _), ↓cov_low _ (first16 xs) _ (Rect.unit (s := S528x1024) ![512, 0] S16x1024.size inb_S528x1024_S16x1024_512_0) (low_rect (by decide) _), ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  rw [read_kept arg15 harg15 xs (k0_pay3 x0 x2)]
  rfl

/-- The rows carried on, case B. -/
theorem extB :
    View.canon (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11 d12).1.2 = ext (last16 (ext (first16 xs) (k0_pay3 x0 x2))) (k0_pay3 x0 x2) := by
  frame_open
  simp (disch := decide) only [↓cov_ext, ↓cov_low _ (first16 xs) _ (Rect.unit (s := S528x1024) ![16, 0] S512x256.size inb_S528x1024_S512x256_16_0) (low_rect (by decide) _), ↓cov_low _ (first16 xs) _ (Rect.unit (s := S528x1024) ![16, 256] S512x256.size inb_S528x1024_S512x256_16_256) (low_rect (by decide) _), ↓cov_low _ (first16 xs) _ (Rect.unit (s := S528x1024) ![16, 512] S512x256.size inb_S528x1024_S512x256_16_512) (low_rect (by decide) _), ↓cov_low _ (first16 xs) _ (Rect.unit (s := S528x1024) ![16, 768] S512x256.size inb_S528x1024_S512x256_16_768) (low_rect (by decide) _), ↓cov_low _ (first16 xs) _ (Rect.unit (s := S528x1024) ![512, 0] S16x1024.size inb_S528x1024_S16x1024_512_0) (low_rect (by decide) _), ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  exact canon_swap _ _

theorem readTileB (f) :
    arg11.view.read (Elt F) (arg11.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11 d12).1.1) = tileOut (v0 i) (ext (first16 xs) (k0_pay3 x0 x2)) x0 x3 x4 x5 x6 x7 x8 x9 :=
  (View.read_writes_eq_canon _ f _ (View.cover_of_tiledBy _ ![512, 1024] (by sl_kernel_rfl))).trans ((tileB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11 d12))

theorem readExtB (f) :
    arg15.view.read (Elt F) (arg15.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11 d12).1.2) = ext (tail16 (k0_pay3 x0 x2)) (k0_pay3 x0 x2) :=
  (View.read_writes_eq_canon _ f _ (View.cover_of_tiledBy _ ![16, 1024] (by sl_kernel_rfl))).trans ((extB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11 d12).trans (by rw [last16_ext]))

end

/-! What `runC` leaves. -/
section
variable (hc0 : cond0_0 i) (hc1 : ¬cond0_1 i) (hc2 : cond0_2 i) (hc3 : ¬cond0_3 i) (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (xs : Vec F S528x1024 .f32) (d11 : Vec F S512x1024 .f32)

/-- What the tile puts out, case C. -/
theorem tileC :
    View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).1.1 = tileOut (v0 i) (ext (first16 xs) (k0_pay3 x0 x2)) x0 x3 x4 x5 x6 x7 x8 x9 := by
  frame_open
  simp (disch := decide) only [↓cov_ext, ↓cov_low _ (first16 xs) _ (Rect.unit (s := S528x1024) ![16, 0] S512x256.size inb_S528x1024_S512x256_16_0) (low_rect (by decide) _), ↓cov_low _ (first16 xs) _ (Rect.unit (s := S528x1024) ![16, 256] S512x256.size inb_S528x1024_S512x256_16_256) (low_rect (by decide) _), ↓cov_low _ (first16 xs) _ (Rect.unit (s := S528x1024) ![16, 512] S512x256.size inb_S528x1024_S512x256_16_512) (low_rect (by decide) _), ↓cov_low _ (first16 xs) _ (Rect.unit (s := S528x1024) ![16, 768] S512x256.size inb_S528x1024_S512x256_16_768) (low_rect (by decide) _), ↓cov_low _ (first16 xs) _ (Rect.unit (s := S528x1024) ![512, 0] S16x1024.size inb_S528x1024_S16x1024_512_0) (low_rect (by decide) _), ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  rw [read_kept arg15 harg15 xs (k0_pay3 x0 x2)]
  rfl

/-- The rows carried on, case C. -/
theorem extC :
    View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).1.2.2 = ext (last16 (ext (first16 xs) (k0_pay3 x0 x2))) (k0_pay3 x0 x2) := by
  frame_open
  simp (disch := decide) only [↓cov_ext, ↓cov_low _ (first16 xs) _ (Rect.unit (s := S528x1024) ![16, 0] S512x256.size inb_S528x1024_S512x256_16_0) (low_rect (by decide) _), ↓cov_low _ (first16 xs) _ (Rect.unit (s := S528x1024) ![16, 256] S512x256.size inb_S528x1024_S512x256_16_256) (low_rect (by decide) _), ↓cov_low _ (first16 xs) _ (Rect.unit (s := S528x1024) ![16, 512] S512x256.size inb_S528x1024_S512x256_16_512) (low_rect (by decide) _), ↓cov_low _ (first16 xs) _ (Rect.unit (s := S528x1024) ![16, 768] S512x256.size inb_S528x1024_S512x256_16_768) (low_rect (by decide) _), ↓cov_low _ (first16 xs) _ (Rect.unit (s := S528x1024) ![512, 0] S16x1024.size inb_S528x1024_S16x1024_512_0) (low_rect (by decide) _), ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  exact canon_swap _ _

/-- The state put out. -/
theorem stateC :
    View.canon (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).1.2.1 = stateOut (ext (last16 (ext (first16 xs) (k0_pay3 x0 x2))) (k0_pay3 x0 x2)) := by
  frame_open
  simp (disch := decide) only [↓cov_ext, ↓cov_low _ (first16 xs) _ (Rect.unit (s := S528x1024) ![16, 0] S512x256.size inb_S528x1024_S512x256_16_0) (low_rect (by decide) _), ↓cov_low _ (first16 xs) _ (Rect.unit (s := S528x1024) ![16, 256] S512x256.size inb_S528x1024_S512x256_16_256) (low_rect (by decide) _), ↓cov_low _ (first16 xs) _ (Rect.unit (s := S528x1024) ![16, 512] S512x256.size inb_S528x1024_S512x256_16_512) (low_rect (by decide) _), ↓cov_low _ (first16 xs) _ (Rect.unit (s := S528x1024) ![16, 768] S512x256.size inb_S528x1024_S512x256_16_768) (low_rect (by decide) _), ↓cov_low _ (first16 xs) _ (Rect.unit (s := S528x1024) ![512, 0] S16x1024.size inb_S528x1024_S16x1024_512_0) (low_rect (by decide) _), ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  rw [cov_swap]; rfl

theorem readTileC (f) :
    arg11.view.read (Elt F) (arg11.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).1.1) = tileOut (v0 i) (ext (first16 xs) (k0_pay3 x0 x2)) x0 x3 x4 x5 x6 x7 x8 x9 :=
  (View.read_writes_eq_canon _ f _ (View.cover_of_tiledBy _ ![512, 1024] (by sl_kernel_rfl))).trans ((tileC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11))

theorem readExtC (f) :
    arg15.view.read (Elt F) (arg15.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).1.2.2) = ext (tail16 (k0_pay3 x0 x2)) (k0_pay3 x0 x2) :=
  (View.read_writes_eq_canon _ f _ (View.cover_of_tiledBy _ ![16, 1024] (by sl_kernel_rfl))).trans ((extC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).trans (by rw [last16_ext]))

theorem readStateC (f) :
    arg13.view.read (Elt F) (arg13.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).1.2.1) = stateOut (ext (tail16 (k0_pay3 x0 x2)) (k0_pay3 x0 x2)) :=
  (View.read_writes_eq_canon _ f _ (View.cover_of_tiledBy _ ![1, 15, 1024] (by sl_kernel_rfl))).trans ((stateC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d11).trans (by rw [last16_ext]))

end

/-! What `runD` leaves. -/
section
variable (hc0 : ¬cond0_0 i) (hc1 : cond0_1 i) (hc2 : ¬cond0_2 i) (hc3 : cond0_3 i) (x0 : Vec F S512x1024 .f32) (x1 : Vec F S512x1024 .f32) (x2 : Vec F S1x1024 .f32) (x3 : Vec F S4x256x256 .bf16) (x4 : Vec F S1x1024 .f32) (x5 : Vec F S1x1024 .f32) (x6 : Vec F S1x1024 .f32) (x7 : Vec F S1024x5632 .bf16) (x8 : Vec F S2816x1024 .bf16) (x9 : Vec F S1x1024 .f32) (xs : Vec F S528x1024 .f32) (d10 : Vec F S512x1024 .f32) (d12 : Vec F S1x15x1024 .f32)

/-- What the last point puts out. -/
theorem outD :
    View.canon (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d10 d12).1 = ffnOut x1 x6 x7 x8 x9 := by
  frame_open
  simp (disch := decide) only [↓cov_ext, ↓cov_whole, View.readAt_eq_ld, Memref.IsWhole.read_unread, View.canon_cons_unit_lit', View.ld_unit_lit', read_kept,
    chunk_19, chunk_21, chunk_23, chunk_27, chunk_28, chunk_31, chunk_32, chunk_33, chunk_41, chunk_42, chunk_45, chunk_46, chunk_47, chunk_48, chunk_51, chunk_26, chunk_30, chunk_37, chunk_38, chunk_40, chunk_44, chunk_50, pay15_eq]
  rfl

theorem readOutD (f) :
    arg12.view.read (Elt F) (arg12.view.writes (Elt F) f (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d10 d12).1) = ffnOut x1 x6 x7 x8 x9 :=
  (View.read_writes_eq_canon _ f _ (View.cover_of_tiledBy _ ![512, 1024] (by sl_kernel_rfl))).trans ((outD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs d10 d12))

end

end runs

end Cert.KernelIdeal.Pool
-- ==== Proof.Pool.Frame.lean ====
module

public import proofs.«01_k».proof.Proof.Pool.Link

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of the first batch a point last took: its own, or the last tile at the last point. -/
abbrev tl (t : Fin cfg0.N) : Fin cfg0.N := ⟨min t.val 31, by have := t.isLt; omega⟩
theorem tl_of_lt (t : Fin cfg0.N) (h : t.val < 32) : tl t = t := Fin.ext (by show min t.val 31 = t.val; omega)
/-- The point before. -/
abbrev pt (t : Fin cfg0.N) : Fin cfg0.N := ⟨t.val - 1, Nat.lt_of_le_of_lt (Nat.sub_le _ _) t.isLt⟩
theorem tl_last (t : Fin cfg0.N) (h : t.val = 32) : tl (pt t) = tl t := Fin.ext (by show min (t.val - 1) 31 = min t.val 31; omega)

/-- The normalised rows of a point's tile. -/
def rows (c : Dev nD) (t : Fin cfg0.N) : Vec F S512x1024 .f32 := k0_pay3 (iblk m c 0 t) (iblk m c 2 t)
/-- The sixteen rows above a point's tile: zeros at a sequence's start, else the last rows of the tile before. -/
def above (c : Dev nD) (t : Fin cfg0.N) : Vec F S16x1024 .f32 := if t.val % 4 = 0 then k0_pay2 else tail16 (rows m c (pt t))
/-- The normalised rows a point's tile sees. -/
def seen (c : Dev nD) (t : Fin cfg0.N) : Vec F S528x1024 .f32 := ext (above m c t) (rows m c t)
/-- What the carried rows hold after a point. -/
def kept (c : Dev nD) (t : Fin cfg0.N) : Vec F S528x1024 .f32 := ext (tail16 (rows m c (tl t))) (rows m c (tl t))
/-- What the first result's buffer holds after a point. -/
def out10 (c : Dev nD) (t : Fin cfg0.N) : Vec F S512x1024 .f32 :=
  tileOut (v0 (grid0.coords (tl t))) (seen m c (tl t)) (iblk m c 0 (tl t)) (iblk m c 3 (tl t)) (iblk m c 4 (tl t)) (iblk m c 5 (tl t))
    (iblk m c 6 (tl t)) (iblk m c 7 (tl t)) (iblk m c 8 (tl t)) (iblk m c 9 (tl t))
/-- What the second result's buffer holds after the last point. -/
def out11 (c : Dev nD) (t : Fin cfg0.N) : Vec F S512x1024 .f32 :=
  ffnOut (iblk m c 1 t) (iblk m c 6 t) (iblk m c 7 t) (iblk m c 8 t) (iblk m c 9 t)
/-- What the third result's buffer holds after a sequence's last tile. -/
def out12 (c : Dev nD) (t : Fin cfg0.N) : Vec F S1x15x1024 .f32 := stateOut (kept m c t)

theorem seen_first (c : Dev nD) (t : Fin cfg0.N) (h : t.val % 4 = 0) : seen m c t = ext k0_pay2 (k0_pay3 (iblk m c 0 t) (iblk m c 2 t)) := by
  unfold seen above; rw [if_pos h]; rfl
theorem seen_later (c : Dev nD) (t : Fin cfg0.N) (h0 : t.val < 32) (h : ¬ t.val % 4 = 0) :
    seen m c t = ext (first16 (kept m c (pt t))) (k0_pay3 (iblk m c 0 t) (iblk m c 2 t)) := by
  unfold seen above kept
  rw [if_neg h, first16_ext, tl_of_lt (pt t) (by show t.val - 1 < 32; omega)]; rfl
theorem kept_tile (c : Dev nD) (t : Fin cfg0.N) (h0 : t.val < 32) :
    kept m c t = ext (tail16 (k0_pay3 (iblk m c 0 t) (iblk m c 2 t))) (k0_pay3 (iblk m c 0 t) (iblk m c 2 t)) := by
  unfold kept; rw [tl_of_lt t h0]; rfl
theorem kept_last (c : Dev nD) (t : Fin cfg0.N) (h : t.val = 32) : kept m c (pt t) = kept m c t := by
  unfold kept; rw [tl_last t h]
theorem out10_last (c : Dev nD) (t : Fin cfg0.N) (h : t.val = 32) : out10 m c (pt t) = out10 m c t := by
  unfold out10; rw [tl_last t h]

/-! ## Where the results are written back, and where the body leaves them alone -/

theorem flush10 : ∀ t : Fin cfg0.N, (cfg0.win 10).flush t = decide (t.val ≠ 31) :=
  (by decide +kernel : ∀ t : Fin grid0.N, win0_10.flush t = decide (t.val ≠ 31))
theorem flush12 : ∀ t : Fin cfg0.N, (cfg0.win 12).flush t = decide (t.val % 4 = 3 ∧ t.val ≠ 31 ∨ t.val = 32) :=
  (by decide +kernel : ∀ t : Fin grid0.N, win0_12.flush t = decide (t.val % 4 = 3 ∧ t.val ≠ 31 ∨ t.val = 32))
theorem idle10 : ∀ t : Fin cfg0.N, cfg0.idle 10 (cfg0.grid.coords t) = decide (t.val = 32) :=
  (by decide +kernel : ∀ t : Fin grid0.N, idle0 10 (grid0.coords t) = decide (t.val = 32))
theorem idle11 : ∀ t : Fin cfg0.N, cfg0.idle 11 (cfg0.grid.coords t) = decide (t.val ≠ 32) :=
  (by decide +kernel : ∀ t : Fin grid0.N, idle0 11 (grid0.coords t) = decide (t.val ≠ 32))
theorem idle12 : ∀ t : Fin cfg0.N, cfg0.idle 12 (cfg0.grid.coords t) = decide (t.val % 4 ≠ 3) :=
  (by decide +kernel : ∀ t : Fin grid0.N, idle0 12 (grid0.coords t) = decide (t.val % 4 ≠ 3))

/-! ## What holds before each point -/

/-- The carried rows at what the point before left, the other scratch buffers at anything. -/
def PhiS (c : Dev nD) : (n : ℕ) → n ≤ cfg0.N → sProp 𝕄
  | 0, _ => Pipeline.ΦA spec0 c
  | n + 1, hn => iprop(iprop((∃ d, owns (c : Thread nD τ) sc0 fullShare d) ∗ owns (c : Thread nD τ) sc1 fullShare (kept m c ⟨n, hn⟩)
      ∗ (∃ d, owns (c : Thread nD τ) sc2 fullShare d) ∗ (∃ d, owns (c : Thread nD τ) sc3 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, owns (c : Thread nD τ) sc0 fullShare d) ∗ owns (c : Thread nD τ) sc1 fullShare (kept m c ⟨n, hn⟩)
      ∗ (∃ d, owns (c : Thread nD τ) sc2 fullShare d) ∗ (∃ d, owns (c : Thread nD τ) sc3 fullShare d)) ∗ (∃ r, prngReg c r)) := rfl
theorem PhiS_pos (c : Dev nD) (n : ℕ) (h : n ≤ cfg0.N) (hz : n ≠ 0) :
    PhiS m c n h = iprop(iprop((∃ d, owns (c : Thread nD τ) sc0 fullShare d) ∗ owns (c : Thread nD τ) sc1 fullShare (kept m c ⟨n - 1, by omega⟩)
      ∗ (∃ d, owns (c : Thread nD τ) sc2 fullShare d) ∗ (∃ d, owns (c : Thread nD τ) sc3 fullShare d)) ∗ (∃ r, prngReg c r)) := by
  cases n with
  | zero => exact absurd rfl hz
  | succ n => rfl

/-- The proof data of the pipeline: each input's buffer holds its block, each result's what the definitions above say. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => out12 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]
theorem after12 (c : Dev nD) (t : Fin cfg0.N) : (dats m 0 c).after 12 t = out12 m c t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) : (dats m 0 c).leavesExact 0 t = owns (c : Thread nD τ) (st0 t) fullShare (iblk m c 0 t) := by
  unfold Dat.leavesExact; rw [live0 t, after0]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) : (dats m 0 c).leavesExact 1 t = owns (c : Thread nD τ) (st1 t) fullShare (iblk m c 1 t) := by
  unfold Dat.leavesExact; rw [live1 t, after1]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) : (dats m 0 c).leavesExact 2 t = owns (c : Thread nD τ) (st2 t) fullShare (iblk m c 2 t) := by
  unfold Dat.leavesExact; rw [live2 t, after2]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) : (dats m 0 c).leavesExact 3 t = owns (c : Thread nD τ) (st3 t) fullShare (iblk m c 3 t) := by
  unfold Dat.leavesExact; rw [live3 t, after3]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) : (dats m 0 c).leavesExact 4 t = owns (c : Thread nD τ) (st4 t) fullShare (iblk m c 4 t) := by
  unfold Dat.leavesExact; rw [live4 t, after4]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) : (dats m 0 c).leavesExact 5 t = owns (c : Thread nD τ) (st5 t) fullShare (iblk m c 5 t) := by
  unfold Dat.leavesExact; rw [live5 t, after5]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) : (dats m 0 c).leavesExact 6 t = owns (c : Thread nD τ) (st6 t) fullShare (iblk m c 6 t) := by
  unfold Dat.leavesExact; rw [live6 t, after6]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) : (dats m 0 c).leavesExact 7 t = owns (c : Thread nD τ) (st7 t) fullShare (iblk m c 7 t) := by
  unfold Dat.leavesExact; rw [live7 t, after7]
theorem before8 (c : Dev nD) (t : Fin cfg0.N) (d) : (dats m 0 c).before 8 t d = iblk m c 8 t :=
  before0_8_of m (dats m 0 c) (A_eq m c 8) (after8 m c) t d
theorem leaves8 (c : Dev nD) (t : Fin cfg0.N) : (dats m 0 c).leavesExact 8 t = owns (c : Thread nD τ) (st8 t) fullShare (iblk m c 8 t) := by
  unfold Dat.leavesExact; rw [live8 t, after8]
theorem before9 (c : Dev nD) (t : Fin cfg0.N) (d) : (dats m 0 c).before 9 t d = iblk m c 9 t :=
  before0_9_of m (dats m 0 c) (A_eq m c 9) (after9 m c) t d
theorem leaves9 (c : Dev nD) (t : Fin cfg0.N) : (dats m 0 c).leavesExact 9 t = owns (c : Thread nD τ) (st9 t) fullShare (iblk m c 9 t) := by
  unfold Dat.leavesExact; rw [live9 t, after9]

/-- At the last point the first result's buffer still holds the last tile's rows. -/
theorem before10 (c : Dev nD) (t : Fin cfg0.N) (h : t.val = 32) (d) : (dats m 0 c).before 10 t d = out10 m c t := by
  have hf : (cfg0.win 10).flush (pt t) = false := by rw [flush10]; exact decide_eq_false (by show ¬ (t.val - 1 ≠ 31); omega)
  have hi : cfg0.idle 10 (cfg0.grid.coords (pt t)) = false := by rw [idle10]; exact decide_eq_false (by show ¬ (t.val - 1 = 32); omega)
  rw [Dat.before_of_pos _ 10 t (by omega) ((cfg0.win 10).fetch_out rfl t), hf, if_neg Bool.false_ne_true]
  unfold Dat.left; rw [hi]
  show (dats m 0 c).kept 10 (pt t) d = _
  unfold Dat.kept
  rw [Pipeline.fill_of_clip_none (cfg := cfg0) 10 _ (fun _ => rfl) d ((dats m 0 c).after 10 (pt t)), Window.fill_cut, after10]
  exact out10_last m c t h
/-- At the last point the third result's buffer still holds the last sequence's state. -/
theorem before12 (c : Dev nD) (t : Fin cfg0.N) (h : t.val = 32) (d) : (dats m 0 c).before 12 t d = out12 m c t := by
  have hf : (cfg0.win 12).flush (pt t) = false := by rw [flush12]; exact decide_eq_false (by show ¬ ((t.val - 1) % 4 = 3 ∧ t.val - 1 ≠ 31 ∨ t.val - 1 = 32); omega)
  have hi : cfg0.idle 12 (cfg0.grid.coords (pt t)) = false := by rw [idle12]; exact decide_eq_false (by show ¬ ((t.val - 1) % 4 ≠ 3); omega)
  rw [Dat.before_of_pos _ 12 t (by omega) ((cfg0.win 12).fetch_out rfl t), hf, if_neg Bool.false_ne_true]
  unfold Dat.left; rw [hi]
  show (dats m 0 c).kept 12 (pt t) d = _
  unfold Dat.kept
  rw [Pipeline.fill_of_clip_none (cfg := cfg0) 12 _ (fun _ => rfl) d ((dats m 0 c).after 12 (pt t)), Window.fill_cut, after12]
  show stateOut (kept m c (pt t)) = stateOut (kept m c t)
  rw [kept_last m c t h]

/-! What the body owes of each result's buffer, by the position of the point. -/
theorem leaves10_tile (c : Dev nD) (t : Fin cfg0.N) (h : t.val < 32) : (dats m 0 c).leavesExact 10 t = owns (c : Thread nD τ) (st10 t) fullShare (out10 m c t) := by
  have hi : cfg0.idle 10 (cfg0.grid.coords t) = false := by rw [idle10]; exact decide_eq_false (by omega)
  unfold Dat.leavesExact; rw [hi, after10]
theorem leaves10_last (c : Dev nD) (t : Fin cfg0.N) (h : t.val = 32) : (dats m 0 c).leavesExact 10 t = owns (c : Thread nD τ) (st10 t) fullShare (out10 m c t) := by
  have hi : cfg0.idle 10 (cfg0.grid.coords t) = true := by rw [idle10]; exact decide_eq_true h
  have hf : (cfg0.win 10).flush t = true := by rw [flush10]; exact decide_eq_true (by omega)
  unfold Dat.leavesExact; rw [hi, hf, after10]
theorem leaves11_tile (c : Dev nD) (t : Fin cfg0.N) (h : t.val < 32) :
    (dats m 0 c).leavesExact 11 t = iprop(∃ d, owns (c : Thread nD τ) (st11 t) fullShare ((dats m 0 c).before 11 t d)) := by
  have hi : cfg0.idle 11 (cfg0.grid.coords t) = true := by rw [idle11]; exact decide_eq_true (by omega)
  have hf : (cfg0.win 11).flush t = false := by rw [← Bool.not_eq_true, flush0_11]; omega
  exact Dat.leavesExact_idle _ 11 t hi hf
theorem leaves11_last (c : Dev nD) (t : Fin cfg0.N) (h : t.val = 32) : (dats m 0 c).leavesExact 11 t = owns (c : Thread nD τ) (st11 t) fullShare (out11 m c t) := by
  have hi : cfg0.idle 11 (cfg0.grid.coords t) = false := by rw [idle11]; exact decide_eq_false (by omega)
  unfold Dat.leavesExact; rw [hi, after11]
theorem leaves12_idle (c : Dev nD) (t : Fin cfg0.N) (h : t.val < 32) (h2 : ¬ t.val % 4 = 3) :
    (dats m 0 c).leavesExact 12 t = iprop(∃ d, owns (c : Thread nD τ) (st12 t) fullShare ((dats m 0 c).before 12 t d)) := by
  have hi : cfg0.idle 12 (cfg0.grid.coords t) = true := by rw [idle12]; exact decide_eq_true h2
  have hf : (cfg0.win 12).flush t = false := by rw [flush12]; exact decide_eq_false (by omega)
  exact Dat.leavesExact_idle _ 12 t hi hf
theorem leaves12_live (c : Dev nD) (t : Fin cfg0.N) (h2 : t.val % 4 = 3) : (dats m 0 c).leavesExact 12 t = owns (c : Thread nD τ) (st12 t) fullShare (out12 m c t) := by
  have hi : cfg0.idle 12 (cfg0.grid.coords t) = false := by rw [idle12]; exact decide_eq_false (by omega)
  unfold Dat.leavesExact; rw [hi, after12]
theorem leaves12_last (c : Dev nD) (t : Fin cfg0.N) (h : t.val = 32) : (dats m 0 c).leavesExact 12 t = owns (c : Thread nD τ) (st12 t) fullShare (out12 m c t) := by
  have hi : cfg0.idle 12 (cfg0.grid.coords t) = true := by rw [idle12]; exact decide_eq_true (by omega)
  have hf : (cfg0.win 12).flush t = true := by rw [flush12]; exact decide_eq_true (by omega)
  unfold Dat.leavesExact; rw [hi, hf, after12]

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
theorem body_A0 (c : Dev nD) (t : Fin cfg0.N) (h0 : t.val < 32) (hz : t.val = 0) (h1 : t.val % 4 = 0) (h2 : ¬ t.val % 4 = 3) (h3 : ¬ t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) t.isLt from rfl, PhiS_succ]
  rw [leaves10_tile m c t h0, leaves11_tile m c t h0, leaves12_idle m c t h0 h2]
  rw [PhiS_castSucc m c t, PhiS_zero m c _ _ hz, scoped_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, H11, H12, HS0, ⟨%eS, HS1⟩, HS2, HS3⟩
  isplitl [HS0 HS1 HS2 HS3 Hg]
  · isplitl [HS0 HS1 HS2 HS3]
    · isplitl [HS0]
      · iexact HS0
      isplitl [HS1]
      · unfold owns; iexists _; isplitr; swap; · iexact HS1
        ipureintro; exact (readExtA c _ _ _ _ _ _ _ _ _ _ _ _ _ _ _ _ _ _ _ _ _ _ _ _ _ _ _ _ _ _ _ _ _ _ _ _ _ _ _ _ _ _ _ _ _ _ _ _ _ _ _ _).trans (kept_tile m c t h0).symm
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro; refine (readTileA c _ _ _ _ _ _ _ _ _ _ _ _ _ _ _ _ _ _ _ _ _ _ _ _ _ _ _ _ _ _ _ _ _ _ _ _ _ _ _ _ _ _ _ _ _ _ _ _ _ _ _ _).trans ?_
    unfold out10; rw [tl_of_lt t h0, seen_first m c t h1]
  isplitl [H11]
  · iexists _; iexact H11
  iexists _; iexact H12

set_option maxHeartbeats 4000000 in
theorem body_A (c : Dev nD) (t : Fin cfg0.N) (h0 : t.val < 32) (hz : t.val ≠ 0) (h1 : t.val % 4 = 0) (h2 : ¬ t.val % 4 = 3) (h3 : ¬ t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) t.isLt from rfl, PhiS_succ]
  rw [leaves10_tile m c t h0, leaves11_tile m c t h0, leaves12_idle m c t h0 h2]
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexists _; iexact HS1
  isplitl [HS2]; · iexact HS2
  isplitl [HS3]; · iexact HS3
  iintro ⟨H0, H1, H2, H3, H4, H5, H6, H7, H8, H9, ⟨%e10, H10⟩, H11, H12, HS0, ⟨%eS, HS1⟩, HS2, HS3⟩
  isplitl [HS0 HS1 HS2 HS3 Hg]
  · isplitl [HS0 HS1 HS2 HS3]
    · isplitl [HS0]
      · iexact HS0
      isplitl [HS1]
      · unfold owns; iexists _; isplitr; swap; · iexact HS1
        ipureintro; exact (readExtA c _ _ _ _ _ _ _ _ _ _ _ _ _ _ _ _ _ _ _ _ _ _ _ _ _ _ _ _ _ _ _ _ _ _ _ _ _ _ _ _ _ _ _ _ _ _ _ _ _ _ _ _).trans (kept_tile m c t h0).symm
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro; refine (readTileA c _ _ _ _ _ _ _ _ _ _ _ _ _ _ _ _ _ _ _ _ _ _ _ _ _ _ _ _ _ _ _ _ _ _ _ _ _ _ _ _ _ _ _ _ _ _ _ _ _ _ _ _).trans ?_
    unfold out10; rw [tl_of_lt t h0, seen_first m c t h1]
  isplitl [H11]
  · iexists _; iexact H11
  iexists _; iexact H12

set_option maxHeartbeats 4000000 in
theorem body_B (c : Dev nD) (t : Fin cfg0.N) (h0 : t.val < 32) (hz : t.val ≠ 0) (h1 : ¬ t.val % 4 = 0) (h2 : ¬ t.val % 4 = 3) (h3 : ¬ t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) t.isLt from rfl, PhiS_succ]
  rw [leaves10_tile m c t h0, leaves11_tile m c t h0, leaves12_idle m c t h0 h2]
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB c (grid0.coords t) _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (kept m c (pt t)) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, H11, H12, HS0, ⟨%eS, HS1⟩, HS2, HS3⟩
  isplitl [HS0 HS1 HS2 HS3 Hg]
  · isplitl [HS0 HS1 HS2 HS3]
    · isplitl [HS0]
      · iexact HS0
      isplitl [HS1]
      · unfold owns; iexists _; isplitr; swap; · iexact HS1
        ipureintro; exact (readExtB c _ _ _ _ _ _ _ _ _ _ _ _ _ _ _ _ _ _ _ _ _ _ _ _ _ _ _ _ _ _ _ _ _ _ _ _ _ _ _ _ _ _ _ _ _ _ _ _ _ _ _ _ _).trans (kept_tile m c t h0).symm
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro; refine (readTileB c _ _ _ _ _ _ _ _ _ _ _ _ _ _ _ _ _ _ _ _ _ _ _ _ _ _ _ _ _ _ _ _ _ _ _ _ _ _ _ _ _ _ _ _ _ _ _ _ _ _ _ _ _).trans ?_
    unfold out10; rw [tl_of_lt t h0, seen_later m c t h0 h1]
  isplitl [H11]
  · iexists _; iexact H11
  iexists _; iexact H12

set_option maxHeartbeats 4000000 in
theorem body_C (c : Dev nD) (t : Fin cfg0.N) (h0 : t.val < 32) (hz : t.val ≠ 0) (h1 : ¬ t.val % 4 = 0) (h2 : t.val % 4 = 3) (h3 : ¬ t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) t.isLt from rfl, PhiS_succ]
  rw [leaves10_tile m c t h0, leaves11_tile m c t h0, leaves12_live m c t h2]
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC c (grid0.coords t) _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (kept m c (pt t)) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, H11, ⟨%e12, H12⟩, HS0, ⟨%eS, HS1⟩, HS2, HS3⟩
  isplitl [HS0 HS1 HS2 HS3 Hg]
  · isplitl [HS0 HS1 HS2 HS3]
    · isplitl [HS0]
      · iexact HS0
      isplitl [HS1]
      · unfold owns; iexists _; isplitr; swap; · iexact HS1
        ipureintro; exact (readExtC c _ _ _ _ _ _ _ _ _ _ _ _ _ _ _ _ _ _ _ _ _ _ _ _ _ _ _ _ _ _ _ _ _ _ _ _ _ _ _ _ _ _ _ _ _ _ _ _ _ _ _ _).trans (kept_tile m c t h0).symm
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro; refine (readTileC c _ _ _ _ _ _ _ _ _ _ _ _ _ _ _ _ _ _ _ _ _ _ _ _ _ _ _ _ _ _ _ _ _ _ _ _ _ _ _ _ _ _ _ _ _ _ _ _ _ _ _ _).trans ?_
    unfold out10; rw [tl_of_lt t h0, seen_later m c t h0 h1]
  isplitl [H11]
  · iexists _; iexact H11
  unfold owns; iexists _; isplitr; swap; · iexact H12
  ipureintro; refine (readStateC c _ _ _ _ _ _ _ _ _ _ _ _ _ _ _ _ _ _ _ _ _ _ _ _ _ _ _ _ _ _ _ _ _ _ _ _ _ _ _ _ _ _ _ _ _ _ _ _ _ _ _ _).trans ?_
  unfold out12; rw [kept_tile m c t h0]

set_option maxHeartbeats 4000000 in
theorem body_D (c : Dev nD) (t : Fin cfg0.N) (h3 : t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) t.isLt from rfl, PhiS_succ]
  have h0 : ¬ t.val < 32 := by omega
  have h1 : t.val % 4 = 0 := by omega
  have h2 : ¬ t.val % 4 = 3 := by omega
  have hz : t.val ≠ 0 := by omega
  rw [leaves10_last m c t h3, leaves11_last m c t h3, leaves12_last m c t h3]
  simp only [before10 m c t h3, before12 m c t h3]
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runD c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (kept m c (pt t)) (out10 m c t) (out12 m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, H10, ⟨%e11, H11⟩, H12, HS0, HS1, HS2, HS3⟩
  isplitl [HS0 HS1 HS2 HS3 Hg]
  · isplitl [HS0 HS1 HS2 HS3]
    · isplitl [HS0]
      · iexact HS0
      isplitl [HS1]
      · rw [← kept_last m c t h3]; iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexact H10
  isplitl [H11]
  · unfold owns; iexists _; isplitr; swap; · iexact H11
    ipureintro; exact readOutD c _ _ _ _ _ _ _ _ _ _ _ _ _ _ _ _ _ _ _ _ _ _ _ _ _ _ _ _ _ _ _ _ _ _ _ _ _ _ _ _ _ _ _ _ _ _ _ _ _ _ _ _ _
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  by_cases h0 : t.val < 32
  · have h3 : ¬ t.val = 32 := by omega
    by_cases h1 : t.val % 4 = 0
    · have h2 : ¬ t.val % 4 = 3 := by omega
      by_cases hz : t.val = 0
      · exact body_A0 m c t h0 hz h1 h2 h3
      · exact body_A m c t h0 hz h1 h2 h3
    · have hz : t.val ≠ 0 := by omega
      by_cases h2 : t.val % 4 = 3
      · exact body_C m c t h0 hz h1 h2 h3
      · exact body_B m c t h0 hz h1 h2 h3
  · exact body_D m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 33 := N_0
  rw [show (dats m 0 c).Φ (Fin.last cfg0.N) = PhiS m c cfg0.N le_rfl from rfl, PhiS_pos m c _ _ (by omega), scoped_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexact HS3
  iexact Hg

set_option backward.isDefEq.respectTransparency.types false in
/-- The whole run: every execution ends, with every array at the contents the proof data name and the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Pool
-- ==== Proof.Pool.Blocks.lean ====
module

public import proofs.«01_k».proof.Proof.Pool.Frame
public import Idealize.ShloMosaic.Lib.Pipeline.ValueKit
public import Idealize.ShloMosaic.Lib.StableHlo.Run
public import Idealize.ShloMosaic.Lib.Pointwise

@[expose] public section

set_option maxRecDepth 16384

noncomputable section

namespace Cert.KernelIdeal.Pool

open Cert.KernelIdeal.Gen
open Idealize.ShloMosaic Idealize.ShloMosaic.TcCoe Idealize.ShloMosaic.StableHlo
open Idealize.ShloMosaic.Pipeline (Dat Cfg Window)

variable {F : FTy → Type} [FloatOps F]
variable (m : (ℓ : Loc nD τ sig) → Buf (Elt F) ℓ)

/-! ## The arrays the call finds -/

theorem V_main_v0 (c : Dev nD) : (V m c main_v0 : Vec F S1024x5632 .bf16) = truncf .bf16 (m ((c : Thread nD τ).loc main_arg7)) bitsLt_bf16_f32 := by
  show after hostOps0 _ (Proc.devRef .tc main_v0) = _
  after_results
theorem V_main_v1 (c : Dev nD) : (V m c main_v1 : Vec F S2816x1024 .bf16) = truncf .bf16 (m ((c : Thread nD τ).loc main_arg8)) bitsLt_bf16_f32 := by
  show after hostOps0 _ (Proc.devRef .tc main_v1) = _
  after_results
theorem V_main_v4 (c : Dev nD) : (V m c main_v4 : Vec F S4x256x256 .bf16)
    = shapeCast S4x256x256 (truncf .bf16 (shapeCast S1024x256 (m ((c : Thread nD τ).loc main_arg3)) shapeCasts_S4x256x256_S1024x256) bitsLt_bf16_f32) shapeCasts_S1024x256_S4x256x256 := by
  show after hostOps0 _ (Proc.devRef .tc main_v4) = _
  after_results
  rfl
theorem V_main_v5 (c : Dev nD) : (V m c main_v5 : Vec F S16384x1024 .f32) = shapeCast S16384x1024 (m ((c : Thread nD τ).loc main_arg0)) shapeCasts_S8x2048x1024_S16384x1024 := by
  show after hostOps0 _ (Proc.devRef .tc main_v5) = _
  after_results
  rfl
theorem V_main_v6 (c : Dev nD) : (V m c main_v6 : Vec F S1x1024 .f32) = shapeCast S1x1024 (m ((c : Thread nD τ).loc main_arg2)) shapeCasts_S1024_S1x1024 := by
  show after hostOps0 _ (Proc.devRef .tc main_v6) = _
  after_results
  rfl
theorem V_main_v7 (c : Dev nD) : (V m c main_v7 : Vec F S1x1024 .f32) = shapeCast S1x1024 (m ((c : Thread nD τ).loc main_arg4)) shapeCasts_S1024_S1x1024 := by
  show after hostOps0 _ (Proc.devRef .tc main_v7) = _
  after_results
  rfl
theorem V_main_v8 (c : Dev nD) : (V m c main_v8 : Vec F S1x1024 .f32) = shapeCast S1x1024 (m ((c : Thread nD τ).loc main_arg5)) shapeCasts_S1024_S1x1024 := by
  show after hostOps0 _ (Proc.devRef .tc main_v8) = _
  after_results
  rfl
theorem V_main_v9 (c : Dev nD) : (V m c main_v9 : Vec F S1x1024 .f32) = shapeCast S1x1024 (m ((c : Thread nD τ).loc main_arg6)) shapeCasts_S1024_S1x1024 := by
  show after hostOps0 _ (Proc.devRef .tc main_v9) = _
  after_results
  rfl
theorem V_main_v10 (c : Dev nD) : (V m c main_v10 : Vec F S1x1024 .f32) = shapeCast S1x1024 (m ((c : Thread nD τ).loc main_arg9)) shapeCasts_S1024_S1x1024 := by
  show after hostOps0 _ (Proc.devRef .tc main_v10) = _
  after_results
  rfl

/-! ## Where each window's block sits -/

theorem idx0 : ∀ t : Fin cfg0.N, win0_0.index t = ![min t.val 31, 0] := (by decide +kernel : ∀ t : Fin grid0.N, win0_0.index t = ![min t.val 31, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![min t.val 31, 0] := (by decide +kernel : ∀ t : Fin grid0.N, win0_10.index t = ![min t.val 31, 0])
theorem idx11 : ∀ t : Fin cfg0.N, win0_11.index t = ![0, 0] := (by decide +kernel : ∀ t : Fin grid0.N, win0_11.index t = ![0, 0])
theorem idx12 : ∀ t : Fin cfg0.N, win0_12.index t = ![min t.val 31 / 4, 0, 0] := (by decide +kernel : ∀ t : Fin grid0.N, win0_12.index t = ![min t.val 31 / 4, 0, 0])

/-! ## The blocks, read -/

theorem iblk0_apply (c : Dev nD) (t : Fin cfg0.N) (r : Fin 512) (j : Fin 1024) :
    (iblk m c 0 t : Vec F S512x1024 .f32) (ix2 r j) = (V m c main_v5 : Vec F S16384x1024 .f32) (ix2 ⟨512 * min t.val 31 + r, by omega⟩ j) := by
  blk_simp [iblk]
  refine congrArg (V m c main_v5) ?_
  blk_ext [idx0 t]
theorem iblk1_eq (c : Dev nD) (t : Fin cfg0.N) : (iblk m c 1 t : Vec F S512x1024 .f32) = V m c main_arg1 := by
  funext y
  blk_simp [iblk]
  refine congrArg (V m c main_arg1) ?_
  blk_ext [idx1 t]
theorem iblk2_eq (c : Dev nD) (t : Fin cfg0.N) : (iblk m c 2 t : Vec F S1x1024 .f32) = V m c main_v6 := by
  funext y
  blk_simp [iblk]
  refine congrArg (V m c main_v6) ?_
  blk_ext [idx2 t]
theorem iblk3_eq (c : Dev nD) (t : Fin cfg0.N) : (iblk m c 3 t : Vec F S4x256x256 .bf16) = V m c main_v4 := by
  funext y
  blk_simp [iblk]
  refine congrArg (V m c main_v4) ?_
  blk_ext [idx3 t]
theorem iblk4_eq (c : Dev nD) (t : Fin cfg0.N) : (iblk m c 4 t : Vec F S1x1024 .f32) = V m c main_v7 := by
  funext y
  blk_simp [iblk]
  refine congrArg (V m c main_v7) ?_
  blk_ext [idx4 t]
theorem iblk5_eq (c : Dev nD) (t : Fin cfg0.N) : (iblk m c 5 t : Vec F S1x1024 .f32) = V m c main_v8 := by
  funext y
  blk_simp [iblk]
  refine congrArg (V m c main_v8) ?_
  blk_ext [idx5 t]
theorem iblk6_eq (c : Dev nD) (t : Fin cfg0.N) : (iblk m c 6 t : Vec F S1x1024 .f32) = V m c main_v9 := by
  funext y
  blk_simp [iblk]
  refine congrArg (V m c main_v9) ?_
  blk_ext [idx6 t]
theorem iblk7_eq (c : Dev nD) (t : Fin cfg0.N) : (iblk m c 7 t : Vec F S1024x5632 .bf16) = V m c main_v0 := by
  funext y
  blk_simp [iblk]
  refine congrArg (V m c main_v0) ?_
  blk_ext [idx7 t]
theorem iblk8_eq (c : Dev nD) (t : Fin cfg0.N) : (iblk m c 8 t : Vec F S2816x1024 .bf16) = V m c main_v1 := by
  funext y
  blk_simp [iblk]
  refine congrArg (V m c main_v1) ?_
  blk_ext [idx8 t]
theorem iblk9_eq (c : Dev nD) (t : Fin cfg0.N) : (iblk m c 9 t : Vec F S1x1024 .f32) = V m c main_v10 := by
  funext y
  blk_simp [iblk]
  refine congrArg (V m c main_v10) ?_
  blk_ext [idx9 t]

end Cert.KernelIdeal.Pool
-- ==== Proof.Pool.Spec.lean ====
module

public import Idealize.ShloMosaic.Lib.Pointwise

@[expose] public section

noncomputable section

/-! What the call computes, row by row, over the extended reals. -/

namespace Cert.Spec

open Idealize.ShloMosaic

/-- A row divided by its root mean square, times the gain. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- The gated activations of a normalised row. -/
def act (h : Fin 1024 → EReal) (w : Fin 1024 → Fin 5632 → EReal) (j : Fin 2816) : EReal :=
  (∑ k, h k * w k ⟨j, by omega⟩) * Ideal.logistic (∑ k, h k * w k ⟨j, by omega⟩) * ∑ k, h k * w k ⟨2816 + j, by omega⟩

/-- A row with half its feed-forward layer added. -/
def half (y g : Fin 1024 → EReal) (win : Fin 1024 → Fin 5632 → EReal) (wout : Fin 2816 → Fin 1024 → EReal) (j : Fin 1024) : EReal :=
  y j + Ideal.ofBits .f32 0x3F000000#32 * ∑ k, act (norm y g) win k * wout k j

/-- A row with its pooled row `p` mixed in, group by group of 256 columns. -/
def mix (x p : Fin 1024 → EReal) (w : Fin 4 → Fin 256 → Fin 256 → EReal) (b s : Fin 1024 → EReal) (j : Fin 1024) : EReal :=
  x j + ((∑ k : Fin 256, p ⟨256 * (j / 256) + k, by omega⟩ * w ⟨j / 256, by omega⟩ k ⟨j % 256, by omega⟩) + b j) * s j

/-- The width of a group's window, 2, 4, 8 or 16, as the program writes it. -/
def cap : ℕ → EReal
  | 0 => Ideal.ofBits .f32 0x40000000#32
  | 1 => Ideal.ofBits .f32 0x40800000#32
  | 2 => Ideal.ofBits .f32 0x41000000#32
  | _ => Ideal.ofBits .f32 0x41800000#32

/-- The number of rows in group `g`'s window at position `p`. -/
def count (p g : ℕ) : EReal :=
  min (FloatOps.sitofp (F := Ideal) .f32 (BitVec.ofNat 32 p) + 1) (cap g)

/-- The pooled row at position `p`: the mean over the window, with zeros before the sequence, less the row itself. -/
def pool (h : ℕ → Fin 1024 → EReal) (p : ℕ) (j : Fin 1024) : EReal :=
  Ideal.div (∑ i ∈ Finset.range (2 ^ (j.val / 256 + 1)), if i ≤ p then h (p - i) j else 0) (count p (j / 256)) - h p j

/-- The normalised row at position `q` of a sequence `x`. -/
def seq (x : Fin 2048 → Fin 1024 → EReal) (g : Fin 1024 → EReal) (q : ℕ) : Fin 1024 → EReal :=
  norm (x ⟨q % 2048, Nat.mod_lt _ (by decide)⟩) g

/-- A row of the first result: the sequence through the pool mixer, half the feed-forward layer and the last normalisation. -/
def first (x : Fin 2048 → Fin 1024 → EReal) (g : Fin 1024 → EReal) (w : Fin 4 → Fin 256 → Fin 256 → EReal) (b s gf : Fin 1024 → EReal)
    (win : Fin 1024 → Fin 5632 → EReal) (wout : Fin 2816 → Fin 1024 → EReal) (fg : Fin 1024 → EReal) (p : Fin 2048) : Fin 1024 → EReal :=
  norm (half (mix (x p) (pool (seq x g) p) w b s) gf win wout) fg

/-- One group's share of the mixer's product, however the columns and the group are named. -/
theorem group_sum (p : Fin 1024 → EReal) (w : Fin 4 → Fin 256 → Fin 256 → EReal) (j : Fin 1024) (c : Fin 256 → Fin 1024) (G : Fin 4) (l : Fin 256)
    (hc : ∀ x, (c x).val = 256 * G.val + x) (hl : 256 * G.val + l.val = j) :
    ∑ x, p (c x) * w G x l = ∑ x : Fin 256, p ⟨256 * (j / 256) + x, by omega⟩ * w ⟨j / 256, by omega⟩ x ⟨j % 256, by omega⟩ := by
  have hG : G = ⟨j / 256, by omega⟩ := Fin.ext (by show G.val = j.val / 256; omega)
  have hl' : l = ⟨j % 256, by omega⟩ := Fin.ext (by show l.val = j.val % 256; omega)
  refine Finset.sum_congr rfl fun x _ => ?_
  have hc' : c x = ⟨256 * (j / 256) + x, by omega⟩ := Fin.ext ((hc x).trans (by show 256 * G.val + x.val = 256 * (j.val / 256) + x.val; omega))
  rw [hc', ← hG, ← hl']

end Cert.Spec
-- ==== Proof.Pool.KVal.lean ====
module

public import proofs.«01_k».proof.Proof.Pool.Tile
public import proofs.«01_k».proof.Proof.Pool.Spec

@[expose] public section

set_option maxRecDepth 16384

noncomputable section

namespace Cert.KernelIdeal.Pool

open Cert.KernelIdeal.Gen
open Idealize.ShloMosaic

/-- The rows of a two-dimensional array. -/
abbrev row {a b : ℕ} (x : (⟨2, ![a, b]⟩ : Shape).Idx → EReal) (r : Fin a) (j : Fin b) : EReal := x (ix2 r j)

theorem pay3_apply (x : Vec Ideal S512x1024 .f32) (g : Vec Ideal S1x1024 .f32) (r : Fin 512) (j : Fin 1024) :
    k0_pay3 x g (ix2 r j) = Spec.norm (row x r) (row g 0) j := by
  pointwise [k0_pay3, Spec.norm]

theorem pay18_apply (x : Vec Ideal S512x1024 .f32) (g : Vec Ideal S1x1024 .f32) (r : Fin 512) (j : Fin 1024) :
    k0_pay18 x g (ix2 r j) = Spec.norm (row x r) (row g 0) j := by
  pointwise [k0_pay18, Spec.norm]

theorem pay34_apply (a : Vec Ideal S512x2816 .bf16) (w : Vec Ideal S2816x1024 .bf16) (y : Vec Ideal S512x1024 .f32) (r : Fin 512) (j : Fin 1024) :
    k0_pay34 a w y (ix2 r j) = y (ix2 r j) + Ideal.ofBits .f32 0x3F000000#32 * ∑ k, a (ix2 r k) * w (ix2 k j) := by
  pointwise [k0_pay34]

theorem pay1_apply (y : Vec Ideal S512x1024 .f32) (g : Vec Ideal S1x1024 .f32) (a : Vec Ideal S512x2816 .bf16) (w : Vec Ideal S2816x1024 .bf16) (r : Fin 512) (j : Fin 1024) :
    k0_pay1 (k0_pay34 a w y) (k0_pay35 g) (k0_pay36 a w y) (ix2 r j) = Spec.norm (row (k0_pay34 a w y) r) (row g 0) j := by
  generalize hy : k0_pay34 a w y = z
  unfold k0_pay36; rw [hy]
  pointwise [k0_pay1, k0_pay35, Spec.norm]

theorem gate_apply (h : FVec Ideal S512x1024 .bf16) (w : Vec Ideal S1024x5632 .bf16) (o o' : ℕ) (i i') (r : Fin 512) (j : Fin 256) (ho : o + 255 < 2816) (ho' : o' = 2816 + o) :
    gate h w o o' i i' (ix2 r j) = Spec.act (row h r) (row w) ⟨o + j, by omega⟩ := by
  subst ho'
  pointwise [gate, k0_pay22, Spec.act]
  have e : (⟨2816 + o + ↑j, by omega⟩ : Fin 5632) = ⟨2816 + (o + ↑j), by omega⟩ := Fin.ext (Nat.add_assoc _ _ _)
  exact congrArg₂ (· * ·) rfl (Finset.sum_congr rfl fun x _ => congrArg (fun l : Fin 5632 => (h (ix2 r x) : EReal) * w (ix2 x l)) e)

/-- The gated activations, all columns: chunk by chunk they are the activations of the row. -/
theorem gated_apply (h : FVec Ideal S512x1024 .bf16) (w : Vec Ideal S1024x5632 .bf16) (r : Fin 512) (j : Fin 2816) :
    gated h w (ix2 r j) = Spec.act (row h r) (row w) j := by
  unfold gated
  refine View.canon_apply_of_pieces (Val := Elt Ideal) (e := .bf16) (fun y : S512x2816.Idx => (Spec.act (row h (y 0)) (row w) (y 1) : Elt Ideal .bf16)) _ ?_ (ix2 r j) (View.cover_of_tiled _ ![512, 256] (by rfl) _)
  simp only [List.forall_mem_cons]
  refine ⟨?_, ?_, ?_, ?_, ?_, ?_, ?_, ?_, ?_, ?_, ?_, fun _ h => absurd h List.not_mem_nil⟩
  · intro x; obtain ⟨a, b, rfl⟩ : ∃ (a : Fin 512) (b : Fin 256), x = ix2 a b := ⟨x 0, x 1, eq_ix2 x⟩
    refine (gate_apply h w 2560 5376 (by decide) (by decide) a b (by decide) (by decide)).trans ?_
    exact congrArg₂ (fun (p : Fin 512) (q : Fin 2816) => Spec.act (row h p) (row w) q)
      (Fin.ext (by show a.val = 0 + 1 * a.val; omega)) (Fin.ext (by show 2560 + b.val = 2560 + 1 * b.val; omega))
  · intro x; obtain ⟨a, b, rfl⟩ : ∃ (a : Fin 512) (b : Fin 256), x = ix2 a b := ⟨x 0, x 1, eq_ix2 x⟩
    refine (gate_apply h w 2304 5120 (by decide) (by decide) a b (by decide) (by decide)).trans ?_
    exact congrArg₂ (fun (p : Fin 512) (q : Fin 2816) => Spec.act (row h p) (row w) q)
      (Fin.ext (by show a.val = 0 + 1 * a.val; omega)) (Fin.ext (by show 2304 + b.val = 2304 + 1 * b.val; omega))
  · intro x; obtain ⟨a, b, rfl⟩ : ∃ (a : Fin 512) (b : Fin 256), x = ix2 a b := ⟨x 0, x 1, eq_ix2 x⟩
    refine (gate_apply h w 2048 4864 (by decide) (by decide) a b (by decide) (by decide)).trans ?_
    exact congrArg₂ (fun (p : Fin 512) (q : Fin 2816) => Spec.act (row h p) (row w) q)
      (Fin.ext (by show a.val = 0 + 1 * a.val; omega)) (Fin.ext (by show 2048 + b.val = 2048 + 1 * b.val; omega))
  · intro x; obtain ⟨a, b, rfl⟩ : ∃ (a : Fin 512) (b : Fin 256), x = ix2 a b := ⟨x 0, x 1, eq_ix2 x⟩
    refine (gate_apply h w 1792 4608 (by decide) (by decide) a b (by decide) (by decide)).trans ?_
    exact congrArg₂ (fun (p : Fin 512) (q : Fin 2816) => Spec.act (row h p) (row w) q)
      (Fin.ext (by show a.val = 0 + 1 * a.val; omega)) (Fin.ext (by show 1792 + b.val = 1792 + 1 * b.val; omega))
  · intro x; obtain ⟨a, b, rfl⟩ : ∃ (a : Fin 512) (b : Fin 256), x = ix2 a b := ⟨x 0, x 1, eq_ix2 x⟩
    refine (gate_apply h w 1536 4352 (by decide) (by decide) a b (by decide) (by decide)).trans ?_
    exact congrArg₂ (fun (p : Fin 512) (q : Fin 2816) => Spec.act (row h p) (row w) q)
      (Fin.ext (by show a.val = 0 + 1 * a.val; omega)) (Fin.ext (by show 1536 + b.val = 1536 + 1 * b.val; omega))
  · intro x; obtain ⟨a, b, rfl⟩ : ∃ (a : Fin 512) (b : Fin 256), x = ix2 a b := ⟨x 0, x 1, eq_ix2 x⟩
    refine (gate_apply h w 1280 4096 (by decide) (by decide) a b (by decide) (by decide)).trans ?_
    exact congrArg₂ (fun (p : Fin 512) (q : Fin 2816) => Spec.act (row h p) (row w) q)
      (Fin.ext (by show a.val = 0 + 1 * a.val; omega)) (Fin.ext (by show 1280 + b.val = 1280 + 1 * b.val; omega))
  · intro x; obtain ⟨a, b, rfl⟩ : ∃ (a : Fin 512) (b : Fin 256), x = ix2 a b := ⟨x 0, x 1, eq_ix2 x⟩
    refine (gate_apply h w 1024 3840 (by decide) (by decide) a b (by decide) (by decide)).trans ?_
    exact congrArg₂ (fun (p : Fin 512) (q : Fin 2816) => Spec.act (row h p) (row w) q)
      (Fin.ext (by show a.val = 0 + 1 * a.val; omega)) (Fin.ext (by show 1024 + b.val = 1024 + 1 * b.val; omega))
  · intro x; obtain ⟨a, b, rfl⟩ : ∃ (a : Fin 512) (b : Fin 256), x = ix2 a b := ⟨x 0, x 1, eq_ix2 x⟩
    refine (gate_apply h w 768 3584 (by decide) (by decide) a b (by decide) (by decide)).trans ?_
    exact congrArg₂ (fun (p : Fin 512) (q : Fin 2816) => Spec.act (row h p) (row w) q)
      (Fin.ext (by show a.val = 0 + 1 * a.val; omega)) (Fin.ext (by show 768 + b.val = 768 + 1 * b.val; omega))
  · intro x; obtain ⟨a, b, rfl⟩ : ∃ (a : Fin 512) (b : Fin 256), x = ix2 a b := ⟨x 0, x 1, eq_ix2 x⟩
    refine (gate_apply h w 512 3328 (by decide) (by decide) a b (by decide) (by decide)).trans ?_
    exact congrArg₂ (fun (p : Fin 512) (q : Fin 2816) => Spec.act (row h p) (row w) q)
      (Fin.ext (by show a.val = 0 + 1 * a.val; omega)) (Fin.ext (by show 512 + b.val = 512 + 1 * b.val; omega))
  · intro x; obtain ⟨a, b, rfl⟩ : ∃ (a : Fin 512) (b : Fin 256), x = ix2 a b := ⟨x 0, x 1, eq_ix2 x⟩
    refine (gate_apply h w 256 3072 (by decide) (by decide) a b (by decide) (by decide)).trans ?_
    exact congrArg₂ (fun (p : Fin 512) (q : Fin 2816) => Spec.act (row h p) (row w) q)
      (Fin.ext (by show a.val = 0 + 1 * a.val; omega)) (Fin.ext (by show 256 + b.val = 256 + 1 * b.val; omega))
  · intro x; obtain ⟨a, b, rfl⟩ : ∃ (a : Fin 512) (b : Fin 256), x = ix2 a b := ⟨x 0, x 1, eq_ix2 x⟩
    refine (gate_apply h w 0 2816 (by decide) (by decide) a b (by decide) (by decide)).trans ?_
    exact congrArg₂ (fun (p : Fin 512) (q : Fin 2816) => Spec.act (row h p) (row w) q)
      (Fin.ext (by show a.val = 0 + 1 * a.val; omega)) (Fin.ext (by show 0 + b.val = 0 + 1 * b.val; omega))

/-- The rows after half the feed-forward layer, normalised. -/
theorem ffnOut_apply (y : Vec Ideal S512x1024 .f32) (g : Vec Ideal S1x1024 .f32) (win : Vec Ideal S1024x5632 .bf16) (wout : Vec Ideal S2816x1024 .bf16)
    (fg : Vec Ideal S1x1024 .f32) (r : Fin 512) (j : Fin 1024) :
    ffnOut y g win wout fg (ix2 r j) = Spec.norm (Spec.half (row y r) (row g 0) (row win) (row wout)) (row fg 0) j := by
  unfold ffnOut
  rw [pay1_apply]
  refine congrArg (fun z => Spec.norm z (row fg 0) j) (funext fun l => ?_)
  show k0_pay34 _ _ _ (ix2 r l) = _
  rw [pay34_apply]
  unfold Spec.half
  refine congrArg (fun z => (y (ix2 r l) : EReal) + Ideal.ofBits .f32 0x3F000000#32 * z) (Finset.sum_congr rfl fun k _ => ?_)
  rw [gated_apply]
  exact congrArg (fun z => Spec.act z (row win) k * (wout (ix2 k l) : EReal)) (funext fun i => pay18_apply y g r i)

/-- The mixer's rows. -/
theorem mixed_apply (x p : Vec Ideal S512x1024 .f32) (W : Vec Ideal S4x256x256 .bf16) (b s : Vec Ideal S1x1024 .f32) (r : Fin 512) (j : Fin 1024) :
    mixed x p W b s (ix2 r j) = Spec.mix (row x r) (row p r) (fun g i l => W (ix3 g i l)) (row b 0) (row s 0) j := by
  have w0 : ∀ (i l : Fin 256), wgroup W 0 (by decide) (ix3 0 i l) = W (ix3 0 i l) := fun i l => by pointwise [wgroup]
  have w1 : ∀ (i l : Fin 256), wgroup W 1 (by decide) (ix3 0 i l) = W (ix3 1 i l) := fun i l => by pointwise [wgroup]
  have w2 : ∀ (i l : Fin 256), wgroup W 2 (by decide) (ix3 0 i l) = W (ix3 2 i l) := fun i l => by pointwise [wgroup]
  have w3 : ∀ (i l : Fin 256), wgroup W 3 (by decide) (ix3 0 i l) = W (ix3 3 i l) := fun i l => by pointwise [wgroup]
  pointwise [mixed, k0_pay17, k0_pay11, k0_pay12, k0_pay13, k0_pay14, Spec.mix]
  simp only [w0, w1, w2, w3]
  refine congrArg (fun z => (x (ix2 r j) : EReal) + (z + b (ix2 0 j)) * s (ix2 0 j)) ?_
  by_cases h0 : j.val < 256
  · refine (dif_pos h0).trans ?_
    exact Spec.group_sum (row p r) (fun g i l => W (ix3 g i l)) j (fun x => ⟨x.val, by omega⟩) 0 ⟨j.val, by omega⟩ (fun x => by show x.val = 256 * 0 + x.val; omega) (by show 256 * 0 + j.val = j.val; omega)
  refine (dif_neg h0).trans ?_
  by_cases h1 : j.val - 256 < 256
  · refine (dif_pos h1).trans ?_
    exact Spec.group_sum (row p r) (fun g i l => W (ix3 g i l)) j (fun x => ⟨256 + x.val, by omega⟩) 1 ⟨j.val - 256, by omega⟩ (fun x => by show 256 + x.val = 256 * 1 + x.val; omega) (by show 256 * 1 + (j.val - 256) = j.val; omega)
  refine (dif_neg h1).trans ?_
  by_cases h2 : j.val - 256 - 256 < 256
  · refine (dif_pos h2).trans ?_
    exact Spec.group_sum (row p r) (fun g i l => W (ix3 g i l)) j (fun x => ⟨512 + x.val, by omega⟩) 2 ⟨j.val - 256 - 256, by omega⟩ (fun x => by show 512 + x.val = 256 * 2 + x.val; omega) (by show 256 * 2 + (j.val - 256 - 256) = j.val; omega)
  refine (dif_neg h2).trans ?_
  exact Spec.group_sum (row p r) (fun g i l => W (ix3 g i l)) j (fun x => ⟨768 + x.val, by omega⟩) 3 ⟨j.val - 256 - 256 - 256, by omega⟩ (fun x => by show 768 + x.val = 256 * 3 + x.val; omega) (by show 256 * 3 + (j.val - 256 - 256 - 256) = j.val; omega)

/-- A column of the rows seen, by row number. -/
def col (X : Vec Ideal S528x1024 .f32) (j : Fin 1024) (n : ℕ) : EReal := if h : n < 528 then X (ix2 ⟨n, h⟩ j) else 0
theorem col_of_lt (X : Vec Ideal S528x1024 .f32) (j : Fin 1024) (n : ℕ) (h : n < 528) : (X (ix2 ⟨n, h⟩ j) : EReal) = col X j n := by
  unfold col; rw [dif_pos h]

/-- What a pooled row is, in the rows seen. -/
def poolX (X : Vec Ideal S528x1024 .f32) (P : Fin 512 → ℕ) (r : Fin 512) (j : Fin 1024) : EReal :=
  Ideal.div (∑ i ∈ Finset.range (2 ^ (j.val / 256 + 1)), col X j (16 + r - i)) (Spec.count (P r) (j / 256)) - col X j (16 + r)

/-- The row's position, as the body counts it. -/
abbrev posWord (v0 : BitVec 32) (r : Fin 512) : BitVec 32 := IntOp.addi (Scalar.muli (Scalar.remsi v0 4#32) 512#32) (BitVec.ofNat 32 r)

/-- A column of a chunk, by row number. -/
def colA (A : Vec Ideal S528x256 .f32) (j : Fin 256) (n : ℕ) : EReal := if h : n < 528 then A (ix2 ⟨n, h⟩ j) else 0
theorem colA_of_lt (A : Vec Ideal S528x256 .f32) (j : Fin 256) (n : ℕ) (h : n < 528) : (A (ix2 ⟨n, h⟩ j) : EReal) = colA A j n := by
  unfold colA; rw [dif_pos h]
theorem colA_col528 (X : Vec Ideal S528x1024 .f32) (o : ℕ) (h : ∀ a, (![0, o] : Fin 2 → Nat) a + S528x256.size a ≤ S528x1024.size a) (j : Fin 256) (ho : o + j.val < 1024) (n : ℕ) :
    colA (col528 X o h) j n = col X ⟨o + j, ho⟩ n := by
  unfold colA col
  split_ifs with hn
  · exact congrArg X (funext fun a => by
      match a with
      | 0 => exact Fin.ext (by show 0 + 1 * n = n; omega)
      | 1 => exact Fin.ext (by show o + 1 * j.val = o + j.val; omega))
  · rfl
theorem col512_eq (X : Vec Ideal S528x1024 .f32) (o : ℕ) (h : ∀ a, (![16, o] : Fin 2 → Nat) a + S512x256.size a ≤ S528x1024.size a) (r : Fin 512) (j : Fin 256) (ho : o + j.val < 1024) :
    (col512 X o h (ix2 r j) : EReal) = col X ⟨o + j, ho⟩ (16 + r) := by
  rw [← col_of_lt X _ _ (by omega)]
  exact congrArg X (funext fun a => by
      match a with
      | 0 => exact Fin.ext (by show 16 + 1 * r.val = 16 + r.val; omega)
      | 1 => exact Fin.ext (by show o + 1 * j.val = o + j.val; omega))

set_option maxHeartbeats 1000000 in
/-- Group 0: the sum of the last 2 rows, divided by their number, less the row. -/
theorem pool0_apply (v0 : BitVec 32) (A : Vec Ideal S528x256 .f32) (B : Vec Ideal S512x256 .f32) (p : ℕ) (r : Fin 512) (j : Fin 256) (hv : posWord v0 r = BitVec.ofNat 32 p) :
    k0_pay6 (k0_pay5 v0 A) B (ix2 r j) = Ideal.div (∑ i ∈ Finset.range (2 ^ (0 + 1)), colA A j (16 + r - i)) (Spec.count p 0) - B (ix2 r j) := by
  unfold Spec.count
  pointwise [k0_pay6, k0_pay5, k0_pay4, Spec.cap]
  rw [show IntOp.addi (Scalar.muli (Scalar.remsi v0 4#32) 512#32) (BitVec.ofNat 32 r.val) = BitVec.ofNat 32 p from hv]
  have e1 : (16 + r.val + 528 - 1) % 528 = 16 + r.val - 1 := by omega
  simp only [colA_of_lt A, e1]
  simp only [Finset.sum_range_succ, Finset.sum_range_zero, zero_add, Nat.sub_zero, Nat.reduceAdd, Nat.reducePow]

set_option maxHeartbeats 1000000 in
/-- Group 1: the sum of the last 4 rows, divided by their number, less the row. -/
theorem pool1_apply (v0 : BitVec 32) (A : Vec Ideal S528x256 .f32) (B : Vec Ideal S512x256 .f32) (p : ℕ) (r : Fin 512) (j : Fin 256) (hv : posWord v0 r = BitVec.ofNat 32 p) :
    k0_pay7 (k0_pay4 v0) A B (ix2 r j) = Ideal.div (∑ i ∈ Finset.range (2 ^ (1 + 1)), colA A j (16 + r - i)) (Spec.count p 1) - B (ix2 r j) := by
  unfold Spec.count
  pointwise [k0_pay7, k0_pay4, Spec.cap]
  rw [show IntOp.addi (Scalar.muli (Scalar.remsi v0 4#32) 512#32) (BitVec.ofNat 32 r.val) = BitVec.ofNat 32 p from hv]
  have e2 : (16 + r.val + 528 - 2) % 528 = 16 + r.val - 2 := by omega
  have e1 : (16 + r.val + 528 - 1) % 528 = 16 + r.val - 1 := by omega
  have e3 : (16 + r.val - 2 + 528 - 1) % 528 = 16 + r.val - 3 := by omega
  simp only [colA_of_lt A, e2, e1, e3]
  simp only [Finset.sum_range_succ, Finset.sum_range_zero, zero_add, Nat.sub_zero, Nat.reduceAdd, Nat.reducePow]
  congr 2 <;> abel

set_option maxHeartbeats 1000000 in
/-- Group 2: the sum of the last 8 rows, divided by their number, less the row. -/
theorem pool2_apply (v0 : BitVec 32) (A : Vec Ideal S528x256 .f32) (B : Vec Ideal S512x256 .f32) (p : ℕ) (r : Fin 512) (j : Fin 256) (hv : posWord v0 r = BitVec.ofNat 32 p) :
    k0_pay9 (k0_pay8 (k0_pay4 v0) A B) (ix2 r j) = Ideal.div (∑ i ∈ Finset.range (2 ^ (2 + 1)), colA A j (16 + r - i)) (Spec.count p 2) - B (ix2 r j) := by
  unfold Spec.count
  pointwise [k0_pay9, k0_pay8, k0_pay4, Spec.cap]
  rw [show IntOp.addi (Scalar.muli (Scalar.remsi v0 4#32) 512#32) (BitVec.ofNat 32 r.val) = BitVec.ofNat 32 p from hv]
  have e4 : (16 + r.val + 528 - 4) % 528 = 16 + r.val - 4 := by omega
  have e2 : (16 + r.val + 528 - 2) % 528 = 16 + r.val - 2 := by omega
  have e6 : (16 + r.val - 4 + 528 - 2) % 528 = 16 + r.val - 6 := by omega
  have e1 : (16 + r.val + 528 - 1) % 528 = 16 + r.val - 1 := by omega
  have e3 : (16 + r.val - 2 + 528 - 1) % 528 = 16 + r.val - 3 := by omega
  have e5 : (16 + r.val - 4 + 528 - 1) % 528 = 16 + r.val - 5 := by omega
  have e7 : (16 + r.val - 6 + 528 - 1) % 528 = 16 + r.val - 7 := by omega
  simp only [colA_of_lt A, e4, e2, e6, e1, e3, e5, e7]
  simp only [Finset.sum_range_succ, Finset.sum_range_zero, zero_add, Nat.sub_zero, Nat.reduceAdd, Nat.reducePow]
  congr 2 <;> abel

set_option maxHeartbeats 1000000 in
/-- Group 3: the sum of the last 16 rows, divided by their number, less the row. -/
theorem pool3_apply (v0 : BitVec 32) (A : Vec Ideal S528x256 .f32) (B : Vec Ideal S512x256 .f32) (p : ℕ) (r : Fin 512) (j : Fin 256) (hv : posWord v0 r = BitVec.ofNat 32 p) :
    k0_pay10 (k0_pay4 v0) A B (ix2 r j) = Ideal.div (∑ i ∈ Finset.range (2 ^ (3 + 1)), colA A j (16 + r - i)) (Spec.count p 3) - B (ix2 r j) := by
  unfold Spec.count
  pointwise [k0_pay10, k0_pay4, Spec.cap]
  rw [show IntOp.addi (Scalar.muli (Scalar.remsi v0 4#32) 512#32) (BitVec.ofNat 32 r.val) = BitVec.ofNat 32 p from hv]
  have e8 : (16 + r.val + 528 - 8) % 528 = 16 + r.val - 8 := by omega
  have e4 : (16 + r.val + 528 - 4) % 528 = 16 + r.val - 4 := by omega
  have e12 : (16 + r.val - 8 + 528 - 4) % 528 = 16 + r.val - 12 := by omega
  have e2 : (16 + r.val + 528 - 2) % 528 = 16 + r.val - 2 := by omega
  have e6 : (16 + r.val - 4 + 528 - 2) % 528 = 16 + r.val - 6 := by omega
  have e10 : (16 + r.val - 8 + 528 - 2) % 528 = 16 + r.val - 10 := by omega
  have e14 : (16 + r.val - 12 + 528 - 2) % 528 = 16 + r.val - 14 := by omega
  have e1 : (16 + r.val + 528 - 1) % 528 = 16 + r.val - 1 := by omega
  have e3 : (16 + r.val - 2 + 528 - 1) % 528 = 16 + r.val - 3 := by omega
  have e5 : (16 + r.val - 4 + 528 - 1) % 528 = 16 + r.val - 5 := by omega
  have e7 : (16 + r.val - 6 + 528 - 1) % 528 = 16 + r.val - 7 := by omega
  have e9 : (16 + r.val - 8 + 528 - 1) % 528 = 16 + r.val - 9 := by omega
  have e11 : (16 + r.val - 10 + 528 - 1) % 528 = 16 + r.val - 11 := by omega
  have e13 : (16 + r.val - 12 + 528 - 1) % 528 = 16 + r.val - 13 := by omega
  have e15 : (16 + r.val - 14 + 528 - 1) % 528 = 16 + r.val - 15 := by omega
  simp only [colA_of_lt A, e8, e4, e12, e2, e6, e10, e14, e1, e3, e5, e7, e9, e11, e13, e15]
  simp only [Finset.sum_range_succ, Finset.sum_range_zero, zero_add, Nat.sub_zero, Nat.reduceAdd, Nat.reducePow]
  congr 2 <;> abel

/-- The pooled rows of a tile, all columns. -/
theorem pooled_apply (v0 : BitVec 32) (X : Vec Ideal S528x1024 .f32) (P : Fin 512 → ℕ) (hv : ∀ r, posWord v0 r = BitVec.ofNat 32 (P r)) (r : Fin 512) (j : Fin 1024) :
    pooled v0 X (ix2 r j) = poolX X P r j := by
  unfold pooled
  refine View.canon_apply_of_pieces (Val := Elt Ideal) (e := .f32) (fun y : S512x1024.Idx => (poolX X P (y 0) (y 1) : Elt Ideal .f32)) _ ?_ (ix2 r j) (View.cover_of_tiled _ ![512, 256] (by rfl) _)
  simp only [List.forall_mem_cons]
  refine ⟨?_, ?_, ?_, ?_, fun _ h => absurd h List.not_mem_nil⟩
  · intro x; obtain ⟨a, b, rfl⟩ : ∃ (a : Fin 512) (b : Fin 256), x = ix2 a b := ⟨x 0, x 1, eq_ix2 x⟩
    refine (pool3_apply v0 _ _ (P a) a b (hv a)).trans ?_
    simp only [colA_col528 X _ _ _ (show 768 + b.val < 1024 by omega), col512_eq X _ _ _ _ (show 768 + b.val < 1024 by omega)]
    refine (show _ = poolX X P a ⟨768 + b.val, by omega⟩ by
      unfold poolX; rw [show ((⟨768 + b.val, by omega⟩ : Fin 1024).val / 256) = 3 from by show (768 + b.val) / 256 = 3; omega]).trans ?_
    exact congrArg₂ (fun (p : Fin 512) (q : Fin 1024) => poolX X P p q)
      (Fin.ext (by show a.val = 0 + 1 * a.val; omega)) (Fin.ext (by show 768 + b.val = 768 + 1 * b.val; omega))
  · intro x; obtain ⟨a, b, rfl⟩ : ∃ (a : Fin 512) (b : Fin 256), x = ix2 a b := ⟨x 0, x 1, eq_ix2 x⟩
    refine (pool2_apply v0 _ _ (P a) a b (hv a)).trans ?_
    simp only [colA_col528 X _ _ _ (show 512 + b.val < 1024 by omega), col512_eq X _ _ _ _ (show 512 + b.val < 1024 by omega)]
    refine (show _ = poolX X P a ⟨512 + b.val, by omega⟩ by
      unfold poolX; rw [show ((⟨512 + b.val, by omega⟩ : Fin 1024).val / 256) = 2 from by show (512 + b.val) / 256 = 2; omega]).trans ?_
    exact congrArg₂ (fun (p : Fin 512) (q : Fin 1024) => poolX X P p q)
      (Fin.ext (by show a.val = 0 + 1 * a.val; omega)) (Fin.ext (by show 512 + b.val = 512 + 1 * b.val; omega))
  · intro x; obtain ⟨a, b, rfl⟩ : ∃ (a : Fin 512) (b : Fin 256), x = ix2 a b := ⟨x 0, x 1, eq_ix2 x⟩
    refine (pool1_apply v0 _ _ (P a) a b (hv a)).trans ?_
    simp only [colA_col528 X _ _ _ (show 256 + b.val < 1024 by omega), col512_eq X _ _ _ _ (show 256 + b.val < 1024 by omega)]
    refine (show _ = poolX X P a ⟨256 + b.val, by omega⟩ by
      unfold poolX; rw [show ((⟨256 + b.val, by omega⟩ : Fin 1024).val / 256) = 1 from by show (256 + b.val) / 256 = 1; omega]).trans ?_
    exact congrArg₂ (fun (p : Fin 512) (q : Fin 1024) => poolX X P p q)
      (Fin.ext (by show a.val = 0 + 1 * a.val; omega)) (Fin.ext (by show 256 + b.val = 256 + 1 * b.val; omega))
  · intro x; obtain ⟨a, b, rfl⟩ : ∃ (a : Fin 512) (b : Fin 256), x = ix2 a b := ⟨x 0, x 1, eq_ix2 x⟩
    refine (pool0_apply v0 _ _ (P a) a b (hv a)).trans ?_
    simp only [colA_col528 X _ _ _ (show 0 + b.val < 1024 by omega), col512_eq X _ _ _ _ (show 0 + b.val < 1024 by omega)]
    refine (show _ = poolX X P a ⟨0 + b.val, by omega⟩ by
      unfold poolX; rw [show ((⟨0 + b.val, by omega⟩ : Fin 1024).val / 256) = 0 from by show (0 + b.val) / 256 = 0; omega]).trans ?_
    exact congrArg₂ (fun (p : Fin 512) (q : Fin 1024) => poolX X P p q)
      (Fin.ext (by show a.val = 0 + 1 * a.val; omega)) (Fin.ext (by show 0 + b.val = 0 + 1 * b.val; omega))

/-- What a tile puts out, row by row. -/
theorem tileOut_apply (v0 : BitVec 32) (X : Vec Ideal S528x1024 .f32) (P : Fin 512 → ℕ) (hv : ∀ r, posWord v0 r = BitVec.ofNat 32 (P r))
    (x : Vec Ideal S512x1024 .f32) (W : Vec Ideal S4x256x256 .bf16) (b s g : Vec Ideal S1x1024 .f32)
    (win : Vec Ideal S1024x5632 .bf16) (wout : Vec Ideal S2816x1024 .bf16) (fg : Vec Ideal S1x1024 .f32) (r : Fin 512) (j : Fin 1024) :
    tileOut v0 X x W b s g win wout fg (ix2 r j)
      = Spec.norm (Spec.half (Spec.mix (row x r) (poolX X P r) (fun g i l => W (ix3 g i l)) (row b 0) (row s 0)) (row g 0) (row win) (row wout)) (row fg 0) j := by
  unfold tileOut
  rw [ffnOut_apply]
  refine congrArg (fun z => Spec.norm (Spec.half z (row g 0) (row win) (row wout)) (row fg 0) j) (funext fun l => ?_)
  refine (mixed_apply x (pooled v0 X) W b s r l).trans ?_
  exact congrArg (fun z => Spec.mix (row x r) z (fun g i l => W (ix3 g i l)) (row b 0) (row s 0) l) (funext fun i => pooled_apply v0 X P hv r i)

end Cert.KernelIdeal.Pool
-- ==== Proof.Pool.Seen.lean ====
module

public import proofs.«01_k».proof.Proof.Pool.Blocks
public import proofs.«01_k».proof.Proof.Pool.KVal

@[expose] public section

set_option maxRecDepth 16384

noncomputable section

namespace Cert.KernelIdeal.Pool

open Cert.KernelIdeal.Gen
open Idealize.ShloMosaic Idealize.ShloMosaic.TcCoe
open Idealize.ShloMosaic.Pipeline (Dat Cfg Window)

variable (m : (ℓ : Loc nD τ sig) → Buf (Elt Ideal) ℓ)

/-! ## The arguments, by index -/

/-- The first batch, by sequence, position and column. -/
def aX (c : Dev nD) (s : Fin 8) (p : Fin 2048) (j : Fin 1024) : EReal := (m ((c : Thread nD τ).loc main_arg0) : Vec Ideal S8x2048x1024 .f32) (ix3 s p j)
/-- The second batch. -/
def aXs (c : Dev nD) (r : Fin 512) (j : Fin 1024) : EReal := (m ((c : Thread nD τ).loc main_arg1) : Vec Ideal S512x1024 .f32) (ix2 r j)
/-- The gain before the mixer. -/
def aG (c : Dev nD) (j : Fin 1024) : EReal := (m ((c : Thread nD τ).loc main_arg2) : Vec Ideal S1024 .f32) (ix1 j)
/-- The mixer's weights. -/
def aW (c : Dev nD) (g : Fin 4) (i l : Fin 256) : EReal := (m ((c : Thread nD τ).loc main_arg3) : Vec Ideal S4x256x256 .f32) (ix3 g i l)
/-- The mixer's bias. -/
def aB (c : Dev nD) (j : Fin 1024) : EReal := (m ((c : Thread nD τ).loc main_arg4) : Vec Ideal S1024 .f32) (ix1 j)
/-- The mixer's scale. -/
def aS (c : Dev nD) (j : Fin 1024) : EReal := (m ((c : Thread nD τ).loc main_arg5) : Vec Ideal S1024 .f32) (ix1 j)
/-- The gain before the feed-forward layer. -/
def aGf (c : Dev nD) (j : Fin 1024) : EReal := (m ((c : Thread nD τ).loc main_arg6) : Vec Ideal S1024 .f32) (ix1 j)
/-- The feed-forward layer's first weights. -/
def aWin (c : Dev nD) (i : Fin 1024) (j : Fin 5632) : EReal := (m ((c : Thread nD τ).loc main_arg7) : Vec Ideal S1024x5632 .f32) (ix2 i j)
/-- The feed-forward layer's second weights. -/
def aWout (c : Dev nD) (i : Fin 2816) (j : Fin 1024) : EReal := (m ((c : Thread nD τ).loc main_arg8) : Vec Ideal S2816x1024 .f32) (ix2 i j)
/-- The last gain. -/
def aFg (c : Dev nD) (j : Fin 1024) : EReal := (m ((c : Thread nD τ).loc main_arg9) : Vec Ideal S1024 .f32) (ix1 j)

/-! ## The blocks at the arguments -/

theorem x_row (c : Dev nD) (t : Fin cfg0.N) (ht : t.val < 32) (r : Fin 512) :
    row (iblk m c 0 t : Vec Ideal S512x1024 .f32) r = aX m c ⟨t / 4, by omega⟩ ⟨512 * (t % 4) + r, by omega⟩ := by
  funext j
  show (iblk m c 0 t : Vec Ideal S512x1024 .f32) (ix2 r j) = _
  rw [iblk0_apply, V_main_v5]
  unfold aX
  have e : min t.val 31 = t.val := by omega
  refine shapeCast_apply (s := S8x2048x1024) _ _ _ _ ?_
  rw [Shape.rowMajor_val_two, Shape.rowMajor_val_three]
  show (t.val / 4 * 2048 + (512 * (t.val % 4) + r.val)) * 1024 + j.val = (512 * min t.val 31 + r.val) * 1024 + j.val
  omega
theorem g_row (c : Dev nD) (t : Fin cfg0.N) : row (iblk m c 2 t : Vec Ideal S1x1024 .f32) 0 = aG m c := by
  funext j
  show (iblk m c 2 t : Vec Ideal S1x1024 .f32) (ix2 0 j) = _
  rw [iblk2_eq, V_main_v6]
  unfold aG
  pointwise
theorem w_eq (c : Dev nD) (t : Fin cfg0.N) : (fun g i l => (iblk m c 3 t : Vec Ideal S4x256x256 .bf16) (ix3 g i l) : Fin 4 → Fin 256 → Fin 256 → EReal) = aW m c := by
  funext g i l
  show (iblk m c 3 t : Vec Ideal S4x256x256 .bf16) (ix3 g i l) = _
  rw [iblk3_eq, V_main_v4]
  unfold aW
  show shapeCast S4x256x256 (shapeCast S1024x256 (m ((c : Thread nD τ).loc main_arg3) : Vec Ideal S4x256x256 .f32) shapeCasts_S4x256x256_S1024x256) shapeCasts_S1024x256_S4x256x256 (ix3 g i l) = _
  rw [shapeCast_shapeCast]
theorem b_row (c : Dev nD) (t : Fin cfg0.N) : row (iblk m c 4 t : Vec Ideal S1x1024 .f32) 0 = aB m c := by
  funext j
  show (iblk m c 4 t : Vec Ideal S1x1024 .f32) (ix2 0 j) = _
  rw [iblk4_eq, V_main_v7]
  unfold aB
  pointwise
theorem s_row (c : Dev nD) (t : Fin cfg0.N) : row (iblk m c 5 t : Vec Ideal S1x1024 .f32) 0 = aS m c := by
  funext j
  show (iblk m c 5 t : Vec Ideal S1x1024 .f32) (ix2 0 j) = _
  rw [iblk5_eq, V_main_v8]
  unfold aS
  pointwise
theorem gf_row (c : Dev nD) (t : Fin cfg0.N) : row (iblk m c 6 t : Vec Ideal S1x1024 .f32) 0 = aGf m c := by
  funext j
  show (iblk m c 6 t : Vec Ideal S1x1024 .f32) (ix2 0 j) = _
  rw [iblk6_eq, V_main_v9]
  unfold aGf
  pointwise
theorem fg_row (c : Dev nD) (t : Fin cfg0.N) : row (iblk m c 9 t : Vec Ideal S1x1024 .f32) 0 = aFg m c := by
  funext j
  show (iblk m c 9 t : Vec Ideal S1x1024 .f32) (ix2 0 j) = _
  rw [iblk9_eq, V_main_v10]
  unfold aFg
  pointwise
theorem win_row (c : Dev nD) (t : Fin cfg0.N) : row (iblk m c 7 t : Vec Ideal S1024x5632 .bf16) = aWin m c := by
  funext i j
  show (iblk m c 7 t : Vec Ideal S1024x5632 .bf16) (ix2 i j) = _
  rw [iblk7_eq, V_main_v0]
  unfold aWin
  pointwise
theorem wout_row (c : Dev nD) (t : Fin cfg0.N) : row (iblk m c 8 t : Vec Ideal S2816x1024 .bf16) = aWout m c := by
  funext i j
  show (iblk m c 8 t : Vec Ideal S2816x1024 .bf16) (ix2 i j) = _
  rw [iblk8_eq, V_main_v1]
  unfold aWout
  pointwise
theorem xs_row (c : Dev nD) (t : Fin cfg0.N) (r : Fin 512) : row (iblk m c 1 t : Vec Ideal S512x1024 .f32) r = aXs m c r := by
  funext j
  show (iblk m c 1 t : Vec Ideal S512x1024 .f32) (ix2 r j) = _
  rw [iblk1_eq, V_main_arg1]
  rfl

/-! ## The rows a tile sees, in the sequence -/

/-- The normalised rows of sequence `s`. -/
abbrev hseq (c : Dev nD) (s : Fin 8) : ℕ → Fin 1024 → EReal := Spec.seq (aX m c s) (aG m c)

theorem rows_apply (c : Dev nD) (t : Fin cfg0.N) (ht : t.val < 32) (r : Fin 512) (j : Fin 1024) :
    rows m c t (ix2 r j) = hseq m c ⟨t / 4, by omega⟩ (512 * (t % 4) + r) j := by
  unfold rows
  rw [pay3_apply, x_row m c t ht, g_row]
  unfold hseq Spec.seq
  exact congrArg (fun q => Spec.norm (aX m c ⟨t / 4, by omega⟩ q) (aG m c) j) (Fin.ext (by
    show 512 * (t.val % 4) + r.val = (512 * (t.val % 4) + r.val) % 2048; omega))

theorem zeros_apply (n : Fin 16) (j : Fin 1024) : (k0_pay2 (F := Ideal) : Vec Ideal S16x1024 .f32) (ix2 n j) = (0 : EReal) := by
  pointwise [k0_pay2]

theorem tail16_apply (h : Vec Ideal S512x1024 .f32) (n : Fin 16) (j : Fin 1024) : (tail16 h (ix2 n j) : EReal) = h (ix2 ⟨496 + n, by omega⟩ j) := by
  pointwise [tail16]

theorem above_apply (c : Dev nD) (t : Fin cfg0.N) (ht : t.val < 32) (n : Fin 16) (j : Fin 1024) :
    (above m c t (ix2 n j) : EReal) = if 16 ≤ 512 * (t.val % 4) + n then hseq m c ⟨t / 4, by omega⟩ (512 * (t % 4) + n - 16) j else 0 := by
  unfold above
  split_ifs with h0 h1 h1
  · omega
  · exact zeros_apply n j
  · rw [tail16_apply, rows_apply m c (pt t) (by show t.val - 1 < 32; omega)]
    exact congrArg₂ (fun s q => hseq m c s q j) (Fin.ext (by show (t.val - 1) / 4 = t.val / 4; omega))
      (by show 512 * ((t.val - 1) % 4) + (496 + n.val) = 512 * (t.val % 4) + n.val - 16; omega)
  · omega

theorem ext_apply_low (top : Vec Ideal S16x1024 .f32) (h : Vec Ideal S512x1024 .f32) (r : Fin 512) (j : Fin 1024) : ext top h (ix2 ⟨16 + r, by omega⟩ j) = h (ix2 r j) := by
  refine Eq.trans (congrArg (ext top h) ?_) (ext_low top h (ix2 r j))
  funext a
  match a with
  | 0 => exact Fin.ext (by show 16 + r.val = 16 + 1 * r.val; omega)
  | 1 => exact Fin.ext (by show j.val = 0 + 1 * j.val; omega)
theorem ext_apply_top (top : Vec Ideal S16x1024 .f32) (h : Vec Ideal S512x1024 .f32) (n : Fin 16) (j : Fin 1024) : ext top h (ix2 ⟨n, by omega⟩ j) = top (ix2 n j) := by
  refine Eq.trans (congrArg (ext top h) ?_) (ext_top top h (ix2 n j))
  funext a
  match a with
  | 0 => exact Fin.ext (by show n.val = 0 + 1 * n.val; omega)
  | 1 => exact Fin.ext (by show j.val = 0 + 1 * j.val; omega)

/-- Row `n` of those a tile sees is the sequence's row sixteen before, counted from the tile's start, or zero before the sequence. -/
theorem seen_col (c : Dev nD) (t : Fin cfg0.N) (ht : t.val < 32) (n : ℕ) (hn : n < 528) (j : Fin 1024) :
    col (seen m c t) j n = if 16 ≤ 512 * (t.val % 4) + n then hseq m c ⟨t / 4, by omega⟩ (512 * (t % 4) + n - 16) j else 0 := by
  rw [← col_of_lt _ _ _ hn]
  unfold seen
  by_cases h : n < 16
  · exact (ext_apply_top _ _ ⟨n, h⟩ j).trans (above_apply m c t ht ⟨n, h⟩ j)
  · rw [if_pos (by omega)]
    have e : n = 16 + (n - 16) := by omega
    have e' : (⟨n, hn⟩ : Fin 528) = ⟨16 + (n - 16), by omega⟩ := Fin.ext e
    rw [e']
    refine (ext_apply_low _ _ ⟨n - 16, by omega⟩ j).trans ((rows_apply m c t ht _ j).trans ?_)
    exact congrArg (fun q => hseq m c ⟨t / 4, by omega⟩ q j) (by show 512 * (t.val % 4) + (n - 16) = 512 * (t.val % 4) + n - 16; omega)

/-- The pooled rows of a tile are those of the sequence. -/
theorem poolX_seen (c : Dev nD) (t : Fin cfg0.N) (ht : t.val < 32) (r : Fin 512) :
    poolX (seen m c t) (fun r => 512 * (t.val % 4) + r) r = Spec.pool (hseq m c ⟨t / 4, by omega⟩) (512 * (t % 4) + r) := by
  funext j
  have hw : 2 ^ (j.val / 256 + 1) ≤ 16 := by
    calc 2 ^ (j.val / 256 + 1) ≤ 2 ^ 4 := Nat.pow_le_pow_right (by decide) (by omega)
      _ = 16 := by decide
  unfold poolX Spec.pool
  rw [seen_col m c t ht (16 + r.val) (by omega), if_pos (by omega)]
  refine congrArg₂ (fun a b => Ideal.div a _ - b) (Finset.sum_congr rfl fun i hi => ?_) (congrArg (fun q => hseq m c ⟨t / 4, by omega⟩ q j) (by omega))
  have hi' := Finset.mem_range.mp hi
  rw [seen_col m c t ht (16 + r.val - i) (by omega)]
  by_cases h : i ≤ 512 * (t.val % 4) + r.val
  · rw [if_pos (by omega), if_pos h]
    exact congrArg (fun q => hseq m c ⟨t / 4, by omega⟩ q j) (by omega)
  · rw [if_neg (by omega), if_neg h]

/-- The position the body counts is the row's. -/
theorem posWord_eq : ∀ t : Fin cfg0.N, t.val < 32 → Scalar.muli (Scalar.remsi (v0 (grid0.coords t)) 4#32) 512#32 = BitVec.ofNat 32 (512 * (t.val % 4)) :=
  (by decide +kernel : ∀ t : Fin grid0.N, t.val < 32 → Scalar.muli (Scalar.remsi (v0 (grid0.coords t)) 4#32) 512#32 = BitVec.ofNat 32 (512 * (t.val % 4)))
theorem posWord_row (t : Fin cfg0.N) (ht : t.val < 32) (r : Fin 512) : posWord (v0 (grid0.coords t)) r = BitVec.ofNat 32 (512 * (t.val % 4) + r) := by
  unfold posWord
  rw [posWord_eq t ht, BitVec.ofNat_add]; rfl

/-- The first result's tile, row by row. -/
theorem out10_apply (c : Dev nD) (t : Fin cfg0.N) (r : Fin 512) (j : Fin 1024) :
    out10 m c t (ix2 r j) = Spec.first (aX m c ⟨min t.val 31 / 4, by omega⟩) (aG m c) (aW m c) (aB m c) (aS m c) (aGf m c) (aWin m c) (aWout m c) (aFg m c)
      ⟨512 * (min t.val 31 % 4) + r, by omega⟩ j := by
  have ht : (tl t).val < 32 := by show min t.val 31 < 32; omega
  unfold out10
  rw [tileOut_apply _ _ (fun r => 512 * ((tl t).val % 4) + r) (fun r => posWord_row (tl t) ht r)]
  rw [x_row m c (tl t) ht r, poolX_seen m c (tl t) ht r, w_eq, b_row, s_row, gf_row, win_row, wout_row, fg_row]
  rfl

/-- The second result's rows. -/
theorem out11_apply (c : Dev nD) (t : Fin cfg0.N) (r : Fin 512) (j : Fin 1024) :
    out11 m c t (ix2 r j) = Spec.norm (Spec.half (aXs m c r) (aGf m c) (aWin m c) (aWout m c)) (aFg m c) j := by
  unfold out11
  rw [ffnOut_apply, xs_row, gf_row, win_row, wout_row, fg_row]

/-- The third result's rows: a sequence's last fifteen normalised rows. -/
theorem out12_apply (c : Dev nD) (t : Fin cfg0.N) (ht : min t.val 31 % 4 = 3) (i : Fin 15) (j : Fin 1024) :
    out12 m c t (ix3 0 i j) = hseq m c ⟨min t.val 31 / 4, by omega⟩ (2033 + i) j := by
  have hl : (tl t).val < 32 := by show min t.val 31 < 32; omega
  have e : stateOut (kept m c t) (ix3 0 i j) = kept m c t (ix2 ⟨1 + i, by omega⟩ j) := by
    pointwise [stateOut, k0_pay16]
  unfold out12
  rw [e]
  unfold kept
  refine (ext_apply_top _ _ ⟨1 + i, by omega⟩ j).trans ?_
  rw [tail16_apply, rows_apply m c (tl t) hl]
  exact congrArg (fun q => hseq m c ⟨min t.val 31 / 4, by omega⟩ q j) (by show 512 * (min t.val 31 % 4) + (496 + (1 + i.val)) = 2033 + i.val; omega)

end Cert.KernelIdeal.Pool
-- ==== Proof.Pool.Arrays.lean ====
module

public import proofs.«01_k».proof.Proof.Pool.Seen

@[expose] public section

set_option maxRecDepth 16384

noncomputable section

namespace Cert.KernelIdeal.Pool

open Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## What the three result arrays end holding -/

/-- The first result: every row of every sequence, one sequence after another. -/
def res0 (c : Dev nD) : Vec Ideal S16384x1024 .f32 := fun y =>
  Spec.first (aX m c ⟨(y 0).val / 2048, by have := (y 0).isLt; have : (y 0).val < 16384 := this; omega⟩) (aG m c) (aW m c) (aB m c) (aS m c) (aGf m c) (aWin m c) (aWout m c) (aFg m c)
    ⟨(y 0).val % 2048, by omega⟩ (y 1)
/-- The second result: the second batch's rows. -/
def res1 (c : Dev nD) : Vec Ideal S512x1024 .f32 := fun y =>
  Spec.norm (Spec.half (aXs m c (y 0)) (aGf m c) (aWin m c) (aWout m c)) (aFg m c) (y 1)
/-- The third result: the last fifteen normalised rows of every sequence. -/
def res2 (c : Dev nD) : Vec Ideal S8x15x1024 .f32 := fun y => hseq m c (y 0) (2033 + (y 1).val) (y 2)

theorem final10 (c : Dev nD) : ((dats m 0 c).arrAt 10 cfg0.N : Vec Ideal S16384x1024 .f32) = res0 m c := by
  refine (dats m 0 c).arrAt_eq_of_covers 10 (res0 m c) (by decide +kernel) fun t hf y => ?_
  blk_simp
  rw [after10]
  obtain ⟨r, j, rfl⟩ : ∃ (r : Fin 512) (j : Fin 1024), y = ix2 r j := ⟨y 0, y 1, eq_ix2 y⟩
  refine (out10_apply m c t r j).trans ?_
  have e0 : ((((cfg0.win 10).blk t).view.emb (ix2 r j)) 0 : ℕ) = 512 * min t.val 31 + r := by
    blk_simp [idx10 t]; show min t.val 31 * 512 + r.val = _; omega
  have e1 : ((((cfg0.win 10).blk t).view.emb (ix2 r j)) 1 : ℕ) = j := by
    blk_simp [idx10 t]
  have ht : min t.val 31 < 32 := by omega
  unfold res0
  have E : ∀ (s s' : Fin 8) (p p' : Fin 2048) (j j' : Fin 1024), s = s' → p = p' → j = j' →
      Spec.first (aX m c s) (aG m c) (aW m c) (aB m c) (aS m c) (aGf m c) (aWin m c) (aWout m c) (aFg m c) p j
        = Spec.first (aX m c s') (aG m c) (aW m c) (aB m c) (aS m c) (aGf m c) (aWin m c) (aWout m c) (aFg m c) p' j' := by
    rintro _ _ _ _ _ _ rfl rfl rfl; rfl
  refine E _ _ _ _ _ _ (Fin.ext ?_) (Fin.ext ?_) (Fin.ext e1.symm)
  · refine Eq.trans ?_ (congrArg (· / 2048) e0.symm); show min t.val 31 / 4 = (512 * min t.val 31 + r.val) / 2048; omega
  · refine Eq.trans ?_ (congrArg (· % 2048) e0.symm); show 512 * (min t.val 31 % 4) + r.val = (512 * min t.val 31 + r.val) % 2048; omega

theorem final11 (c : Dev nD) : ((dats m 0 c).arrAt 11 cfg0.N : Vec Ideal S512x1024 .f32) = res1 m c := by
  refine (dats m 0 c).arrAt_eq_of_covers 11 (res1 m c) (by decide +kernel) fun t hf y => ?_
  blk_simp
  rw [after11]
  obtain ⟨r, j, rfl⟩ : ∃ (r : Fin 512) (j : Fin 1024), y = ix2 r j := ⟨y 0, y 1, eq_ix2 y⟩
  refine (out11_apply m c t r j).trans ?_
  have e0 : ((((cfg0.win 11).blk t).view.emb (ix2 r j)) 0 : ℕ) = r := by
    blk_simp [idx11 t]
  have e1 : ((((cfg0.win 11).blk t).view.emb (ix2 r j)) 1 : ℕ) = j := by
    blk_simp [idx11 t]
  unfold res1
  have E : ∀ (s s' : Fin 512) (j j' : Fin 1024), s = s' → j = j' →
      Spec.norm (Spec.half (aXs m c s) (aGf m c) (aWin m c) (aWout m c)) (aFg m c) j = Spec.norm (Spec.half (aXs m c s') (aGf m c) (aWin m c) (aWout m c)) (aFg m c) j' := by
    rintro _ _ _ _ rfl rfl; rfl
  exact E _ _ _ _ (Fin.ext e0.symm) (Fin.ext e1.symm)

theorem final12 (c : Dev nD) : ((dats m 0 c).arrAt 12 cfg0.N : Vec Ideal S8x15x1024 .f32) = res2 m c := by
  refine (dats m 0 c).arrAt_eq_of_covers 12 (res2 m c) (by decide +kernel) fun t hf y => ?_
  have hf' : t.val % 4 = 3 ∧ t.val ≠ 31 ∨ t.val = 32 := by rw [flush12] at hf; exact of_decide_eq_true hf
  have hN : t.val < 33 := t.isLt
  have ht : min t.val 31 % 4 = 3 := by omega
  blk_simp
  rw [after12]
  obtain ⟨z, i, j, rfl⟩ : ∃ (z : Fin 1) (i : Fin 15) (j : Fin 1024), y = ix3 z i j := ⟨y 0, y 1, y 2, eq_ix3 y⟩
  obtain rfl : z = 0 := Subsingleton.elim _ _
  refine (out12_apply m c t ht i j).trans ?_
  have e0 : ((((cfg0.win 12).blk t).view.emb (ix3 0 i j)) 0 : ℕ) = min t.val 31 / 4 := by
    blk_simp [idx12 t]; exact Nat.add_zero _
  have e1 : ((((cfg0.win 12).blk t).view.emb (ix3 0 i j)) 1 : ℕ) = i := by
    blk_simp [idx12 t]
  have e2 : ((((cfg0.win 12).blk t).view.emb (ix3 0 i j)) 2 : ℕ) = j := by
    blk_simp [idx12 t]
  unfold res2
  have E : ∀ (s s' : Fin 8) (p p' : ℕ) (j j' : Fin 1024), s = s' → p = p' → j = j' → hseq m c s (2033 + p) j = hseq m c s' (2033 + p') j' := by
    rintro _ _ _ _ _ _ rfl rfl rfl; rfl
  exact E _ _ _ _ _ _ (Fin.ext e0.symm) e1.symm (Fin.ext e2.symm)

end Cert.KernelIdeal.Pool
-- ==== Proof.Pool.Finish.lean ====
module

public import proofs.«01_k».proof.Proof.Pool.Frame
public import proofs.«01_k».proof.Proof.Pool.Arrays

@[expose] public section

set_option maxRecDepth 16384

noncomputable section

namespace Cert.KernelIdeal.Pool

open Cert.KernelIdeal.Gen
open Idealize.ShloMosaic Idealize.ShloMosaic.TcCoe Idealize.SL.Sem
open Idealize.ShloMosaic.Pipeline (Dat Cfg Window)

section frame
variable {F : FTy → Type} [FloatOps F]
variable (m : (ℓ : Loc nD τ sig) → Buf (Elt F) ℓ) (ρ : Dev nD → PrngReg)

/-- At the end of a run every argument array holds what it held at the start. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

/-- The call runs, leaves its arguments unchanged and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨args_kept m r h.1, h.2⟩) (run_quiescent m ρ)
end frame

/-- The call's three results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11_0) = res0 m c
      ∧ r.2.mem ((c.tc : Thread nD τ).loc main_v11_1) = res1 m c
      ∧ r.2.mem ((c.tc : Thread nD τ).loc main_v11_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).1 10).trans (final10 m c), ((h.1 c).1 11).trans (final11 m c), ((h.1 c).1 12).trans (final12 m c),
    args_kept m r h.1 c⟩) (run_quiescent m ρ)

end Cert.KernelIdeal.Pool
-- ==== Proof.Pool.RefOps.lean ====
module

public import proofs.«01_k».proof.Proof.Gen.ReferenceIdeal.Run
public import proofs.«01_k».proof.Proof.Pool.Spec
public import Idealize.ShloMosaic.Lib.Pointwise
public import Idealize.ShloMosaic.Lib.IdealHost

@[expose] public section

set_option maxRecDepth 16384

noncomputable section

namespace Cert.Ref

open Cert.ReferenceIdeal Cert.ReferenceIdeal.Gen
open Idealize.ShloMosaic Idealize.ShloMosaic.TcCoe

/-! The reference's parts as functions of arrays, each read at an index. -/

abbrev A3 := FVec Ideal S8x2048x1024 .f32
abbrev A2 := FVec Ideal S512x1024 .f32
abbrev A1 := FVec Ideal S1024 .f32

/-- A row of a batch of sequences. -/
abbrev row3 (x : A3) (s : Fin 8) (p : Fin 2048) (j : Fin 1024) : EReal := x (ix3 s p j)
/-- A vector's entries. -/
abbrev vec (g : A1) (j : Fin 1024) : EReal := g (ix1 j)

/-- The root-mean-square normalisation of a batch of sequences. -/
def norm3 (x : A3) (g : A1) : A3 := mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))
theorem norm3_apply (x : A3) (g : A1) (s : Fin 8) (p : Fin 2048) (j : Fin 1024) : norm3 x g (ix3 s p j) = Spec.norm (row3 x s p) (vec g) j := by
  pointwise [norm3, Spec.norm]

/-- The same of the second batch. -/
def norm2 (x : A2) (g : A1) : A2 := mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))
theorem norm2_apply (x : A2) (g : A1) (r : Fin 512) (j : Fin 1024) : norm2 x g (ix2 r j) = Spec.norm (fun k => x (ix2 r k)) (vec g) j := by
  pointwise [norm2, Spec.norm]

/-- The history of zeros before the normalised rows. -/
def hist (h : A3) : FVec Ideal S8x2063x1024 .f32 := concatenate S8x2063x1024 1 [⟨S8x15x1024, (broadcastInDim S8x15x1024 ![] bcast_S_S8x15x1024 (constant S_ .f32 0x00000000#32))⟩, ⟨S8x2048x1024, h⟩] concatenates_S8x15x1024_S8x2048x1024_S8x2063x1024_d1
theorem hist_apply (h : A3) (s : Fin 8) (q : Fin 2063) (j : Fin 1024) : (hist h (ix3 s q j) : EReal) = if hq : q.val < 15 then 0 else h (ix3 s ⟨q - 15, by omega⟩ j) := by
  pointwise [hist]

/-- The positions as floats. -/
def pos : FVec Ideal S2048 .f32 := sitofp .f32 (addi (broadcastInDim S2048 ![] bcast_S_S2048 (constantI S_ 32 0#32)) (iotaInDim S2048 32 0))
theorem pos_apply (p : Fin 2048) : pos (ix1 p) = FloatOps.sitofp (F := Ideal) .f32 (BitVec.ofNat 32 p) := by
  pointwise [pos]
  refine congrArg _ ?_
  simp [IntOp.addi]

/-- Group 0's mean over its window, from the running sums `C` and the positions `P`. -/
def quot0 (C : FVec Ideal S8x2064x1024 .f32) (P : FVec Ideal S2048 .f32) : FVec Ideal S8x2048x256 .f32 := Host.divf (subf (extractStridedSlice S8x2048x256 ![0, 16, 0] C slices_S8x2064x1024_S8x2048x256_0_16_0) (extractStridedSlice S8x2048x256 ![0, 14, 0] C slices_S8x2064x1024_S8x2048x256_0_14_0)) (broadcastInDim S8x2048x256 ![0, 1, 2] bcast_S1x2048x1_S8x2048x256_0_1_2 (broadcastInDim S1x2048x1 ![1] bcast_S2048_S1x2048x1_1 (minimumf (addf P (broadcastInDim S2048 ![] bcast_S_S2048 (constant S_ .f32 0x3F800000#32))) (broadcastInDim S2048 ![] bcast_S_S2048 (constant S_ .f32 0x40000000#32)))))
theorem quot0_apply (C : FVec Ideal S8x2064x1024 .f32) (P : FVec Ideal S2048 .f32) (s : Fin 8) (p : Fin 2048) (j : Fin 256) :
    quot0 C P (ix3 s p j) = Ideal.div (C (ix3 s ⟨16 + p, by omega⟩ ⟨0 + j, by omega⟩) - C (ix3 s ⟨14 + p, by omega⟩ ⟨0 + j, by omega⟩)) (min (P (ix1 p) + 1) (Spec.cap 0)) := by
  pointwise [quot0, Spec.cap]

/-- Group 1's mean over its window, from the running sums `C` and the positions `P`. -/
def quot1 (C : FVec Ideal S8x2064x1024 .f32) (P : FVec Ideal S2048 .f32) : FVec Ideal S8x2048x256 .f32 := Host.divf (subf (extractStridedSlice S8x2048x256 ![0, 16, 256] C slices_S8x2064x1024_S8x2048x256_0_16_256) (extractStridedSlice S8x2048x256 ![0, 12, 256] C slices_S8x2064x1024_S8x2048x256_0_12_256)) (broadcastInDim S8x2048x256 ![0, 1, 2] bcast_S1x2048x1_S8x2048x256_0_1_2 (broadcastInDim S1x2048x1 ![1] bcast_S2048_S1x2048x1_1 (minimumf (addf P (broadcastInDim S2048 ![] bcast_S_S2048 (constant S_ .f32 0x3F800000#32))) (broadcastInDim S2048 ![] bcast_S_S2048 (constant S_ .f32 0x40800000#32)))))
theorem quot1_apply (C : FVec Ideal S8x2064x1024 .f32) (P : FVec Ideal S2048 .f32) (s : Fin 8) (p : Fin 2048) (j : Fin 256) :
    quot1 C P (ix3 s p j) = Ideal.div (C (ix3 s ⟨16 + p, by omega⟩ ⟨256 + j, by omega⟩) - C (ix3 s ⟨12 + p, by omega⟩ ⟨256 + j, by omega⟩)) (min (P (ix1 p) + 1) (Spec.cap 1)) := by
  pointwise [quot1, Spec.cap]

/-- Group 2's mean over its window, from the running sums `C` and the positions `P`. -/
def quot2 (C : FVec Ideal S8x2064x1024 .f32) (P : FVec Ideal S2048 .f32) : FVec Ideal S8x2048x256 .f32 := Host.divf (subf (extractStridedSlice S8x2048x256 ![0, 16, 512] C slices_S8x2064x1024_S8x2048x256_0_16_512) (extractStridedSlice S8x2048x256 ![0, 8, 512] C slices_S8x2064x1024_S8x2048x256_0_8_512)) (broadcastInDim S8x2048x256 ![0, 1, 2] bcast_S1x2048x1_S8x2048x256_0_1_2 (broadcastInDim S1x2048x1 ![1] bcast_S2048_S1x2048x1_1 (minimumf (addf P (broadcastInDim S2048 ![] bcast_S_S2048 (constant S_ .f32 0x3F800000#32))) (broadcastInDim S2048 ![] bcast_S_S2048 (constant S_ .f32 0x41000000#32)))))
theorem quot2_apply (C : FVec Ideal S8x2064x1024 .f32) (P : FVec Ideal S2048 .f32) (s : Fin 8) (p : Fin 2048) (j : Fin 256) :
    quot2 C P (ix3 s p j) = Ideal.div (C (ix3 s ⟨16 + p, by omega⟩ ⟨512 + j, by omega⟩) - C (ix3 s ⟨8 + p, by omega⟩ ⟨512 + j, by omega⟩)) (min (P (ix1 p) + 1) (Spec.cap 2)) := by
  pointwise [quot2, Spec.cap]

/-- Group 3's mean over its window, from the running sums `C` and the positions `P`. -/
def quot3 (C : FVec Ideal S8x2064x1024 .f32) (P : FVec Ideal S2048 .f32) : FVec Ideal S8x2048x256 .f32 := Host.divf (subf (extractStridedSlice S8x2048x256 ![0, 16, 768] C slices_S8x2064x1024_S8x2048x256_0_16_768) (extractStridedSlice S8x2048x256 ![0, 0, 768] C slices_S8x2064x1024_S8x2048x256_0_0_768)) (broadcastInDim S8x2048x256 ![0, 1, 2] bcast_S1x2048x1_S8x2048x256_0_1_2 (broadcastInDim S1x2048x1 ![1] bcast_S2048_S1x2048x1_1 (minimumf (addf P (broadcastInDim S2048 ![] bcast_S_S2048 (constant S_ .f32 0x3F800000#32))) (broadcastInDim S2048 ![] bcast_S_S2048 (constant S_ .f32 0x41800000#32)))))
theorem quot3_apply (C : FVec Ideal S8x2064x1024 .f32) (P : FVec Ideal S2048 .f32) (s : Fin 8) (p : Fin 2048) (j : Fin 256) :
    quot3 C P (ix3 s p j) = Ideal.div (C (ix3 s ⟨16 + p, by omega⟩ ⟨768 + j, by omega⟩) - C (ix3 s ⟨0 + p, by omega⟩ ⟨768 + j, by omega⟩)) (min (P (ix1 p) + 1) (Spec.cap 3)) := by
  pointwise [quot3, Spec.cap]

/-- The four groups' means side by side, less the rows. -/
def pooled (C : FVec Ideal S8x2064x1024 .f32) (P : FVec Ideal S2048 .f32) (h : A3) : A3 :=
  subf (concatenate S8x2048x1024 2 [⟨S8x2048x256, (quot0 C P : FVec Ideal S8x2048x256 .f32)⟩, ⟨S8x2048x256, (quot1 C P : FVec Ideal S8x2048x256 .f32)⟩, ⟨S8x2048x256, (quot2 C P : FVec Ideal S8x2048x256 .f32)⟩, ⟨S8x2048x256, (quot3 C P : FVec Ideal S8x2048x256 .f32)⟩] concatenates_S8x2048x256_S8x2048x256_S8x2048x256_S8x2048x256_S8x2048x1024_d2) h
theorem pooled_apply (C : FVec Ideal S8x2064x1024 .f32) (P : FVec Ideal S2048 .f32) (h : A3) (s : Fin 8) (p : Fin 2048) (j : Fin 1024) :
    pooled C P h (ix3 s p j) = Ideal.div (C (ix3 s ⟨16 + p, by omega⟩ j) - C (ix3 s ⟨16 - 2 ^ (j.val / 256 + 1) + p, lt_of_le_of_lt (Nat.add_le_add_right (Nat.sub_le 16 _) _) (by omega)⟩ j)) (min (P (ix1 p) + 1) (Spec.cap (j / 256))) - h (ix3 s p j) := by
  have key : ∀ (G : ℕ) (hG : j.val / 256 = G) (b : Fin 2064) (hb : b.val = 16 - 2 ^ (G + 1) + p.val) (l : Fin 1024) (hl : l.val = j.val),
      Ideal.div (C (ix3 s ⟨16 + p, by omega⟩ l) - C (ix3 s b l)) (min (P (ix1 p) + 1) (Spec.cap G))
        = Ideal.div (C (ix3 s ⟨16 + p, by omega⟩ j) - C (ix3 s ⟨16 - 2 ^ (j.val / 256 + 1) + p, lt_of_le_of_lt (Nat.add_le_add_right (Nat.sub_le 16 _) _) (by omega)⟩ j)) (min (P (ix1 p) + 1) (Spec.cap (j / 256))) := by
    intro G hG b hb l hl
    subst hG
    obtain rfl : l = j := Fin.ext hl
    rw [show b = ⟨16 - 2 ^ (l.val / 256 + 1) + p, lt_of_le_of_lt (Nat.add_le_add_right (Nat.sub_le 16 _) _) (by omega)⟩ from Fin.ext hb]
  pointwise [pooled]
  refine congrArg (fun z : EReal => z - h (ix3 s p j)) ?_
  have hj := j.2
  by_cases h0 : j.val < 256
  · refine (dif_pos h0).trans ((quot0_apply C P s p _).trans (key 0 (by omega) _ rfl _ ?_))
    show 0 + j.val = j.val; omega
  refine (dif_neg h0).trans ?_
  by_cases h1 : j.val - 256 < 256
  · refine (dif_pos h1).trans ((quot1_apply C P s p _).trans (key 1 (by omega) _ rfl _ ?_))
    show 256 + (j.val - 256) = j.val; omega
  refine (dif_neg h1).trans ?_
  by_cases h2 : j.val - 256 - 256 < 256
  · refine (dif_pos h2).trans ((quot2_apply C P s p _).trans (key 2 (by omega) _ rfl _ ?_))
    show 512 + (j.val - 256 - 256) = j.val; omega
  refine (dif_neg h2).trans ((quot3_apply C P s p _).trans (key 3 (by omega) _ rfl _ ?_))
  show 768 + (j.val - 256 - 256 - 256) = j.val; omega

/-- The mixer's product, bias and scale, added to the rows. -/
def mix3 (x p : A3) (W : FVec Ideal S4x256x256 .f32) (b s : A1) : A3 :=
  addf x (mulf (addf (shapeCast S8x2048x1024 (transpose S8x2048x4x256 [2, 3, 0, 1] (Host.dotGeneral dot_S4x256x256_S8x2048x4x256_S4x256x8x2048_1_3_2_01_0_2 none W (shapeCast S8x2048x4x256 p shapeCasts_S8x2048x1024_S8x2048x4x256)) transposes_S4x256x8x2048_S8x2048x4x256_2_3_0_1) shapeCasts_S8x2048x4x256_S8x2048x1024) (broadcastInDim S8x2048x1024 ![0, 1, 2] bcast_S1x1x1024_S8x2048x1024_0_1_2 (broadcastInDim S1x1x1024 ![2] bcast_S1024_S1x1x1024_2 b))) (broadcastInDim S8x2048x1024 ![0, 1, 2] bcast_S1x1x1024_S8x2048x1024_0_1_2 (broadcastInDim S1x1x1024 ![2] bcast_S1024_S1x1x1024_2 s)))
theorem mix3_apply (x p : A3) (W : FVec Ideal S4x256x256 .f32) (b sc : A1) (s : Fin 8) (q : Fin 2048) (j : Fin 1024) :
    mix3 x p W b sc (ix3 s q j) = Spec.mix (row3 x s q) (row3 p s q) (fun g i l => W (ix3 g i l)) (vec b) (vec sc) j := by
  pointwise [mix3, Spec.mix]
  refine congrArg (fun z : EReal => x (ix3 s q j) + (z + b (ix1 j)) * sc (ix1 j)) (Finset.sum_congr rfl fun i _ => ?_)
  rw [mul_comm (W _)]
  refine congrArg (fun k => p (ix3 s q k) * W _) (Fin.ext ?_)
  show j.val / 256 * 256 + i.val = 256 * (j.val / 256) + i.val
  omega

/-- The first feed-forward product of the first batch. -/
def up3 (h : A3) (w : FVec Ideal S1024x5632 .f32) : FVec Ideal S8x2048x5632 .f32 := Host.dotGeneral dot_S8x2048x1024_S1024x5632_S8x2048x5632_2_0_01_1_n_n none h w
theorem up3_apply (h : A3) (w : FVec Ideal S1024x5632 .f32) (s : Fin 8) (q : Fin 2048) (j : Fin 5632) : (up3 h w (ix3 s q j) : EReal) = ∑ k, row3 h s q k * w (ix2 k j) := by
  pointwise [up3]
/-- The gated activations of the first batch. -/
def gate3 (u : FVec Ideal S8x2048x5632 .f32) : FVec Ideal S8x2048x2816 .f32 :=
  mulf (mulf (extractStridedSlice S8x2048x2816 ![0, 0, 0] u slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] u slices_S8x2048x5632_S8x2048x2816_0_0_0)))))) (extractStridedSlice S8x2048x2816 ![0, 0, 2816] u slices_S8x2048x5632_S8x2048x2816_0_0_2816)
theorem gate3_apply (u : FVec Ideal S8x2048x5632 .f32) (s : Fin 8) (q : Fin 2048) (j : Fin 2816) :
    gate3 u (ix3 s q j) = u (ix3 s q ⟨j, by omega⟩) * Ideal.logistic (u (ix3 s q ⟨j, by omega⟩)) * u (ix3 s q ⟨2816 + j, by omega⟩) := by
  pointwise [gate3, Ideal.logistic]
/-- Half the feed-forward layer added to the first batch. -/
def down3 (y : A3) (a : FVec Ideal S8x2048x2816 .f32) (w : FVec Ideal S2816x1024 .f32) : A3 :=
  addf y (mulf (broadcastInDim S8x2048x1024 ![] bcast_S_S8x2048x1024 (constant S_ .f32 0x3F000000#32)) (Host.dotGeneral dot_S8x2048x2816_S2816x1024_S8x2048x1024_2_0_01_1_n_n none a w))
theorem down3_apply (y : A3) (a : FVec Ideal S8x2048x2816 .f32) (w : FVec Ideal S2816x1024 .f32) (s : Fin 8) (q : Fin 2048) (j : Fin 1024) :
    down3 y a w (ix3 s q j) = y (ix3 s q j) + Ideal.ofBits .f32 0x3F000000#32 * ∑ k : Fin 2816, a (ix3 s q k) * w (ix2 k j) := by
  pointwise [down3]
/-- Half the feed-forward layer of the first batch, row by row. -/
theorem half3_apply (y : A3) (g : A1) (win : FVec Ideal S1024x5632 .f32) (wout : FVec Ideal S2816x1024 .f32) (s : Fin 8) (q : Fin 2048) (j : Fin 1024) :
    down3 y (gate3 (up3 (norm3 y g) win)) wout (ix3 s q j) = Spec.half (row3 y s q) (vec g) (fun i l => win (ix2 i l)) (fun i l => wout (ix2 i l)) j := by
  rw [down3_apply]
  unfold Spec.half
  refine congrArg (fun z => (y (ix3 s q j) : EReal) + Ideal.ofBits .f32 0x3F000000#32 * z) (Finset.sum_congr rfl fun k _ => ?_)
  rw [gate3_apply]
  unfold Spec.act
  simp only [up3_apply, norm3_apply, row3]

/-- The first feed-forward product of the second batch. -/
def up2 (h : A2) (w : FVec Ideal S1024x5632 .f32) : FVec Ideal S512x5632 .f32 := Host.dotGeneral dot_S512x1024_S1024x5632_S512x5632_1_0_0_1_n_n none h w
theorem up2_apply (h : A2) (w : FVec Ideal S1024x5632 .f32) (r : Fin 512) (j : Fin 5632) : (up2 h w (ix2 r j) : EReal) = ∑ k : Fin 1024, h (ix2 r k) * w (ix2 k j) := by
  pointwise [up2]
/-- The gated activations of the second batch. -/
def gate2 (u : FVec Ideal S512x5632 .f32) : FVec Ideal S512x2816 .f32 :=
  mulf (mulf (extractStridedSlice S512x2816 ![0, 0] u slices_S512x5632_S512x2816_0_0) (Host.divf (broadcastInDim S512x2816 ![] bcast_S_S512x2816 (constant S_ .f32 0x3F800000#32)) (addf (broadcastInDim S512x2816 ![] bcast_S_S512x2816 (constant S_ .f32 0x3F800000#32)) (Host.exp (Host.negf (extractStridedSlice S512x2816 ![0, 0] u slices_S512x5632_S512x2816_0_0)))))) (extractStridedSlice S512x2816 ![0, 2816] u slices_S512x5632_S512x2816_0_2816)
theorem gate2_apply (u : FVec Ideal S512x5632 .f32) (r : Fin 512) (j : Fin 2816) :
    gate2 u (ix2 r j) = u (ix2 r ⟨j, by omega⟩) * Ideal.logistic (u (ix2 r ⟨j, by omega⟩)) * u (ix2 r ⟨2816 + j, by omega⟩) := by
  pointwise [gate2, Ideal.logistic]
/-- Half the feed-forward layer added to the second batch. -/
def down2 (y : A2) (a : FVec Ideal S512x2816 .f32) (w : FVec Ideal S2816x1024 .f32) : A2 :=
  addf y (mulf (broadcastInDim S512x1024 ![] bcast_S_S512x1024 (constant S_ .f32 0x3F000000#32)) (Host.dotGeneral dot_S512x2816_S2816x1024_S512x1024_1_0_0_1_n_n none a w))
theorem down2_apply (y : A2) (a : FVec Ideal S512x2816 .f32) (w : FVec Ideal S2816x1024 .f32) (r : Fin 512) (j : Fin 1024) :
    down2 y a w (ix2 r j) = y (ix2 r j) + Ideal.ofBits .f32 0x3F000000#32 * ∑ k : Fin 2816, a (ix2 r k) * w (ix2 k j) := by
  pointwise [down2]
/-- Half the feed-forward layer of the second batch, row by row. -/
theorem half2_apply (y : A2) (g : A1) (win : FVec Ideal S1024x5632 .f32) (wout : FVec Ideal S2816x1024 .f32) (r : Fin 512) (j : Fin 1024) :
    down2 y (gate2 (up2 (norm2 y g) win)) wout (ix2 r j) = Spec.half (fun k => y (ix2 r k)) (vec g) (fun i l => win (ix2 i l)) (fun i l => wout (ix2 i l)) j := by
  rw [down2_apply]
  unfold Spec.half
  refine congrArg (fun z => (y (ix2 r j) : EReal) + Ideal.ofBits .f32 0x3F000000#32 * z) (Finset.sum_congr rfl fun k _ => ?_)
  rw [gate2_apply]
  unfold Spec.act
  simp only [up2_apply, norm2_apply]

end Cert.Ref
-- ==== Proof.Pool.Cumsum.lean ====
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Ref

open Cert.ReferenceIdeal Cert.ReferenceIdeal.Gen
open Idealize.ShloMosaic Idealize.ShloMosaic.TcCoe

/-! The reference's running sums along the sequence. -/

/-- Adding terms one after the other is adding their sum. -/
theorem foldl_add {ι : Type} (l : List ι) (g : ι → EReal) (z : EReal) : l.foldl (fun r a => r + g a) z = z + (l.map g).sum := by
  induction l generalizing z with
  | nil => simp
  | cons a l ih => rw [List.foldl_cons, ih, List.map_cons, List.sum_cons, add_assoc]

/-- A window that ends at `n` and reaches back before the start sums the entries up to `n`. -/
theorem window_prefix (f : ℕ → EReal) (d n : ℕ) :
    ∑ w ∈ Finset.range (d + n + 1), (if d + n ≤ n + w then f (n + w - (d + n)) else 0) = ∑ q ∈ Finset.range (n + 1), f q := by
  rw [add_assoc, Finset.sum_range_add, Finset.sum_eq_zero, zero_add]
  · refine Finset.sum_congr rfl fun q _ => ?_
    rw [if_pos (by omega)]
    congr 1; omega
  · intro w hw
    rw [Finset.mem_range] at hw
    exact if_neg (by omega)

/-- The host's sum over a window, at an index: the terms added in order to the initial value. -/
theorem windowAdd_fold {s t u : Shape} (window strides lo hi : Fin s.rank → ℕ) (x : FVec Ideal s .f32) (init : FVec Ideal u .f32)
    (h : s.ReduceWindows window strides lo hi t) (hu : 0 < u.numel) (j : t.Idx) :
    (Host.reduceWindowAdd window strides lo hi x init h hu j : EReal)
      = (List.finRange (⟨s.rank, window⟩ : Shape).numel).foldl (fun (r : EReal) n => r +
          (if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
            then (x (fun a => ⟨(j (a.cast h.1.symm)).val * strides a + ((⟨s.rank, window⟩ : Shape).rowMajor.symm n a).val - lo a, (hin a).2⟩) : EReal)
            else init (Shape.Idx.first hu))) (init (Shape.Idx.first hu)) := by
  simp only [Host.reduceWindowAdd, Ideal.hostReduceWindowAdd_def, Ideal.hostReduceWindowAdd, Host.reduceWindow]

/-- The running sum at position `n` is the sum of the entries at positions up to `n`. -/
theorem running_sum (X : FVec Ideal S8x2063x1024 .f32) (v : FVec Ideal S_ .f32) (hv : ∀ i, v i = (0 : EReal)) (s : Fin 8) (n : Fin 2063) (j : Fin 1024) :
    (Host.reduceWindowAdd ![1, 2063, 1] ![1, 1, 1] ![0, 2062, 0] ![0, 0, 0] X v reduceWindows_S8x2063x1024_S8x2063x1024_w1s1p0_0_w2063s1p2062_0_w1s1p0_0 h_S_ (ix3 s n j) : EReal)
      = ∑ q ∈ Finset.range (n + 1), if h : q < 2063 then (X (ix3 s ⟨q, h⟩ j) : EReal) else 0 := by
  let W : Shape := ⟨3, ![1, 2063, 1]⟩
  have hN : W.numel = 2063 := by
    show ∏ a : Fin 3, (![1, 2063, 1] : Fin 3 → ℕ) a = 2063
    rw [Fin.prod_univ_three]; rfl
  have hsymm : ∀ w : Fin W.numel, W.rowMajor.symm w = ix3 (0 : Fin 1) (w.cast hN) (0 : Fin 1) := fun w =>
    (W.rowMajor.symm_apply_eq).2 (Fin.ext (by
      rw [Shape.rowMajor_val_three]
      show w.val = (0 * 2063 + w.val) * 1 + 0
      omega))
  let f : ℕ → EReal := fun q => if h : q < 2063 then X (ix3 s ⟨q, h⟩ j) else 0
  have step : ∀ w : Fin W.numel, ∀ hr : S8x2063x1024.rank = S8x2063x1024.rank,
      (if hin : ∀ a : Fin 3, (![0, 2062, 0] : Fin 3 → ℕ) a ≤ (ix3 s n j a).val * (![1, 1, 1] : Fin 3 → ℕ) a + (W.rowMajor.symm w a).val
          ∧ (ix3 s n j a).val * (![1, 1, 1] : Fin 3 → ℕ) a + (W.rowMajor.symm w a).val - (![0, 2062, 0] : Fin 3 → ℕ) a < S8x2063x1024.size a
        then (X (fun a => ⟨(ix3 s n j a).val * (![1, 1, 1] : Fin 3 → ℕ) a + (W.rowMajor.symm w a).val - (![0, 2062, 0] : Fin 3 → ℕ) a, (hin a).2⟩) : EReal) else 0)
      = if 2062 ≤ n.val + w.val then f (n.val + w.val - 2062) else 0 := by
    intro w _
    have hw : w.val < 2063 := lt_of_lt_of_eq w.2 hN
    have e1 : (W.rowMajor.symm w 1).val = w.val := by rw [hsymm]; rfl
    have e0 : (W.rowMajor.symm w 0).val = 0 := by rw [hsymm]; rfl
    have e2 : (W.rowMajor.symm w 2).val = 0 := by rw [hsymm]; rfl
    by_cases hc : 2062 ≤ n.val + w.val
    · rw [if_pos hc]
      have hin : ∀ a : Fin 3, (![0, 2062, 0] : Fin 3 → ℕ) a ≤ (ix3 s n j a).val * (![1, 1, 1] : Fin 3 → ℕ) a + (W.rowMajor.symm w a).val
          ∧ (ix3 s n j a).val * (![1, 1, 1] : Fin 3 → ℕ) a + (W.rowMajor.symm w a).val - (![0, 2062, 0] : Fin 3 → ℕ) a < S8x2063x1024.size a := by
        intro a
        fin_cases a
        · show 0 ≤ s.val * 1 + (W.rowMajor.symm w 0).val ∧ s.val * 1 + (W.rowMajor.symm w 0).val - 0 < 8
          rw [e0]; omega
        · show 2062 ≤ n.val * 1 + (W.rowMajor.symm w 1).val ∧ n.val * 1 + (W.rowMajor.symm w 1).val - 2062 < 2063
          rw [e1]; omega
        · show 0 ≤ j.val * 1 + (W.rowMajor.symm w 2).val ∧ j.val * 1 + (W.rowMajor.symm w 2).val - 0 < 1024
          rw [e2]; omega
      rw [dif_pos hin]
      show _ = if h : n.val + w.val - 2062 < 2063 then (X (ix3 s ⟨n.val + w.val - 2062, h⟩ j) : EReal) else 0
      rw [dif_pos (by omega)]
      refine congrArg X (funext fun a => Fin.ext ?_)
      fin_cases a
      · show s.val * 1 + (W.rowMajor.symm w 0).val - 0 = s.val
        rw [e0]; omega
      · show n.val * 1 + (W.rowMajor.symm w 1).val - 2062 = n.val + w.val - 2062
        rw [e1]; omega
      · show j.val * 1 + (W.rowMajor.symm w 2).val - 0 = j.val
        rw [e2]; omega
    · rw [if_neg hc, dif_neg]
      intro hin
      have := (hin 1).1
      have h' : 2062 ≤ n.val * 1 + (W.rowMajor.symm w 1).val := this
      rw [e1] at h'
      omega
  obtain rfl : v = fun _ => (0 : EReal) := funext hv
  rw [windowAdd_fold, foldl_add, zero_add, ← Fin.sum_univ_def]
  refine (Fintype.sum_congr _ (fun w : Fin W.numel => if 2062 ≤ n.val + w.val then f (n.val + w.val - 2062) else 0) fun w => step w rfl).trans ?_
  have := Fin.sum_univ_eq_sum_range (fun w => if 2062 ≤ n.val + w then f (n.val + w - 2062) else 0) W.numel
  rw [this, hN]
  have hn := n.2
  have := window_prefix f (2062 - n) n
  rw [show 2062 - n.val + n.val = 2062 by omega] at this
  exact this

/-- The running sums, with a zero put in front. -/
def shifted (R : FVec Ideal S8x2063x1024 .f32) : FVec Ideal S8x2064x1024 .f32 :=
  pad S8x2064x1024 ![0, 1, 0] ![0, 0, 0] ![0, 0, 0] R (sitofp .f32 (constantI S_ 32 0#32)) pads_S8x2063x1024_S8x2064x1024_000_100_000 h_S_
theorem shifted_apply (R : FVec Ideal S8x2063x1024 .f32) (s : Fin 8) (n : Fin 2064) (j : Fin 1024) :
    (shifted R (ix3 s n j) : EReal) = if h : n.val = 0 then 0 else R (ix3 s ⟨n - 1, by omega⟩ j) := by
  pointwise [shifted]
  by_cases h : n.val = 0
  · rw [dif_pos h, dif_neg (by omega)]
    show (((0#32 : BitVec 32).toInt : ℝ) : EReal) = 0
    simp
  · rw [dif_neg h, dif_pos (by omega)]

/-- The running sums of an array, with a zero in front. -/
def sums (Z : FVec Ideal S8x2063x1024 .f32) : FVec Ideal S8x2064x1024 .f32 :=
  shifted (Host.reduceWindowAdd ![1, 2063, 1] ![1, 1, 1] ![0, 2062, 0] ![0, 0, 0] Z (broadcastInDim S_ ![] bcast_S_S_ (constant S_ .f32 0x00000000#32)) reduceWindows_S8x2063x1024_S8x2063x1024_w1s1p0_0_w2063s1p2062_0_w1s1p0_0 h_S_)
/-- Entry `n` is the sum of the first `n` entries. -/
theorem sums_apply (Z : FVec Ideal S8x2063x1024 .f32) (s : Fin 8) (n : Fin 2064) (j : Fin 1024) :
    (sums Z (ix3 s n j) : EReal) = ∑ q ∈ Finset.range n, if h : q < 2063 then (Z (ix3 s ⟨q, h⟩ j) : EReal) else 0 := by
  refine (shifted_apply _ s n j).trans ?_
  by_cases h : n.val = 0
  · rw [dif_pos h, h, Finset.sum_range_zero]
  · rw [dif_neg h, running_sum]
    · show ∑ q ∈ Finset.range (n.val - 1 + 1), _ = _
      rw [Nat.sub_add_cancel (by omega)]
    · intro i
      exact Ideal.ofBits_zero_f32

/-- The difference of two running sums of real numbers is the sum over the window between them, last entry first. -/
theorem window_diff (Z : ℕ → EReal) (hZ : ∀ q, ∃ r : ℝ, Z q = r) (a w : ℕ) :
    ∑ q ∈ Finset.range (a + w), Z q - ∑ q ∈ Finset.range a, Z q = ∑ i ∈ Finset.range w, Z (a + w - 1 - i) := by
  choose z hz using hZ
  have hr : ∑ q ∈ Finset.range a, Z q = ((∑ q ∈ Finset.range a, z q : ℝ) : EReal) := by
    rw [show Z = fun q => (z q : EReal) from funext hz]
    exact (map_sum (⟨⟨Real.toEReal, EReal.coe_zero⟩, EReal.coe_add⟩ : ℝ →+ EReal) z (Finset.range a)).symm
  rw [Finset.sum_range_add, hr, EReal.add_sub_cancel_left, ← Finset.sum_range_reflect]
  refine Finset.sum_congr rfl fun i hi => congrArg Z ?_
  rw [Finset.mem_range] at hi
  omega

end Cert.Ref
-- ==== Proof.Pool.RefPool.lean ====
module

public import proofs.«01_k».proof.Proof.Pool.RefOps
public import proofs.«01_k».proof.Proof.Pool.Cumsum

@[expose] public section

set_option maxRecDepth 16384

noncomputable section

namespace Cert.Ref

open Cert.ReferenceIdeal Cert.ReferenceIdeal.Gen
open Idealize.ShloMosaic Idealize.ShloMosaic.TcCoe

/-! The reference's pooled rows are the window means of the specification when the rows are finite. -/

/-- The rows of one sequence, by position. -/
abbrev seqOf (h : A3) (s : Fin 8) (q : ℕ) (j : Fin 1024) : EReal := h (ix3 s ⟨q % 2048, Nat.mod_lt _ (by decide)⟩ j)

/-- One column of a sequence after fifteen zeros. -/
def padded (h : A3) (s : Fin 8) (j : Fin 1024) (q : ℕ) : EReal := if 15 ≤ q then seqOf h s (q - 15) j else 0

/-- The running sums over the zeros and the sequence. -/
theorem sums_hist (h : A3) (s : Fin 8) (n : Fin 2064) (j : Fin 1024) :
    (sums (hist h) (ix3 s n j) : EReal) = ∑ q ∈ Finset.range n, padded h s j q := by
  rw [sums_apply]
  refine Finset.sum_congr rfl fun q hq => ?_
  have hq' : q < 2063 := by have := Finset.mem_range.1 hq; omega
  rw [dif_pos hq', hist_apply]
  unfold padded
  by_cases h15 : 15 ≤ q
  · rw [if_pos h15, dif_neg (by show ¬q < 15; omega)]
    exact congrArg (fun k => (h (ix3 s k j) : EReal)) (Fin.ext (by show q - 15 = (q - 15) % 2048; omega))
  · rw [if_neg h15, dif_pos (by show q < 15; omega)]

/-- The reference's pooled rows. -/
theorem pooled_hist (h : A3) (hr : ∀ i, ∃ r : ℝ, (h i : EReal) = r) (s : Fin 8) (p : Fin 2048) (j : Fin 1024) :
    (pooled (sums (hist h)) pos h (ix3 s p j) : EReal) = Spec.pool (seqOf h s) p j := by
  have hZ : ∀ q, ∃ r : ℝ, padded h s j q = r := by
    intro q
    unfold padded
    split_ifs
    · exact hr _
    · exact ⟨0, rfl⟩
  have hw : 2 ^ (j.val / 256 + 1) ≤ 16 := by
    calc 2 ^ (j.val / 256 + 1) ≤ 2 ^ 4 := Nat.pow_le_pow_right (by decide) (by omega)
      _ = 16 := by decide
  rw [pooled_apply, sums_hist, sums_hist, pos_apply]
  unfold Spec.pool Spec.count
  refine congrArg₂ (fun a b : EReal => Ideal.div a _ - b) ?_ (congrArg (fun k => (h (ix3 s k j) : EReal)) (Fin.ext (by show p.val = p.val % 2048; omega)))
  show ∑ q ∈ Finset.range (16 + p.val), padded h s j q - ∑ q ∈ Finset.range (16 - 2 ^ (j.val / 256 + 1) + p.val), padded h s j q = _
  rw [show 16 + p.val = (16 - 2 ^ (j.val / 256 + 1) + p.val) + 2 ^ (j.val / 256 + 1) by omega, window_diff _ hZ]
  refine Finset.sum_congr rfl fun i hi => ?_
  have hi' := Finset.mem_range.1 hi
  unfold padded
  by_cases hip : i ≤ p.val
  · rw [if_pos hip, if_pos (by omega)]
    exact congrArg (fun k => seqOf h s k j) (by omega)
  · rw [if_neg hip, if_neg (by omega)]

/-! ## The results from the arguments -/

/-- The first batch after the mixer. -/
def mixed (x : A3) (g : A1) (W : FVec Ideal S4x256x256 .f32) (b sc : A1) : A3 :=
  mix3 x (pooled (sums (hist (norm3 x g))) pos (norm3 x g)) W b sc

/-- The first result. -/
def ref0 (x : A3) (g : A1) (W : FVec Ideal S4x256x256 .f32) (b sc gf : A1) (win : FVec Ideal S1024x5632 .f32) (wout : FVec Ideal S2816x1024 .f32) (fg : A1) :
    FVec Ideal S16384x1024 .f32 :=
  shapeCast S16384x1024 (norm3 (down3 (mixed x g W b sc) (gate3 (up3 (norm3 (mixed x g W b sc) gf) win)) wout) fg) shapeCasts_S8x2048x1024_S16384x1024
/-- The second result. -/
def ref1 (xs : A2) (gf : A1) (win : FVec Ideal S1024x5632 .f32) (wout : FVec Ideal S2816x1024 .f32) (fg : A1) : A2 :=
  norm2 (down2 xs (gate2 (up2 (norm2 xs gf) win)) wout) fg
/-- The third result. -/
def ref2 (x : A3) (g : A1) : FVec Ideal S8x15x1024 .f32 :=
  extractStridedSlice S8x15x1024 ![0, 2048, 0] (hist (norm3 x g)) slices_S8x2063x1024_S8x15x1024_0_2048_0

/-- The normalised rows of a sequence. -/
theorem seqOf_norm3 (x : A3) (g : A1) (s : Fin 8) : seqOf (norm3 x g) s = Spec.seq (row3 x s) (vec g) := by
  funext q j
  exact norm3_apply x g s _ j

/-- The first result at a row of a sequence. -/
theorem ref0_apply (x : A3) (g : A1) (W : FVec Ideal S4x256x256 .f32) (b sc gf : A1) (win : FVec Ideal S1024x5632 .f32) (wout : FVec Ideal S2816x1024 .f32) (fg : A1)
    (hr : ∀ i, ∃ r : ℝ, (norm3 x g i : EReal) = r) (r : Fin 16384) (j : Fin 1024) :
    (ref0 x g W b sc gf win wout fg (ix2 r j) : EReal) = Spec.first (row3 x ⟨r / 2048, by omega⟩) (vec g) (fun g i l => W (ix3 g i l)) (vec b) (vec sc) (vec gf)
      (fun i l => win (ix2 i l)) (fun i l => wout (ix2 i l)) (vec fg) ⟨r % 2048, by omega⟩ j := by
  have hm : ∀ s p, row3 (mixed x g W b sc) s p
      = Spec.mix (row3 x s p) (Spec.pool (Spec.seq (row3 x s) (vec g)) p) (fun g i l => W (ix3 g i l)) (vec b) (vec sc) := by
    intro s p
    funext k
    refine (mix3_apply _ _ _ _ _ s p k).trans (congrArg (fun z => Spec.mix (row3 x s p) z (fun g i l => W (ix3 g i l)) (vec b) (vec sc) k) (funext fun l => ?_))
    refine (pooled_hist _ hr s p l).trans ?_
    rw [seqOf_norm3]
  unfold ref0 Spec.first
  refine Eq.trans (shapeCast_apply (s := S8x2048x1024) _ _ _ (ix3 (⟨r / 2048, by omega⟩ : Fin 8) (⟨r % 2048, by omega⟩ : Fin 2048) j) ?_) ?_
  · rw [Shape.rowMajor_val_two, Shape.rowMajor_val_three]
    show (r.val / 2048 * 2048 + r.val % 2048) * 1024 + j.val = r.val * 1024 + j.val
    omega
  · rw [norm3_apply]
    refine congrArg (fun z => Spec.norm z (vec fg) j) (funext fun k => ?_)
    refine (half3_apply _ gf win wout _ _ k).trans ?_
    rw [hm]

/-- The second result at a row. -/
theorem ref1_apply (xs : A2) (gf : A1) (win : FVec Ideal S1024x5632 .f32) (wout : FVec Ideal S2816x1024 .f32) (fg : A1) (r : Fin 512) (j : Fin 1024) :
    (ref1 xs gf win wout fg (ix2 r j) : EReal) = Spec.norm (Spec.half (fun k => xs (ix2 r k)) (vec gf) (fun i l => win (ix2 i l)) (fun i l => wout (ix2 i l))) (vec fg) j := by
  unfold ref1
  rw [norm2_apply]
  exact congrArg (fun z => Spec.norm z (vec fg) j) (funext fun k => half2_apply xs gf win wout r k)

/-- A sequence's last fifteen rows, read from the rows after the zeros. -/
theorem last_apply (z : FVec Ideal S8x2063x1024 .f32) (s : Fin 8) (i : Fin 15) (j : Fin 1024) :
    extractStridedSlice S8x15x1024 ![0, 2048, 0] z slices_S8x2063x1024_S8x15x1024_0_2048_0 (ix3 s i j) = z (ix3 s ⟨2048 + i, by omega⟩ j) := by
  pointwise
/-- The third result: a sequence's last fifteen normalised rows. -/
theorem ref2_apply (x : A3) (g : A1) (s : Fin 8) (i : Fin 15) (j : Fin 1024) :
    (ref2 x g (ix3 s i j) : EReal) = Spec.seq (row3 x s) (vec g) (2033 + i) j := by
  unfold ref2
  rw [last_apply, hist_apply, dif_neg (by show ¬2048 + i.val < 15; omega), norm3_apply]
  unfold Spec.seq
  exact congrArg (fun k => Spec.norm (row3 x s k) (vec g) j) (Fin.ext (by show 2048 + i.val - 15 = (2033 + i.val) % 2048; omega))

end Cert.Ref
-- ==== Proof.Pool.RefVal.lean ====
module

public import proofs.«01_k».proof.Proof.Pool.RefPool

@[expose] public section

set_option maxRecDepth 16384

noncomputable section

namespace Cert.Ref

open Cert.ReferenceIdeal Cert.ReferenceIdeal.Gen Cert.ReferenceIdeal.Value
open Idealize.ShloMosaic Idealize.ShloMosaic.TcCoe Idealize.SL.Sem

/-! The reference's results are the functions of its arguments named before. -/

theorem v12_eq (V0 : Valuation τ sig (Elt Ideal)) : res_main_v12 V0 = norm3 (V0 (Proc.devRef .tc main_arg0)) (V0 (Proc.devRef .tc main_arg2)) := rfl
theorem v14_eq (V0 : Valuation τ sig (Elt Ideal)) : res_main_v14 V0 = hist (norm3 (V0 (Proc.devRef .tc main_arg0)) (V0 (Proc.devRef .tc main_arg2))) := rfl
theorem v16_eq (V0 : Valuation τ sig (Elt Ideal)) : res_main_v16 V0 = sums (hist (norm3 (V0 (Proc.devRef .tc main_arg0)) (V0 (Proc.devRef .tc main_arg2)))) := rfl
theorem v74_eq (V0 : Valuation τ sig (Elt Ideal)) : res_main_v74 V0
    = mixed (V0 (Proc.devRef .tc main_arg0)) (V0 (Proc.devRef .tc main_arg2)) (V0 (Proc.devRef .tc main_arg3)) (V0 (Proc.devRef .tc main_arg4)) (V0 (Proc.devRef .tc main_arg5)) := by
  unfold res_main_v74
  rw [v16_eq, v12_eq]
  rfl
theorem v96_eq (V0 : Valuation τ sig (Elt Ideal)) : res_main_v96 V0
    = down3 (res_main_v74 V0) (gate3 (up3 (norm3 (res_main_v74 V0) (V0 (Proc.devRef .tc main_arg6))) (V0 (Proc.devRef .tc main_arg7)))) (V0 (Proc.devRef .tc main_arg8)) := rfl
theorem v118_eq (V0 : Valuation τ sig (Elt Ideal)) : res_main_v118 V0
    = down2 (V0 (Proc.devRef .tc main_arg1)) (gate2 (up2 (norm2 (V0 (Proc.devRef .tc main_arg1)) (V0 (Proc.devRef .tc main_arg6))) (V0 (Proc.devRef .tc main_arg7)))) (V0 (Proc.devRef .tc main_arg8)) := rfl

/-- The reference's three results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v132) = ref0 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v145) = ref1 (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v73) = ref2 (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨(h c).1.trans ?_, (h c).2.1.trans ?_, (h c).2.2.1.trans ?_, (h c).2.2.2⟩) (run (F := Ideal) m ρ)
  · rw [v96_eq, v74_eq]
    rfl
  · rw [v118_eq]
    rfl
  · rw [v14_eq]
    rfl

end Cert.Ref
-- ==== Proof.Pool.Finite.lean ====
module

public import proofs.«01_k».proof.Proof.Pool.Spec
public import Idealize.ShloMosaic.Lib.IdealHost

@[expose] public section

noncomputable section

namespace Cert.Spec

open Idealize.ShloMosaic

/-! A normalised row is finite when the gain is: a row with an infinite entry normalises to zero. -/

/-- The row's length, as the program writes it. -/
theorem len_eq : Ideal.ofBits .f32 0x44800000#32 = ((1024 : ℝ) : EReal) := by
  simp [Ideal.ofBits, Ideal.ieee, -EReal.coe_mul]; norm_num
/-- The constant added to the mean square is a positive real number. -/
theorem eps_pos : ∃ e : ℝ, 0 < e ∧ Ideal.ofBits .f32 0x358637BD#32 = (e : EReal) := by
  simp [Ideal.ofBits, Ideal.ieee, -EReal.coe_mul]

/-- A square is nonnegative. -/
theorem sq_nonneg' (a : EReal) : 0 ≤ a * a := by
  induction a with
  | bot => simp
  | top => simp
  | coe a => exact_mod_cast mul_self_nonneg a

/-- A normalised row is finite when the gain is. -/
theorem norm_real (x g : Fin 1024 → EReal) (hg : ∀ j, ∃ r : ℝ, g j = r) (j : Fin 1024) : ∃ r : ℝ, norm x g j = r := by
  obtain ⟨e, he, hE⟩ := eps_pos
  obtain ⟨γ, hγ⟩ := hg j
  unfold norm
  rw [len_eq, hE, hγ, Ideal.div_coe (by norm_num)]
  by_cases hx : ∀ k, ∃ r : ℝ, x k = r
  · choose ξ hξ using hx
    have hs : ∑ k, x k * x k = ((∑ k, ξ k * ξ k : ℝ) : EReal) := by
      rw [show x = fun k => (ξ k : EReal) from funext hξ]
      exact (map_sum (⟨⟨Real.toEReal, EReal.coe_zero⟩, EReal.coe_add⟩ : ℝ →+ EReal) (fun k => ξ k * ξ k) Finset.univ).symm
    have hp : 0 < (∑ k, ξ k * ξ k) * (1 / 1024) + e := by
      have : 0 ≤ ∑ k, ξ k * ξ k := Finset.sum_nonneg fun k _ => mul_self_nonneg _
      positivity
    rw [hs, hξ, ← EReal.coe_mul, ← EReal.coe_add, Ideal.rsqrt_coe, if_neg (not_lt.2 hp.le), if_neg hp.ne']
    exact ⟨ξ j * (Real.sqrt ((∑ k, ξ k * ξ k) * (1 / 1024) + e))⁻¹ * γ, by push_cast; rfl⟩
  · obtain ⟨k, hk⟩ := not_forall.1 hx
    have hk' : x k * x k = ⊤ := by
      generalize x k = a at hk
      induction a with
      | bot => simp
      | top => simp
      | coe a => exact absurd ⟨a, rfl⟩ hk
    have hs : ∑ k, x k * x k = ⊤ := by
      refine top_le_iff.1 ?_
      rw [← hk']
      exact Finset.single_le_sum (f := fun k => x k * x k) (fun i _ => sq_nonneg' _) (Finset.mem_univ k)
    rw [hs, EReal.top_mul_coe_of_pos (by norm_num), EReal.top_add_coe, Ideal.rsqrt_top]
    exact ⟨0, by simp⟩

end Cert.Spec
-- ==== Proof.Pool.Pre.lean ====
module

public import proofs.«01_k».proof.Defs
public import proofs.«01_k».proof.Proof.Pool.Finite
public import Idealize.ShloMosaic.Lib.ReduceAll

@[expose] public section

set_option maxRecDepth 16384

noncomputable section

namespace Cert.Pre_gains_finite

open Idealize.ShloMosaic

/-- The shape relations the precondition's text states. -/
theorem facts : Facts where
  bcast_S_S1024 := by decide
  reducesTo_S1024_S_d0 := by decide
  h_S_ := by decide

/-- A number whose difference with itself is zero is finite. -/
theorem real_of_sub_self (a : EReal) (h : a - a = 0) : ∃ r : ℝ, a = r := by
  induction a with
  | bot => simp at h
  | top => simp at h
  | coe a => exact ⟨a, rfl⟩

/-- The precondition says that every entry of the mixer's gain is finite. -/
theorem gain_real [Facts] (a0 : FVec Ideal S8x2048x1024 .f32) (a1 : FVec Ideal S512x1024 .f32) (a2 : FVec Ideal S1024 .f32) (a3 : FVec Ideal S4x256x256 .f32)
    (a4 a5 a6 : FVec Ideal S1024 .f32) (a7 : FVec Ideal S1024x5632 .f32) (a8 : FVec Ideal S2816x1024 .f32) (a9 : FVec Ideal S1024 .f32)
    (h : fn a0 a1 a2 a3 a4 a5 a6 a7 a8 a9 = fun _ => 1#1) (i : S1024.Idx) : ∃ r : ℝ, (a2 i : EReal) = r := by
  have : Subsingleton S_.Idx := ⟨fun a b => funext fun k => k.elim0⟩
  have e := Host.reduce_andi_all _ _ _ _ (fun k => k.elim0) (congrFun h (fun k => k.elim0)) i
  have e' : Ideal.cmp .oeq ((a2 i : EReal) - a2 i) (Ideal.ofBits .f32 0x00000000#32) = 1#1 := e
  rw [Ideal.ofBits_zero_f32] at e'
  refine real_of_sub_self _ ?_
  by_contra hne
  simp [Ideal.cmp, hne] at e'

end Cert.Pre_gains_finite
-- ==== Proof.Ffn.Setup.lean ====
module

public import proofs.«01_k».proof.Proof.Gen.Kernel2Ideal.Frame
public import proofs.«01_k».proof.Proof.Gen.Kernel2Ideal.Skeleton

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Branch 0 of the body is taken: the point takes a tile of the first batch. -/
abbrev cond0_0 (i : grid0.Coords) : Prop := k0_cond1 i = 1#1
/-- When branch 0 is taken, by the position of the point. -/
theorem hcond0_0 : ∀ t : Fin cfg0.N, cond0_0 (grid0.coords t) ↔ t.val < 32 :=
  (by decide +kernel : ∀ t : Fin grid0.N, cond0_0 (grid0.coords t) ↔ t.val < 32)

/-- Branch 1 of the body is taken: the point takes the second batch. -/
abbrev cond0_1 (i : grid0.Coords) : Prop := k0_cond2 i = 1#1
/-- When branch 1 is taken, by the position of the point. -/
theorem hcond0_1 : ∀ t : Fin cfg0.N, cond0_1 (grid0.coords t) ↔ t.val = 32 :=
  (by decide +kernel : ∀ t : Fin grid0.N, cond0_1 (grid0.coords t) ↔ t.val = 32)

/-! The buffer that stages window `w` at point `t`, and that it is a whole buffer. -/
abbrev st0 (t : Fin cfg0.N) : Memref sig .tc .vmem S512x1024 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S512x1024 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1024x5632 .bf16 := win0_3.stage (cfg0.slots t 3)
abbrev hst3 (t : Fin cfg0.N) : (st3 t).IsWhole := hstage0_3 ((cfg0.slots t 3).cast nbuf0_3)
abbrev st4 (t : Fin cfg0.N) : Memref sig .tc .vmem S2816x1024 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S1x1x32x5632 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x1x176x1024 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S512x1024 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S512x1024 .f32 := win0_8.stage (cfg0.slots t 8)
abbrev hst8 (t : Fin cfg0.N) : (st8 t).IsWhole := hstage0_8 ((cfg0.slots t 8).cast nbuf0_8)
abbrev st9 (t : Fin cfg0.N) : Memref sig .tc .vmem S32x5632 .bf16 := win0_9.stage (cfg0.slots t 9)
abbrev hst9 (t : Fin cfg0.N) : (st9 t).IsWhole := hstage0_9 ((cfg0.slots t 9).cast nbuf0_9)
abbrev st10 (t : Fin cfg0.N) : Memref sig .tc .vmem S176x1024 .bf16 := win0_10.stage (cfg0.slots t 10)
abbrev hst10 (t : Fin cfg0.N) : (st10 t).IsWhole := hstage0_10 ((cfg0.slots t 10).cast nbuf0_10)
/-- The scratch buffer: the gated activations. -/
abbrev sc0 : Memref sig .tc .vmem S512x2816 .bf16 := Memref.whole cc0_scratch0
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl

/-- The scoped buffers beside the windows: the scratch buffer at some contents, and the generator's register. -/
theorem scoped_eq (c : Dev nD) :
    (Pipeline.ΦA spec0 c : sProp 𝕄)
      = iprop((∃ d, owns (c : Thread nD τ) sc0 fullShare d) ∗ (∃ r, prngReg c r)) := by
  unfold Pipeline.ΦA; rw [scopedRest0_eq]; simp only [sc0, owns_whole]; try rfl

end Cert.Kernel2Ideal.Ffn

end
-- ==== Proof.Ffn.RunA.lean ====
module

public import proofs.«01_k».proof.Proof.Ffn.Setup

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run once at a tile of the first batch. The lists are what its stores leave, last store
    first, in the buffers it writes; the buffer of the result it does not write comes back as it was. -/
noncomputable def runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1x32x5632 .f32) (harg6 : arg6.IsWhole) (arg7 : Memref sig .tc .vmem S1x1x176x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S32x5632 .bf16) (harg10 : arg10.IsWhole) (arg11 : Memref sig .tc .vmem S176x1024 .bf16) (harg11 : arg11.IsWhole) (arg12 : Memref sig .tc .vmem S512x2816 .bf16) (harg12 : arg12.IsWhole) (hc0 : cond0_0 i) (hc1 : ¬cond0_1 i)
    (x0 : Vec F S512x1024 .f32) (x1 : Vec F S512x1024 .f32) (x2 : Vec F S1x1024 .f32) (x3 : Vec F S1024x5632 .bf16) (x4 : Vec F S2816x1024 .bf16) (x5 : Vec F S1x1x32x5632 .f32) (x6 : Vec F S1x1x176x1024 .f32) (d8 : Vec F S512x1024 .f32) :
    { L : List (View.Piece (Elt F) S512x1024 .f32) × List (View.Piece (Elt F) S32x5632 .bf16) × List (View.Piece (Elt F) S176x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ owns (c : Thread nD τ) arg9 fullShare d8 ∗ (∃ f, arg10.view.loc (c : Thread nD τ) ↦[arg10.view.set]{fullShare} arg10.view.writes (Elt F) f L.2.1) ∗ (∃ f, arg11.view.loc (c : Thread nD τ) ↦[arg11.view.set]{fullShare} arg11.view.writes (Elt F) f L.2.2) ∗ (∃ d, owns (c : Thread nD τ) arg12 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0_ffn_eq_skeleton]; unfold cc0_ffn_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%f8, %hf8, H8⟩, ⟨%e9, %f9, -, H9⟩, ⟨%e10, %f10, -, H10⟩, ⟨%e11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; isplitr; · ipureintro; exact harg9.read_unread _
      iexact H8
    isplitl [H9]
    · iexists _; iexact H9
    isplitl [H10]
    · iexists _; iexact H10
    iexists _, _; isplitr; swap; · iexact H11
    ipureintro; rfl

end Cert.Kernel2Ideal.Ffn

end
-- ==== Proof.Ffn.RunB.lean ====
module

public import proofs.«01_k».proof.Proof.Ffn.RunA

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run once at the second batch, at the last point. The lists are what its stores leave, last store
    first, in the buffers it writes; the buffer of the result it does not write comes back as it was. -/
noncomputable def runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1x32x5632 .f32) (harg6 : arg6.IsWhole) (arg7 : Memref sig .tc .vmem S1x1x176x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S32x5632 .bf16) (harg10 : arg10.IsWhole) (arg11 : Memref sig .tc .vmem S176x1024 .bf16) (harg11 : arg11.IsWhole) (arg12 : Memref sig .tc .vmem S512x2816 .bf16) (harg12 : arg12.IsWhole) (hc0 : ¬cond0_0 i) (hc1 : cond0_1 i)
    (x0 : Vec F S512x1024 .f32) (x1 : Vec F S512x1024 .f32) (x2 : Vec F S1x1024 .f32) (x3 : Vec F S1024x5632 .bf16) (x4 : Vec F S2816x1024 .bf16) (x5 : Vec F S1x1x32x5632 .f32) (x6 : Vec F S1x1x176x1024 .f32) (d7 : Vec F S512x1024 .f32) :
    { L : List (View.Piece (Elt F) S512x1024 .f32) × List (View.Piece (Elt F) S32x5632 .bf16) × List (View.Piece (Elt F) S176x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7 ∗ (∃ f, arg9.view.loc (c : Thread nD τ) ↦[arg9.view.set]{fullShare} arg9.view.writes (Elt F) f L.1) ∗ (∃ f, arg10.view.loc (c : Thread nD τ) ↦[arg10.view.set]{fullShare} arg10.view.writes (Elt F) f L.2.1) ∗ (∃ f, arg11.view.loc (c : Thread nD τ) ↦[arg11.view.set]{fullShare} arg11.view.writes (Elt F) f L.2.2) ∗ (∃ d, owns (c : Thread nD τ) arg12 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0_ffn_eq_skeleton]; unfold cc0_ffn_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%e9, %f9, -, H9⟩, ⟨%e10, %f10, -, H10⟩, ⟨%e11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    isplitl [H9]
    · iexists _; iexact H9
    isplitl [H10]
    · iexists _; iexact H10
    iexists _, _; isplitr; swap; · iexact H11
    ipureintro; rfl

end Cert.Kernel2Ideal.Ffn

end
-- ==== Proof.Ffn.Tile.lean ====
module

public import proofs.«01_k».proof.Proof.Ffn.RunB
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One chunk of 256 columns of the gated activations of the normalised rows `h`. -/
def gate (h : FVec F S512x1024 .bf16) (w : Vec F S1024x5632 .bf16) (o o' : ℕ)
    (i : ∀ a, (![0, o] : Fin 2 → Nat) a + S1024x256.size a ≤ S1024x5632.size a) (i' : ∀ a, (![0, o'] : Fin 2 → Nat) a + S1024x256.size a ≤ S1024x5632.size a) : FVec F S512x256 .bf16 :=
  k0_pay14 h (View.ld w (Rect.unit (s := S1024x5632) ![0, o] S1024x256.size i)) (View.ld w (Rect.unit (s := S1024x5632) ![0, o'] S1024x256.size i'))

/-- The gated activations of the normalised rows, chunk by chunk. -/
def gated (h : FVec F S512x1024 .bf16) (w : Vec F S1024x5632 .bf16) : Vec F S512x2816 .bf16 :=
  View.canon [
    ⟨Rect.unit (s := S512x2816) ![0, 2560] S512x256.size inb_S512x2816_S512x256_0_2560, gate h w 2560 5376 (by decide) (by decide)⟩,
    ⟨Rect.unit (s := S512x2816) ![0, 2304] S512x256.size inb_S512x2816_S512x256_0_2304, gate h w 2304 5120 (by decide) (by decide)⟩,
    ⟨Rect.unit (s := S512x2816) ![0, 2048] S512x256.size inb_S512x2816_S512x256_0_2048, gate h w 2048 4864 (by decide) (by decide)⟩,
    ⟨Rect.unit (s := S512x2816) ![0, 1792] S512x256.size inb_S512x2816_S512x256_0_1792, gate h w 1792 4608 (by decide) (by decide)⟩,
    ⟨Rect.unit (s := S512x2816) ![0, 1536] S512x256.size inb_S512x2816_S512x256_0_1536, gate h w 1536 4352 (by decide) (by decide)⟩,
    ⟨Rect.unit (s := S512x2816) ![0, 1280] S512x256.size inb_S512x2816_S512x256_0_1280, gate h w 1280 4096 (by decide) (by decide)⟩,
    ⟨Rect.unit (s := S512x2816) ![0, 1024] S512x256.size inb_S512x2816_S512x256_0_1024, gate h w 1024 3840 (by decide) (by decide)⟩,
    ⟨Rect.unit (s := S512x2816) ![0, 768] S512x256.size inb_S512x2816_S512x256_0_768, gate h w 768 3584 (by decide) (by decide)⟩,
    ⟨Rect.unit (s := S512x2816) ![0, 512] S512x256.size inb_S512x2816_S512x256_0_512, gate h w 512 3328 (by decide) (by decide)⟩,
    ⟨Rect.unit (s := S512x2816) ![0, 256] S512x256.size inb_S512x2816_S512x256_0_256, gate h w 256 3072 (by decide) (by decide)⟩,
    ⟨Rect.unit (s := S512x2816) ![0, 0] S512x256.size inb_S512x2816_S512x256_0_0, gate h w 0 2816 (by decide) (by decide)⟩]

/-- The rows after half the feed-forward layer. -/
def ffnOut (y : Vec F S512x1024 .f32) (g : Vec F S1x1024 .f32) (win : Vec F S1024x5632 .bf16) (wout : Vec F S2816x1024 .bf16) : Vec F S512x1024 .f32 :=
  k0_pay8 (gated (k0_pay23 y g) win) wout y

/-- The normalised rows are one computation in both branches. -/
theorem norm_eq (y : Vec F S512x1024 .f32) (g : Vec F S1x1024 .f32) : k0_pay9 y g = k0_pay23 y g := by
  simp only [k0_pay9, k0_pay23, shapeCast_self]
/-- So is the last sum. -/
theorem sum_eq (a : Vec F S512x2816 .bf16) (w : Vec F S2816x1024 .bf16) (y : Vec F S512x1024 .f32) : k0_pay5 a w y = k0_pay8 a w y := by
  simp only [k0_pay5, k0_pay8, shapeCast_self]

/-! The chunks of the gated activations are one computation, however the body cuts it. -/
section chunks
variable (h : FVec F S512x1024 .bf16) (y : Vec F S512x1024 .f32) (g : Vec F S1x1024 .f32) (w w2 : Vec F S1024x256 .bf16)
theorem chunk_10 : k0_pay10 y g w w2 = k0_pay14 (k0_pay9 y g) w w2 := rfl
theorem chunk_13 : k0_pay13 (k0_pay11 y g w2) (k0_pay12 y g w) = k0_pay14 (k0_pay9 y g) w w2 := rfl
theorem chunk_17 : k0_pay17 h (k0_pay16 h w) w2 = k0_pay14 h w w2 := rfl
theorem chunk_3 : k0_pay3 (k0_pay22 h w w2) = k0_pay14 h w w2 := rfl
theorem chunk_24 : k0_pay24 y g w w2 = k0_pay14 (k0_pay23 y g) w w2 := rfl
theorem chunk_26 : k0_pay26 (k0_pay25 y g w w2) = k0_pay14 (k0_pay23 y g) w w2 := rfl
theorem chunk_30 : k0_pay30 h (k0_pay29 h w) w2 = k0_pay14 h w w2 := rfl
theorem chunk_6 : k0_pay6 (k0_pay35 h w w2) = k0_pay14 h w w2 := rfl
theorem chunk_15 : k0_pay15 h w w2 = k0_pay14 h w w2 := rfl
theorem chunk_18 : k0_pay18 h w w2 = k0_pay14 h w w2 := rfl
theorem chunk_19 : k0_pay19 h w w2 = k0_pay14 h w w2 := rfl
theorem chunk_20 : k0_pay20 h w w2 = k0_pay14 h w w2 := rfl
theorem chunk_21 : k0_pay21 h w w2 = k0_pay14 h w w2 := rfl
theorem chunk_4 : k0_pay4 h w w2 = k0_pay14 h w w2 := rfl
theorem chunk_27 : k0_pay27 h w w2 = k0_pay14 h w w2 := rfl
theorem chunk_28 : k0_pay28 h w w2 = k0_pay14 h w w2 := rfl
theorem chunk_31 : k0_pay31 h w w2 = k0_pay14 h w w2 := rfl
theorem chunk_32 : k0_pay32 h w w2 = k0_pay14 h w w2 := rfl
theorem chunk_33 : k0_pay33 h w w2 = k0_pay14 h w w2 := rfl
theorem chunk_34 : k0_pay34 h w w2 = k0_pay14 h w w2 := rfl
theorem chunk_7 : k0_pay7 h w w2 = k0_pay14 h w w2 := rfl
end chunks

/-- A load of a whole buffer after stores is their contents. -/
theorem cov_whole {S : Shape} {e : EltTy} (v : View sig .tc .vmem S e) (L : List (View.Piece (Elt F) S e)) {off : Fin S.rank → ℕ}
    (inb : ∀ a, off a + S.size a ≤ S.size a) (h : ∀ a, off a = 0) :
    v.readCov L (Rect.unit off (no_index S.size) inb).toLoadRect = View.canon L := by
  rw [View.readCov_eq_canon']
  exact View.ld_unit_lit' inb (View.canon L) h

section runs
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1x32x5632 .f32) (harg6 : arg6.IsWhole) (arg7 : Memref sig .tc .vmem S1x1x176x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S32x5632 .bf16) (harg10 : arg10.IsWhole) (arg11 : Memref sig .tc .vmem S176x1024 .bf16) (harg11 : arg11.IsWhole) (arg12 : Memref sig .tc .vmem S512x2816 .bf16) (harg12 : arg12.IsWhole)

/-! What `runA` leaves. -/
section
variable (hc0 : cond0_0 i) (hc1 : ¬cond0_1 i) (x0 : Vec F S512x1024 .f32) (x1 : Vec F S512x1024 .f32) (x2 : Vec F S1x1024 .f32) (x3 : Vec F S1024x5632 .bf16) (x4 : Vec F S2816x1024 .bf16) (x5 : Vec F S1x1x32x5632 .f32) (x6 : Vec F S1x1x176x1024 .f32) (d8 : Vec F S512x1024 .f32)

theorem heldTileA :
    View.canon (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8).1.1 = ffnOut x0 x2 x3 x4 := by
  frame_open
  simp (disch := decide) only [↓cov_whole, View.readAt_eq_ld, Memref.IsWhole.read_unread, View.canon_cons_unit_lit', View.ld_unit_lit',
    chunk_10, chunk_13, chunk_17, chunk_3, chunk_24, chunk_26, chunk_30, chunk_6, chunk_15, chunk_18, chunk_19, chunk_20, chunk_21, chunk_4, chunk_27, chunk_28, chunk_31, chunk_32, chunk_33, chunk_34, chunk_7, norm_eq, sum_eq]
  try rfl

theorem readTileA (f) :
    arg8.view.read (Elt F) (arg8.view.writes (Elt F) f (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8).1.1) = ffnOut x0 x2 x3 x4 :=
  (View.read_writes_eq_canon _ f _ (View.cover_of_tiledBy _ ![512, 1024] (by sl_kernel_rfl))).trans (heldTileA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8)

theorem heldInA :
    View.canon (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8).1.2.1 = k0_pay1 x5 := by
  frame_open
  simp (disch := decide) only [↓cov_whole, View.readAt_eq_ld, Memref.IsWhole.read_unread, View.canon_cons_unit_lit', View.ld_unit_lit',
    chunk_10, chunk_13, chunk_17, chunk_3, chunk_24, chunk_26, chunk_30, chunk_6, chunk_15, chunk_18, chunk_19, chunk_20, chunk_21, chunk_4, chunk_27, chunk_28, chunk_31, chunk_32, chunk_33, chunk_34, chunk_7, norm_eq, sum_eq]
  try rfl

theorem readInA (f) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8).1.2.1) = k0_pay1 x5 :=
  (View.read_writes_eq_canon _ f _ (View.cover_of_tiledBy _ ![32, 5632] (by sl_kernel_rfl))).trans (heldInA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8)

theorem heldOutA :
    View.canon (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8).1.2.2 = k0_pay2 x6 := by
  frame_open
  simp (disch := decide) only [↓cov_whole, View.readAt_eq_ld, Memref.IsWhole.read_unread, View.canon_cons_unit_lit', View.ld_unit_lit',
    chunk_10, chunk_13, chunk_17, chunk_3, chunk_24, chunk_26, chunk_30, chunk_6, chunk_15, chunk_18, chunk_19, chunk_20, chunk_21, chunk_4, chunk_27, chunk_28, chunk_31, chunk_32, chunk_33, chunk_34, chunk_7, norm_eq, sum_eq]
  try rfl

theorem readOutA (f) :
    arg11.view.read (Elt F) (arg11.view.writes (Elt F) f (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8).1.2.2) = k0_pay2 x6 :=
  (View.read_writes_eq_canon _ f _ (View.cover_of_tiledBy _ ![176, 1024] (by sl_kernel_rfl))).trans (heldOutA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d8)

end

/-! What `runB` leaves. -/
section
variable (hc0 : ¬cond0_0 i) (hc1 : cond0_1 i) (x0 : Vec F S512x1024 .f32) (x1 : Vec F S512x1024 .f32) (x2 : Vec F S1x1024 .f32) (x3 : Vec F S1024x5632 .bf16) (x4 : Vec F S2816x1024 .bf16) (x5 : Vec F S1x1x32x5632 .f32) (x6 : Vec F S1x1x176x1024 .f32) (d7 : Vec F S512x1024 .f32)

theorem heldBatchB :
    View.canon (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7).1.1 = ffnOut x1 x2 x3 x4 := by
  frame_open
  simp (disch := decide) only [↓cov_whole, View.readAt_eq_ld, Memref.IsWhole.read_unread, View.canon_cons_unit_lit', View.ld_unit_lit',
    chunk_10, chunk_13, chunk_17, chunk_3, chunk_24, chunk_26, chunk_30, chunk_6, chunk_15, chunk_18, chunk_19, chunk_20, chunk_21, chunk_4, chunk_27, chunk_28, chunk_31, chunk_32, chunk_33, chunk_34, chunk_7, norm_eq, sum_eq]
  try rfl

theorem readBatchB (f) :
    arg9.view.read (Elt F) (arg9.view.writes (Elt F) f (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7).1.1) = ffnOut x1 x2 x3 x4 :=
  (View.read_writes_eq_canon _ f _ (View.cover_of_tiledBy _ ![512, 1024] (by sl_kernel_rfl))).trans (heldBatchB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7)

theorem heldInB :
    View.canon (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7).1.2.1 = k0_pay1 x5 := by
  frame_open
  simp (disch := decide) only [↓cov_whole, View.readAt_eq_ld, Memref.IsWhole.read_unread, View.canon_cons_unit_lit', View.ld_unit_lit',
    chunk_10, chunk_13, chunk_17, chunk_3, chunk_24, chunk_26, chunk_30, chunk_6, chunk_15, chunk_18, chunk_19, chunk_20, chunk_21, chunk_4, chunk_27, chunk_28, chunk_31, chunk_32, chunk_33, chunk_34, chunk_7, norm_eq, sum_eq]
  try rfl

theorem readInB (f) :
    arg10.view.read (Elt F) (arg10.view.writes (Elt F) f (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7).1.2.1) = k0_pay1 x5 :=
  (View.read_writes_eq_canon _ f _ (View.cover_of_tiledBy _ ![32, 5632] (by sl_kernel_rfl))).trans (heldInB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7)

theorem heldOutB :
    View.canon (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7).1.2.2 = k0_pay2 x6 := by
  frame_open
  simp (disch := decide) only [↓cov_whole, View.readAt_eq_ld, Memref.IsWhole.read_unread, View.canon_cons_unit_lit', View.ld_unit_lit',
    chunk_10, chunk_13, chunk_17, chunk_3, chunk_24, chunk_26, chunk_30, chunk_6, chunk_15, chunk_18, chunk_19, chunk_20, chunk_21, chunk_4, chunk_27, chunk_28, chunk_31, chunk_32, chunk_33, chunk_34, chunk_7, norm_eq, sum_eq]
  try rfl

theorem readOutB (f) :
    arg11.view.read (Elt F) (arg11.view.writes (Elt F) f (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7).1.2.2) = k0_pay2 x6 :=
  (View.read_writes_eq_canon _ f _ (View.cover_of_tiledBy _ ![176, 1024] (by sl_kernel_rfl))).trans (heldOutB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 d7)

end

end runs

end Cert.Kernel2Ideal.Ffn

end
-- ==== Proof.Ffn.Frame.lean ====
module

public import proofs.«01_k».proof.Proof.Ffn.Tile

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of the first batch a point last took: its own, or the last tile at the last point. -/
abbrev tl (t : Fin cfg0.N) : Fin cfg0.N := ⟨min t.val 31, by have := t.isLt; omega⟩
theorem tl_of_lt (t : Fin cfg0.N) (h : t.val < 32) : tl t = t := Fin.ext (by show min t.val 31 = t.val; omega)
/-- The point before. -/
abbrev pt (t : Fin cfg0.N) : Fin cfg0.N := ⟨t.val - 1, Nat.lt_of_le_of_lt (Nat.sub_le _ _) t.isLt⟩
theorem tl_last (t : Fin cfg0.N) (h : t.val = 32) : tl (pt t) = tl t := Fin.ext (by show min (t.val - 1) 31 = min t.val 31; omega)

/-- What the first result's buffer holds after a point. -/
def out7 (c : Dev nD) (t : Fin cfg0.N) : Vec F S512x1024 .f32 :=
  ffnOut (iblk m c 0 (tl t)) (iblk m c 2 (tl t)) (iblk m c 3 (tl t)) (iblk m c 4 (tl t))
/-- What the second result's buffer holds after the last point. -/
def out8 (c : Dev nD) (t : Fin cfg0.N) : Vec F S512x1024 .f32 :=
  ffnOut (iblk m c 1 t) (iblk m c 2 t) (iblk m c 3 t) (iblk m c 4 t)
/-- The rows of the next weights rounded at a point. -/
def out9 (c : Dev nD) (t : Fin cfg0.N) : Vec F S32x5632 .bf16 := k0_pay1 (iblk m c 5 t)
def out10 (c : Dev nD) (t : Fin cfg0.N) : Vec F S176x1024 .bf16 := k0_pay2 (iblk m c 6 t)

theorem out7_last (c : Dev nD) (t : Fin cfg0.N) (h : t.val = 32) : out7 m c (pt t) = out7 m c t := by
  unfold out7; rw [tl_last t h]

/-! ## Where the results are written back, and where the body leaves them alone -/

theorem flush7 : ∀ t : Fin cfg0.N, (cfg0.win 7).flush t = decide (t.val ≠ 31) :=
  (by decide +kernel : ∀ t : Fin grid0.N, win0_7.flush t = decide (t.val ≠ 31))
theorem idle7 : ∀ t : Fin cfg0.N, cfg0.idle 7 (cfg0.grid.coords t) = decide (t.val = 32) :=
  (by decide +kernel : ∀ t : Fin grid0.N, idle0 7 (grid0.coords t) = decide (t.val = 32))
theorem idle8 : ∀ t : Fin cfg0.N, cfg0.idle 8 (cfg0.grid.coords t) = decide (t.val ≠ 32) :=
  (by decide +kernel : ∀ t : Fin grid0.N, idle0 8 (grid0.coords t) = decide (t.val ≠ 32))

/-- The proof data of the pipeline: each input's buffer holds its block, each result's what the definitions above say;
    between the points the scratch buffer holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
    | ⟨10, _⟩ => out10 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]
theorem after9 (c : Dev nD) (t : Fin cfg0.N) : (dats m 0 c).after 9 t = out9 m c t := by dsimp only [dats]
theorem after10 (c : Dev nD) (t : Fin cfg0.N) : (dats m 0 c).after 10 t = out10 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem leaves0 (c : Dev nD) (t : Fin cfg0.N) : (dats m 0 c).leavesExact 0 t = owns (c : Thread nD τ) (st0 t) fullShare (iblk m c 0 t) := by
  unfold Dat.leavesExact; rw [live0 t, after0]
theorem leaves1 (c : Dev nD) (t : Fin cfg0.N) : (dats m 0 c).leavesExact 1 t = owns (c : Thread nD τ) (st1 t) fullShare (iblk m c 1 t) := by
  unfold Dat.leavesExact; rw [live1 t, after1]
theorem leaves2 (c : Dev nD) (t : Fin cfg0.N) : (dats m 0 c).leavesExact 2 t = owns (c : Thread nD τ) (st2 t) fullShare (iblk m c 2 t) := by
  unfold Dat.leavesExact; rw [live2 t, after2]
theorem leaves3 (c : Dev nD) (t : Fin cfg0.N) : (dats m 0 c).leavesExact 3 t = owns (c : Thread nD τ) (st3 t) fullShare (iblk m c 3 t) := by
  unfold Dat.leavesExact; rw [live3 t, after3]
theorem leaves4 (c : Dev nD) (t : Fin cfg0.N) : (dats m 0 c).leavesExact 4 t = owns (c : Thread nD τ) (st4 t) fullShare (iblk m c 4 t) := by
  unfold Dat.leavesExact; rw [live4 t, after4]
theorem leaves5 (c : Dev nD) (t : Fin cfg0.N) : (dats m 0 c).leavesExact 5 t = owns (c : Thread nD τ) (st5 t) fullShare (iblk m c 5 t) := by
  unfold Dat.leavesExact; rw [live5 t, after5]
theorem leaves6 (c : Dev nD) (t : Fin cfg0.N) : (dats m 0 c).leavesExact 6 t = owns (c : Thread nD τ) (st6 t) fullShare (iblk m c 6 t) := by
  unfold Dat.leavesExact; rw [live6 t, after6]
theorem leaves9 (c : Dev nD) (t : Fin cfg0.N) : (dats m 0 c).leavesExact 9 t = owns (c : Thread nD τ) (st9 t) fullShare (out9 m c t) := by
  unfold Dat.leavesExact; rw [live9 t, after9]
theorem leaves10 (c : Dev nD) (t : Fin cfg0.N) : (dats m 0 c).leavesExact 10 t = owns (c : Thread nD τ) (st10 t) fullShare (out10 m c t) := by
  unfold Dat.leavesExact; rw [live10 t, after10]

/-- At the last point the first result's buffer still holds the last tile's rows. -/
theorem before7 (c : Dev nD) (t : Fin cfg0.N) (h : t.val = 32) (d) : (dats m 0 c).before 7 t d = out7 m c t := by
  have hf : (cfg0.win 7).flush (pt t) = false := by rw [flush7]; exact decide_eq_false (by show ¬ (t.val - 1 ≠ 31); omega)
  have hi : cfg0.idle 7 (cfg0.grid.coords (pt t)) = false := by rw [idle7]; exact decide_eq_false (by show ¬ (t.val - 1 = 32); omega)
  rw [Dat.before_of_pos _ 7 t (by omega) ((cfg0.win 7).fetch_out rfl t), hf, if_neg Bool.false_ne_true]
  unfold Dat.left; rw [hi]
  show (dats m 0 c).kept 7 (pt t) d = _
  unfold Dat.kept
  rw [Pipeline.fill_of_clip_none (cfg := cfg0) 7 _ (fun _ => rfl) d ((dats m 0 c).after 7 (pt t)), Window.fill_cut, after7]
  exact out7_last m c t h

/-! What the body owes of each result's buffer, by the position of the point. -/
theorem leaves7_tile (c : Dev nD) (t : Fin cfg0.N) (h : t.val < 32) : (dats m 0 c).leavesExact 7 t = owns (c : Thread nD τ) (st7 t) fullShare (out7 m c t) := by
  have hi : cfg0.idle 7 (cfg0.grid.coords t) = false := by rw [idle7]; exact decide_eq_false (by omega)
  unfold Dat.leavesExact; rw [hi, after7]
theorem leaves7_last (c : Dev nD) (t : Fin cfg0.N) (h : t.val = 32) : (dats m 0 c).leavesExact 7 t = owns (c : Thread nD τ) (st7 t) fullShare (out7 m c t) := by
  have hi : cfg0.idle 7 (cfg0.grid.coords t) = true := by rw [idle7]; exact decide_eq_true h
  have hf : (cfg0.win 7).flush t = true := by rw [flush7]; exact decide_eq_true (by omega)
  unfold Dat.leavesExact; rw [hi, hf, after7]
theorem leaves8_tile (c : Dev nD) (t : Fin cfg0.N) (h : t.val < 32) :
    (dats m 0 c).leavesExact 8 t = iprop(∃ d, owns (c : Thread nD τ) (st8 t) fullShare ((dats m 0 c).before 8 t d)) := by
  have hi : cfg0.idle 8 (cfg0.grid.coords t) = true := by rw [idle8]; exact decide_eq_true (by omega)
  have hf : (cfg0.win 8).flush t = false := by rw [← Bool.not_eq_true, flush0_8]; omega
  exact Dat.leavesExact_idle _ 8 t hi hf
theorem leaves8_last (c : Dev nD) (t : Fin cfg0.N) (h : t.val = 32) : (dats m 0 c).leavesExact 8 t = owns (c : Thread nD τ) (st8 t) fullShare (out8 m c t) := by
  have hi : cfg0.idle 8 (cfg0.grid.coords t) = false := by rw [idle8]; exact decide_eq_false (by omega)
  unfold Dat.leavesExact; rw [hi, after8]

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem body_A (c : Dev nD) (t : Fin cfg0.N) (h0 : t.val < 32) (h1 : ¬ t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6, leaves9, leaves10]
  rw [show (dats m 0 c).owesAt () t.succ = (dats m 0 c).owesAt () t.castSucc from rfl]
  rw [show (dats m 0 c).Φ t.succ = Pipeline.ΦA spec0 c from rfl, scoped_eq]
  rw [leaves7_tile m c t h0, leaves8_tile m c t h0]
  rw [show (dats m 0 c).Φ t.castSucc = Pipeline.ΦA spec0 c from rfl, scoped_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [HS]; · iexact HS
  iintro ⟨H0, H1, H2, H3, H4, H5, H6, ⟨%e7, H7⟩, H8, ⟨%e9, H9⟩, ⟨%e10, H10⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro; refine (readTileA c _ _ _ _ _ _ _ _ _ _ _ _ _ _ _ _ _ _ _ _ _ _ _ _ _ _ _ _ _ _ _ _ _ _ _ _).trans ?_
    unfold out7; rw [tl_of_lt t h0]
  isplitl [H8]
  · iexists _; iexact H8
  isplitl [H9]
  · unfold owns; iexists _; isplitr; swap; · iexact H9
    ipureintro; exact readInA c _ _ _ _ _ _ _ _ _ _ _ _ _ _ _ _ _ _ _ _ _ _ _ _ _ _ _ _ _ _ _ _ _ _ _ _
  unfold owns; iexists _; isplitr; swap; · iexact H10
  ipureintro; exact readOutA c _ _ _ _ _ _ _ _ _ _ _ _ _ _ _ _ _ _ _ _ _ _ _ _ _ _ _ _ _ _ _ _ _ _ _ _

set_option maxHeartbeats 4000000 in
theorem body_B (c : Dev nD) (t : Fin cfg0.N) (h0 : ¬ t.val < 32) (h1 : t.val = 32) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6, leaves9, leaves10]
  rw [show (dats m 0 c).owesAt () t.succ = (dats m 0 c).owesAt () t.castSucc from rfl]
  rw [show (dats m 0 c).Φ t.succ = Pipeline.ΦA spec0 c from rfl, scoped_eq]
  rw [leaves7_last m c t h1, leaves8_last m c t h1]
  simp only [before7 m c t h1]
  rw [show (dats m 0 c).Φ t.castSucc = Pipeline.ΦA spec0 c from rfl, scoped_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (out7 m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS]; · iexact HS
  iintro ⟨H0, H1, H2, H3, H4, H5, H6, H7, ⟨%e8, H8⟩, ⟨%e9, H9⟩, ⟨%e10, H10⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexact H7
  isplitl [H8]
  · unfold owns; iexists _; isplitr; swap; · iexact H8
    ipureintro; exact readBatchB c _ _ _ _ _ _ _ _ _ _ _ _ _ _ _ _ _ _ _ _ _ _ _ _ _ _ _ _ _ _ _ _ _ _ _ _
  isplitl [H9]
  · unfold owns; iexists _; isplitr; swap; · iexact H9
    ipureintro; exact readInB c _ _ _ _ _ _ _ _ _ _ _ _ _ _ _ _ _ _ _ _ _ _ _ _ _ _ _ _ _ _ _ _ _ _ _ _
  unfold owns; iexists _; isplitr; swap; · iexact H10
  ipureintro; exact readOutB c _ _ _ _ _ _ _ _ _ _ _ _ _ _ _ _ _ _ _ _ _ _ _ _ _ _ _ _ _ _ _ _ _ _ _ _

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  by_cases h0 : t.val < 32
  · exact body_A m c t h0 (by omega)
  · exact body_B m c t h0 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every execution ends, with every array at the contents the proof data name and the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

end Cert.Kernel2Ideal.Ffn

end
-- ==== Proof.Ffn.KVal.lean ====
module

public import proofs.«01_k».proof.Proof.Ffn.Tile
public import proofs.«01_k».proof.Proof.Pool.KVal

@[expose] public section

set_option maxRecDepth 16384

noncomputable section

namespace Cert.Kernel2Ideal.Ffn

open Cert.Kernel2Ideal.Gen
open Idealize.ShloMosaic

/-! The pool call's feed-forward half is this call's: its row-by-row readings serve both. -/

theorem gated_eq (h : FVec Ideal S512x1024 .bf16) (w : Vec Ideal S1024x5632 .bf16) : gated h w = Cert.KernelIdeal.Pool.gated h w := rfl
theorem norm23_eq (y : Vec Ideal S512x1024 .f32) (g : Vec Ideal S1x1024 .f32) : k0_pay23 y g = Cert.KernelIdeal.Gen.k0_pay18 y g := rfl
theorem sum8_eq (a : Vec Ideal S512x2816 .bf16) (w : Vec Ideal S2816x1024 .bf16) (y : Vec Ideal S512x1024 .f32) : k0_pay8 a w y = Cert.KernelIdeal.Gen.k0_pay34 a w y := rfl

/-- The rows after half the feed-forward layer. -/
theorem ffnOut_apply (y : Vec Ideal S512x1024 .f32) (g : Vec Ideal S1x1024 .f32) (win : Vec Ideal S1024x5632 .bf16) (wout : Vec Ideal S2816x1024 .bf16) (r : Fin 512) (j : Fin 1024) :
    ffnOut y g win wout (ix2 r j) = Spec.half (KernelIdeal.Pool.row y r) (KernelIdeal.Pool.row g 0) (KernelIdeal.Pool.row win) (KernelIdeal.Pool.row wout) j := by
  unfold ffnOut
  rw [sum8_eq, gated_eq, norm23_eq]
  refine (Cert.KernelIdeal.Pool.pay34_apply _ _ _ r j).trans ?_
  unfold Spec.half
  refine congrArg (fun z => (y (ix2 r j) : EReal) + Ideal.ofBits .f32 0x3F000000#32 * z) (Finset.sum_congr rfl fun k _ => ?_)
  refine congrArg (fun z : EReal => z * (wout (ix2 k j) : EReal)) ((Cert.KernelIdeal.Pool.gated_apply _ win r k).trans ?_)
  exact congrArg (fun z => Spec.act z (KernelIdeal.Pool.row win) k) (funext fun i => Cert.KernelIdeal.Pool.pay18_apply y g r i)

/-- The rows of the next first weights, rounded: over the reals, the rows themselves. -/
theorem in_apply (x : Vec Ideal S1x1x32x5632 .f32) (r : Fin 32) (j : Fin 5632) : (k0_pay1 x (ix2 r j) : EReal) = x (ix4 0 0 r j) := by
  unfold k0_pay1
  refine shapeCast_apply (s := S1x1x32x5632) _ _ _ _ ?_
  rw [Shape.rowMajor_val_two, Shape.rowMajor_val_four]
  show ((0 * 1 + 0) * 32 + r.val) * 5632 + j.val = r.val * 5632 + j.val
  omega
/-- So of the next second weights. -/
theorem out_apply (x : Vec Ideal S1x1x176x1024 .f32) (r : Fin 176) (j : Fin 1024) : (k0_pay2 x (ix2 r j) : EReal) = x (ix4 0 0 r j) := by
  unfold k0_pay2
  refine shapeCast_apply (s := S1x1x176x1024) _ _ _ _ ?_
  rw [Shape.rowMajor_val_two, Shape.rowMajor_val_four]
  show ((0 * 1 + 0) * 176 + r.val) * 1024 + j.val = r.val * 1024 + j.val
  omega

end Cert.Kernel2Ideal.Ffn
-- ==== Proof.Ffn.Blocks.lean ====
module

public import proofs.«01_k».proof.Proof.Ffn.Frame
public import proofs.«01_k».proof.Proof.Ffn.KVal
public import Idealize.ShloMosaic.Lib.Pipeline.ValueKit
public import Idealize.ShloMosaic.Lib.StableHlo.Run
public import Idealize.ShloMosaic.Lib.Pointwise

@[expose] public section

set_option maxRecDepth 16384

noncomputable section

namespace Cert.Kernel2Ideal.Ffn

open Cert.Kernel2Ideal.Gen
open Idealize.ShloMosaic Idealize.ShloMosaic.TcCoe Idealize.ShloMosaic.StableHlo Idealize.SL.Sem
open Idealize.ShloMosaic.Pipeline (Dat Cfg Window)

variable {F : FTy → Type} [FloatOps F]
variable (m : (ℓ : Loc nD τ sig) → Buf (Elt F) ℓ)

/-! ## The arrays the call finds -/

theorem V_main_v0 (c : Dev nD) : (V m c main_v0 : Vec F S16384x1024 .f32) = shapeCast S16384x1024 (m ((c : Thread nD τ).loc main_arg0)) shapeCasts_S8x2048x1024_S16384x1024 := by
  show after hostOps0 _ (Proc.devRef .tc main_v0) = _
  after_results
  rfl
theorem V_main_v1 (c : Dev nD) : (V m c main_v1 : Vec F S1024x5632 .bf16) = truncf .bf16 (m ((c : Thread nD τ).loc main_arg3)) bitsLt_bf16_f32 := by
  show after hostOps0 _ (Proc.devRef .tc main_v1) = _
  after_results
theorem V_main_v2 (c : Dev nD) : (V m c main_v2 : Vec F S2816x1024 .bf16) = truncf .bf16 (m ((c : Thread nD τ).loc main_arg4)) bitsLt_bf16_f32 := by
  show after hostOps0 _ (Proc.devRef .tc main_v2) = _
  after_results
theorem V_main_v3 (c : Dev nD) : (V m c main_v3 : Vec F S1x1024 .f32) = shapeCast S1x1024 (m ((c : Thread nD τ).loc main_arg2)) shapeCasts_S1024_S1x1024 := by
  show after hostOps0 _ (Proc.devRef .tc main_v3) = _
  after_results
  rfl

/-! ## Where each window's block sits -/

theorem idx0 : ∀ t : Fin cfg0.N, win0_0.index t = ![min t.val 31, 0] := (by decide +kernel : ∀ t : Fin grid0.N, win0_0.index t = ![min t.val 31, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![1, 1, min t.val 31, 0] := (by decide +kernel : ∀ t : Fin grid0.N, win0_5.index t = ![1, 1, min t.val 31, 0])
theorem idx6 : ∀ t : Fin cfg0.N, win0_6.index t = ![1, 1, min t.val 31 / 2, 0] := (by decide +kernel : ∀ t : Fin grid0.N, win0_6.index t = ![1, 1, min t.val 31 / 2, 0])
theorem idx7 : ∀ t : Fin cfg0.N, win0_7.index t = ![min t.val 31, 0] := (by decide +kernel : ∀ t : Fin grid0.N, win0_7.index t = ![min t.val 31, 0])
theorem idx8 : ∀ t : Fin cfg0.N, win0_8.index t = ![0, 0] := (by decide +kernel : ∀ t : Fin grid0.N, win0_8.index t = ![0, 0])
theorem idx9 : ∀ t : Fin cfg0.N, win0_9.index t = ![min t.val 31, 0] := (by decide +kernel : ∀ t : Fin grid0.N, win0_9.index t = ![min t.val 31, 0])
theorem idx10 : ∀ t : Fin cfg0.N, win0_10.index t = ![min t.val 31 / 2, 0] := (by decide +kernel : ∀ t : Fin grid0.N, win0_10.index t = ![min t.val 31 / 2, 0])

/-! ## The blocks, read -/

theorem iblk0_apply (c : Dev nD) (t : Fin cfg0.N) (r : Fin 512) (j : Fin 1024) :
    (iblk m c 0 t : Vec F S512x1024 .f32) (ix2 r j) = (V m c main_v0 : Vec F S16384x1024 .f32) (ix2 ⟨512 * min t.val 31 + r, by omega⟩ j) := by
  blk_simp [iblk]
  refine congrArg (V m c main_v0) ?_
  blk_ext [idx0 t]
theorem iblk1_eq (c : Dev nD) (t : Fin cfg0.N) : (iblk m c 1 t : Vec F S512x1024 .f32) = V m c main_arg1 := by
  funext y
  blk_simp [iblk]
  refine congrArg (V m c main_arg1) ?_
  blk_ext [idx1 t]
theorem iblk2_eq (c : Dev nD) (t : Fin cfg0.N) : (iblk m c 2 t : Vec F S1x1024 .f32) = V m c main_v3 := by
  funext y
  blk_simp [iblk]
  refine congrArg (V m c main_v3) ?_
  blk_ext [idx2 t]
theorem iblk3_eq (c : Dev nD) (t : Fin cfg0.N) : (iblk m c 3 t : Vec F S1024x5632 .bf16) = V m c main_v1 := by
  funext y
  blk_simp [iblk]
  refine congrArg (V m c main_v1) ?_
  blk_ext [idx3 t]
theorem iblk4_eq (c : Dev nD) (t : Fin cfg0.N) : (iblk m c 4 t : Vec F S2816x1024 .bf16) = V m c main_v2 := by
  funext y
  blk_simp [iblk]
  refine congrArg (V m c main_v2) ?_
  blk_ext [idx4 t]
theorem iblk5_apply (c : Dev nD) (t : Fin cfg0.N) (r : Fin 32) (j : Fin 5632) :
    (iblk m c 5 t : Vec F S1x1x32x5632 .f32) (ix4 0 0 r j) = (V m c main_arg5 : Vec F S2x2x1024x5632 .f32) (ix4 1 1 ⟨32 * min t.val 31 + r, by omega⟩ j) := by
  blk_simp [iblk]
  refine congrArg (V m c main_arg5) ?_
  blk_ext [idx5 t]
theorem iblk6_apply (c : Dev nD) (t : Fin cfg0.N) (r : Fin 176) (j : Fin 1024) :
    (iblk m c 6 t : Vec F S1x1x176x1024 .f32) (ix4 0 0 r j) = (V m c main_arg6 : Vec F S2x2x2816x1024 .f32) (ix4 1 1 ⟨176 * (min t.val 31 / 2) + r, by omega⟩ j) := by
  blk_simp [iblk]
  refine congrArg (V m c main_arg6) ?_
  blk_ext [idx6 t]

end Cert.Kernel2Ideal.Ffn
-- ==== Proof.Ffn.Arrays.lean ====
module

public import proofs.«01_k».proof.Proof.Ffn.Blocks

@[expose] public section

set_option maxRecDepth 16384

noncomputable section

namespace Cert.Kernel2Ideal.Ffn

open Cert.Kernel2Ideal.Gen
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-! ## The arguments, by index -/

/-- The first batch, by sequence, position and column. -/
def aX (c : Dev nD) (s : Fin 8) (p : Fin 2048) (j : Fin 1024) : EReal := (m ((c : Thread nD τ).loc main_arg0) : Vec Ideal S8x2048x1024 .f32) (ix3 s p j)
/-- The second batch. -/
def aXs (c : Dev nD) (r : Fin 512) (j : Fin 1024) : EReal := (m ((c : Thread nD τ).loc main_arg1) : Vec Ideal S512x1024 .f32) (ix2 r j)
/-- The gain before the feed-forward layer. -/
def aG (c : Dev nD) (j : Fin 1024) : EReal := (m ((c : Thread nD τ).loc main_arg2) : Vec Ideal S1024 .f32) (ix1 j)
/-- The feed-forward layer's first weights. -/
def aWin (c : Dev nD) (i : Fin 1024) (j : Fin 5632) : EReal := (m ((c : Thread nD τ).loc main_arg3) : Vec Ideal S1024x5632 .f32) (ix2 i j)
/-- The feed-forward layer's second weights. -/
def aWout (c : Dev nD) (i : Fin 2816) (j : Fin 1024) : EReal := (m ((c : Thread nD τ).loc main_arg4) : Vec Ideal S2816x1024 .f32) (ix2 i j)

/-! ## The blocks at the arguments -/

theorem x_row (c : Dev nD) (t : Fin cfg0.N) (r : Fin 512) :
    KernelIdeal.Pool.row (iblk m c 0 (tl t) : Vec Ideal S512x1024 .f32) r = aX m c ⟨min t.val 31 / 4, by omega⟩ ⟨512 * (min t.val 31 % 4) + r, by omega⟩ := by
  funext j
  show (iblk m c 0 (tl t) : Vec Ideal S512x1024 .f32) (ix2 r j) = _
  rw [iblk0_apply, V_main_v0]
  unfold aX
  refine shapeCast_apply (s := S8x2048x1024) _ _ _ _ ?_
  rw [Shape.rowMajor_val_two, Shape.rowMajor_val_three]
  show (min t.val 31 / 4 * 2048 + (512 * (min t.val 31 % 4) + r.val)) * 1024 + j.val = (512 * min (min t.val 31) 31 + r.val) * 1024 + j.val
  omega
theorem xs_row (c : Dev nD) (t : Fin cfg0.N) (r : Fin 512) : KernelIdeal.Pool.row (iblk m c 1 t : Vec Ideal S512x1024 .f32) r = aXs m c r := by
  funext j
  show (iblk m c 1 t : Vec Ideal S512x1024 .f32) (ix2 r j) = _
  rw [iblk1_eq, V_main_arg1]
  rfl
theorem g_row (c : Dev nD) (t : Fin cfg0.N) : KernelIdeal.Pool.row (iblk m c 2 t : Vec Ideal S1x1024 .f32) 0 = aG m c := by
  funext j
  show (iblk m c 2 t : Vec Ideal S1x1024 .f32) (ix2 0 j) = _
  rw [iblk2_eq, V_main_v3]
  unfold aG
  pointwise
theorem win_row (c : Dev nD) (t : Fin cfg0.N) : KernelIdeal.Pool.row (iblk m c 3 t : Vec Ideal S1024x5632 .bf16) = aWin m c := by
  funext i j
  show (iblk m c 3 t : Vec Ideal S1024x5632 .bf16) (ix2 i j) = _
  rw [iblk3_eq, V_main_v1]
  unfold aWin
  pointwise
theorem wout_row (c : Dev nD) (t : Fin cfg0.N) : KernelIdeal.Pool.row (iblk m c 4 t : Vec Ideal S2816x1024 .bf16) = aWout m c := by
  funext i j
  show (iblk m c 4 t : Vec Ideal S2816x1024 .bf16) (ix2 i j) = _
  rw [iblk4_eq, V_main_v2]
  unfold aWout
  pointwise

/-! ## What the four result arrays end holding -/

/-- The first result: every row of every sequence, one sequence after another. -/
def res0 (c : Dev nD) : Vec Ideal S16384x1024 .f32 := fun y =>
  Spec.half (aX m c ⟨(y 0).val / 2048, by have := (y 0).isLt; have : (y 0).val < 16384 := this; omega⟩ ⟨(y 0).val % 2048, by omega⟩) (aG m c) (aWin m c) (aWout m c) (y 1)
/-- The second result: the second batch's rows. -/
def res1 (c : Dev nD) : Vec Ideal S512x1024 .f32 := fun y => Spec.half (aXs m c (y 0)) (aG m c) (aWin m c) (aWout m c) (y 1)
/-- The third result: the next layer's first weights. -/
def res2 (c : Dev nD) : Vec Ideal S1024x5632 .bf16 := fun y => (m ((c : Thread nD τ).loc main_arg5) : Vec Ideal S2x2x1024x5632 .f32) (ix4 1 1 (y 0) (y 1))
/-- The fourth result: the next layer's second weights. -/
def res3 (c : Dev nD) : Vec Ideal S2816x1024 .bf16 := fun y => (m ((c : Thread nD τ).loc main_arg6) : Vec Ideal S2x2x2816x1024 .f32) (ix4 1 1 (y 0) (y 1))

theorem final7 (c : Dev nD) : ((dats m 0 c).arrAt 7 cfg0.N : Vec Ideal S16384x1024 .f32) = res0 m c := by
  refine (dats m 0 c).arrAt_eq_of_covers 7 (res0 m c) (by decide +kernel) fun t hf y => ?_
  blk_simp
  rw [after7]
  obtain ⟨r, j, rfl⟩ : ∃ (r : Fin 512) (j : Fin 1024), y = ix2 r j := ⟨y 0, y 1, eq_ix2 y⟩
  refine (ffnOut_apply _ _ _ _ r j).trans ?_
  rw [x_row, g_row, win_row, wout_row]
  have e0 : ((((cfg0.win 7).blk t).view.emb (ix2 r j)) 0 : ℕ) = 512 * min t.val 31 + r := by
    blk_simp [idx7 t]; show min t.val 31 * 512 + r.val = _; omega
  have e1 : ((((cfg0.win 7).blk t).view.emb (ix2 r j)) 1 : ℕ) = j := by
    blk_simp [idx7 t]
  have ht : min t.val 31 < 32 := by omega
  unfold res0
  have E : ∀ (s s' : Fin 8) (p p' : Fin 2048) (j j' : Fin 1024), s = s' → p = p' → j = j' →
      Spec.half (aX m c s p) (aG m c) (aWin m c) (aWout m c) j = Spec.half (aX m c s' p') (aG m c) (aWin m c) (aWout m c) j' := by
    rintro _ _ _ _ _ _ rfl rfl rfl; rfl
  refine E _ _ _ _ _ _ (Fin.ext ?_) (Fin.ext ?_) (Fin.ext e1.symm)
  · refine Eq.trans ?_ (congrArg (· / 2048) e0.symm); show min t.val 31 / 4 = (512 * min t.val 31 + r.val) / 2048; omega
  · refine Eq.trans ?_ (congrArg (· % 2048) e0.symm); show 512 * (min t.val 31 % 4) + r.val = (512 * min t.val 31 + r.val) % 2048; omega

theorem final8 (c : Dev nD) : ((dats m 0 c).arrAt 8 cfg0.N : Vec Ideal S512x1024 .f32) = res1 m c := by
  refine (dats m 0 c).arrAt_eq_of_covers 8 (res1 m c) (by decide +kernel) fun t hf y => ?_
  blk_simp
  rw [after8]
  obtain ⟨r, j, rfl⟩ : ∃ (r : Fin 512) (j : Fin 1024), y = ix2 r j := ⟨y 0, y 1, eq_ix2 y⟩
  refine (ffnOut_apply _ _ _ _ r j).trans ?_
  rw [xs_row, g_row, win_row, wout_row]
  have e0 : ((((cfg0.win 8).blk t).view.emb (ix2 r j)) 0 : ℕ) = r := by
    blk_simp [idx8 t]
  have e1 : ((((cfg0.win 8).blk t).view.emb (ix2 r j)) 1 : ℕ) = j := by
    blk_simp [idx8 t]
  unfold res1
  have E : ∀ (s s' : Fin 512) (j j' : Fin 1024), s = s' → j = j' →
      Spec.half (aXs m c s) (aG m c) (aWin m c) (aWout m c) j = Spec.half (aXs m c s') (aG m c) (aWin m c) (aWout m c) j' := by
    rintro _ _ _ _ rfl rfl; rfl
  exact E _ _ _ _ (Fin.ext e0.symm) (Fin.ext e1.symm)

theorem final9 (c : Dev nD) : ((dats m 0 c).arrAt 9 cfg0.N : Vec Ideal S1024x5632 .bf16) = res2 m c := by
  refine (dats m 0 c).arrAt_eq_of_covers 9 (res2 m c) (by decide +kernel) fun t hf y => ?_
  blk_simp
  rw [after9]
  obtain ⟨r, j, rfl⟩ : ∃ (r : Fin 32) (j : Fin 5632), y = ix2 r j := ⟨y 0, y 1, eq_ix2 y⟩
  refine (in_apply _ r j).trans ?_
  rw [iblk5_apply, V_main_arg5]
  have e0 : ((((cfg0.win 9).blk t).view.emb (ix2 r j)) 0 : ℕ) = 32 * min t.val 31 + r := by
    blk_simp [idx9 t]; show min t.val 31 * 32 + r.val = _; omega
  have e1 : ((((cfg0.win 9).blk t).view.emb (ix2 r j)) 1 : ℕ) = j := by
    blk_simp [idx9 t]
  unfold res2
  have E : ∀ (s s' : Fin 1024) (j j' : Fin 5632), s = s' → j = j' →
      (m ((c : Thread nD τ).loc main_arg5) : Vec Ideal S2x2x1024x5632 .f32) (ix4 1 1 s j) = (m ((c : Thread nD τ).loc main_arg5) : Vec Ideal S2x2x1024x5632 .f32) (ix4 1 1 s' j') := by
    rintro _ _ _ _ rfl rfl; rfl
  exact E _ _ _ _ (Fin.ext e0.symm) (Fin.ext e1.symm)

theorem final10 (c : Dev nD) : ((dats m 0 c).arrAt 10 cfg0.N : Vec Ideal S2816x1024 .bf16) = res3 m c := by
  refine (dats m 0 c).arrAt_eq_of_covers 10 (res3 m c) (by decide +kernel) fun t hf y => ?_
  blk_simp
  rw [after10]
  obtain ⟨r, j, rfl⟩ : ∃ (r : Fin 176) (j : Fin 1024), y = ix2 r j := ⟨y 0, y 1, eq_ix2 y⟩
  refine (out_apply _ r j).trans ?_
  rw [iblk6_apply, V_main_arg6]
  have e0 : ((((cfg0.win 10).blk t).view.emb (ix2 r j)) 0 : ℕ) = 176 * (min t.val 31 / 2) + r := by
    blk_simp [idx10 t]; show (min t.val 31 / 2) * 176 + r.val = _; omega
  have e1 : ((((cfg0.win 10).blk t).view.emb (ix2 r j)) 1 : ℕ) = j := by
    blk_simp [idx10 t]
  unfold res3
  have E : ∀ (s s' : Fin 2816) (j j' : Fin 1024), s = s' → j = j' →
      (m ((c : Thread nD τ).loc main_arg6) : Vec Ideal S2x2x2816x1024 .f32) (ix4 1 1 s j) = (m ((c : Thread nD τ).loc main_arg6) : Vec Ideal S2x2x2816x1024 .f32) (ix4 1 1 s' j') := by
    rintro _ _ _ _ rfl rfl; rfl
  exact E _ _ _ _ (Fin.ext e0.symm) (Fin.ext e1.symm)

end Cert.Kernel2Ideal.Ffn
-- ==== Proof.Ffn.Finish.lean ====
module

public import proofs.«01_k».proof.Proof.Ffn.Arrays

@[expose] public section

set_option maxRecDepth 16384

noncomputable section

namespace Cert.Kernel2Ideal.Ffn

open Cert.Kernel2Ideal.Gen
open Idealize.ShloMosaic Idealize.ShloMosaic.TcCoe Idealize.ShloMosaic.StableHlo Idealize.SL.Sem
open Idealize.ShloMosaic.Pipeline (Dat Cfg Window)

section frame
variable {F : FTy → Type} [FloatOps F]
variable (m : (ℓ : Loc nD τ sig) → Buf (Elt F) ℓ) (ρ : Dev nD → PrngReg)

/-- At the end of a run every argument array holds what it held at the start. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩

/-- The call runs, leaves its arguments unchanged and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m r h.1, h.2⟩) (run_quiescent m ρ)
end frame

/-- The call's four results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4_0) = res0 m c
      ∧ r.2.mem ((c.tc : Thread nD τ).loc main_v4_1) = res1 m c
      ∧ r.2.mem ((c.tc : Thread nD τ).loc main_v4_2) = res2 m c
      ∧ r.2.mem ((c.tc : Thread nD τ).loc main_v4_3) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final7 m c), ((h.1 c).1 8).trans (final8 m c), ((h.1 c).1 9).trans (final9 m c), ((h.1 c).1 10).trans (final10 m c),
    args_kept m r h.1 c⟩) (run_quiescent m ρ)

end Cert.Kernel2Ideal.Ffn
-- ==== Proof.Ffn.RefVal.lean ====
module

public import proofs.«01_k».proof.Proof.Gen.Reference2Ideal.Run
public import proofs.«01_k».proof.Proof.Pool.RefOps

@[expose] public section

set_option maxRecDepth 16384

noncomputable section

namespace Cert.Ref2

open Cert.Reference2Ideal Cert.Reference2Ideal.Gen Cert.Reference2Ideal.Value
open Idealize.ShloMosaic Idealize.ShloMosaic.TcCoe Idealize.SL.Sem

/-! The reference's results as functions of its arguments. The feed-forward layer's are the pool call's reference's. -/

/-- The first batch, one sequence after another. -/
def ref0 (x : Cert.Ref.A3) (g : Cert.Ref.A1) (win : FVec Ideal S1024x5632 .f32) (wout : FVec Ideal S2816x1024 .f32) : FVec Ideal S16384x1024 .f32 :=
  shapeCast S16384x1024 (Cert.Ref.down3 x (Cert.Ref.gate3 (Cert.Ref.up3 (Cert.Ref.norm3 x g) win)) wout) shapeCasts_S8x2048x1024_S16384x1024
theorem ref0_apply (x : Cert.Ref.A3) (g : Cert.Ref.A1) (win : FVec Ideal S1024x5632 .f32) (wout : FVec Ideal S2816x1024 .f32) (r : Fin 16384) (j : Fin 1024) :
    ref0 x g win wout (ix2 r j) = Spec.half (Cert.Ref.row3 x ⟨r / 2048, by omega⟩ ⟨r % 2048, by omega⟩) (Cert.Ref.vec g) (fun i l => win (ix2 i l)) (fun i l => wout (ix2 i l)) j := by
  refine Eq.trans ?_ (Cert.Ref.half3_apply x g win wout ⟨r / 2048, by omega⟩ ⟨r % 2048, by omega⟩ j)
  unfold ref0
  refine shapeCast_apply (s := S8x2048x1024) _ _ _ _ ?_
  rw [Shape.rowMajor_val_two, Shape.rowMajor_val_three]
  show (r.val / 2048 * 2048 + r.val % 2048) * 1024 + j.val = r.val * 1024 + j.val
  omega

/-- The second batch. -/
def ref1 (x : Cert.Ref.A2) (g : Cert.Ref.A1) (win : FVec Ideal S1024x5632 .f32) (wout : FVec Ideal S2816x1024 .f32) : FVec Ideal S512x1024 .f32 :=
  Cert.Ref.down2 x (Cert.Ref.gate2 (Cert.Ref.up2 (Cert.Ref.norm2 x g) win)) wout

/-- The next layer's first weights. -/
def ref2 (w : FVec Ideal S2x2x1024x5632 .f32) : FVec Ideal S1024x5632 .bf16 :=
  truncf .bf16 (shapeCast S1024x5632 (extractStridedSlice S1x1x1024x5632 ![1, 1, 0, 0] w slices_S2x2x1024x5632_S1x1x1024x5632_1_1_0_0) shapeCasts_S1x1x1024x5632_S1024x5632) bitsLt_bf16_f32
theorem ref2_apply (w : FVec Ideal S2x2x1024x5632 .f32) (r : Fin 1024) (j : Fin 5632) : (ref2 w (ix2 r j) : EReal) = w (ix4 1 1 r j) := by
  unfold ref2
  show shapeCast S1024x5632 (extractStridedSlice S1x1x1024x5632 ![1, 1, 0, 0] w slices_S2x2x1024x5632_S1x1x1024x5632_1_1_0_0) shapeCasts_S1x1x1024x5632_S1024x5632 (ix2 r j) = _
  refine (shapeCast_apply (s := S1x1x1024x5632) _ _ _ (ix4 0 0 r j) ?_).trans ?_
  · rw [Shape.rowMajor_val_two, Shape.rowMajor_val_four]
    show ((0 * 1 + 0) * 1024 + r.val) * 5632 + j.val = r.val * 5632 + j.val
    omega
  · pointwise

/-- The next layer's second weights. -/
def ref3 (w : FVec Ideal S2x2x2816x1024 .f32) : FVec Ideal S2816x1024 .bf16 :=
  truncf .bf16 (shapeCast S2816x1024 (extractStridedSlice S1x1x2816x1024 ![1, 1, 0, 0] w slices_S2x2x2816x1024_S1x1x2816x1024_1_1_0_0) shapeCasts_S1x1x2816x1024_S2816x1024) bitsLt_bf16_f32
theorem ref3_apply (w : FVec Ideal S2x2x2816x1024 .f32) (r : Fin 2816) (j : Fin 1024) : (ref3 w (ix2 r j) : EReal) = w (ix4 1 1 r j) := by
  unfold ref3
  show shapeCast S2816x1024 (extractStridedSlice S1x1x2816x1024 ![1, 1, 0, 0] w slices_S2x2x2816x1024_S1x1x2816x1024_1_1_0_0) shapeCasts_S1x1x2816x1024_S2816x1024 (ix2 r j) = _
  refine (shapeCast_apply (s := S1x1x2816x1024) _ _ _ (ix4 0 0 r j) ?_).trans ?_
  · rw [Shape.rowMajor_val_two, Shape.rowMajor_val_four]
    show ((0 * 1 + 0) * 2816 + r.val) * 1024 + j.val = r.val * 1024 + j.val
    omega
  · pointwise

/-- The reference's four results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v44) = ref0 (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v43) = ref1 (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47) = ref2 (m ((c.tc : Thread nD τ).loc main_arg5))
      ∧ r.2.mem ((c.tc : Thread nD τ).loc main_v50) = ref3 (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans rfl, (h c).2.1.trans rfl, (h c).2.2.1.trans rfl, (h c).2.2.2.1.trans rfl, (h c).2.2.2.2⟩) (run (F := Ideal) m ρ)

end Cert.Ref2
-- ==== Proof.Mix.Spec.lean ====
module

public import proofs.«01_k».proof.Proof.Pool.Spec

@[expose] public section

noncomputable section

/-! What the convolution mixer computes for the rows being sampled, over the extended reals. Rows are numbered by step
    and sequence; a sequence's history comes before its steps. -/

namespace Cert.Spec

open Idealize.ShloMosaic

/-- A row's projection: value, gate, and the three parts of the short convolution side by side. -/
def proj (h : Fin 1024 → EReal) (w : Fin 1024 → Fin 2560 → EReal) (j : Fin 2560) : EReal := ∑ k, h k * w k j

/-- The gated value, which the long convolution runs over. -/
def glu (z : Fin 2560 → EReal) (j : Fin 512) : EReal := z ⟨j, by omega⟩ * Ideal.logistic (z ⟨512 + j, by omega⟩)

/-- The product which the short convolution runs over. -/
def gated (z : Fin 2560 → EReal) (j : Fin 512) : EReal := z ⟨1536 + j, by omega⟩ * z ⟨2048 + j, by omega⟩

/-- A history of `n` rows, then the steps. -/
def joined (n : ℕ) (hist step : ℕ → Fin 512 → EReal) (q : ℕ) : Fin 512 → EReal := if q < n then hist q else step (q - n)

/-- A causal convolution of width `n`, channel by channel, ending `n - 1` rows after row `t`. -/
def conv (n : ℕ) (w e : ℕ → Fin 512 → EReal) (t : ℕ) (j : Fin 512) : EReal := ∑ k ∈ Finset.range n, w k j * e (t + k) j

/-- A row less its mean. -/
def centre (y : Fin 512 → EReal) (j : Fin 512) : EReal := y j - Ideal.div (∑ k, y k) (Ideal.ofBits .f32 0x44000000#32)

/-- A row brought to mean zero and variance one, with gain and bias. -/
def lnorm (y g b : Fin 512 → EReal) (j : Fin 512) : EReal :=
  centre y j * Ideal.rsqrt (Ideal.div (∑ k, centre y k * centre y k) (Ideal.ofBits .f32 0x44000000#32) + Ideal.ofBits .f32 0x358637BD#32) * g j + b j

/-- The activation after it. -/
def lnsilu (y g b : Fin 512 → EReal) (j : Fin 512) : EReal := lnorm y g b j * Ideal.logistic (lnorm y g b j)

/-- The output projection of the two parts, one after the other. -/
def outp (a b : Fin 512 → EReal) (w : Fin 1024 → Fin 1024 → EReal) (j : Fin 1024) : EReal :=
  (∑ k : Fin 512, a k * w ⟨k, by omega⟩ j) + ∑ k : Fin 512, b k * w ⟨512 + k, by omega⟩ j

/-- A row's projection, from the row itself. -/
def zrow (x g : Fin 1024 → EReal) (w : Fin 1024 → Fin 2560 → EReal) : Fin 2560 → EReal := proj (norm x g) w

/-- Sequence `n`'s rows after its history, step by step, of what `f` makes of each row's projection; past the last step, the last. -/
def stepped (f : (Fin 2560 → EReal) → Fin 512 → EReal) (x : Fin 512 → Fin 1024 → EReal) (g : Fin 1024 → EReal) (w : Fin 1024 → Fin 2560 → EReal)
    (n : Fin 128) (t : ℕ) : Fin 512 → EReal := f (zrow (x ⟨128 * min t 3 + n, by omega⟩) g w)

/-- The long convolution's part of step `t` of a sequence whose history and steps are `e`. -/
def longPart (w : ℕ → Fin 512 → EReal) (b lg lb : Fin 512 → EReal) (e : ℕ → Fin 512 → EReal) (t : ℕ) : Fin 512 → EReal :=
  lnsilu (fun k => b k + conv 31 w e t k) lg lb

/-- The short convolution's part, times its gate. -/
def shortPart (w : ℕ → Fin 512 → EReal) (e : ℕ → Fin 512 → EReal) (z : Fin 2560 → EReal) (t : ℕ) (j : Fin 512) : EReal :=
  z ⟨1024 + j, by omega⟩ * conv 3 w e t j

/-- A row put out: the row, and the output projection of both parts. -/
def sampled (x : Fin 512 → Fin 1024 → EReal) (g : Fin 1024 → EReal) (w : Fin 1024 → Fin 2560 → EReal)
    (ha hb : Fin 128 → ℕ → Fin 512 → EReal) (cw : ℕ → Fin 512 → EReal) (cb lg lb : Fin 512 → EReal) (sw : ℕ → Fin 512 → EReal)
    (wo : Fin 1024 → Fin 1024 → EReal) (r : Fin 512) (j : Fin 1024) : EReal :=
  x r j + outp (longPart cw cb lg lb (joined 30 (ha ⟨r % 128, by omega⟩) (stepped glu x g w ⟨r % 128, by omega⟩)) (r / 128))
    (shortPart sw (joined 2 (hb ⟨r % 128, by omega⟩) (stepped gated x g w ⟨r % 128, by omega⟩)) (zrow (x r) g w) (r / 128)) wo j

end Cert.Spec
-- ==== Proof.Mix.Taps.lean ====
module

public import proofs.«01_k».proof.Proof.Gen.Kernel3Ideal.Skeleton
public import proofs.«01_k».proof.Proof.Mix.Spec
public import Idealize.ShloMosaic.Lib.Pointwise

@[expose] public section

set_option maxRecDepth 16384

noncomputable section

namespace Cert.Kernel3Ideal.Mix

open Cert.Kernel3Ideal.Gen
open Idealize.ShloMosaic

variable {F : FTy → Type} [FloatOps F]

/-! ## The convolutions, tap by tap

    Each is a running sum of a weight row times a row of all sequences, from the history or from the steps. -/

/-- Weight row `k` of the long convolution. -/
def wA (x : Vec F S31x512 .f32) (k : ℕ) : Vec F S1x512 .f32 :=
  View.ld x (Rect.unit (s := S31x512) ![min k 30, 0] S1x512.size (fun a => match a with | 0 => (by show min k 30 + 1 ≤ 31; omega) | 1 => (by show 0 + 512 ≤ 512; omega)))
/-- Weight row `k` of the short convolution. -/
def wB (x : Vec F S3x512 .f32) (k : ℕ) : Vec F S1x512 .f32 :=
  View.ld x (Rect.unit (s := S3x512) ![min k 2, 0] S1x512.size (fun a => match a with | 0 => (by show min k 2 + 1 ≤ 3; omega) | 1 => (by show 0 + 512 ≤ 512; omega)))
/-- History row `q` of the long convolution. -/
def hA (x : Vec F S30x128x512 .f32) (q : ℕ) : Vec F S1x128x512 .f32 :=
  View.ld x (Rect.unit (s := S30x128x512) ![min q 29, 0, 0] S1x128x512.size (fun a => match a with | 0 => (by show min q 29 + 1 ≤ 30; omega) | 1 => (by show 0 + 128 ≤ 128; omega) | 2 => (by show 0 + 512 ≤ 512; omega)))
/-- History row `q` of the short convolution. -/
def hB (x : Vec F S2x128x512 .f32) (q : ℕ) : Vec F S1x128x512 .f32 :=
  View.ld x (Rect.unit (s := S2x128x512) ![min q 1, 0, 0] S1x128x512.size (fun a => match a with | 0 => (by show min q 1 + 1 ≤ 2; omega) | 1 => (by show 0 + 128 ≤ 128; omega) | 2 => (by show 0 + 512 ≤ 512; omega)))
/-- Step `t` of all sequences. -/
def stepRows (u : Vec F S512x512 .f32) (t : ℕ) : Vec F S128x512 .f32 :=
  View.ld u (Rect.unit (s := S512x512) ![128 * min t 3, 0] S128x512.size (fun a => match a with | 0 => (by show 128 * min t 3 + 128 ≤ 512; omega) | 1 => (by show 0 + 512 ≤ 512; omega)))

/-- Row `q` of the history and the steps, of all sequences. -/
def extA (x : Vec F S30x128x512 .f32) (u : Vec F S512x512 .f32) (q : ℕ) : FVec F S128x512 .f32 :=
  if q < 30 then shapeCast S128x512 (hA x q) shapeCasts_S1x128x512_S128x512 else stepRows u (q - 30)
def extB (x : Vec F S2x128x512 .f32) (u : Vec F S512x512 .f32) (q : ℕ) : FVec F S128x512 .f32 :=
  if q < 2 then shapeCast S128x512 (hB x q) shapeCasts_S1x128x512_S128x512 else stepRows u (q - 2)

/-- One tap. -/
def tap (w : Vec F S1x512 .f32) (e : FVec F S128x512 .f32) : FVec F S128x512 .f32 := mulf (broadcastTo S128x512 w broadcasts_S1x512_S128x512) e

/-- The long convolution's running sum after `k` taps, starting from the bias. -/
def accA (b : Vec F S1x512 .f32) (w : Vec F S31x512 .f32) (x : Vec F S30x128x512 .f32) (u : Vec F S512x512 .f32) (t : ℕ) : ℕ → FVec F S128x512 .f32
  | 0 => k0_pay7 b
  | k + 1 => addf (accA b w x u t k) (tap (wA w k) (extA x u (t + k)))

/-- The short convolution. -/
def accB (w : Vec F S3x512 .f32) (x : Vec F S2x128x512 .f32) (u : Vec F S512x512 .f32) (t : ℕ) : FVec F S128x512 .f32 :=
  addf (addf (tap (wB w 0) (extB x u t)) (tap (wB w 1) (extB x u (t + 1)))) (tap (wB w 2) (extB x u (t + 2)))

/-! ## Read at an index -/

theorem wA_apply (x : Vec Ideal S31x512 .f32) (k : ℕ) (j : Fin 512) : wA x k (ix2 0 j) = x (ix2 ⟨min k 30, by omega⟩ j) := by
  pointwise [wA]
theorem wB_apply (x : Vec Ideal S3x512 .f32) (k : ℕ) (j : Fin 512) : wB x k (ix2 0 j) = x (ix2 ⟨min k 2, by omega⟩ j) := by
  pointwise [wB]
theorem hA_apply (x : Vec Ideal S30x128x512 .f32) (q : ℕ) (n : Fin 128) (j : Fin 512) : hA x q (ix3 0 n j) = x (ix3 ⟨min q 29, by omega⟩ n j) := by
  pointwise [hA]
theorem hB_apply (x : Vec Ideal S2x128x512 .f32) (q : ℕ) (n : Fin 128) (j : Fin 512) : hB x q (ix3 0 n j) = x (ix3 ⟨min q 1, by omega⟩ n j) := by
  pointwise [hB]
theorem stepRows_apply (u : Vec Ideal S512x512 .f32) (t : ℕ) (n : Fin 128) (j : Fin 512) : stepRows u t (ix2 n j) = u (ix2 ⟨128 * min t 3 + n, by omega⟩ j) := by
  pointwise [stepRows]

/-- The rows of the history, of the steps, and of the weights, by number. -/
abbrev histA (x : Vec Ideal S30x128x512 .f32) (n : Fin 128) (q : ℕ) (j : Fin 512) : EReal := x (ix3 ⟨min q 29, by omega⟩ n j)
abbrev histB (x : Vec Ideal S2x128x512 .f32) (n : Fin 128) (q : ℕ) (j : Fin 512) : EReal := x (ix3 ⟨min q 1, by omega⟩ n j)
abbrev steps (u : Vec Ideal S512x512 .f32) (n : Fin 128) (t : ℕ) (j : Fin 512) : EReal := u (ix2 ⟨128 * min t 3 + n, by omega⟩ j)
abbrev wgtA (x : Vec Ideal S31x512 .f32) (k : ℕ) (j : Fin 512) : EReal := x (ix2 ⟨min k 30, by omega⟩ j)
abbrev wgtB (x : Vec Ideal S3x512 .f32) (k : ℕ) (j : Fin 512) : EReal := x (ix2 ⟨min k 2, by omega⟩ j)

theorem extA_apply (x : Vec Ideal S30x128x512 .f32) (u : Vec Ideal S512x512 .f32) (q : ℕ) (n : Fin 128) (j : Fin 512) :
    extA x u q (ix2 n j) = Spec.joined 30 (histA x n) (steps u n) q j := by
  unfold extA Spec.joined
  split_ifs with h
  · refine Eq.trans ?_ (hA_apply x q n j)
    pointwise
  · exact stepRows_apply u _ n j
theorem extB_apply (x : Vec Ideal S2x128x512 .f32) (u : Vec Ideal S512x512 .f32) (q : ℕ) (n : Fin 128) (j : Fin 512) :
    extB x u q (ix2 n j) = Spec.joined 2 (histB x n) (steps u n) q j := by
  unfold extB Spec.joined
  split_ifs with h
  · refine Eq.trans ?_ (hB_apply x q n j)
    pointwise
  · exact stepRows_apply u _ n j
theorem tap_apply (w : Vec Ideal S1x512 .f32) (e : FVec Ideal S128x512 .f32) (n : Fin 128) (j : Fin 512) : (tap w e (ix2 n j) : EReal) = w (ix2 0 j) * e (ix2 n j) := by
  pointwise [tap]
theorem pay7_apply (b : Vec Ideal S1x512 .f32) (n : Fin 128) (j : Fin 512) : (k0_pay7 b (ix2 n j) : EReal) = b (ix2 0 j) := by
  pointwise [k0_pay7]

theorem accA_apply (b : Vec Ideal S1x512 .f32) (w : Vec Ideal S31x512 .f32) (x : Vec Ideal S30x128x512 .f32) (u : Vec Ideal S512x512 .f32) (t k : ℕ) (n : Fin 128) (j : Fin 512) :
    (accA b w x u t k (ix2 n j) : EReal) = b (ix2 0 j) + Spec.conv k (wgtA w) (Spec.joined 30 (histA x n) (steps u n)) t j := by
  induction k with
  | zero => unfold accA Spec.conv; rw [Finset.sum_range_zero, add_zero]; exact pay7_apply b n j
  | succ k ih =>
    unfold accA Spec.conv
    rw [Finset.sum_range_succ, ← add_assoc]
    refine congrArg₂ (fun p q : EReal => p + q) ih ((tap_apply _ _ n j).trans ?_)
    rw [wA_apply, extA_apply]
theorem accB_apply (w : Vec Ideal S3x512 .f32) (x : Vec Ideal S2x128x512 .f32) (u : Vec Ideal S512x512 .f32) (t : ℕ) (n : Fin 128) (j : Fin 512) :
    (accB w x u t (ix2 n j) : EReal) = Spec.conv 3 (wgtB w) (Spec.joined 2 (histB x n) (steps u n)) t j := by
  unfold Spec.conv
  rw [Finset.sum_range_succ, Finset.sum_range_succ, Finset.sum_range_succ, Finset.sum_range_zero, zero_add]
  unfold accB
  refine congrArg₂ (fun p q : EReal => p + q) (congrArg₂ (fun p q : EReal => p + q) ?_ ?_) ?_
  · rw [tap_apply, wB_apply, extB_apply]; rfl
  · rw [tap_apply, wB_apply, extB_apply]
  · rw [tap_apply, wB_apply, extB_apply]

end Cert.Kernel3Ideal.Mix
-- ==== Proof.Mix.Parts.lean ====
module

public import proofs.«01_k».proof.Proof.Gen.Kernel3Ideal.Frame
public import proofs.«01_k».proof.Proof.Mix.Taps
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body computes, part by part -/

/-- Each sequence's row less its mean. -/
def cenV (y : FVec F S128x512 .f32) : FVec F S128x512 .f32 :=
  subf y (broadcastTo S128x512 (divf (shapeCast S128x1 (multiReduction .add [1] S128 y 0x00000000#32 reduces_S128x512_S128 (.inl rfl) rfl) shapeCasts_S128_S128x1) (broadcast S128x1 (Scalar.ofBits .f32 0x44000000#32))) broadcasts_S128x1_S128x512)
/-- Each row's variance, and the small constant added to it. -/
def varV (y : FVec F S128x512 .f32) : FVec F S128x1 .f32 :=
  addf (divf (shapeCast S128x1 (multiReduction .add [1] S128 (mulf (cenV y) (cenV y)) 0x00000000#32 reduces_S128x512_S128 (.inl rfl) rfl) shapeCasts_S128_S128x1) (broadcast S128x1 (Scalar.ofBits .f32 0x44000000#32))) (broadcast S128x1 (Scalar.ofBits .f32 0x358637BD#32))
/-- The normalised and activated rows of step `t`. -/
def mixA (b : Vec F S1x512 .f32) (w : Vec F S31x512 .f32) (g lb : Vec F S1x512 .f32) (x : Vec F S30x128x512 .f32) (u : Vec F S512x512 .f32) (t : ℕ) : FVec F S128x512 .f32 :=
  k0_pay21 (k0_pay17 g) (k0_pay18 lb) (cenV (accA b w x u t 31)) (varV (accA b w x u t 31))

/-- Both convolutions' rows side by side, step by step. -/
def ycat (b : Vec F S1x512 .f32) (w : Vec F S31x512 .f32) (g lb : Vec F S1x512 .f32) (x : Vec F S30x128x512 .f32) (u : Vec F S512x512 .f32)
    (wb : Vec F S3x512 .f32) (xb : Vec F S2x128x512 .f32) (ub : Vec F S512x512 .f32) : Vec F S512x1024 .f32 :=
  View.canon [
    ⟨Rect.unit (s := S512x1024) ![384, 512] S128x512.size inb_S512x1024_S128x512_384_512, accB wb xb ub 3⟩,
    ⟨Rect.unit (s := S512x1024) ![384, 0] S128x512.size inb_S512x1024_S128x512_384_0, mixA b w g lb x u 3⟩,
    ⟨Rect.unit (s := S512x1024) ![256, 512] S128x512.size inb_S512x1024_S128x512_256_512, accB wb xb ub 2⟩,
    ⟨Rect.unit (s := S512x1024) ![256, 0] S128x512.size inb_S512x1024_S128x512_256_0, mixA b w g lb x u 2⟩,
    ⟨Rect.unit (s := S512x1024) ![128, 512] S128x512.size inb_S512x1024_S128x512_128_512, accB wb xb ub 1⟩,
    ⟨Rect.unit (s := S512x1024) ![128, 0] S128x512.size inb_S512x1024_S128x512_128_0, mixA b w g lb x u 1⟩,
    ⟨Rect.unit (s := S512x1024) ![0, 512] S128x512.size inb_S512x1024_S128x512_0_512, accB wb xb ub 0⟩,
    ⟨Rect.unit (s := S512x1024) ![0, 0] S128x512.size inb_S512x1024_S128x512_0_0, mixA b w g lb x u 0⟩]

/-- A row of all sequences, with the step's axis in front. -/
def front (e : FVec F S128x512 .f32) : FVec F S1x128x512 .f32 := shapeCast S1x128x512 e shapeCasts_S128x512_S1x128x512

/-- The long convolution's last thirty rows. -/
def newA (x : Vec F S30x128x512 .f32) (u : Vec F S512x512 .f32) : Vec F S30x128x512 .f32 :=
  View.canon [
    ⟨Rect.unit (s := S30x128x512) ![29, 0, 0] S1x128x512.size inb_S30x128x512_S1x128x512_29_0_0, front (extA x u 33)⟩,
    ⟨Rect.unit (s := S30x128x512) ![28, 0, 0] S1x128x512.size inb_S30x128x512_S1x128x512_28_0_0, front (extA x u 32)⟩,
    ⟨Rect.unit (s := S30x128x512) ![27, 0, 0] S1x128x512.size inb_S30x128x512_S1x128x512_27_0_0, front (extA x u 31)⟩,
    ⟨Rect.unit (s := S30x128x512) ![26, 0, 0] S1x128x512.size inb_S30x128x512_S1x128x512_26_0_0, front (extA x u 30)⟩,
    ⟨Rect.unit (s := S30x128x512) ![25, 0, 0] S1x128x512.size inb_S30x128x512_S1x128x512_25_0_0, front (extA x u 29)⟩,
    ⟨Rect.unit (s := S30x128x512) ![24, 0, 0] S1x128x512.size inb_S30x128x512_S1x128x512_24_0_0, front (extA x u 28)⟩,
    ⟨Rect.unit (s := S30x128x512) ![23, 0, 0] S1x128x512.size inb_S30x128x512_S1x128x512_23_0_0, front (extA x u 27)⟩,
    ⟨Rect.unit (s := S30x128x512) ![22, 0, 0] S1x128x512.size inb_S30x128x512_S1x128x512_22_0_0, front (extA x u 26)⟩,
    ⟨Rect.unit (s := S30x128x512) ![21, 0, 0] S1x128x512.size inb_S30x128x512_S1x128x512_21_0_0, front (extA x u 25)⟩,
    ⟨Rect.unit (s := S30x128x512) ![20, 0, 0] S1x128x512.size inb_S30x128x512_S1x128x512_20_0_0, front (extA x u 24)⟩,
    ⟨Rect.unit (s := S30x128x512) ![19, 0, 0] S1x128x512.size inb_S30x128x512_S1x128x512_19_0_0, front (extA x u 23)⟩,
    ⟨Rect.unit (s := S30x128x512) ![18, 0, 0] S1x128x512.size inb_S30x128x512_S1x128x512_18_0_0, front (extA x u 22)⟩,
    ⟨Rect.unit (s := S30x128x512) ![17, 0, 0] S1x128x512.size inb_S30x128x512_S1x128x512_17_0_0, front (extA x u 21)⟩,
    ⟨Rect.unit (s := S30x128x512) ![16, 0, 0] S1x128x512.size inb_S30x128x512_S1x128x512_16_0_0, front (extA x u 20)⟩,
    ⟨Rect.unit (s := S30x128x512) ![15, 0, 0] S1x128x512.size inb_S30x128x512_S1x128x512_15_0_0, front (extA x u 19)⟩,
    ⟨Rect.unit (s := S30x128x512) ![14, 0, 0] S1x128x512.size inb_S30x128x512_S1x128x512_14_0_0, front (extA x u 18)⟩,
    ⟨Rect.unit (s := S30x128x512) ![13, 0, 0] S1x128x512.size inb_S30x128x512_S1x128x512_13_0_0, front (extA x u 17)⟩,
    ⟨Rect.unit (s := S30x128x512) ![12, 0, 0] S1x128x512.size inb_S30x128x512_S1x128x512_12_0_0, front (extA x u 16)⟩,
    ⟨Rect.unit (s := S30x128x512) ![11, 0, 0] S1x128x512.size inb_S30x128x512_S1x128x512_11_0_0, front (extA x u 15)⟩,
    ⟨Rect.unit (s := S30x128x512) ![10, 0, 0] S1x128x512.size inb_S30x128x512_S1x128x512_10_0_0, front (extA x u 14)⟩,
    ⟨Rect.unit (s := S30x128x512) ![9, 0, 0] S1x128x512.size inb_S30x128x512_S1x128x512_9_0_0, front (extA x u 13)⟩,
    ⟨Rect.unit (s := S30x128x512) ![8, 0, 0] S1x128x512.size inb_S30x128x512_S1x128x512_8_0_0, front (extA x u 12)⟩,
    ⟨Rect.unit (s := S30x128x512) ![7, 0, 0] S1x128x512.size inb_S30x128x512_S1x128x512_7_0_0, front (extA x u 11)⟩,
    ⟨Rect.unit (s := S30x128x512) ![6, 0, 0] S1x128x512.size inb_S30x128x512_S1x128x512_6_0_0, front (extA x u 10)⟩,
    ⟨Rect.unit (s := S30x128x512) ![5, 0, 0] S1x128x512.size inb_S30x128x512_S1x128x512_5_0_0, front (extA x u 9)⟩,
    ⟨Rect.unit (s := S30x128x512) ![4, 0, 0] S1x128x512.size inb_S30x128x512_S1x128x512_4_0_0, front (extA x u 8)⟩,
    ⟨Rect.unit (s := S30x128x512) ![3, 0, 0] S1x128x512.size inb_S30x128x512_S1x128x512_3_0_0, front (extA x u 7)⟩,
    ⟨Rect.unit (s := S30x128x512) ![2, 0, 0] S1x128x512.size inb_S30x128x512_S1x128x512_2_0_0, front (extA x u 6)⟩,
    ⟨Rect.unit (s := S30x128x512) ![1, 0, 0] S1x128x512.size inb_S30x128x512_S1x128x512_1_0_0, front (extA x u 5)⟩,
    ⟨Rect.unit (s := S30x128x512) ![0, 0, 0] S1x128x512.size inb_S30x128x512_S1x128x512_0_0_0, front (extA x u 4)⟩]

/-- The short convolution's last two rows. -/
def newB (x : Vec F S2x128x512 .f32) (u : Vec F S512x512 .f32) : Vec F S2x128x512 .f32 :=
  View.canon [
    ⟨Rect.unit (s := S2x128x512) ![1, 0, 0] S1x128x512.size inb_S2x128x512_S1x128x512_1_0_0, front (extB x u 5)⟩,
    ⟨Rect.unit (s := S2x128x512) ![0, 0, 0] S1x128x512.size inb_S2x128x512_S1x128x512_0_0_0, front (extB x u 4)⟩]

/-- The rows put out. -/
def rowsOut (x : Vec F S512x1024 .f32) (bg : FVec F S512x512 .f32) (y : Vec F S512x1024 .f32) (wo : Vec F S1024x1024 .bf16) : Vec F S512x1024 .f32 :=
  k0_pay63 x bg (View.ld y (Rect.unit (s := S512x1024) ![0, 0] S512x512.size inb_S512x1024_S512x512_0_0)) (View.ld y (Rect.unit (s := S512x1024) ![0, 512] S512x512.size inb_S512x1024_S512x512_0_512))
    (View.ld wo (Rect.unit (s := S1024x1024) ![0, 0] S512x1024.size inb_S1024x1024_S512x1024_0_0)) (View.ld wo (Rect.unit (s := S1024x1024) ![512, 0] S512x1024.size inb_S1024x1024_S512x1024_512_0))

/-! ## Loads of rows stored before -/

/-- A load after one store of a whole buffer. -/
theorem cov_one (v : View sig .tc .vmem S512x512 .f32) (u : Vec F S512x512 .f32) (r : Rect S512x512) :
    v.readCov (Val := Elt F) [⟨Rect.unit (s := S512x512) ![0, 0] S512x512.size inb_S512x512_S512x512_0_0, u⟩] r.toLoadRect = View.ld u r := by
  rw [View.readCov_eq_canon']
  exact congrArg (fun z : Vec F S512x512 .f32 => View.ld z r) (View.canon_cons_unit_lit' _ u [] (fun a => match a with | 0 => rfl | 1 => rfl))
theorem cov_cat (v : View sig .tc .vmem S512x1024 .f32) (L : List (View.Piece (Elt F) S512x1024 .f32)) (r : Rect S512x1024) :
    v.readCov (Val := Elt F) L r.toLoadRect = View.ld (View.canon L) r := View.readCov_eq_canon' _ _ _

/-! The short convolution's rows, in the four ways their taps are loaded. -/
theorem short0 (a c e : Vec F S1x512 .f32) (p q : Vec F S1x128x512 .f32) (r : Vec F S128x512 .f32) :
    k0_pay22 a p c q e r = addf (addf (tap a (shapeCast S128x512 p shapeCasts_S1x128x512_S128x512)) (tap c (shapeCast S128x512 q shapeCasts_S1x128x512_S128x512))) (tap e r) := shapeCast_self _ _
theorem short1 (a c e : Vec F S1x512 .f32) (p : Vec F S1x128x512 .f32) (q r : Vec F S128x512 .f32) :
    k0_pay35 a p c q e r = addf (addf (tap a (shapeCast S128x512 p shapeCasts_S1x128x512_S128x512)) (tap c q)) (tap e r) := shapeCast_self _ _
theorem short2 (a c e : Vec F S1x512 .f32) (p q r : Vec F S128x512 .f32) : k0_pay50 a p c q e r = addf (addf (tap a p) (tap c q)) (tap e r) := shapeCast_self _ _
theorem short3 (a c e : Vec F S1x512 .f32) (p q r : Vec F S128x512 .f32) : k0_pay62 a p c q e r = addf (addf (tap a p) (tap c q)) (tap e r) := shapeCast_self _ _

end Cert.Kernel3Ideal.Mix
-- ==== Proof.Mix.KVal.lean ====
module

public import proofs.«01_k».proof.Proof.Mix.Parts
public import proofs.«01_k».proof.Proof.Pool.KVal
public import Idealize.ShloMosaic.Lib.Pointwise

@[expose] public section

set_option maxRecDepth 16384

noncomputable section

namespace Cert.Kernel3Ideal.Mix

open Cert.Kernel3Ideal.Gen
open Idealize.ShloMosaic
open Cert.KernelIdeal.Pool (row)

/-! ## The projections -/

theorem pay3_apply (x : Vec Ideal S512x1024 .f32) (g : Vec Ideal S1x1024 .f32) (w : Vec Ideal S1024x2560 .bf16) (r : Fin 512) (j : Fin 2560) :
    k0_pay3 x g w (ix2 r j) = Spec.zrow (row x r) (row g 0) (row w) j := by
  pointwise [k0_pay3, Spec.zrow, Spec.proj, Spec.norm]
theorem pay4_apply (x : Vec Ideal S512x1024 .f32) (g : Vec Ideal S1x1024 .f32) (w : Vec Ideal S1024x2560 .bf16) (r : Fin 512) (j : Fin 512) :
    k0_pay4 x g w (ix2 r j) = Spec.zrow (row x r) (row g 0) (row w) ⟨1024 + j, by omega⟩ := by
  rw [← pay3_apply]
  unfold k0_pay4
  generalize k0_pay3 x g w = z
  pointwise
theorem pay5_apply (x : Vec Ideal S512x1024 .f32) (g : Vec Ideal S1x1024 .f32) (w : Vec Ideal S1024x2560 .bf16) (r : Fin 512) (j : Fin 512) :
    k0_pay5 x g w (ix2 r j) = Spec.glu (Spec.zrow (row x r) (row g 0) (row w)) j := by
  unfold Spec.glu
  rw [← pay3_apply, ← pay3_apply]
  unfold k0_pay5
  generalize k0_pay3 x g w = z
  pointwise
theorem pay6_apply (x : Vec Ideal S512x1024 .f32) (g : Vec Ideal S1x1024 .f32) (w : Vec Ideal S1024x2560 .bf16) (r : Fin 512) (j : Fin 512) :
    k0_pay6 x g w (ix2 r j) = Spec.gated (Spec.zrow (row x r) (row g 0) (row w)) j := by
  unfold Spec.gated
  rw [← pay3_apply, ← pay3_apply]
  unfold k0_pay6
  generalize k0_pay3 x g w = z
  pointwise

/-! ## The normalised convolution -/

theorem ln_apply (y : FVec Ideal S128x512 .f32) (g lb : Vec Ideal S1x512 .f32) (n : Fin 128) (j : Fin 512) :
    k0_pay21 (k0_pay17 g) (k0_pay18 lb) (cenV y) (varV y) (ix2 n j) = Spec.lnsilu (row y n) (row g 0) (row lb 0) j := by
  pointwise [k0_pay21, k0_pay17, k0_pay18, cenV, varV, Spec.lnsilu, Spec.lnorm, Spec.centre]

theorem mixA_apply (b : Vec Ideal S1x512 .f32) (w : Vec Ideal S31x512 .f32) (g lb : Vec Ideal S1x512 .f32) (x : Vec Ideal S30x128x512 .f32) (u : Vec Ideal S512x512 .f32) (t : ℕ)
    (n : Fin 128) (j : Fin 512) :
    mixA b w g lb x u t (ix2 n j) = Spec.longPart (wgtA w) (row b 0) (row g 0) (row lb 0) (Spec.joined 30 (histA x n) (steps u n)) t j := by
  unfold mixA Spec.longPart
  refine (ln_apply _ g lb n j).trans ?_
  exact congrArg (fun z => Spec.lnsilu z (row g 0) (row lb 0) j) (funext fun k => accA_apply b w x u t 31 n k)

/-! ## Both parts, side by side -/

/-- A row and column of two parts given step by step, side by side. -/
def beside (A B : ℕ → Fin 128 → Fin 512 → EReal) (r : Fin 512) (c : Fin 1024) : EReal :=
  if h : c.val < 512 then A (r / 128) ⟨r % 128, by omega⟩ ⟨c, h⟩ else B (r / 128) ⟨r % 128, by omega⟩ ⟨c - 512, by omega⟩
theorem beside_left (A B : ℕ → Fin 128 → Fin 512 → EReal) (r : Fin 512) (c : Fin 1024) (t : ℕ) (n : Fin 128) (k : Fin 512) (hr : r.val = 128 * t + n) (hc : c.val = k) :
    beside A B r c = A t n k := by
  unfold beside
  rw [dif_pos (by omega)]
  have e : r.val / 128 = t := by omega
  rw [e]
  exact congrArg₂ (A t) (Fin.ext (by show r.val % 128 = n; omega)) (Fin.ext hc)
theorem beside_right (A B : ℕ → Fin 128 → Fin 512 → EReal) (r : Fin 512) (c : Fin 1024) (t : ℕ) (n : Fin 128) (k : Fin 512) (hr : r.val = 128 * t + n) (hc : c.val = 512 + k) :
    beside A B r c = B t n k := by
  unfold beside
  rw [dif_neg (by omega)]
  have e : r.val / 128 = t := by omega
  rw [e]
  exact congrArg₂ (B t) (Fin.ext (by show r.val % 128 = n; omega)) (Fin.ext (by show c.val - 512 = k; omega))

theorem piece_left (A B : ℕ → Fin 128 → Fin 512 → EReal) (e : FVec Ideal S128x512 .f32) (t o : ℕ) (ho : o = 128 * t) (he : ∀ n j, e (ix2 n j) = A t n j)
    (inb : ∀ a, (![o, 0] : Fin 2 → ℕ) a + S128x512.size a ≤ S512x1024.size a) (y : S128x512.Idx) :
    e y = beside A B ((Rect.unit (s := S512x1024) ![o, 0] S128x512.size inb).emb y 0) ((Rect.unit (s := S512x1024) ![o, 0] S128x512.size inb).emb y 1) := by
  obtain ⟨n, j, rfl⟩ : ∃ (n : Fin 128) (j : Fin 512), y = ix2 n j := ⟨y 0, y 1, eq_ix2 y⟩
  rw [he]
  exact (beside_left A B _ _ t n j (by show o + 1 * n.val = _; omega) (by show 0 + 1 * j.val = _; omega)).symm
theorem piece_right (A B : ℕ → Fin 128 → Fin 512 → EReal) (e : FVec Ideal S128x512 .f32) (t o : ℕ) (ho : o = 128 * t) (he : ∀ n j, e (ix2 n j) = B t n j)
    (inb : ∀ a, (![o, 512] : Fin 2 → ℕ) a + S128x512.size a ≤ S512x1024.size a) (y : S128x512.Idx) :
    e y = beside A B ((Rect.unit (s := S512x1024) ![o, 512] S128x512.size inb).emb y 0) ((Rect.unit (s := S512x1024) ![o, 512] S128x512.size inb).emb y 1) := by
  obtain ⟨n, j, rfl⟩ : ∃ (n : Fin 128) (j : Fin 512), y = ix2 n j := ⟨y 0, y 1, eq_ix2 y⟩
  rw [he]
  exact (beside_right A B _ _ t n j (by show o + 1 * n.val = _; omega) (by show 512 + 1 * j.val = _; omega)).symm

section cat
variable (b : Vec Ideal S1x512 .f32) (w : Vec Ideal S31x512 .f32) (g lb : Vec Ideal S1x512 .f32) (x : Vec Ideal S30x128x512 .f32) (u : Vec Ideal S512x512 .f32)
    (wb : Vec Ideal S3x512 .f32) (xb : Vec Ideal S2x128x512 .f32) (ub : Vec Ideal S512x512 .f32)

theorem ycat_apply (r : Fin 512) (c : Fin 1024) :
    ycat b w g lb x u wb xb ub (ix2 r c) = beside (fun t n => Spec.longPart (wgtA w) (row b 0) (row g 0) (row lb 0) (Spec.joined 30 (histA x n) (steps u n)) t)
      (fun t n => Spec.conv 3 (wgtB wb) (Spec.joined 2 (histB xb n) (steps ub n)) t) r c := by
  unfold ycat
  refine View.canon_apply_of_pieces (Val := Elt Ideal) (e := .f32) (fun y : S512x1024.Idx => (beside (fun t n => Spec.longPart (wgtA w) (row b 0) (row g 0) (row lb 0) (Spec.joined 30 (histA x n) (steps u n)) t)
      (fun t n => Spec.conv 3 (wgtB wb) (Spec.joined 2 (histB xb n) (steps ub n)) t) (y 0) (y 1) : Elt Ideal .f32)) _ ?_ (ix2 r c) (View.cover_of_tiled _ ![128, 512] (by rfl) _)
  refine List.forall_mem_cons.2 ⟨fun y => piece_right _ _ (accB wb xb ub 3) 3 384 rfl (accB_apply wb xb ub 3) inb_S512x1024_S128x512_384_512 y, ?_⟩
  refine List.forall_mem_cons.2 ⟨fun y => piece_left _ _ (mixA b w g lb x u 3) 3 384 rfl (mixA_apply b w g lb x u 3) inb_S512x1024_S128x512_384_0 y, ?_⟩
  refine List.forall_mem_cons.2 ⟨fun y => piece_right _ _ (accB wb xb ub 2) 2 256 rfl (accB_apply wb xb ub 2) inb_S512x1024_S128x512_256_512 y, ?_⟩
  refine List.forall_mem_cons.2 ⟨fun y => piece_left _ _ (mixA b w g lb x u 2) 2 256 rfl (mixA_apply b w g lb x u 2) inb_S512x1024_S128x512_256_0 y, ?_⟩
  refine List.forall_mem_cons.2 ⟨fun y => piece_right _ _ (accB wb xb ub 1) 1 128 rfl (accB_apply wb xb ub 1) inb_S512x1024_S128x512_128_512 y, ?_⟩
  refine List.forall_mem_cons.2 ⟨fun y => piece_left _ _ (mixA b w g lb x u 1) 1 128 rfl (mixA_apply b w g lb x u 1) inb_S512x1024_S128x512_128_0 y, ?_⟩
  refine List.forall_mem_cons.2 ⟨fun y => piece_right _ _ (accB wb xb ub 0) 0 0 rfl (accB_apply wb xb ub 0) inb_S512x1024_S128x512_0_512 y, ?_⟩
  refine List.forall_mem_cons.2 ⟨fun y => piece_left _ _ (mixA b w g lb x u 0) 0 0 rfl (mixA_apply b w g lb x u 0) inb_S512x1024_S128x512_0_0 y, ?_⟩
  exact fun _ h => absurd h List.not_mem_nil
end cat

/-! ## The states put out -/

theorem front_apply (e : FVec Ideal S128x512 .f32) (a : Fin 1) (n : Fin 128) (j : Fin 512) : front e (ix3 a n j) = e (ix2 n j) := by
  obtain rfl : a = 0 := Subsingleton.elim _ _
  pointwise [front]

theorem newA_piece (x : Vec Ideal S30x128x512 .f32) (u : Vec Ideal S512x512 .f32) (j q : ℕ) (hq : q = j + 4)
    (inb : ∀ a, (![j, 0, 0] : Fin 3 → ℕ) a + S1x128x512.size a ≤ S30x128x512.size a) (y : S1x128x512.Idx) :
    front (extA x u q) y = (fun y : S30x128x512.Idx => (Spec.joined 30 (histA x (y 1)) (steps u (y 1)) ((y 0).val + 4) (y 2) : Elt Ideal .f32)) ((Rect.unit (s := S30x128x512) ![j, 0, 0] S1x128x512.size inb).emb y) := by
  subst hq
  obtain ⟨a, n, k, rfl⟩ : ∃ (a : Fin 1) (n : Fin 128) (k : Fin 512), y = ix3 a n k := ⟨y 0, y 1, y 2, eq_ix3 y⟩
  rw [front_apply, extA_apply]
  have e : ∀ (n n' : Fin 128) (q q' : ℕ) (k k' : Fin 512), n = n' → q = q' → k = k' →
      Spec.joined 30 (histA x n) (steps u n) q k = Spec.joined 30 (histA x n') (steps u n') q' k' := by rintro _ _ _ _ _ _ rfl rfl rfl; rfl
  refine e _ _ _ _ _ _ (Fin.ext ?_) ?_ (Fin.ext ?_)
  · show n.val = 0 + 1 * n.val; omega
  · show j + 4 = (j + 1 * a.val) + 4; omega
  · show k.val = 0 + 1 * k.val; omega

theorem newB_piece (x : Vec Ideal S2x128x512 .f32) (u : Vec Ideal S512x512 .f32) (j q : ℕ) (hq : q = j + 4)
    (inb : ∀ a, (![j, 0, 0] : Fin 3 → ℕ) a + S1x128x512.size a ≤ S2x128x512.size a) (y : S1x128x512.Idx) :
    front (extB x u q) y = (fun y : S2x128x512.Idx => (Spec.joined 2 (histB x (y 1)) (steps u (y 1)) ((y 0).val + 4) (y 2) : Elt Ideal .f32)) ((Rect.unit (s := S2x128x512) ![j, 0, 0] S1x128x512.size inb).emb y) := by
  subst hq
  obtain ⟨a, n, k, rfl⟩ : ∃ (a : Fin 1) (n : Fin 128) (k : Fin 512), y = ix3 a n k := ⟨y 0, y 1, y 2, eq_ix3 y⟩
  rw [front_apply, extB_apply]
  have e : ∀ (n n' : Fin 128) (q q' : ℕ) (k k' : Fin 512), n = n' → q = q' → k = k' →
      Spec.joined 2 (histB x n) (steps u n) q k = Spec.joined 2 (histB x n') (steps u n') q' k' := by rintro _ _ _ _ _ _ rfl rfl rfl; rfl
  refine e _ _ _ _ _ _ (Fin.ext ?_) ?_ (Fin.ext ?_)
  · show n.val = 0 + 1 * n.val; omega
  · show j + 4 = (j + 1 * a.val) + 4; omega
  · show k.val = 0 + 1 * k.val; omega

theorem newA_apply (x : Vec Ideal S30x128x512 .f32) (u : Vec Ideal S512x512 .f32) (q : Fin 30) (n : Fin 128) (j : Fin 512) :
    newA x u (ix3 q n j) = Spec.joined 30 (histA x n) (steps u n) (q.val + 4) j := by
  unfold newA
  refine View.canon_apply_of_pieces (Val := Elt Ideal) (e := .f32) (fun y : S30x128x512.Idx => (Spec.joined 30 (histA x (y 1)) (steps u (y 1)) ((y 0).val + 4) (y 2) : Elt Ideal .f32)) _ ?_ (ix3 q n j) (View.cover_of_tiled _ ![1, 128, 512] (by rfl) _)
  refine List.forall_mem_cons.2 ⟨newA_piece x u 29 33 rfl inb_S30x128x512_S1x128x512_29_0_0, ?_⟩
  refine List.forall_mem_cons.2 ⟨newA_piece x u 28 32 rfl inb_S30x128x512_S1x128x512_28_0_0, ?_⟩
  refine List.forall_mem_cons.2 ⟨newA_piece x u 27 31 rfl inb_S30x128x512_S1x128x512_27_0_0, ?_⟩
  refine List.forall_mem_cons.2 ⟨newA_piece x u 26 30 rfl inb_S30x128x512_S1x128x512_26_0_0, ?_⟩
  refine List.forall_mem_cons.2 ⟨newA_piece x u 25 29 rfl inb_S30x128x512_S1x128x512_25_0_0, ?_⟩
  refine List.forall_mem_cons.2 ⟨newA_piece x u 24 28 rfl inb_S30x128x512_S1x128x512_24_0_0, ?_⟩
  refine List.forall_mem_cons.2 ⟨newA_piece x u 23 27 rfl inb_S30x128x512_S1x128x512_23_0_0, ?_⟩
  refine List.forall_mem_cons.2 ⟨newA_piece x u 22 26 rfl inb_S30x128x512_S1x128x512_22_0_0, ?_⟩
  refine List.forall_mem_cons.2 ⟨newA_piece x u 21 25 rfl inb_S30x128x512_S1x128x512_21_0_0, ?_⟩
  refine List.forall_mem_cons.2 ⟨newA_piece x u 20 24 rfl inb_S30x128x512_S1x128x512_20_0_0, ?_⟩
  refine List.forall_mem_cons.2 ⟨newA_piece x u 19 23 rfl inb_S30x128x512_S1x128x512_19_0_0, ?_⟩
  refine List.forall_mem_cons.2 ⟨newA_piece x u 18 22 rfl inb_S30x128x512_S1x128x512_18_0_0, ?_⟩
  refine List.forall_mem_cons.2 ⟨newA_piece x u 17 21 rfl inb_S30x128x512_S1x128x512_17_0_0, ?_⟩
  refine List.forall_mem_cons.2 ⟨newA_piece x u 16 20 rfl inb_S30x128x512_S1x128x512_16_0_0, ?_⟩
  refine List.forall_mem_cons.2 ⟨newA_piece x u 15 19 rfl inb_S30x128x512_S1x128x512_15_0_0, ?_⟩
  refine List.forall_mem_cons.2 ⟨newA_piece x u 14 18 rfl inb_S30x128x512_S1x128x512_14_0_0, ?_⟩
  refine List.forall_mem_cons.2 ⟨newA_piece x u 13 17 rfl inb_S30x128x512_S1x128x512_13_0_0, ?_⟩
  refine List.forall_mem_cons.2 ⟨newA_piece x u 12 16 rfl inb_S30x128x512_S1x128x512_12_0_0, ?_⟩
  refine List.forall_mem_cons.2 ⟨newA_piece x u 11 15 rfl inb_S30x128x512_S1x128x512_11_0_0, ?_⟩
  refine List.forall_mem_cons.2 ⟨newA_piece x u 10 14 rfl inb_S30x128x512_S1x128x512_10_0_0, ?_⟩
  refine List.forall_mem_cons.2 ⟨newA_piece x u 9 13 rfl inb_S30x128x512_S1x128x512_9_0_0, ?_⟩
  refine List.forall_mem_cons.2 ⟨newA_piece x u 8 12 rfl inb_S30x128x512_S1x128x512_8_0_0, ?_⟩
  refine List.forall_mem_cons.2 ⟨newA_piece x u 7 11 rfl inb_S30x128x512_S1x128x512_7_0_0, ?_⟩
  refine List.forall_mem_cons.2 ⟨newA_piece x u 6 10 rfl inb_S30x128x512_S1x128x512_6_0_0, ?_⟩
  refine List.forall_mem_cons.2 ⟨newA_piece x u 5 9 rfl inb_S30x128x512_S1x128x512_5_0_0, ?_⟩
  refine List.forall_mem_cons.2 ⟨newA_piece x u 4 8 rfl inb_S30x128x512_S1x128x512_4_0_0, ?_⟩
  refine List.forall_mem_cons.2 ⟨newA_piece x u 3 7 rfl inb_S30x128x512_S1x128x512_3_0_0, ?_⟩
  refine List.forall_mem_cons.2 ⟨newA_piece x u 2 6 rfl inb_S30x128x512_S1x128x512_2_0_0, ?_⟩
  refine List.forall_mem_cons.2 ⟨newA_piece x u 1 5 rfl inb_S30x128x512_S1x128x512_1_0_0, ?_⟩
  refine List.forall_mem_cons.2 ⟨newA_piece x u 0 4 rfl inb_S30x128x512_S1x128x512_0_0_0, ?_⟩
  exact fun _ h => absurd h List.not_mem_nil

theorem newB_apply (x : Vec Ideal S2x128x512 .f32) (u : Vec Ideal S512x512 .f32) (q : Fin 2) (n : Fin 128) (j : Fin 512) :
    newB x u (ix3 q n j) = Spec.joined 2 (histB x n) (steps u n) (q.val + 4) j := by
  unfold newB
  refine View.canon_apply_of_pieces (Val := Elt Ideal) (e := .f32) (fun y : S2x128x512.Idx => (Spec.joined 2 (histB x (y 1)) (steps u (y 1)) ((y 0).val + 4) (y 2) : Elt Ideal .f32)) _ ?_ (ix3 q n j) (View.cover_of_tiled _ ![1, 128, 512] (by rfl) _)
  refine List.forall_mem_cons.2 ⟨newB_piece x u 1 5 rfl inb_S2x128x512_S1x128x512_1_0_0, ?_⟩
  refine List.forall_mem_cons.2 ⟨newB_piece x u 0 4 rfl inb_S2x128x512_S1x128x512_0_0_0, ?_⟩
  exact fun _ h => absurd h List.not_mem_nil

/-! ## The rows put out -/

theorem rowsOut_apply (x : Vec Ideal S512x1024 .f32) (bg : FVec Ideal S512x512 .f32) (y : Vec Ideal S512x1024 .f32) (wo : Vec Ideal S1024x1024 .bf16) (r : Fin 512) (j : Fin 1024) :
    rowsOut x bg y wo (ix2 r j) = x (ix2 r j) + Spec.outp (fun k => y (ix2 r ⟨k, by omega⟩)) (fun k => bg (ix2 r k) * y (ix2 r ⟨512 + k, by omega⟩)) (row wo) j := by
  pointwise [rowsOut, k0_pay63, Spec.outp]

/-- The rows put out, from what the call is given. -/
theorem out_apply (x0 : Vec Ideal S512x1024 .f32) (x1 : Vec Ideal S30x128x512 .f32) (x2 : Vec Ideal S2x128x512 .f32) (x3 : Vec Ideal S1x1024 .f32) (x4 : Vec Ideal S1024x2560 .bf16)
    (x5 : Vec Ideal S31x512 .f32) (x6 x7 x8 : Vec Ideal S1x512 .f32) (x9 : Vec Ideal S3x512 .f32) (x10 : Vec Ideal S1024x1024 .bf16) (r : Fin 512) (j : Fin 1024) :
    rowsOut x0 (k0_pay4 x0 x3 x4) (ycat x6 x5 x7 x8 x1 (k0_pay5 x0 x3 x4) x9 x2 (k0_pay6 x0 x3 x4)) x10 (ix2 r j)
      = Spec.sampled (row x0) (row x3 0) (row x4) (histA x1) (histB x2) (wgtA x5) (row x6 0) (row x7 0) (row x8 0) (wgtB x9) (row x10) r j := by
  have ea : ∀ n, steps (k0_pay5 x0 x3 x4) n = Spec.stepped Spec.glu (row x0) (row x3 0) (row x4) n := fun n => by
    funext t k; exact pay5_apply x0 x3 x4 _ k
  have eb : ∀ n, steps (k0_pay6 x0 x3 x4) n = Spec.stepped Spec.gated (row x0) (row x3 0) (row x4) n := fun n => by
    funext t k; exact pay6_apply x0 x3 x4 _ k
  refine (rowsOut_apply _ _ _ _ r j).trans ?_
  unfold Spec.sampled
  refine congrArg₂ (fun p q => (x0 (ix2 r j) : EReal) + Spec.outp p q (row x10) j) (funext fun k => ?_) (funext fun k => ?_)
  · rw [ycat_apply, beside_left _ _ _ _ (r / 128) ⟨r % 128, by omega⟩ k (by show r.val = 128 * (r.val / 128) + r.val % 128; omega) rfl, ea]
  · rw [ycat_apply, beside_right _ _ _ _ (r / 128) ⟨r % 128, by omega⟩ k (by show r.val = 128 * (r.val / 128) + r.val % 128; omega) rfl, eb, pay4_apply]
    rfl

end Cert.Kernel3Ideal.Mix
-- ==== Proof.Mix.Blocks.lean ====
module

public import proofs.«01_k».proof.Proof.Gen.Kernel3Ideal.Frame
public import proofs.«01_k».proof.Proof.Mix.KVal
public import Idealize.ShloMosaic.Lib.Pipeline.ValueKit
public import Idealize.ShloMosaic.Lib.StableHlo.Run
public import Idealize.ShloMosaic.Lib.Pointwise

@[expose] public section

set_option maxRecDepth 16384

noncomputable section

namespace Cert.Kernel3Ideal.Mix

open Cert.Kernel3Ideal.Gen
open Idealize.ShloMosaic Idealize.ShloMosaic.TcCoe Idealize.ShloMosaic.StableHlo Idealize.SL.Sem
open Idealize.ShloMosaic.Pipeline (Dat Cfg Window)

variable {F : FTy → Type} [FloatOps F]
variable (m : (ℓ : Loc nD τ sig) → Buf (Elt F) ℓ)

/-! ## The arrays the call finds -/

theorem V_main_v0 (c : Dev nD) : (V m c main_v0 : Vec F S1024x2560 .bf16) = truncf .bf16 (m ((c : Thread nD τ).loc main_arg4)) bitsLt_bf16_f32 := by
  show after hostOps0 _ (Proc.devRef .tc main_v0) = _
  after_results
theorem V_main_v1 (c : Dev nD) : (V m c main_v1 : Vec F S1024x1024 .bf16) = truncf .bf16 (m ((c : Thread nD τ).loc main_arg10)) bitsLt_bf16_f32 := by
  show after hostOps0 _ (Proc.devRef .tc main_v1) = _
  after_results
theorem V_main_v2 (c : Dev nD) : (V m c main_v2 : Vec F S1x1024 .f32) = shapeCast S1x1024 (m ((c : Thread nD τ).loc main_arg3)) shapeCasts_S1024_S1x1024 := by
  show after hostOps0 _ (Proc.devRef .tc main_v2) = _
  after_results
  rfl
theorem V_main_v3 (c : Dev nD) : (V m c main_v3 : Vec F S1x512 .f32) = shapeCast S1x512 (m ((c : Thread nD τ).loc main_arg6)) shapeCasts_S512_S1x512 := by
  show after hostOps0 _ (Proc.devRef .tc main_v3) = _
  after_results
  rfl
theorem V_main_v4 (c : Dev nD) : (V m c main_v4 : Vec F S1x512 .f32) = shapeCast S1x512 (m ((c : Thread nD τ).loc main_arg7)) shapeCasts_S512_S1x512 := by
  show after hostOps0 _ (Proc.devRef .tc main_v4) = _
  after_results
  rfl
theorem V_main_v5 (c : Dev nD) : (V m c main_v5 : Vec F S1x512 .f32) = shapeCast S1x512 (m ((c : Thread nD τ).loc main_arg8)) shapeCasts_S512_S1x512 := by
  show after hostOps0 _ (Proc.devRef .tc main_v5) = _
  after_results
  rfl

/-! ## Each window's block is its array -/

theorem idx0 : ∀ t : Fin cfg0.N, win0_0.index t = ![0, 0] := (by decide +kernel : ∀ t : Fin grid0.N, win0_0.index t = ![0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0, 0] := (by decide +kernel : ∀ t : Fin grid0.N, win0_12.index t = ![0, 0, 0])
theorem idx13 : ∀ t : Fin cfg0.N, win0_13.index t = ![0, 0, 0] := (by decide +kernel : ∀ t : Fin grid0.N, win0_13.index t = ![0, 0, 0])

theorem iblk0_eq (c : Dev nD) (t : Fin cfg0.N) : (iblk m c 0 t : Vec F S512x1024 .f32) = V m c main_arg0 := by
  funext y
  blk_simp [iblk]
  refine congrArg (V m c main_arg0) ?_
  blk_ext [idx0 t]
theorem iblk1_eq (c : Dev nD) (t : Fin cfg0.N) : (iblk m c 1 t : Vec F S30x128x512 .f32) = V m c main_arg1 := by
  funext y
  blk_simp [iblk]
  refine congrArg (V m c main_arg1) ?_
  blk_ext [idx1 t]
theorem iblk2_eq (c : Dev nD) (t : Fin cfg0.N) : (iblk m c 2 t : Vec F S2x128x512 .f32) = V m c main_arg2 := by
  funext y
  blk_simp [iblk]
  refine congrArg (V m c main_arg2) ?_
  blk_ext [idx2 t]
theorem iblk3_eq (c : Dev nD) (t : Fin cfg0.N) : (iblk m c 3 t : Vec F S1x1024 .f32) = V m c main_v2 := by
  funext y
  blk_simp [iblk]
  refine congrArg (V m c main_v2) ?_
  blk_ext [idx3 t]
theorem iblk4_eq (c : Dev nD) (t : Fin cfg0.N) : (iblk m c 4 t : Vec F S1024x2560 .bf16) = V m c main_v0 := by
  funext y
  blk_simp [iblk]
  refine congrArg (V m c main_v0) ?_
  blk_ext [idx4 t]
theorem iblk5_eq (c : Dev nD) (t : Fin cfg0.N) : (iblk m c 5 t : Vec F S31x512 .f32) = V m c main_arg5 := by
  funext y
  blk_simp [iblk]
  refine congrArg (V m c main_arg5) ?_
  blk_ext [idx5 t]
theorem iblk6_eq (c : Dev nD) (t : Fin cfg0.N) : (iblk m c 6 t : Vec F S1x512 .f32) = V m c main_v3 := by
  funext y
  blk_simp [iblk]
  refine congrArg (V m c main_v3) ?_
  blk_ext [idx6 t]
theorem iblk7_eq (c : Dev nD) (t : Fin cfg0.N) : (iblk m c 7 t : Vec F S1x512 .f32) = V m c main_v4 := by
  funext y
  blk_simp [iblk]
  refine congrArg (V m c main_v4) ?_
  blk_ext [idx7 t]
theorem iblk8_eq (c : Dev nD) (t : Fin cfg0.N) : (iblk m c 8 t : Vec F S1x512 .f32) = V m c main_v5 := by
  funext y
  blk_simp [iblk]
  refine congrArg (V m c main_v5) ?_
  blk_ext [idx8 t]
theorem iblk9_eq (c : Dev nD) (t : Fin cfg0.N) : (iblk m c 9 t : Vec F S3x512 .f32) = V m c main_arg9 := by
  funext y
  blk_simp [iblk]
  refine congrArg (V m c main_arg9) ?_
  blk_ext [idx9 t]
theorem iblk10_eq (c : Dev nD) (t : Fin cfg0.N) : (iblk m c 10 t : Vec F S1024x1024 .bf16) = V m c main_v1 := by
  funext y
  blk_simp [iblk]
  refine congrArg (V m c main_v1) ?_
  blk_ext [idx10 t]

end Cert.Kernel3Ideal.Mix
-- ==== Proof.Mix.Link.lean ====
module

public import proofs.«01_k».proof.Proof.Gen.Kernel3Ideal.Frame
public import proofs.«01_k».proof.Proof.Mix.Parts
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the rows put out are. -/
theorem held11 (c : Dev nD) (arg0 : Memref sig .tc .vmem S512x1024 .f32) (harg0 : arg0.IsWhole) (arg1 : Memref sig .tc .vmem S30x128x512 .f32) (harg1 : arg1.IsWhole) (arg2 : Memref sig .tc .vmem S2x128x512 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S30x128x512 .f32) (harg12 : arg12.IsWhole) (arg13 : Memref sig .tc .vmem S2x128x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x1024 .f32) (harg16 : arg16.IsWhole)
    (x0 : Vec F S512x1024 .f32) (x1 : Vec F S30x128x512 .f32) (x2 : Vec F S2x128x512 .f32) (x3 : Vec F S1x1024 .f32) (x4 : Vec F S1024x2560 .bf16) (x5 : Vec F S31x512 .f32) (x6 : Vec F S1x512 .f32) (x7 : Vec F S1x512 .f32) (x8 : Vec F S1x512 .f32) (x9 : Vec F S3x512 .f32) (x10 : Vec F S1024x1024 .bf16) :
    View.canon (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1 = rowsOut x0 (k0_pay4 x0 x3 x4) (ycat x6 x5 x7 x8 x1 (k0_pay5 x0 x3 x4) x9 x2 (k0_pay6 x0 x3 x4)) x10 := by
  frame_open
  simp (disch := decide) only [↓cov_one, ↓cov_cat, View.readAt_eq_ld, Memref.IsWhole.read_unread, View.canon_cons_unit_lit', View.ld_unit_lit', short0, short1, short2, short3]
  rfl

/-- So the buffer itself. -/
theorem out11 (c : Dev nD) (arg0 : Memref sig .tc .vmem S512x1024 .f32) (harg0 : arg0.IsWhole) (arg1 : Memref sig .tc .vmem S30x128x512 .f32) (harg1 : arg1.IsWhole) (arg2 : Memref sig .tc .vmem S2x128x512 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S30x128x512 .f32) (harg12 : arg12.IsWhole) (arg13 : Memref sig .tc .vmem S2x128x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x1024 .f32) (harg16 : arg16.IsWhole)
    (x0 : Vec F S512x1024 .f32) (x1 : Vec F S30x128x512 .f32) (x2 : Vec F S2x128x512 .f32) (x3 : Vec F S1x1024 .f32) (x4 : Vec F S1024x2560 .bf16) (x5 : Vec F S31x512 .f32) (x6 : Vec F S1x512 .f32) (x7 : Vec F S1x512 .f32) (x8 : Vec F S1x512 .f32) (x9 : Vec F S3x512 .f32) (x10 : Vec F S1024x1024 .bf16) :
    out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = rowsOut x0 (k0_pay4 x0 x3 x4) (ycat x6 x5 x7 x8 x1 (k0_pay5 x0 x3 x4) x9 x2 (k0_pay6 x0 x3 x4)) x10 := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  exact held11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10

end Cert.Kernel3Ideal.Mix
-- ==== Proof.Mix.LinkA.lean ====
module

public import proofs.«01_k».proof.Proof.Gen.Kernel3Ideal.Frame
public import proofs.«01_k».proof.Proof.Mix.Parts
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The long convolution's state put out. -/
theorem held12 (c : Dev nD) (arg0 : Memref sig .tc .vmem S512x1024 .f32) (harg0 : arg0.IsWhole) (arg1 : Memref sig .tc .vmem S30x128x512 .f32) (harg1 : arg1.IsWhole) (arg2 : Memref sig .tc .vmem S2x128x512 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S30x128x512 .f32) (harg12 : arg12.IsWhole) (arg13 : Memref sig .tc .vmem S2x128x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x1024 .f32) (harg16 : arg16.IsWhole)
    (x0 : Vec F S512x1024 .f32) (x1 : Vec F S30x128x512 .f32) (x2 : Vec F S2x128x512 .f32) (x3 : Vec F S1x1024 .f32) (x4 : Vec F S1024x2560 .bf16) (x5 : Vec F S31x512 .f32) (x6 : Vec F S1x512 .f32) (x7 : Vec F S1x512 .f32) (x8 : Vec F S1x512 .f32) (x9 : Vec F S3x512 .f32) (x10 : Vec F S1024x1024 .bf16) :
    View.canon (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.1 = newA x1 (k0_pay5 x0 x3 x4) := by
  frame_open
  simp (disch := decide) only [↓cov_one, ↓cov_cat, View.readAt_eq_ld, Memref.IsWhole.read_unread, View.canon_cons_unit_lit', View.ld_unit_lit']
  rfl

/-- So the buffer itself. -/
theorem out12 (c : Dev nD) (arg0 : Memref sig .tc .vmem S512x1024 .f32) (harg0 : arg0.IsWhole) (arg1 : Memref sig .tc .vmem S30x128x512 .f32) (harg1 : arg1.IsWhole) (arg2 : Memref sig .tc .vmem S2x128x512 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S30x128x512 .f32) (harg12 : arg12.IsWhole) (arg13 : Memref sig .tc .vmem S2x128x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x1024 .f32) (harg16 : arg16.IsWhole)
    (x0 : Vec F S512x1024 .f32) (x1 : Vec F S30x128x512 .f32) (x2 : Vec F S2x128x512 .f32) (x3 : Vec F S1x1024 .f32) (x4 : Vec F S1024x2560 .bf16) (x5 : Vec F S31x512 .f32) (x6 : Vec F S1x512 .f32) (x7 : Vec F S1x512 .f32) (x8 : Vec F S1x512 .f32) (x9 : Vec F S3x512 .f32) (x10 : Vec F S1024x1024 .bf16) :
    out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = newA x1 (k0_pay5 x0 x3 x4) := by
  unfold out0_A_12
  rw [View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  exact held12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10

end Cert.Kernel3Ideal.Mix
-- ==== Proof.Mix.LinkB.lean ====
module

public import proofs.«01_k».proof.Proof.Gen.Kernel3Ideal.Frame
public import proofs.«01_k».proof.Proof.Mix.Parts
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The short convolution's state put out. -/
theorem held13 (c : Dev nD) (arg0 : Memref sig .tc .vmem S512x1024 .f32) (harg0 : arg0.IsWhole) (arg1 : Memref sig .tc .vmem S30x128x512 .f32) (harg1 : arg1.IsWhole) (arg2 : Memref sig .tc .vmem S2x128x512 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S30x128x512 .f32) (harg12 : arg12.IsWhole) (arg13 : Memref sig .tc .vmem S2x128x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x1024 .f32) (harg16 : arg16.IsWhole)
    (x0 : Vec F S512x1024 .f32) (x1 : Vec F S30x128x512 .f32) (x2 : Vec F S2x128x512 .f32) (x3 : Vec F S1x1024 .f32) (x4 : Vec F S1024x2560 .bf16) (x5 : Vec F S31x512 .f32) (x6 : Vec F S1x512 .f32) (x7 : Vec F S1x512 .f32) (x8 : Vec F S1x512 .f32) (x9 : Vec F S3x512 .f32) (x10 : Vec F S1024x1024 .bf16) :
    View.canon (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.2.1 = newB x2 (k0_pay6 x0 x3 x4) := by
  frame_open
  simp (disch := decide) only [↓cov_one, ↓cov_cat, View.readAt_eq_ld, Memref.IsWhole.read_unread, View.canon_cons_unit_lit', View.ld_unit_lit']
  rfl

/-- So the buffer itself. -/
theorem out13 (c : Dev nD) (arg0 : Memref sig .tc .vmem S512x1024 .f32) (harg0 : arg0.IsWhole) (arg1 : Memref sig .tc .vmem S30x128x512 .f32) (harg1 : arg1.IsWhole) (arg2 : Memref sig .tc .vmem S2x128x512 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x512 .f32) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S30x128x512 .f32) (harg12 : arg12.IsWhole) (arg13 : Memref sig .tc .vmem S2x128x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x1024 .f32) (harg16 : arg16.IsWhole)
    (x0 : Vec F S512x1024 .f32) (x1 : Vec F S30x128x512 .f32) (x2 : Vec F S2x128x512 .f32) (x3 : Vec F S1x1024 .f32) (x4 : Vec F S1024x2560 .bf16) (x5 : Vec F S31x512 .f32) (x6 : Vec F S1x512 .f32) (x7 : Vec F S1x512 .f32) (x8 : Vec F S1x512 .f32) (x9 : Vec F S3x512 .f32) (x10 : Vec F S1024x1024 .bf16) :
    out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = newB x2 (k0_pay6 x0 x3 x4) := by
  unfold out0_A_13
  rw [View.read_writes_eq_canon _ _ _ (cover0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  exact held13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10

end Cert.Kernel3Ideal.Mix
-- ==== Proof.Mix.Arrays.lean ====
module

public import proofs.«01_k».proof.Proof.Mix.Blocks
public import proofs.«01_k».proof.Proof.Mix.Link
public import proofs.«01_k».proof.Proof.Mix.LinkA
public import proofs.«01_k».proof.Proof.Mix.LinkB
public import Idealize.ShloMosaic.Lib.Pipeline.ReadBack

@[expose] public section

set_option maxRecDepth 16384

noncomputable section

namespace Cert.Kernel3Ideal.Mix

open Cert.Kernel3Ideal.Gen
open Idealize.ShloMosaic Idealize.ShloMosaic.TcCoe Idealize.ShloMosaic.StableHlo Idealize.SL.Sem
open Idealize.ShloMosaic.Pipeline (Dat Cfg Window)
open Cert.KernelIdeal.Pool (row)

variable (m : (ℓ : Loc nD τ sig) → Buf (Elt Ideal) ℓ) (ρ : Dev nD → PrngReg)

/-! ## The arguments, by index -/

/-- The rows being sampled, step by step. -/
def aX (c : Dev nD) (r : Fin 512) (j : Fin 1024) : EReal := (m ((c : Thread nD τ).loc main_arg0) : Vec Ideal S512x1024 .f32) (ix2 r j)
/-- The long convolution's history, by sequence. -/
def aHA (c : Dev nD) (n : Fin 128) (q : ℕ) (j : Fin 512) : EReal := (m ((c : Thread nD τ).loc main_arg1) : Vec Ideal S30x128x512 .f32) (ix3 ⟨min q 29, by omega⟩ n j)
/-- The short convolution's history, by sequence. -/
def aHB (c : Dev nD) (n : Fin 128) (q : ℕ) (j : Fin 512) : EReal := (m ((c : Thread nD τ).loc main_arg2) : Vec Ideal S2x128x512 .f32) (ix3 ⟨min q 1, by omega⟩ n j)
/-- The gain before the projection. -/
def aG (c : Dev nD) (j : Fin 1024) : EReal := (m ((c : Thread nD τ).loc main_arg3) : Vec Ideal S1024 .f32) (ix1 j)
/-- The projection's weights. -/
def aW (c : Dev nD) (i : Fin 1024) (j : Fin 2560) : EReal := (m ((c : Thread nD τ).loc main_arg4) : Vec Ideal S1024x2560 .f32) (ix2 i j)
/-- The long convolution's weights. -/
def aCW (c : Dev nD) (k : ℕ) (j : Fin 512) : EReal := (m ((c : Thread nD τ).loc main_arg5) : Vec Ideal S31x512 .f32) (ix2 ⟨min k 30, by omega⟩ j)
/-- The long convolution's bias. -/
def aCB (c : Dev nD) (j : Fin 512) : EReal := (m ((c : Thread nD τ).loc main_arg6) : Vec Ideal S512 .f32) (ix1 j)
/-- The layer norm's gain. -/
def aLG (c : Dev nD) (j : Fin 512) : EReal := (m ((c : Thread nD τ).loc main_arg7) : Vec Ideal S512 .f32) (ix1 j)
/-- The layer norm's bias. -/
def aLB (c : Dev nD) (j : Fin 512) : EReal := (m ((c : Thread nD τ).loc main_arg8) : Vec Ideal S512 .f32) (ix1 j)
/-- The short convolution's weights. -/
def aSW (c : Dev nD) (k : ℕ) (j : Fin 512) : EReal := (m ((c : Thread nD τ).loc main_arg9) : Vec Ideal S3x512 .f32) (ix2 ⟨min k 2, by omega⟩ j)
/-- The output projection's weights. -/
def aWO (c : Dev nD) (i : Fin 1024) (j : Fin 1024) : EReal := (m ((c : Thread nD τ).loc main_arg10) : Vec Ideal S1024x1024 .f32) (ix2 i j)

/-! ## The blocks at the arguments -/

theorem x_row (c : Dev nD) (t : Fin cfg0.N) : row (iblk m c 0 t : Vec Ideal S512x1024 .f32) = aX m c := by
  funext r j
  show (iblk m c 0 t : Vec Ideal S512x1024 .f32) (ix2 r j) = _
  rw [iblk0_eq, V_main_arg0]; rfl
theorem ha_row (c : Dev nD) (t : Fin cfg0.N) : histA (iblk m c 1 t : Vec Ideal S30x128x512 .f32) = aHA m c := by
  funext n q j
  show (iblk m c 1 t : Vec Ideal S30x128x512 .f32) (ix3 ⟨min q 29, by omega⟩ n j) = _
  rw [iblk1_eq, V_main_arg1]; rfl
theorem hb_row (c : Dev nD) (t : Fin cfg0.N) : histB (iblk m c 2 t : Vec Ideal S2x128x512 .f32) = aHB m c := by
  funext n q j
  show (iblk m c 2 t : Vec Ideal S2x128x512 .f32) (ix3 ⟨min q 1, by omega⟩ n j) = _
  rw [iblk2_eq, V_main_arg2]; rfl
theorem cw_row (c : Dev nD) (t : Fin cfg0.N) : wgtA (iblk m c 5 t : Vec Ideal S31x512 .f32) = aCW m c := by
  funext k j
  show (iblk m c 5 t : Vec Ideal S31x512 .f32) (ix2 ⟨min k 30, by omega⟩ j) = _
  rw [iblk5_eq, V_main_arg5]; rfl
theorem sw_row (c : Dev nD) (t : Fin cfg0.N) : wgtB (iblk m c 9 t : Vec Ideal S3x512 .f32) = aSW m c := by
  funext k j
  show (iblk m c 9 t : Vec Ideal S3x512 .f32) (ix2 ⟨min k 2, by omega⟩ j) = _
  rw [iblk9_eq, V_main_arg9]; rfl
theorem g_row (c : Dev nD) (t : Fin cfg0.N) : row (iblk m c 3 t : Vec Ideal S1x1024 .f32) 0 = aG m c := by
  funext j
  show (iblk m c 3 t : Vec Ideal S1x1024 .f32) (ix2 0 j) = _
  rw [iblk3_eq, V_main_v2]
  unfold aG
  pointwise
theorem cb_row (c : Dev nD) (t : Fin cfg0.N) : row (iblk m c 6 t : Vec Ideal S1x512 .f32) 0 = aCB m c := by
  funext j
  show (iblk m c 6 t : Vec Ideal S1x512 .f32) (ix2 0 j) = _
  rw [iblk6_eq, V_main_v3]
  unfold aCB
  pointwise
theorem lg_row (c : Dev nD) (t : Fin cfg0.N) : row (iblk m c 7 t : Vec Ideal S1x512 .f32) 0 = aLG m c := by
  funext j
  show (iblk m c 7 t : Vec Ideal S1x512 .f32) (ix2 0 j) = _
  rw [iblk7_eq, V_main_v4]
  unfold aLG
  pointwise
theorem lb_row (c : Dev nD) (t : Fin cfg0.N) : row (iblk m c 8 t : Vec Ideal S1x512 .f32) 0 = aLB m c := by
  funext j
  show (iblk m c 8 t : Vec Ideal S1x512 .f32) (ix2 0 j) = _
  rw [iblk8_eq, V_main_v5]
  unfold aLB
  pointwise
theorem w_row (c : Dev nD) (t : Fin cfg0.N) : row (iblk m c 4 t : Vec Ideal S1024x2560 .bf16) = aW m c := by
  funext i j
  show (iblk m c 4 t : Vec Ideal S1024x2560 .bf16) (ix2 i j) = _
  rw [iblk4_eq, V_main_v0]
  unfold aW
  pointwise
theorem wo_row (c : Dev nD) (t : Fin cfg0.N) : row (iblk m c 10 t : Vec Ideal S1024x1024 .bf16) = aWO m c := by
  funext i j
  show (iblk m c 10 t : Vec Ideal S1024x1024 .bf16) (ix2 i j) = _
  rw [iblk10_eq, V_main_v1]
  unfold aWO
  pointwise

/-! ## What the three output buffers hold at the end of the body -/

theorem kept11 (c : Dev nD) (t : Fin cfg0.N) : (outsAt0 m c t).1 = rowsOut (iblk m c 0 t) (k0_pay4 (iblk m c 0 t) (iblk m c 3 t) (iblk m c 4 t)) (ycat (iblk m c 6 t) (iblk m c 5 t) (iblk m c 7 t) (iblk m c 8 t) (iblk m c 1 t) (k0_pay5 (iblk m c 0 t) (iblk m c 3 t) (iblk m c 4 t)) (iblk m c 9 t) (iblk m c 2 t) (k0_pay6 (iblk m c 0 t) (iblk m c 3 t) (iblk m c 4 t))) (iblk m c 10 t) := by
  unfold outsAt0
  dsimp only
  refine (out11 c _ _ _ _ _ _ _ _ _ _ _ _ _ _ _ _ _ _ _ _ _ _ _ _ _ _ _ _ _ _ _ _ _ _ _ _ _ _ _ _ _ _ _ _ _).trans ?_
  rfl
theorem kept12 (c : Dev nD) (t : Fin cfg0.N) : (outsAt0 m c t).2.1 = newA (iblk m c 1 t) (k0_pay5 (iblk m c 0 t) (iblk m c 3 t) (iblk m c 4 t)) := by
  unfold outsAt0
  dsimp only
  refine (out12 c _ _ _ _ _ _ _ _ _ _ _ _ _ _ _ _ _ _ _ _ _ _ _ _ _ _ _ _ _ _ _ _ _ _ _ _ _ _ _ _ _ _ _ _ _).trans ?_
  rfl
theorem kept13 (c : Dev nD) (t : Fin cfg0.N) : (outsAt0 m c t).2.2 = newB (iblk m c 2 t) (k0_pay6 (iblk m c 0 t) (iblk m c 3 t) (iblk m c 4 t)) := by
  unfold outsAt0
  dsimp only
  refine (out13 c _ _ _ _ _ _ _ _ _ _ _ _ _ _ _ _ _ _ _ _ _ _ _ _ _ _ _ _ _ _ _ _ _ _ _ _ _ _ _ _ _ _ _ _ _).trans ?_
  rfl

/-! ## What the three result arrays end holding -/

/-- The first result: the rows. -/
def res0 (c : Dev nD) : Vec Ideal S512x1024 .f32 := fun y =>
  Spec.sampled (aX m c) (aG m c) (aW m c) (aHA m c) (aHB m c) (aCW m c) (aCB m c) (aLG m c) (aLB m c) (aSW m c) (aWO m c) (y 0) (y 1)
/-- The second: the long convolution's history after the steps. -/
def res1 (c : Dev nD) : Vec Ideal S30x128x512 .f32 := fun y =>
  Spec.joined 30 (aHA m c (y 1)) (Spec.stepped Spec.glu (aX m c) (aG m c) (aW m c) (y 1)) ((y 0).val + 4) (y 2)
/-- The third: the short convolution's. -/
def res2 (c : Dev nD) : Vec Ideal S2x128x512 .f32 := fun y =>
  Spec.joined 2 (aHB m c (y 1)) (Spec.stepped Spec.gated (aX m c) (aG m c) (aW m c) (y 1)) ((y 0).val + 4) (y 2)

theorem glu_steps (x0 : Vec Ideal S512x1024 .f32) (x3 : Vec Ideal S1x1024 .f32) (x4 : Vec Ideal S1024x2560 .bf16) (n : Fin 128) :
    steps (k0_pay5 x0 x3 x4) n = Spec.stepped Spec.glu (row x0) (row x3 0) (row x4) n := by
  funext t k; exact pay5_apply x0 x3 x4 _ k
theorem gated_steps (x0 : Vec Ideal S512x1024 .f32) (x3 : Vec Ideal S1x1024 .f32) (x4 : Vec Ideal S1024x2560 .bf16) (n : Fin 128) :
    steps (k0_pay6 x0 x3 x4) n = Spec.stepped Spec.gated (row x0) (row x3 0) (row x4) n := by
  funext t k; exact pay6_apply x0 x3 x4 _ k

theorem final11 (c : Dev nD) : ((dats m 0 c).arrAt 11 cfg0.N : Vec Ideal S512x1024 .f32) = res0 m c := by
  refine (dats m 0 c).arrAt_eq_of_covers 11 (res0 m c) (by decide +kernel) fun t hf y => ?_
  blk_simp
  rw [after0_11, kept11]
  obtain ⟨r, j, rfl⟩ : ∃ (r : Fin 512) (j : Fin 1024), y = ix2 r j := ⟨y 0, y 1, eq_ix2 y⟩
  refine (out_apply _ _ _ _ _ _ _ _ _ _ _ r j).trans ?_
  rw [x_row, g_row, w_row, ha_row, hb_row, cw_row, cb_row, lg_row, lb_row, sw_row, wo_row]
  have e0 : ((((cfg0.win 11).blk t).view.emb (ix2 r j)) 0 : ℕ) = r := by
    blk_simp [idx11 t]
  have e1 : ((((cfg0.win 11).blk t).view.emb (ix2 r j)) 1 : ℕ) = j := by
    blk_simp [idx11 t]
  exact congrArg₂ (fun p q => Spec.sampled (aX m c) (aG m c) (aW m c) (aHA m c) (aHB m c) (aCW m c) (aCB m c) (aLG m c) (aLB m c) (aSW m c) (aWO m c) p q) (Fin.ext e0.symm) (Fin.ext e1.symm)

theorem final12 (c : Dev nD) : ((dats m 0 c).arrAt 12 cfg0.N : Vec Ideal S30x128x512 .f32) = res1 m c := by
  refine (dats m 0 c).arrAt_eq_of_covers 12 (res1 m c) (by decide +kernel) fun t hf y => ?_
  blk_simp
  rw [after0_12, kept12]
  obtain ⟨q, n, j, rfl⟩ : ∃ (q : Fin 30) (n : Fin 128) (j : Fin 512), y = ix3 q n j := ⟨y 0, y 1, y 2, eq_ix3 y⟩
  refine (newA_apply _ _ q n j).trans ?_
  rw [glu_steps, x_row, g_row, w_row, ha_row]
  have e0 : ((((cfg0.win 12).blk t).view.emb (ix3 q n j)) 0 : ℕ) = q := by
    blk_simp [idx12 t]
  have e1 : ((((cfg0.win 12).blk t).view.emb (ix3 q n j)) 1 : ℕ) = n := by
    blk_simp [idx12 t]
  have e2 : ((((cfg0.win 12).blk t).view.emb (ix3 q n j)) 2 : ℕ) = j := by
    blk_simp [idx12 t]
  have E : ∀ (q q' : Fin 30) (n n' : Fin 128) (j j' : Fin 512), q = q' → n = n' → j = j' →
      Spec.joined 30 (aHA m c n) (Spec.stepped Spec.glu (aX m c) (aG m c) (aW m c) n) (q.val + 4) j = Spec.joined 30 (aHA m c n') (Spec.stepped Spec.glu (aX m c) (aG m c) (aW m c) n') (q'.val + 4) j' := by
    rintro _ _ _ _ _ _ rfl rfl rfl; rfl
  exact E _ _ _ _ _ _ (Fin.ext e0.symm) (Fin.ext e1.symm) (Fin.ext e2.symm)

theorem final13 (c : Dev nD) : ((dats m 0 c).arrAt 13 cfg0.N : Vec Ideal S2x128x512 .f32) = res2 m c := by
  refine (dats m 0 c).arrAt_eq_of_covers 13 (res2 m c) (by decide +kernel) fun t hf y => ?_
  blk_simp
  rw [after0_13, kept13]
  obtain ⟨q, n, j, rfl⟩ : ∃ (q : Fin 2) (n : Fin 128) (j : Fin 512), y = ix3 q n j := ⟨y 0, y 1, y 2, eq_ix3 y⟩
  refine (newB_apply _ _ q n j).trans ?_
  rw [gated_steps, x_row, g_row, w_row, hb_row]
  have e0 : ((((cfg0.win 13).blk t).view.emb (ix3 q n j)) 0 : ℕ) = q := by
    blk_simp [idx13 t]
  have e1 : ((((cfg0.win 13).blk t).view.emb (ix3 q n j)) 1 : ℕ) = n := by
    blk_simp [idx13 t]
  have e2 : ((((cfg0.win 13).blk t).view.emb (ix3 q n j)) 2 : ℕ) = j := by
    blk_simp [idx13 t]
  have E : ∀ (q q' : Fin 2) (n n' : Fin 128) (j j' : Fin 512), q = q' → n = n' → j = j' →
      Spec.joined 2 (aHB m c n) (Spec.stepped Spec.gated (aX m c) (aG m c) (aW m c) n) (q.val + 4) j = Spec.joined 2 (aHB m c n') (Spec.stepped Spec.gated (aX m c) (aG m c) (aW m c) n') (q'.val + 4) j' := by
    rintro _ _ _ _ _ _ rfl rfl rfl; rfl
  exact E _ _ _ _ _ _ (Fin.ext e0.symm) (Fin.ext e1.symm) (Fin.ext e2.symm)

end Cert.Kernel3Ideal.Mix
-- ==== Proof.Mix.Finish.lean ====
module

public import proofs.«01_k».proof.Proof.Mix.Arrays

@[expose] public section

set_option maxRecDepth 16384

noncomputable section

namespace Cert.Kernel3Ideal.Mix

open Cert.Kernel3Ideal.Gen
open Idealize.ShloMosaic Idealize.ShloMosaic.TcCoe Idealize.ShloMosaic.StableHlo Idealize.SL.Sem
open Idealize.ShloMosaic.Pipeline (Dat Cfg Window)

/-- The call's three results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6_0) = res0 m c
      ∧ r.2.mem ((c.tc : Thread nD τ).loc main_v6_1) = res1 m c
      ∧ r.2.mem ((c.tc : Thread nD τ).loc main_v6_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 11).trans (final11 m c), ((h c).1 12).trans (final12 m c), ((h c).1 13).trans (final13 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).1 9).trans (((dats m 0 c).arrAt_in 9 rfl _).trans ((A_eq m c 9).trans (V_main_arg9 m c))),
    ((h c).2 main_arg10 (Pipeline.mem_restRefs_of main_arg10 (by decide) (by decide))).trans (V_main_arg10 m c)⟩) (run_main m ρ)

end Cert.Kernel3Ideal.Mix
-- ==== Proof.Mix.RefOps.lean ====
module

public import proofs.«01_k».proof.Proof.Gen.Reference3Ideal.Run
public import proofs.«01_k».proof.Proof.Pool.RefOps
public import proofs.«01_k».proof.Proof.Mix.Spec

@[expose] public section

set_option maxRecDepth 16384

noncomputable section

namespace Cert.Ref3

open Cert.Reference3Ideal Cert.Reference3Ideal.Gen
open Idealize.ShloMosaic Idealize.ShloMosaic.TcCoe

/-! The reference's parts as functions of arrays, each read at an index. Its arrays are step by sequence by channel. -/

abbrev X := FVec Ideal S512x1024 .f32
abbrev Z := FVec Ideal S4x128x2560 .f32
abbrev E := FVec Ideal S4x128x512 .f32
abbrev C := FVec Ideal S512 .f32

/-- The projection of the normalised rows. -/
def zed (x : X) (g : FVec Ideal S1024 .f32) (w : FVec Ideal S1024x2560 .f32) : Z :=
  Host.dotGeneral dot_S4x128x1024_S1024x2560_S4x128x2560_2_0_01_1_n_n none (shapeCast S4x128x1024 (Cert.Ref.norm2 x g) shapeCasts_S512x1024_S4x128x1024) w
theorem cast_apply (h : X) (t : Fin 4) (n : Fin 128) (k : Fin 1024) :
    shapeCast S4x128x1024 h shapeCasts_S512x1024_S4x128x1024 (ix3 t n k) = h (ix2 ⟨128 * t + n, by omega⟩ k) := by
  refine shapeCast_apply (s := S512x1024) _ _ _ _ ?_
  rw [Shape.rowMajor_val_two, Shape.rowMajor_val_three]
  show (128 * t.val + n.val) * 1024 + k.val = (t.val * 128 + n.val) * 1024 + k.val
  omega
theorem zed_apply (x : X) (g : FVec Ideal S1024 .f32) (w : FVec Ideal S1024x2560 .f32) (t : Fin 4) (n : Fin 128) (j : Fin 2560) :
    (zed x g w (ix3 t n j) : EReal) = Spec.zrow (fun k => x (ix2 ⟨128 * t + n, by omega⟩ k)) (fun k => g (ix1 k)) (fun i l => w (ix2 i l)) j := by
  have key : ∀ a : FVec Ideal S4x128x1024 .f32, (Host.dotGeneral dot_S4x128x1024_S1024x2560_S4x128x2560_2_0_01_1_n_n none a w (ix3 t n j) : EReal) = ∑ k : Fin 1024, a (ix3 t n k) * w (ix2 k j) := by
    intro a
    pointwise
  unfold zed
  rw [key]
  unfold Spec.zrow Spec.proj
  refine Finset.sum_congr rfl fun k _ => ?_
  rw [cast_apply, Cert.Ref.norm2_apply]

/-- The gated value. -/
def gluR (z : Z) : E := mulf (extractStridedSlice S4x128x512 ![0, 0, 0] z slices_S4x128x2560_S4x128x512_0_0_0) (Host.divf (broadcastInDim S4x128x512 ![] bcast_S_S4x128x512 (constant S_ .f32 0x3F800000#32)) (addf (broadcastInDim S4x128x512 ![] bcast_S_S4x128x512 (constant S_ .f32 0x3F800000#32)) (Host.exp (Host.negf (extractStridedSlice S4x128x512 ![0, 0, 512] z slices_S4x128x2560_S4x128x512_0_0_512)))))
theorem gluR_apply (z : Z) (t : Fin 4) (n : Fin 128) (j : Fin 512) : gluR z (ix3 t n j) = Spec.glu (fun k => z (ix3 t n k)) j := by
  pointwise [gluR, Spec.glu, Ideal.logistic]

/-- The product which the short convolution runs over. -/
def gatedR (z : Z) : E := mulf (extractStridedSlice S4x128x512 ![0, 0, 1536] z slices_S4x128x2560_S4x128x512_0_0_1536) (extractStridedSlice S4x128x512 ![0, 0, 2048] z slices_S4x128x2560_S4x128x512_0_0_2048)
theorem gatedR_apply (z : Z) (t : Fin 4) (n : Fin 128) (j : Fin 512) : gatedR z (ix3 t n j) = Spec.gated (fun k => z (ix3 t n k)) j := by
  pointwise [gatedR, Spec.gated]

/-- The long convolution's history, then the steps. -/
def extA (h : FVec Ideal S30x128x512 .f32) (s : E) : FVec Ideal S34x128x512 .f32 :=
  concatenate S34x128x512 0 [⟨S30x128x512, h⟩, ⟨S4x128x512, s⟩] concatenates_S30x128x512_S4x128x512_S34x128x512_d0
theorem extA_apply (h : FVec Ideal S30x128x512 .f32) (s : E) (q : Fin 34) (n : Fin 128) (j : Fin 512) :
    (extA h s (ix3 q n j) : EReal) = Spec.joined 30 (fun q j => h (ix3 ⟨min q 29, by omega⟩ n j)) (fun t j => s (ix3 ⟨min t 3, by omega⟩ n j)) q j := by
  have e : (extA h s (ix3 q n j) : EReal) = if hq : q.val < 30 then h (ix3 ⟨q, hq⟩ n j) else s (ix3 ⟨q - 30, by omega⟩ n j) := by
    pointwise [extA]
  rw [e]
  unfold Spec.joined
  by_cases hq : q.val < 30
  · rw [dif_pos hq, if_pos hq]
    exact congrArg (fun p : Fin 30 => h (ix3 p n j)) (Fin.ext (show q.val = min q.val 29 by omega))
  · rw [dif_neg hq, if_neg hq]
    exact congrArg (fun p : Fin 4 => s (ix3 p n j)) (Fin.ext (show q.val - 30 = min (q.val - 30) 3 by omega))

/-- The short convolution's. -/
def extB (h : FVec Ideal S2x128x512 .f32) (s : E) : FVec Ideal S6x128x512 .f32 :=
  concatenate S6x128x512 0 [⟨S2x128x512, h⟩, ⟨S4x128x512, s⟩] concatenates_S2x128x512_S4x128x512_S6x128x512_d0
theorem extB_apply (h : FVec Ideal S2x128x512 .f32) (s : E) (q : Fin 6) (n : Fin 128) (j : Fin 512) :
    (extB h s (ix3 q n j) : EReal) = Spec.joined 2 (fun q j => h (ix3 ⟨min q 1, by omega⟩ n j)) (fun t j => s (ix3 ⟨min t 3, by omega⟩ n j)) q j := by
  have e : (extB h s (ix3 q n j) : EReal) = if hq : q.val < 2 then h (ix3 ⟨q, hq⟩ n j) else s (ix3 ⟨q - 2, by omega⟩ n j) := by
    pointwise [extB]
  rw [e]
  unfold Spec.joined
  by_cases hq : q.val < 2
  · rw [dif_pos hq, if_pos hq]
    exact congrArg (fun p : Fin 2 => h (ix3 p n j)) (Fin.ext (show q.val = min q.val 1 by omega))
  · rw [dif_neg hq, if_neg hq]
    exact congrArg (fun p : Fin 4 => s (ix3 p n j)) (Fin.ext (show q.val - 2 = min (q.val - 2) 3 by omega))

/-- A vector over the channels, at every row. -/
def chan (v : C) : E := broadcastInDim S4x128x512 ![0, 1, 2] bcast_S1x1x512_S4x128x512_0_1_2 (broadcastInDim S1x1x512 ![2] bcast_S512_S1x1x512_2 v)
theorem chan_apply (v : C) (t : Fin 4) (n : Fin 128) (j : Fin 512) : (chan v (ix3 t n j) : EReal) = v (ix1 j) := by
  pointwise [chan]

/-- A tap of the long convolution. -/
def tapA (e : FVec Ideal S34x128x512 .f32) (w : FVec Ideal S31x512 .f32) (k : ℕ) (h : S34x128x512.Slices ![k, 0, 0] S4x128x512) (h' : S31x512.Slices ![k, 0] S1x512) : E :=
  mulf (extractStridedSlice S4x128x512 ![k, 0, 0] e h) (chan (shapeCast S512 (extractStridedSlice S1x512 ![k, 0] w h') shapeCasts_S1x512_S512))
theorem tapA_apply (e : FVec Ideal S34x128x512 .f32) (w : FVec Ideal S31x512 .f32) (k : ℕ) (hk : k < 31) (h : S34x128x512.Slices ![k, 0, 0] S4x128x512) (h' : S31x512.Slices ![k, 0] S1x512)
    (t : Fin 4) (n : Fin 128) (j : Fin 512) : (tapA e w k h h' (ix3 t n j) : EReal) = w (ix2 ⟨k, hk⟩ j) * e (ix3 ⟨t + k, by omega⟩ n j) := by
  unfold tapA
  show (_ * _ : EReal) = _
  rw [chan_apply, mul_comm]
  refine congrArg₂ (fun a b : EReal => a * b) ?_ ?_
  · refine (shapeCast_apply (s := S1x512) _ _ _ (ix2 0 j) ?_).trans ?_
    · rw [Shape.rowMajor_val_two, Shape.rowMajor_val_one]
      show 0 * 512 + j.val = j.val
      omega
    · pointwise
  · pointwise
    exact congrArg (fun q : Fin 34 => e (ix3 q n j)) (Fin.ext (Nat.add_comm k t))

theorem slA : ∀ k : Fin 31, S34x128x512.Slices ![k, 0, 0] S4x128x512 := by decide
theorem slA' : ∀ k : Fin 31, S31x512.Slices ![k, 0] S1x512 := by decide
/-- The zeros a convolution starts from. -/
def zeros : E := broadcastInDim S4x128x512 ![] bcast_S_S4x128x512 (constant S_ .f32 0x00000000#32)
theorem zeros_apply (t : Fin 4) (n : Fin 128) (j : Fin 512) : (zeros (ix3 t n j) : EReal) = 0 := by
  pointwise [zeros]
/-- The long convolution's first taps, one after another. -/
def accA (e : FVec Ideal S34x128x512 .f32) (w : FVec Ideal S31x512 .f32) : ℕ → E
  | 0 => zeros
  | k + 1 => addf (accA e w k) (tapA e w (min k 30) (slA ⟨min k 30, by omega⟩) (slA' ⟨min k 30, by omega⟩))
theorem accA_apply (e : FVec Ideal S34x128x512 .f32) (w : FVec Ideal S31x512 .f32) (E' : ℕ → Fin 512 → EReal) (t : Fin 4) (n : Fin 128)
    (he : ∀ (q : Fin 34) (j : Fin 512), e (ix3 q n j) = E' q j) (j : Fin 512) (k : ℕ) (hk : k ≤ 31) :
    (accA e w k (ix3 t n j) : EReal) = Spec.conv k (fun k j => w (ix2 ⟨min k 30, by omega⟩ j)) E' t j := by
  induction k with
  | zero =>
    refine (zeros_apply t n j).trans ?_
    unfold Spec.conv
    rw [Finset.sum_range_zero]
  | succ k ih =>
    show (accA e w k (ix3 t n j) + tapA e w (min k 30) _ _ (ix3 t n j) : EReal) = _
    rw [ih (by omega), tapA_apply e w _ (by omega), he]
    unfold Spec.conv
    rw [Finset.sum_range_succ]
    refine congrArg (fun q => _ + w (ix2 ⟨min k 30, by omega⟩ j) * E' q j) ?_
    show t.val + min k 30 = t.val + k
    omega

/-- A tap of the short convolution. -/
def tapB (e : FVec Ideal S6x128x512 .f32) (w : FVec Ideal S3x512 .f32) (k : ℕ) (h : S6x128x512.Slices ![k, 0, 0] S4x128x512) (h' : S3x512.Slices ![k, 0] S1x512) : E :=
  mulf (extractStridedSlice S4x128x512 ![k, 0, 0] e h) (chan (shapeCast S512 (extractStridedSlice S1x512 ![k, 0] w h') shapeCasts_S1x512_S512))
theorem tapB_apply (e : FVec Ideal S6x128x512 .f32) (w : FVec Ideal S3x512 .f32) (k : ℕ) (hk : k < 3) (h : S6x128x512.Slices ![k, 0, 0] S4x128x512) (h' : S3x512.Slices ![k, 0] S1x512)
    (t : Fin 4) (n : Fin 128) (j : Fin 512) : (tapB e w k h h' (ix3 t n j) : EReal) = w (ix2 ⟨k, hk⟩ j) * e (ix3 ⟨t + k, by omega⟩ n j) := by
  unfold tapB
  show (_ * _ : EReal) = _
  rw [chan_apply, mul_comm]
  refine congrArg₂ (fun a b : EReal => a * b) ?_ ?_
  · refine (shapeCast_apply (s := S1x512) _ _ _ (ix2 0 j) ?_).trans ?_
    · rw [Shape.rowMajor_val_two, Shape.rowMajor_val_one]
      show 0 * 512 + j.val = j.val
      omega
    · pointwise
  · pointwise
    exact congrArg (fun q : Fin 6 => e (ix3 q n j)) (Fin.ext (Nat.add_comm k t))
theorem slB : ∀ k : Fin 3, S6x128x512.Slices ![k, 0, 0] S4x128x512 := by decide
theorem slB' : ∀ k : Fin 3, S3x512.Slices ![k, 0] S1x512 := by decide
/-- The short convolution's first taps. -/
def accB (e : FVec Ideal S6x128x512 .f32) (w : FVec Ideal S3x512 .f32) : ℕ → E
  | 0 => zeros
  | k + 1 => addf (accB e w k) (tapB e w (min k 2) (slB ⟨min k 2, by omega⟩) (slB' ⟨min k 2, by omega⟩))
theorem accB_apply (e : FVec Ideal S6x128x512 .f32) (w : FVec Ideal S3x512 .f32) (E' : ℕ → Fin 512 → EReal) (t : Fin 4) (n : Fin 128)
    (he : ∀ (q : Fin 6) (j : Fin 512), e (ix3 q n j) = E' q j) (j : Fin 512) (k : ℕ) (hk : k ≤ 3) :
    (accB e w k (ix3 t n j) : EReal) = Spec.conv k (fun k j => w (ix2 ⟨min k 2, by omega⟩ j)) E' t j := by
  induction k with
  | zero =>
    refine (zeros_apply t n j).trans ?_
    unfold Spec.conv
    rw [Finset.sum_range_zero]
  | succ k ih =>
    show (accB e w k (ix3 t n j) + tapB e w (min k 2) _ _ (ix3 t n j) : EReal) = _
    rw [ih (by omega), tapB_apply e w _ (by omega), he]
    unfold Spec.conv
    rw [Finset.sum_range_succ]
    refine congrArg (fun q => _ + w (ix2 ⟨min k 2, by omega⟩ j) * E' q j) ?_
    show t.val + min k 2 = t.val + k
    omega

/-- The rows less their means. -/
def cenR (y : E) : E := subf y (broadcastInDim S4x128x512 ![0, 1, 2] bcast_S4x128x1_S4x128x512_0_1_2 (Host.divf (broadcastInDim S4x128x1 ![0, 1] bcast_S4x128_S4x128x1_0_1 (Host.reduceAdd y (constant S_ .f32 0x00000000#32) reducesTo_S4x128x512_S4x128_d2 h_S_)) (broadcastInDim S4x128x1 ![] bcast_S_S4x128x1 (constant S_ .f32 0x44000000#32))))
theorem cenR_apply (y : E) (t : Fin 4) (n : Fin 128) (j : Fin 512) : cenR y (ix3 t n j) = Spec.centre (fun k => y (ix3 t n k)) j := by
  pointwise [cenR, Spec.centre]
/-- Centred rows brought to variance one, with gain and bias. -/
def lnR (d : E) (g b : C) : E := addf (mulf (mulf d (broadcastInDim S4x128x512 ![0, 1, 2] bcast_S4x128x1_S4x128x512_0_1_2 (Host.rsqrt (addf (Host.divf (broadcastInDim S4x128x1 ![0, 1] bcast_S4x128_S4x128x1_0_1 (Host.reduceAdd (mulf d d) (constant S_ .f32 0x00000000#32) reducesTo_S4x128x512_S4x128_d2 h_S_)) (broadcastInDim S4x128x1 ![] bcast_S_S4x128x1 (constant S_ .f32 0x44000000#32))) (broadcastInDim S4x128x1 ![] bcast_S_S4x128x1 (constant S_ .f32 0x358637BD#32)))))) (chan g)) (chan b)
theorem lnR_apply (y : E) (g b : C) (t : Fin 4) (n : Fin 128) (j : Fin 512) :
    lnR (cenR y) g b (ix3 t n j) = Spec.lnorm (fun k => y (ix3 t n k)) (fun k => g (ix1 k)) (fun k => b (ix1 k)) j := by
  have key : ∀ d : E, (lnR d g b (ix3 t n j) : EReal) = d (ix3 t n j) * Ideal.rsqrt (Ideal.div (∑ k : Fin 512, (d (ix3 t n k) * d (ix3 t n k) : EReal)) (Ideal.ofBits .f32 0x44000000#32) + Ideal.ofBits .f32 0x358637BD#32) * g (ix1 j) + b (ix1 j) := by
    intro d
    pointwise [lnR, chan]
  rw [key]
  simp only [cenR_apply]
  rfl
/-- The activation after it. -/
def siluR (v : E) : E := mulf v (Host.divf (broadcastInDim S4x128x512 ![] bcast_S_S4x128x512 (constant S_ .f32 0x3F800000#32)) (addf (broadcastInDim S4x128x512 ![] bcast_S_S4x128x512 (constant S_ .f32 0x3F800000#32)) (Host.exp (Host.negf v))))
theorem siluR_apply (v : E) (t : Fin 4) (n : Fin 128) (j : Fin 512) : (siluR v (ix3 t n j) : EReal) = v (ix3 t n j) * Ideal.logistic (v (ix3 t n j)) := by
  pointwise [siluR, Ideal.logistic]

/-- The gate of the short convolution's part. -/
def gateR (z : Z) (v : E) : E := mulf (extractStridedSlice S4x128x512 ![0, 0, 1024] z slices_S4x128x2560_S4x128x512_0_0_1024) v
theorem gateR_apply (z : Z) (v : E) (t : Fin 4) (n : Fin 128) (j : Fin 512) : (gateR z v (ix3 t n j) : EReal) = z (ix3 t n ⟨1024 + j, by omega⟩) * v (ix3 t n j) := by
  pointwise [gateR]

/-- The output projection of both parts, added to the rows. -/
def outR (x : X) (a b : E) (w : FVec Ideal S1024x1024 .f32) : X :=
  addf x (shapeCast S512x1024 (Host.dotGeneral dot_S4x128x1024_S1024x1024_S4x128x1024_2_0_01_1_n_n none (concatenate S4x128x1024 2 [⟨S4x128x512, a⟩, ⟨S4x128x512, b⟩] concatenates_S4x128x512_S4x128x512_S4x128x1024_d2) w) shapeCasts_S4x128x1024_S512x1024)
theorem outR_apply (x : X) (a b : E) (w : FVec Ideal S1024x1024 .f32) (r : Fin 512) (j : Fin 1024) :
    (outR x a b w (ix2 r j) : EReal) = x (ix2 r j) + Spec.outp (fun k => a (ix3 ⟨r / 128, by omega⟩ ⟨r % 128, by omega⟩ k)) (fun k => b (ix3 ⟨r / 128, by omega⟩ ⟨r % 128, by omega⟩ k)) (fun i l => w (ix2 i l)) j := by
  unfold outR
  show (_ + _ : EReal) = _
  refine congrArg (fun v : EReal => x (ix2 r j) + v) ?_
  refine (shapeCast_apply (s := S4x128x1024) _ _ _ (ix3 ⟨r / 128, by omega⟩ ⟨r % 128, by omega⟩ j) ?_).trans ?_
  · rw [Shape.rowMajor_val_two, Shape.rowMajor_val_three]
    show (r.val / 128 * 128 + r.val % 128) * 1024 + j.val = r.val * 1024 + j.val
    omega
  have key : ∀ (c : FVec Ideal S4x128x1024 .f32) (t : Fin 4) (n : Fin 128), (Host.dotGeneral dot_S4x128x1024_S1024x1024_S4x128x1024_2_0_01_1_n_n none c w (ix3 t n j) : EReal) = ∑ k : Fin 1024, c (ix3 t n k) * w (ix2 k j) := by
    intro c t n
    pointwise
  have cat : ∀ (t : Fin 4) (n : Fin 128) (k : Fin 1024), (concatenate S4x128x1024 2 [⟨S4x128x512, a⟩, ⟨S4x128x512, b⟩] concatenates_S4x128x512_S4x128x512_S4x128x1024_d2 (ix3 t n k) : EReal) = if hk : k.val < 512 then a (ix3 t n ⟨k, hk⟩) else b (ix3 t n ⟨k - 512, by omega⟩) := by
    intro t n k
    pointwise
  rw [key]
  simp only [cat]
  unfold Spec.outp
  refine (Fin.sum_univ_add (a := 512) (b := 512) _).trans ?_
  refine congrArg₂ (fun p q : EReal => p + q) (Finset.sum_congr rfl fun k _ => ?_) (Finset.sum_congr rfl fun k _ => ?_)
  · rw [dif_pos (show (Fin.castAdd 512 k).val < 512 from k.2)]
    rfl
  · rw [dif_neg (show ¬ (Fin.natAdd 512 k).val < 512 by show ¬ 512 + k.val < 512; omega)]
    refine congrArg (fun q : Fin 512 => (b (ix3 _ _ q) : EReal) * _) (Fin.ext ?_)
    show 512 + k.val - 512 = k.val
    omega

end Cert.Ref3
-- ==== Proof.Mix.RefVal.lean ====
module

public import proofs.«01_k».proof.Proof.Mix.RefOps

@[expose] public section

set_option maxRecDepth 16384

noncomputable section

namespace Cert.Ref3

open Cert.Reference3Ideal Cert.Reference3Ideal.Gen Cert.Reference3Ideal.Value
open Idealize.ShloMosaic Idealize.ShloMosaic.TcCoe Idealize.SL.Sem

/-! The reference's results as functions of its arguments, and read at an index. -/

/-- What the long convolution runs over. -/
def longExt (x : X) (ha : FVec Ideal S30x128x512 .f32) (g : FVec Ideal S1024 .f32) (w : FVec Ideal S1024x2560 .f32) : FVec Ideal S34x128x512 .f32 := extA ha (gluR (zed x g w))
/-- What the short one runs over. -/
def shortExt (x : X) (hb : FVec Ideal S2x128x512 .f32) (g : FVec Ideal S1024 .f32) (w : FVec Ideal S1024x2560 .f32) : FVec Ideal S6x128x512 .f32 := extB hb (gatedR (zed x g w))
/-- The long convolution, its bias added. -/
def longConv (e : FVec Ideal S34x128x512 .f32) (w : FVec Ideal S31x512 .f32) (b : C) : E := addf (accA e w 31) (chan b)

/-- The rows put out. -/
def ref0 (x : X) (ha : FVec Ideal S30x128x512 .f32) (hb : FVec Ideal S2x128x512 .f32) (g : FVec Ideal S1024 .f32) (w : FVec Ideal S1024x2560 .f32)
    (cw : FVec Ideal S31x512 .f32) (cb lg lb : C) (sw : FVec Ideal S3x512 .f32) (wo : FVec Ideal S1024x1024 .f32) : X :=
  outR x (siluR (lnR (cenR (longConv (longExt x ha g w) cw cb)) lg lb)) (gateR (zed x g w) (accB (shortExt x hb g w) sw 3)) wo
/-- The long convolution's history after the steps. -/
def ref1 (x : X) (ha : FVec Ideal S30x128x512 .f32) (g : FVec Ideal S1024 .f32) (w : FVec Ideal S1024x2560 .f32) : FVec Ideal S30x128x512 .f32 :=
  extractStridedSlice S30x128x512 ![4, 0, 0] (longExt x ha g w) slices_S34x128x512_S30x128x512_4_0_0
/-- The short convolution's. -/
def ref2 (x : X) (hb : FVec Ideal S2x128x512 .f32) (g : FVec Ideal S1024 .f32) (w : FVec Ideal S1024x2560 .f32) : FVec Ideal S2x128x512 .f32 :=
  extractStridedSlice S2x128x512 ![4, 0, 0] (shortExt x hb g w) slices_S6x128x512_S2x128x512_4_0_0

section read
variable (x : X) (ha : FVec Ideal S30x128x512 .f32) (hb : FVec Ideal S2x128x512 .f32) (g : FVec Ideal S1024 .f32) (w : FVec Ideal S1024x2560 .f32)
variable (cw : FVec Ideal S31x512 .f32) (cb lg lb : C) (sw : FVec Ideal S3x512 .f32) (wo : FVec Ideal S1024x1024 .f32)

/-- The reference's arguments by index. -/
abbrev rX (r : Fin 512) (j : Fin 1024) : EReal := x (ix2 r j)
abbrev rG (j : Fin 1024) : EReal := g (ix1 j)
abbrev rW (i : Fin 1024) (j : Fin 2560) : EReal := w (ix2 i j)
abbrev rHA (n : Fin 128) (q : ℕ) (j : Fin 512) : EReal := ha (ix3 ⟨min q 29, by omega⟩ n j)
abbrev rHB (n : Fin 128) (q : ℕ) (j : Fin 512) : EReal := hb (ix3 ⟨min q 1, by omega⟩ n j)
abbrev rCW (k : ℕ) (j : Fin 512) : EReal := cw (ix2 ⟨min k 30, by omega⟩ j)
abbrev rSW (k : ℕ) (j : Fin 512) : EReal := sw (ix2 ⟨min k 2, by omega⟩ j)
abbrev rC (v : C) (j : Fin 512) : EReal := v (ix1 j)
abbrev rWO (i j : Fin 1024) : EReal := wo (ix2 i j)

theorem longExt_apply (q : Fin 34) (n : Fin 128) (j : Fin 512) :
    longExt x ha g w (ix3 q n j) = Spec.joined 30 (rHA ha n) (Spec.stepped Spec.glu (rX x) (rG g) (rW w) n) q j := by
  unfold longExt
  rw [extA_apply]
  refine congrArg (fun s => Spec.joined 30 (rHA ha n) s q j) (funext fun t => funext fun k => ?_)
  rw [gluR_apply]
  simp only [zed_apply]
  rfl
theorem shortExt_apply (q : Fin 6) (n : Fin 128) (j : Fin 512) :
    shortExt x hb g w (ix3 q n j) = Spec.joined 2 (rHB hb n) (Spec.stepped Spec.gated (rX x) (rG g) (rW w) n) q j := by
  unfold shortExt
  rw [extB_apply]
  refine congrArg (fun s => Spec.joined 2 (rHB hb n) s q j) (funext fun t => funext fun k => ?_)
  rw [gatedR_apply]
  simp only [zed_apply]
  rfl
theorem longConv_apply (t : Fin 4) (n : Fin 128) (j : Fin 512) : longConv (longExt x ha g w) cw cb (ix3 t n j)
    = rC cb j + Spec.conv 31 (rCW cw) (Spec.joined 30 (rHA ha n) (Spec.stepped Spec.glu (rX x) (rG g) (rW w) n)) t j := by
  unfold longConv
  show (accA _ cw 31 (ix3 t n j) + chan cb (ix3 t n j) : EReal) = _
  rw [accA_apply _ cw _ t n (fun q j => longExt_apply x ha g w q n j) j 31 (le_refl _), chan_apply, add_comm]

theorem ref0_apply (r : Fin 512) (j : Fin 1024) : ref0 x ha hb g w cw cb lg lb sw wo (ix2 r j)
    = Spec.sampled (rX x) (rG g) (rW w) (rHA ha) (rHB hb) (rCW cw) (rC cb) (rC lg) (rC lb) (rSW sw) (rWO wo) r j := by
  unfold ref0
  rw [outR_apply]
  unfold Spec.sampled
  refine congrArg (fun v : EReal => x (ix2 r j) + v) ?_
  refine congrArg₂ (fun p q => Spec.outp p q (rWO wo) j) (funext fun k => ?_) (funext fun k => ?_)
  · rw [siluR_apply, lnR_apply]
    simp only [longConv_apply]
    rfl
  · rw [gateR_apply, accB_apply _ sw _ _ _ (fun q j => shortExt_apply x hb g w q _ j) k 3 (le_refl _), zed_apply]
    unfold Spec.shortPart
    refine congrArg (fun p : Fin 512 => Spec.zrow (rX x p) (rG g) (rW w) ⟨1024 + k, by omega⟩ * _) (Fin.ext ?_)
    show 128 * (r.val / 128) + r.val % 128 = r.val
    omega
theorem ref1_apply (q : Fin 30) (n : Fin 128) (j : Fin 512) : ref1 x ha g w (ix3 q n j)
    = Spec.joined 30 (rHA ha n) (Spec.stepped Spec.glu (rX x) (rG g) (rW w) n) (q.val + 4) j := by
  have key : ∀ e : FVec Ideal S34x128x512 .f32, (extractStridedSlice S30x128x512 ![4, 0, 0] e slices_S34x128x512_S30x128x512_4_0_0 (ix3 q n j) : EReal) = e (ix3 ⟨4 + q, by omega⟩ n j) := by
    intro e
    pointwise
  unfold ref1
  rw [key, longExt_apply]
  exact congrArg (fun p => Spec.joined 30 _ _ p j) (Nat.add_comm 4 q)
theorem ref2_apply (q : Fin 2) (n : Fin 128) (j : Fin 512) : ref2 x hb g w (ix3 q n j)
    = Spec.joined 2 (rHB hb n) (Spec.stepped Spec.gated (rX x) (rG g) (rW w) n) (q.val + 4) j := by
  have key : ∀ e : FVec Ideal S6x128x512 .f32, (extractStridedSlice S2x128x512 ![4, 0, 0] e slices_S6x128x512_S2x128x512_4_0_0 (ix3 q n j) : EReal) = e (ix3 ⟨4 + q, by omega⟩ n j) := by
    intro e
    pointwise
  unfold ref2
  rw [key, shortExt_apply]
  exact congrArg (fun p => Spec.joined 2 _ _ p j) (Nat.add_comm 4 q)
end read

section names
variable (V : Valuation τ sig (Elt Ideal))
theorem v14_eq : res_main_v14 V = zed (V (Proc.devRef .tc main_arg0)) (V (Proc.devRef .tc main_arg3)) (V (Proc.devRef .tc main_arg4)) := rfl
theorem v27_eq : res_main_v27 V = longExt (V (Proc.devRef .tc main_arg0)) (V (Proc.devRef .tc main_arg1)) (V (Proc.devRef .tc main_arg3)) (V (Proc.devRef .tc main_arg4)) := by
  unfold res_main_v27
  rw [v14_eq]
  rfl
theorem v105_eq : res_main_v105 V = accA (res_main_v27 V) (V (Proc.devRef .tc main_arg5)) 11 := rfl
theorem v182_eq : res_main_v182 V = accA (res_main_v27 V) (V (Proc.devRef .tc main_arg5)) 22 := by
  unfold res_main_v182
  rw [v105_eq]
  rfl
theorem v248_eq : res_main_v248 V = longConv (longExt (V (Proc.devRef .tc main_arg0)) (V (Proc.devRef .tc main_arg1)) (V (Proc.devRef .tc main_arg3)) (V (Proc.devRef .tc main_arg4))) (V (Proc.devRef .tc main_arg5)) (V (Proc.devRef .tc main_arg6)) := by
  rw [← v27_eq]
  unfold res_main_v248
  rw [v182_eq]
  rfl
theorem v254_eq : res_main_v254 V = cenR (longConv (longExt (V (Proc.devRef .tc main_arg0)) (V (Proc.devRef .tc main_arg1)) (V (Proc.devRef .tc main_arg3)) (V (Proc.devRef .tc main_arg4))) (V (Proc.devRef .tc main_arg5)) (V (Proc.devRef .tc main_arg6))) := by
  rw [← v248_eq]
  rfl
theorem v270_eq : res_main_v270 V = lnR (cenR (longConv (longExt (V (Proc.devRef .tc main_arg0)) (V (Proc.devRef .tc main_arg1)) (V (Proc.devRef .tc main_arg3)) (V (Proc.devRef .tc main_arg4))) (V (Proc.devRef .tc main_arg5)) (V (Proc.devRef .tc main_arg6)))) (V (Proc.devRef .tc main_arg7)) (V (Proc.devRef .tc main_arg8)) := by
  rw [← v254_eq]
  rfl
theorem v273_eq : res_main_v273 V = shortExt (V (Proc.devRef .tc main_arg0)) (V (Proc.devRef .tc main_arg2)) (V (Proc.devRef .tc main_arg3)) (V (Proc.devRef .tc main_arg4)) := by
  unfold res_main_v273
  rw [v14_eq]
  rfl
end names

/-- The reference's three results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v300) = ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v301) = ref1 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v302) = ref2 (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ⟨(h c).1.trans ?_, (h c).2.1.trans ?_, (h c).2.2.1.trans ?_, (h c).2.2.2⟩) (run (F := Ideal) m ρ)
  · rw [v270_eq, v273_eq, v14_eq]
    rfl
  · rw [v27_eq]
    rfl
  · rw [v273_eq]
    rfl

end Cert.Ref3
-- ==== Proof.Hist.Spec.lean ====
module

public import proofs.«01_k».proof.Proof.Pool.Spec

@[expose] public section

noncomputable section

namespace Cert.Spec

open Idealize.ShloMosaic

/-! The pool mixer of a few sampled rows that follow a history of fifteen normalised rows. -/

/-- A history of `n` rows, then the steps. -/
def follow (n : ℕ) (hist step : ℕ → Fin 1024 → EReal) (q : ℕ) : Fin 1024 → EReal := if q < n then hist q else step (q - n)

/-- The pooled row of step `t`, of a history of fifteen rows and the steps: the mean over the window, less the row itself. -/
def means (e : ℕ → Fin 1024 → EReal) (t : ℕ) (j : Fin 1024) : EReal :=
  Ideal.div (∑ i ∈ Finset.range (2 ^ (j.val / 256 + 1)), e (15 + t - i) j) (cap (j / 256)) - e (15 + t) j

/-- Sequence `n`'s normalised rows, step by step; past the last step, the last. -/
def normed (x : Fin 512 → Fin 1024 → EReal) (g : Fin 1024 → EReal) (n : Fin 128) (t : ℕ) : Fin 1024 → EReal := norm (x ⟨128 * min t 3 + n, by omega⟩) g

/-- Sequence `n`'s history and normalised rows. -/
def lined (x : Fin 512 → Fin 1024 → EReal) (g : Fin 1024 → EReal) (h : Fin 128 → ℕ → Fin 1024 → EReal) (n : Fin 128) : ℕ → Fin 1024 → EReal :=
  follow 15 (h n) (normed x g n)

/-- A row put out: step `r / 128` of sequence `r % 128`, with its pooled row mixed in. -/
def mixedIn (x : Fin 512 → Fin 1024 → EReal) (g : Fin 1024 → EReal) (h : Fin 128 → ℕ → Fin 1024 → EReal) (w : Fin 4 → Fin 256 → Fin 256 → EReal)
    (b s : Fin 1024 → EReal) (r : Fin 512) : Fin 1024 → EReal :=
  mix (x r) (means (lined x g h ⟨r % 128, by omega⟩) (r / 128)) w b s

end Cert.Spec
-- ==== Proof.Hist.Parts.lean ====
module

public import proofs.«01_k».proof.Proof.Gen.Kernel4Ideal.Frame
public import proofs.«01_k».proof.Proof.Hist.Spec
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel4Ideal.Hist

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body computes, part by part -/

/-- History row `q`, columns of group `G`. -/
def hG (x : Vec F S15x128x1024 .f32) (G q : ℕ) : Vec F S1x128x256 .f32 :=
  View.ld x (Rect.unit (s := S15x128x1024) ![min q 14, 0, 256 * min G 3] S1x128x256.size (fun a => match a with | 0 => (by show min q 14 + 1 ≤ 15; omega) | 1 => (by show 0 + 128 ≤ 128; omega) | 2 => (by show 256 * min G 3 + 256 ≤ 1024; omega)))
/-- Step `t` of all sequences, columns of group `G`. -/
def stepG (u : Vec F S512x1024 .f32) (G t : ℕ) : Vec F S128x256 .f32 :=
  View.ld u (Rect.unit (s := S512x1024) ![128 * min t 3, 256 * min G 3] S128x256.size (fun a => match a with | 0 => (by show 128 * min t 3 + 128 ≤ 512; omega) | 1 => (by show 256 * min G 3 + 256 ≤ 1024; omega)))
/-- Row `q` of the history and the steps, columns of group `G`. -/
def extG (x : Vec F S15x128x1024 .f32) (u : Vec F S512x1024 .f32) (G q : ℕ) : FVec F S128x256 .f32 :=
  if q < 15 then shapeCast S128x256 (hG x G q) shapeCasts_S1x128x256_S128x256 else stepG u G (q - 15)
/-- The sum of row `15 + t` and the `k` rows before it. -/
def sumG (x : Vec F S15x128x1024 .f32) (u : Vec F S512x1024 .f32) (G t : ℕ) : ℕ → FVec F S128x256 .f32
  | 0 => extG x u G (15 + t)
  | k + 1 => addf (sumG x u G t k) (extG x u G (15 + t - (k + 1)))
/-- The width of group `G`'s window, as the body writes it. -/
def capBits : ℕ → BitVec 32
  | 0 => 0x40000000#32
  | 1 => 0x40800000#32
  | 2 => 0x41000000#32
  | _ => 0x41800000#32
/-- Group `G`'s pooled rows of step `t`: the mean of `k + 1` rows, less the last of them. -/
def meanG (x : Vec F S15x128x1024 .f32) (u : Vec F S512x1024 .f32) (G k t : ℕ) : FVec F S128x256 .f32 :=
  shapeCast S128x256 (subf (divf (sumG x u G t k) (broadcast S128x256 (Scalar.ofBits .f32 (capBits G)))) (extG x u G (15 + t))) shapeCasts_S128x256_S128x256

/-- All groups' pooled rows, step by step. -/
def pooled (x : Vec F S15x128x1024 .f32) (u : Vec F S512x1024 .f32) : Vec F S512x1024 .f32 :=
  View.canon [
    ⟨Rect.unit (s := S512x1024) ![384, 768] S128x256.size inb_S512x1024_S128x256_384_768, meanG x u 3 15 3⟩,
    ⟨Rect.unit (s := S512x1024) ![384, 512] S128x256.size inb_S512x1024_S128x256_384_512, meanG x u 2 7 3⟩,
    ⟨Rect.unit (s := S512x1024) ![384, 256] S128x256.size inb_S512x1024_S128x256_384_256, meanG x u 1 3 3⟩,
    ⟨Rect.unit (s := S512x1024) ![384, 0] S128x256.size inb_S512x1024_S128x256_384_0, meanG x u 0 1 3⟩,
    ⟨Rect.unit (s := S512x1024) ![256, 768] S128x256.size inb_S512x1024_S128x256_256_768, meanG x u 3 15 2⟩,
    ⟨Rect.unit (s := S512x1024) ![256, 512] S128x256.size inb_S512x1024_S128x256_256_512, meanG x u 2 7 2⟩,
    ⟨Rect.unit (s := S512x1024) ![256, 256] S128x256.size inb_S512x1024_S128x256_256_256, meanG x u 1 3 2⟩,
    ⟨Rect.unit (s := S512x1024) ![256, 0] S128x256.size inb_S512x1024_S128x256_256_0, meanG x u 0 1 2⟩,
    ⟨Rect.unit (s := S512x1024) ![128, 768] S128x256.size inb_S512x1024_S128x256_128_768, meanG x u 3 15 1⟩,
    ⟨Rect.unit (s := S512x1024) ![128, 512] S128x256.size inb_S512x1024_S128x256_128_512, meanG x u 2 7 1⟩,
    ⟨Rect.unit (s := S512x1024) ![128, 256] S128x256.size inb_S512x1024_S128x256_128_256, meanG x u 1 3 1⟩,
    ⟨Rect.unit (s := S512x1024) ![128, 0] S128x256.size inb_S512x1024_S128x256_128_0, meanG x u 0 1 1⟩,
    ⟨Rect.unit (s := S512x1024) ![0, 768] S128x256.size inb_S512x1024_S128x256_0_768, meanG x u 3 15 0⟩,
    ⟨Rect.unit (s := S512x1024) ![0, 512] S128x256.size inb_S512x1024_S128x256_0_512, meanG x u 2 7 0⟩,
    ⟨Rect.unit (s := S512x1024) ![0, 256] S128x256.size inb_S512x1024_S128x256_0_256, meanG x u 1 3 0⟩,
    ⟨Rect.unit (s := S512x1024) ![0, 0] S128x256.size inb_S512x1024_S128x256_0_0, meanG x u 0 1 0⟩]

/-- History row `q`. -/
def hRow (x : Vec F S15x128x1024 .f32) (q : ℕ) : Vec F S1x128x1024 .f32 :=
  View.ld x (Rect.unit (s := S15x128x1024) ![min q 14, 0, 0] S1x128x1024.size (fun a => match a with | 0 => (by show min q 14 + 1 ≤ 15; omega) | 1 => (by show 0 + 128 ≤ 128; omega) | 2 => (by show 0 + 1024 ≤ 1024; omega)))
/-- Step `t` of all sequences. -/
def stepRow (u : Vec F S512x1024 .f32) (t : ℕ) : Vec F S128x1024 .f32 :=
  View.ld u (Rect.unit (s := S512x1024) ![128 * min t 3, 0] S128x1024.size (fun a => match a with | 0 => (by show 128 * min t 3 + 128 ≤ 512; omega) | 1 => (by show 0 + 1024 ≤ 1024; omega)))
/-- Row `q` of the history and the steps. -/
def extRow (x : Vec F S15x128x1024 .f32) (u : Vec F S512x1024 .f32) (q : ℕ) : FVec F S128x1024 .f32 :=
  if q < 15 then shapeCast S128x1024 (hRow x q) shapeCasts_S1x128x1024_S128x1024 else stepRow u (q - 15)
/-- A row of all sequences, with the step's axis in front. -/
def front (e : FVec F S128x1024 .f32) : FVec F S1x128x1024 .f32 := shapeCast S1x128x1024 e shapeCasts_S128x1024_S1x128x1024

/-- The last fifteen rows. -/
def newHist (x : Vec F S15x128x1024 .f32) (u : Vec F S512x1024 .f32) : Vec F S15x128x1024 .f32 :=
  View.canon [
    ⟨Rect.unit (s := S15x128x1024) ![14, 0, 0] S1x128x1024.size inb_S15x128x1024_S1x128x1024_14_0_0, front (extRow x u 18)⟩,
    ⟨Rect.unit (s := S15x128x1024) ![13, 0, 0] S1x128x1024.size inb_S15x128x1024_S1x128x1024_13_0_0, front (extRow x u 17)⟩,
    ⟨Rect.unit (s := S15x128x1024) ![12, 0, 0] S1x128x1024.size inb_S15x128x1024_S1x128x1024_12_0_0, front (extRow x u 16)⟩,
    ⟨Rect.unit (s := S15x128x1024) ![11, 0, 0] S1x128x1024.size inb_S15x128x1024_S1x128x1024_11_0_0, front (extRow x u 15)⟩,
    ⟨Rect.unit (s := S15x128x1024) ![10, 0, 0] S1x128x1024.size inb_S15x128x1024_S1x128x1024_10_0_0, front (extRow x u 14)⟩,
    ⟨Rect.unit (s := S15x128x1024) ![9, 0, 0] S1x128x1024.size inb_S15x128x1024_S1x128x1024_9_0_0, front (extRow x u 13)⟩,
    ⟨Rect.unit (s := S15x128x1024) ![8, 0, 0] S1x128x1024.size inb_S15x128x1024_S1x128x1024_8_0_0, front (extRow x u 12)⟩,
    ⟨Rect.unit (s := S15x128x1024) ![7, 0, 0] S1x128x1024.size inb_S15x128x1024_S1x128x1024_7_0_0, front (extRow x u 11)⟩,
    ⟨Rect.unit (s := S15x128x1024) ![6, 0, 0] S1x128x1024.size inb_S15x128x1024_S1x128x1024_6_0_0, front (extRow x u 10)⟩,
    ⟨Rect.unit (s := S15x128x1024) ![5, 0, 0] S1x128x1024.size inb_S15x128x1024_S1x128x1024_5_0_0, front (extRow x u 9)⟩,
    ⟨Rect.unit (s := S15x128x1024) ![4, 0, 0] S1x128x1024.size inb_S15x128x1024_S1x128x1024_4_0_0, front (extRow x u 8)⟩,
    ⟨Rect.unit (s := S15x128x1024) ![3, 0, 0] S1x128x1024.size inb_S15x128x1024_S1x128x1024_3_0_0, front (extRow x u 7)⟩,
    ⟨Rect.unit (s := S15x128x1024) ![2, 0, 0] S1x128x1024.size inb_S15x128x1024_S1x128x1024_2_0_0, front (extRow x u 6)⟩,
    ⟨Rect.unit (s := S15x128x1024) ![1, 0, 0] S1x128x1024.size inb_S15x128x1024_S1x128x1024_1_0_0, front (extRow x u 5)⟩,
    ⟨Rect.unit (s := S15x128x1024) ![0, 0, 0] S1x128x1024.size inb_S15x128x1024_S1x128x1024_0_0_0, front (extRow x u 4)⟩]

/-- Group `G`'s weights. -/
def wg (W : Vec F S4x256x256 .bf16) (G : ℕ) (h : ∀ a, (![G, 0, 0] : Fin 3 → ℕ) a + S1x256x256.size a ≤ S4x256x256.size a) : Vec F S1x256x256 .bf16 :=
  View.ld W (Rect.unit (s := S4x256x256) ![G, 0, 0] S1x256x256.size h)
/-- The rows put out. -/
def rowsOut (x p : Vec F S512x1024 .f32) (W : Vec F S4x256x256 .bf16) (b s : Vec F S1x1024 .f32) : Vec F S512x1024 .f32 :=
  k0_pay36 x (k0_pay32 p (wg W 0 inb_S4x256x256_S1x256x256_0_0_0)) (k0_pay33 p (wg W 1 inb_S4x256x256_S1x256x256_1_0_0)) (k0_pay34 p (wg W 2 inb_S4x256x256_S1x256x256_2_0_0)) (k0_pay35 p)
    (wg W 3 inb_S4x256x256_S1x256x256_3_0_0) b s

/-! ## Loads of rows stored before -/

theorem cov_cat (v : View sig .tc .vmem S512x1024 .f32) (L : List (View.Piece (Elt F) S512x1024 .f32)) (r : Rect S512x1024) :
    v.readCov (Val := Elt F) L r.toLoadRect = View.ld (View.canon L) r := View.readCov_eq_canon' _ _ _

end Cert.Kernel4Ideal.Hist
-- ==== Proof.Hist.KVal.lean ====
module

public import proofs.«01_k».proof.Proof.Hist.Parts
public import proofs.«01_k».proof.Proof.Pool.KVal
public import Idealize.ShloMosaic.Lib.Pointwise

@[expose] public section

set_option maxRecDepth 16384

noncomputable section

namespace Cert.Kernel4Ideal.Hist

open Cert.Kernel4Ideal.Gen
open Idealize.ShloMosaic
open Cert.KernelIdeal.Pool (row)

/-- The rows of the history and of the steps, by number. -/
abbrev hist (x : Vec Ideal S15x128x1024 .f32) (n : Fin 128) (q : ℕ) (j : Fin 1024) : EReal := x (ix3 ⟨min q 14, by omega⟩ n j)
abbrev steps (u : Vec Ideal S512x1024 .f32) (n : Fin 128) (t : ℕ) (j : Fin 1024) : EReal := u (ix2 ⟨128 * min t 3 + n, by omega⟩ j)

/-! ## The pooled rows -/

theorem hG_apply (x : Vec Ideal S15x128x1024 .f32) (G q : ℕ) (n : Fin 128) (l : Fin 256) : hG x G q (ix3 0 n l) = hist x n q ⟨256 * min G 3 + l, by omega⟩ := by
  pointwise [hG]
theorem stepG_apply (u : Vec Ideal S512x1024 .f32) (G t : ℕ) (n : Fin 128) (l : Fin 256) : stepG u G t (ix2 n l) = steps u n t ⟨256 * min G 3 + l, by omega⟩ := by
  pointwise [stepG]
theorem extG_apply (x : Vec Ideal S15x128x1024 .f32) (u : Vec Ideal S512x1024 .f32) (G q : ℕ) (n : Fin 128) (l : Fin 256) :
    extG x u G q (ix2 n l) = Spec.follow 15 (hist x n) (steps u n) q ⟨256 * min G 3 + l, by omega⟩ := by
  unfold extG Spec.follow
  split_ifs with h
  · refine Eq.trans ?_ (hG_apply x G q n l)
    pointwise
  · exact stepG_apply u G _ n l
theorem sumG_apply (x : Vec Ideal S15x128x1024 .f32) (u : Vec Ideal S512x1024 .f32) (G t k : ℕ) (n : Fin 128) (l : Fin 256) :
    (sumG x u G t k (ix2 n l) : EReal) = ∑ i ∈ Finset.range (k + 1), Spec.follow 15 (hist x n) (steps u n) (15 + t - i) ⟨256 * min G 3 + l, by omega⟩ := by
  induction k with
  | zero =>
    rw [Finset.sum_range_succ, Finset.sum_range_zero, zero_add]
    exact extG_apply x u G (15 + t) n l
  | succ k ih =>
    rw [Finset.sum_range_succ]
    exact congrArg₂ (fun p q : EReal => p + q) ih (extG_apply x u G _ n l)
theorem cap_eq (G : ℕ) : Ideal.ofBits .f32 (capBits G) = Spec.cap G := by
  match G with
  | 0 => rfl
  | 1 => rfl
  | 2 => rfl
  | _ + 3 => rfl
theorem meanG_apply (x : Vec Ideal S15x128x1024 .f32) (u : Vec Ideal S512x1024 .f32) (G k t : ℕ) (hG : G < 4) (hk : k + 1 = 2 ^ (G + 1)) (n : Fin 128) (l : Fin 256) :
    (meanG x u G k t (ix2 n l) : EReal) = Spec.means (Spec.follow 15 (hist x n) (steps u n)) t ⟨256 * G + l, by omega⟩ := by
  have e : (⟨256 * min G 3 + l, by omega⟩ : Fin 1024) = ⟨256 * G + l, by omega⟩ := Fin.ext (by show 256 * min G 3 + l.val = 256 * G + l.val; omega)
  have eg : (256 * G + l.val) / 256 = G := by omega
  unfold meanG
  rw [shapeCast_self]
  show Ideal.div (sumG x u G t k (ix2 n l) : EReal) (Ideal.ofBits .f32 (capBits G)) - (extG x u G (15 + t) (ix2 n l) : EReal) = _
  rw [sumG_apply, extG_apply, cap_eq, e, hk]
  unfold Spec.means
  show _ = Ideal.div (∑ i ∈ Finset.range (2 ^ ((256 * G + l.val) / 256 + 1)), _) (Spec.cap ((256 * G + l.val) / 256)) - _
  rw [eg]

/-- The pooled rows, by row and column. -/
def meanAt (x : Vec Ideal S15x128x1024 .f32) (u : Vec Ideal S512x1024 .f32) (r : Fin 512) (j : Fin 1024) : EReal :=
  Spec.means (Spec.follow 15 (hist x ⟨r % 128, by omega⟩) (steps u ⟨r % 128, by omega⟩)) (r / 128) j
theorem mean_piece (x : Vec Ideal S15x128x1024 .f32) (u : Vec Ideal S512x1024 .f32) (G k t o o' : ℕ) (hG : G < 4) (hk : k + 1 = 2 ^ (G + 1)) (ho : o = 128 * t) (ho' : o' = 256 * G)
    (inb : ∀ a, (![o, o'] : Fin 2 → ℕ) a + S128x256.size a ≤ S512x1024.size a) (y : S128x256.Idx) :
    meanG x u G k t y = (fun y : S512x1024.Idx => (meanAt x u (y 0) (y 1) : Elt Ideal .f32)) ((Rect.unit (s := S512x1024) ![o, o'] S128x256.size inb).emb y) := by
  obtain ⟨n, l, rfl⟩ : ∃ (n : Fin 128) (l : Fin 256), y = ix2 n l := ⟨y 0, y 1, eq_ix2 y⟩
  refine (meanG_apply x u G k t hG hk n l).trans ?_
  have e : ∀ (n n' : Fin 128) (t t' : ℕ) (j j' : Fin 1024), n = n' → t = t' → j = j' →
      Spec.means (Spec.follow 15 (hist x n) (steps u n)) t j = Spec.means (Spec.follow 15 (hist x n') (steps u n')) t' j' := by rintro _ _ _ _ _ _ rfl rfl rfl; rfl
  refine e _ _ _ _ _ _ (Fin.ext ?_) ?_ (Fin.ext ?_)
  · show n.val = (o + 1 * n.val) % 128; omega
  · show t = (o + 1 * n.val) / 128; omega
  · show 256 * G + l.val = o' + 1 * l.val; omega
theorem pooled_apply (x : Vec Ideal S15x128x1024 .f32) (u : Vec Ideal S512x1024 .f32) (r : Fin 512) (j : Fin 1024) : (pooled x u (ix2 r j) : EReal) = meanAt x u r j := by
  unfold pooled
  refine View.canon_apply_of_pieces (Val := Elt Ideal) (e := .f32) (fun y : S512x1024.Idx => (meanAt x u (y 0) (y 1) : Elt Ideal .f32)) _ ?_ (ix2 r j) (View.cover_of_tiled _ ![128, 256] (by rfl) _)
  refine List.forall_mem_cons.2 ⟨mean_piece x u 3 15 3 384 768 (by decide) rfl rfl rfl inb_S512x1024_S128x256_384_768, ?_⟩
  refine List.forall_mem_cons.2 ⟨mean_piece x u 2 7 3 384 512 (by decide) rfl rfl rfl inb_S512x1024_S128x256_384_512, ?_⟩
  refine List.forall_mem_cons.2 ⟨mean_piece x u 1 3 3 384 256 (by decide) rfl rfl rfl inb_S512x1024_S128x256_384_256, ?_⟩
  refine List.forall_mem_cons.2 ⟨mean_piece x u 0 1 3 384 0 (by decide) rfl rfl rfl inb_S512x1024_S128x256_384_0, ?_⟩
  refine List.forall_mem_cons.2 ⟨mean_piece x u 3 15 2 256 768 (by decide) rfl rfl rfl inb_S512x1024_S128x256_256_768, ?_⟩
  refine List.forall_mem_cons.2 ⟨mean_piece x u 2 7 2 256 512 (by decide) rfl rfl rfl inb_S512x1024_S128x256_256_512, ?_⟩
  refine List.forall_mem_cons.2 ⟨mean_piece x u 1 3 2 256 256 (by decide) rfl rfl rfl inb_S512x1024_S128x256_256_256, ?_⟩
  refine List.forall_mem_cons.2 ⟨mean_piece x u 0 1 2 256 0 (by decide) rfl rfl rfl inb_S512x1024_S128x256_256_0, ?_⟩
  refine List.forall_mem_cons.2 ⟨mean_piece x u 3 15 1 128 768 (by decide) rfl rfl rfl inb_S512x1024_S128x256_128_768, ?_⟩
  refine List.forall_mem_cons.2 ⟨mean_piece x u 2 7 1 128 512 (by decide) rfl rfl rfl inb_S512x1024_S128x256_128_512, ?_⟩
  refine List.forall_mem_cons.2 ⟨mean_piece x u 1 3 1 128 256 (by decide) rfl rfl rfl inb_S512x1024_S128x256_128_256, ?_⟩
  refine List.forall_mem_cons.2 ⟨mean_piece x u 0 1 1 128 0 (by decide) rfl rfl rfl inb_S512x1024_S128x256_128_0, ?_⟩
  refine List.forall_mem_cons.2 ⟨mean_piece x u 3 15 0 0 768 (by decide) rfl rfl rfl inb_S512x1024_S128x256_0_768, ?_⟩
  refine List.forall_mem_cons.2 ⟨mean_piece x u 2 7 0 0 512 (by decide) rfl rfl rfl inb_S512x1024_S128x256_0_512, ?_⟩
  refine List.forall_mem_cons.2 ⟨mean_piece x u 1 3 0 0 256 (by decide) rfl rfl rfl inb_S512x1024_S128x256_0_256, ?_⟩
  refine List.forall_mem_cons.2 ⟨mean_piece x u 0 1 0 0 0 (by decide) rfl rfl rfl inb_S512x1024_S128x256_0_0, ?_⟩
  exact fun _ h => absurd h List.not_mem_nil

/-! ## The history put out -/

theorem hRow_apply (x : Vec Ideal S15x128x1024 .f32) (q : ℕ) (n : Fin 128) (j : Fin 1024) : hRow x q (ix3 0 n j) = hist x n q j := by
  pointwise [hRow]
theorem stepRow_apply (u : Vec Ideal S512x1024 .f32) (t : ℕ) (n : Fin 128) (j : Fin 1024) : stepRow u t (ix2 n j) = steps u n t j := by
  pointwise [stepRow]
theorem extRow_apply (x : Vec Ideal S15x128x1024 .f32) (u : Vec Ideal S512x1024 .f32) (q : ℕ) (n : Fin 128) (j : Fin 1024) :
    extRow x u q (ix2 n j) = Spec.follow 15 (hist x n) (steps u n) q j := by
  unfold extRow Spec.follow
  split_ifs with h
  · refine Eq.trans ?_ (hRow_apply x q n j)
    pointwise
  · exact stepRow_apply u _ n j
theorem front_apply (e : FVec Ideal S128x1024 .f32) (a : Fin 1) (n : Fin 128) (j : Fin 1024) : front e (ix3 a n j) = e (ix2 n j) := by
  obtain rfl : a = 0 := Subsingleton.elim _ _
  pointwise [front]
theorem hist_piece (x : Vec Ideal S15x128x1024 .f32) (u : Vec Ideal S512x1024 .f32) (j q : ℕ) (hq : q = j + 4)
    (inb : ∀ a, (![j, 0, 0] : Fin 3 → ℕ) a + S1x128x1024.size a ≤ S15x128x1024.size a) (y : S1x128x1024.Idx) :
    front (extRow x u q) y = (fun y : S15x128x1024.Idx => (Spec.follow 15 (hist x (y 1)) (steps u (y 1)) ((y 0).val + 4) (y 2) : Elt Ideal .f32)) ((Rect.unit (s := S15x128x1024) ![j, 0, 0] S1x128x1024.size inb).emb y) := by
  subst hq
  obtain ⟨a, n, k, rfl⟩ : ∃ (a : Fin 1) (n : Fin 128) (k : Fin 1024), y = ix3 a n k := ⟨y 0, y 1, y 2, eq_ix3 y⟩
  rw [front_apply, extRow_apply]
  have e : ∀ (n n' : Fin 128) (q q' : ℕ) (k k' : Fin 1024), n = n' → q = q' → k = k' →
      Spec.follow 15 (hist x n) (steps u n) q k = Spec.follow 15 (hist x n') (steps u n') q' k' := by rintro _ _ _ _ _ _ rfl rfl rfl; rfl
  refine e _ _ _ _ _ _ (Fin.ext ?_) ?_ (Fin.ext ?_)
  · show n.val = 0 + 1 * n.val; omega
  · show j + 4 = (j + 1 * a.val) + 4; omega
  · show k.val = 0 + 1 * k.val; omega
theorem newHist_apply (x : Vec Ideal S15x128x1024 .f32) (u : Vec Ideal S512x1024 .f32) (q : Fin 15) (n : Fin 128) (j : Fin 1024) :
    newHist x u (ix3 q n j) = Spec.follow 15 (hist x n) (steps u n) (q.val + 4) j := by
  unfold newHist
  refine View.canon_apply_of_pieces (Val := Elt Ideal) (e := .f32) (fun y : S15x128x1024.Idx => (Spec.follow 15 (hist x (y 1)) (steps u (y 1)) ((y 0).val + 4) (y 2) : Elt Ideal .f32)) _ ?_ (ix3 q n j) (View.cover_of_tiled _ ![1, 128, 1024] (by rfl) _)
  refine List.forall_mem_cons.2 ⟨hist_piece x u 14 18 rfl inb_S15x128x1024_S1x128x1024_14_0_0, ?_⟩
  refine List.forall_mem_cons.2 ⟨hist_piece x u 13 17 rfl inb_S15x128x1024_S1x128x1024_13_0_0, ?_⟩
  refine List.forall_mem_cons.2 ⟨hist_piece x u 12 16 rfl inb_S15x128x1024_S1x128x1024_12_0_0, ?_⟩
  refine List.forall_mem_cons.2 ⟨hist_piece x u 11 15 rfl inb_S15x128x1024_S1x128x1024_11_0_0, ?_⟩
  refine List.forall_mem_cons.2 ⟨hist_piece x u 10 14 rfl inb_S15x128x1024_S1x128x1024_10_0_0, ?_⟩
  refine List.forall_mem_cons.2 ⟨hist_piece x u 9 13 rfl inb_S15x128x1024_S1x128x1024_9_0_0, ?_⟩
  refine List.forall_mem_cons.2 ⟨hist_piece x u 8 12 rfl inb_S15x128x1024_S1x128x1024_8_0_0, ?_⟩
  refine List.forall_mem_cons.2 ⟨hist_piece x u 7 11 rfl inb_S15x128x1024_S1x128x1024_7_0_0, ?_⟩
  refine List.forall_mem_cons.2 ⟨hist_piece x u 6 10 rfl inb_S15x128x1024_S1x128x1024_6_0_0, ?_⟩
  refine List.forall_mem_cons.2 ⟨hist_piece x u 5 9 rfl inb_S15x128x1024_S1x128x1024_5_0_0, ?_⟩
  refine List.forall_mem_cons.2 ⟨hist_piece x u 4 8 rfl inb_S15x128x1024_S1x128x1024_4_0_0, ?_⟩
  refine List.forall_mem_cons.2 ⟨hist_piece x u 3 7 rfl inb_S15x128x1024_S1x128x1024_3_0_0, ?_⟩
  refine List.forall_mem_cons.2 ⟨hist_piece x u 2 6 rfl inb_S15x128x1024_S1x128x1024_2_0_0, ?_⟩
  refine List.forall_mem_cons.2 ⟨hist_piece x u 1 5 rfl inb_S15x128x1024_S1x128x1024_1_0_0, ?_⟩
  refine List.forall_mem_cons.2 ⟨hist_piece x u 0 4 rfl inb_S15x128x1024_S1x128x1024_0_0_0, ?_⟩
  exact fun _ h => absurd h List.not_mem_nil

/-! ## The rows put out -/

theorem norm_apply (x : Vec Ideal S512x1024 .f32) (g : Vec Ideal S1x1024 .f32) (r : Fin 512) (j : Fin 1024) : k0_pay3 x g (ix2 r j) = Spec.norm (row x r) (row g 0) j := by
  pointwise [k0_pay3, Spec.norm]
theorem steps_norm (x : Vec Ideal S512x1024 .f32) (g : Vec Ideal S1x1024 .f32) : steps (k0_pay3 x g) = Spec.normed (row x) (row g 0) := by
  funext n t j
  exact norm_apply x g _ j
theorem rowsOut_apply (x p : Vec Ideal S512x1024 .f32) (W : Vec Ideal S4x256x256 .bf16) (b s : Vec Ideal S1x1024 .f32) (r : Fin 512) (j : Fin 1024) :
    rowsOut x p W b s (ix2 r j) = Spec.mix (row x r) (row p r) (fun g i l => W (ix3 g i l)) (row b 0) (row s 0) j := by
  have w0 : ∀ (i l : Fin 256), wg W 0 inb_S4x256x256_S1x256x256_0_0_0 (ix3 0 i l) = W (ix3 0 i l) := fun i l => by pointwise [wg]
  have w1 : ∀ (i l : Fin 256), wg W 1 inb_S4x256x256_S1x256x256_1_0_0 (ix3 0 i l) = W (ix3 1 i l) := fun i l => by pointwise [wg]
  have w2 : ∀ (i l : Fin 256), wg W 2 inb_S4x256x256_S1x256x256_2_0_0 (ix3 0 i l) = W (ix3 2 i l) := fun i l => by pointwise [wg]
  have w3 : ∀ (i l : Fin 256), wg W 3 inb_S4x256x256_S1x256x256_3_0_0 (ix3 0 i l) = W (ix3 3 i l) := fun i l => by pointwise [wg]
  pointwise [rowsOut, k0_pay32, k0_pay33, k0_pay34, k0_pay35, k0_pay36, Spec.mix]
  simp only [w0, w1, w2, w3]
  refine congrArg (fun z => (x (ix2 r j) : EReal) + (z + b (ix2 0 j)) * s (ix2 0 j)) ?_
  by_cases h0 : j.val < 256
  · refine (dif_pos h0).trans ?_
    exact Spec.group_sum (row p r) (fun g i l => W (ix3 g i l)) j (fun x => ⟨x.val, by omega⟩) 0 ⟨j.val, by omega⟩ (fun x => by show x.val = 256 * 0 + x.val; omega) (by show 256 * 0 + j.val = j.val; omega)
  refine (dif_neg h0).trans ?_
  by_cases h1 : j.val - 256 < 256
  · refine (dif_pos h1).trans ?_
    exact Spec.group_sum (row p r) (fun g i l => W (ix3 g i l)) j (fun x => ⟨256 + x.val, by omega⟩) 1 ⟨j.val - 256, by omega⟩ (fun x => by show 256 + x.val = 256 * 1 + x.val; omega) (by show 256 * 1 + (j.val - 256) = j.val; omega)
  refine (dif_neg h1).trans ?_
  by_cases h2 : j.val - 256 - 256 < 256
  · refine (dif_pos h2).trans ?_
    exact Spec.group_sum (row p r) (fun g i l => W (ix3 g i l)) j (fun x => ⟨512 + x.val, by omega⟩) 2 ⟨j.val - 256 - 256, by omega⟩ (fun x => by show 512 + x.val = 256 * 2 + x.val; omega) (by show 256 * 2 + (j.val - 256 - 256) = j.val; omega)
  refine (dif_neg h2).trans ?_
  exact Spec.group_sum (row p r) (fun g i l => W (ix3 g i l)) j (fun x => ⟨768 + x.val, by omega⟩) 3 ⟨j.val - 256 - 256 - 256, by omega⟩ (fun x => by show 768 + x.val = 256 * 3 + x.val; omega) (by show 256 * 3 + (j.val - 256 - 256 - 256) = j.val; omega)

/-- The rows put out, from what the call is given. -/
theorem out_apply (x0 : Vec Ideal S512x1024 .f32) (x1 : Vec Ideal S15x128x1024 .f32) (x2 : Vec Ideal S1x1024 .f32) (x3 : Vec Ideal S4x256x256 .bf16) (x4 x5 : Vec Ideal S1x1024 .f32) (r : Fin 512) (j : Fin 1024) :
    rowsOut x0 (pooled x1 (k0_pay3 x0 x2)) x3 x4 x5 (ix2 r j)
      = Spec.mixedIn (row x0) (row x2 0) (hist x1) (fun g i l => x3 (ix3 g i l)) (row x4 0) (row x5 0) r j := by
  refine (rowsOut_apply _ _ _ _ _ r j).trans ?_
  unfold Spec.mixedIn Spec.lined
  refine congrArg (fun z => Spec.mix (row x0 r) z (fun g i l => x3 (ix3 g i l)) (row x4 0) (row x5 0) j) (funext fun k => ?_)
  refine (pooled_apply _ _ r k).trans ?_
  unfold meanAt
  rw [steps_norm]
/-- The history put out, from what the call is given. -/
theorem newHist_norm (x0 : Vec Ideal S512x1024 .f32) (x1 : Vec Ideal S15x128x1024 .f32) (x2 : Vec Ideal S1x1024 .f32) (q : Fin 15) (n : Fin 128) (j : Fin 1024) :
    newHist x1 (k0_pay3 x0 x2) (ix3 q n j) = Spec.lined (row x0) (row x2 0) (hist x1) n (q.val + 4) j := by
  rw [newHist_apply, steps_norm]
  rfl

end Cert.Kernel4Ideal.Hist
-- ==== Proof.Hist.Blocks.lean ====
module

public import proofs.«01_k».proof.Proof.Gen.Kernel4Ideal.Frame
public import proofs.«01_k».proof.Proof.Hist.KVal
public import Idealize.ShloMosaic.Lib.Pipeline.ValueKit
public import Idealize.ShloMosaic.Lib.StableHlo.Run
public import Idealize.ShloMosaic.Lib.Pointwise

@[expose] public section

set_option maxRecDepth 16384

noncomputable section

namespace Cert.Kernel4Ideal.Hist

open Cert.Kernel4Ideal.Gen
open Idealize.ShloMosaic Idealize.ShloMosaic.TcCoe Idealize.ShloMosaic.StableHlo Idealize.SL.Sem
open Idealize.ShloMosaic.Pipeline (Dat Cfg Window)

variable {F : FTy → Type} [FloatOps F]
variable (m : (ℓ : Loc nD τ sig) → Buf (Elt F) ℓ)

/-! ## The arrays the call finds -/

theorem V_main_v0 (c : Dev nD) : (V m c main_v0 : Vec F S4x256x256 .bf16) = truncf .bf16 (m ((c : Thread nD τ).loc main_arg3)) bitsLt_bf16_f32 := by
  show after hostOps0 _ (Proc.devRef .tc main_v0) = _
  after_results
theorem V_main_v1 (c : Dev nD) : (V m c main_v1 : Vec F S1x1024 .f32) = shapeCast S1x1024 (m ((c : Thread nD τ).loc main_arg2)) shapeCasts_S1024_S1x1024 := by
  show after hostOps0 _ (Proc.devRef .tc main_v1) = _
  after_results
  rfl
theorem V_main_v2 (c : Dev nD) : (V m c main_v2 : Vec F S1x1024 .f32) = shapeCast S1x1024 (m ((c : Thread nD τ).loc main_arg4)) shapeCasts_S1024_S1x1024 := by
  show after hostOps0 _ (Proc.devRef .tc main_v2) = _
  after_results
  rfl
theorem V_main_v3 (c : Dev nD) : (V m c main_v3 : Vec F S1x1024 .f32) = shapeCast S1x1024 (m ((c : Thread nD τ).loc main_arg5)) shapeCasts_S1024_S1x1024 := by
  show after hostOps0 _ (Proc.devRef .tc main_v3) = _
  after_results
  rfl

/-! ## Each window's block is its array -/

theorem idx0 : ∀ t : Fin cfg0.N, win0_0.index t = ![0, 0] := (by decide +kernel : ∀ t : Fin grid0.N, win0_0.index t = ![0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0, 0] := (by decide +kernel : ∀ t : Fin grid0.N, win0_7.index t = ![0, 0, 0])

theorem iblk0_eq (c : Dev nD) (t : Fin cfg0.N) : (iblk m c 0 t : Vec F S512x1024 .f32) = V m c main_arg0 := by
  funext y
  blk_simp [iblk]
  refine congrArg (V m c main_arg0) ?_
  blk_ext [idx0 t]
theorem iblk1_eq (c : Dev nD) (t : Fin cfg0.N) : (iblk m c 1 t : Vec F S15x128x1024 .f32) = V m c main_arg1 := by
  funext y
  blk_simp [iblk]
  refine congrArg (V m c main_arg1) ?_
  blk_ext [idx1 t]
theorem iblk2_eq (c : Dev nD) (t : Fin cfg0.N) : (iblk m c 2 t : Vec F S1x1024 .f32) = V m c main_v1 := by
  funext y
  blk_simp [iblk]
  refine congrArg (V m c main_v1) ?_
  blk_ext [idx2 t]
theorem iblk3_eq (c : Dev nD) (t : Fin cfg0.N) : (iblk m c 3 t : Vec F S4x256x256 .bf16) = V m c main_v0 := by
  funext y
  blk_simp [iblk]
  refine congrArg (V m c main_v0) ?_
  blk_ext [idx3 t]
theorem iblk4_eq (c : Dev nD) (t : Fin cfg0.N) : (iblk m c 4 t : Vec F S1x1024 .f32) = V m c main_v2 := by
  funext y
  blk_simp [iblk]
  refine congrArg (V m c main_v2) ?_
  blk_ext [idx4 t]
theorem iblk5_eq (c : Dev nD) (t : Fin cfg0.N) : (iblk m c 5 t : Vec F S1x1024 .f32) = V m c main_v3 := by
  funext y
  blk_simp [iblk]
  refine congrArg (V m c main_v3) ?_
  blk_ext [idx5 t]

end Cert.Kernel4Ideal.Hist
-- ==== Proof.Hist.Link.lean ====
module

public import proofs.«01_k».proof.Proof.Gen.Kernel4Ideal.Frame
public import proofs.«01_k».proof.Proof.Hist.Parts
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel4Ideal.Hist

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the rows put out are. -/
theorem held6 (c : Dev nD) (arg0 : Memref sig .tc .vmem S512x1024 .f32) (harg0 : arg0.IsWhole) (arg1 : Memref sig .tc .vmem S15x128x1024 .f32) (harg1 : arg1.IsWhole) (arg2 : Memref sig .tc .vmem S1x1024 .f32) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S15x128x1024 .f32) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S15x128x1024 .f32) (x2 : Vec F S1x1024 .f32) (x3 : Vec F S4x256x256 .bf16) (x4 : Vec F S1x1024 .f32) (x5 : Vec F S1x1024 .f32) :
    View.canon (kernelRun0_A c arg0 harg0 arg1 harg1 arg2 harg2 arg3 harg3 arg4 harg4 arg5 harg5 arg6 harg6 arg7 harg7 arg8 harg8 arg9 harg9 x0 x1 x2 x3 x4 x5).1 = rowsOut x0 (pooled x1 (k0_pay3 x0 x2)) x3 x4 x5 := by
  frame_open
  simp (disch := decide) only [↓cov_cat, View.readAt_eq_ld, Memref.IsWhole.read_unread, View.canon_cons_unit_lit', View.ld_unit_lit']
  rfl

/-- So the buffer itself. -/
theorem out6 (c : Dev nD) (arg0 : Memref sig .tc .vmem S512x1024 .f32) (harg0 : arg0.IsWhole) (arg1 : Memref sig .tc .vmem S15x128x1024 .f32) (harg1 : arg1.IsWhole) (arg2 : Memref sig .tc .vmem S1x1024 .f32) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S15x128x1024 .f32) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S15x128x1024 .f32) (x2 : Vec F S1x1024 .f32) (x3 : Vec F S4x256x256 .bf16) (x4 : Vec F S1x1024 .f32) (x5 : Vec F S1x1024 .f32) :
    out0_A_6 c arg0 harg0 arg1 harg1 arg2 harg2 arg3 harg3 arg4 harg4 arg5 harg5 arg6 harg6 arg7 harg7 arg8 harg8 arg9 harg9 x0 x1 x2 x3 x4 x5 = rowsOut x0 (pooled x1 (k0_pay3 x0 x2)) x3 x4 x5 := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 x0 x1 x2 x3 x4 x5)]
  exact held6 c arg0 harg0 arg1 harg1 arg2 harg2 arg3 harg3 arg4 harg4 arg5 harg5 arg6 harg6 arg7 harg7 arg8 harg8 arg9 harg9 x0 x1 x2 x3 x4 x5

end Cert.Kernel4Ideal.Hist
-- ==== Proof.Hist.LinkH.lean ====
module

public import proofs.«01_k».proof.Proof.Gen.Kernel4Ideal.Frame
public import proofs.«01_k».proof.Proof.Hist.Parts
public import Idealize.ShloMosaic.Lib.Pipeline.ReadBack
public import Idealize.ShloMosaic.Lib.Pipeline.ValueKit.Acc
public import Idealize.ShloMosaic.Lib.WritesUnit

@[expose] public section

set_option maxRecDepth 16384

noncomputable section

namespace Cert.Kernel4Ideal.Hist

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The history put out. -/
theorem held7 (c : Dev nD) (arg0 : Memref sig .tc .vmem S512x1024 .f32) (harg0 : arg0.IsWhole) (arg1 : Memref sig .tc .vmem S15x128x1024 .f32) (harg1 : arg1.IsWhole) (arg2 : Memref sig .tc .vmem S1x1024 .f32) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S15x128x1024 .f32) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S15x128x1024 .f32) (x2 : Vec F S1x1024 .f32) (x3 : Vec F S4x256x256 .bf16) (x4 : Vec F S1x1024 .f32) (x5 : Vec F S1x1024 .f32) :
    View.canon (kernelRun0_A c arg0 harg0 arg1 harg1 arg2 harg2 arg3 harg3 arg4 harg4 arg5 harg5 arg6 harg6 arg7 harg7 arg8 harg8 arg9 harg9 x0 x1 x2 x3 x4 x5).2.1 = newHist x1 (k0_pay3 x0 x2) := by
  frame_open
  simp (disch := decide) only [↓cov_cat, View.readAt_eq_ld, Memref.IsWhole.read_unread, View.canon_cons_unit_lit', View.ld_unit_lit']
  rfl

/-- So the buffer itself. -/
theorem out7 (c : Dev nD) (arg0 : Memref sig .tc .vmem S512x1024 .f32) (harg0 : arg0.IsWhole) (arg1 : Memref sig .tc .vmem S15x128x1024 .f32) (harg1 : arg1.IsWhole) (arg2 : Memref sig .tc .vmem S1x1024 .f32) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S15x128x1024 .f32) (harg7 : arg7.IsWhole) (arg8 : Memref sig .tc .vmem S512x1024 .f32) (harg8 : arg8.IsWhole) (arg9 : Memref sig .tc .vmem S512x1024 .f32) (harg9 : arg9.IsWhole)
    (x0 : Vec F S512x1024 .f32) (x1 : Vec F S15x128x1024 .f32) (x2 : Vec F S1x1024 .f32) (x3 : Vec F S4x256x256 .bf16) (x4 : Vec F S1x1024 .f32) (x5 : Vec F S1x1024 .f32) :
    out0_A_7 c arg0 harg0 arg1 harg1 arg2 harg2 arg3 harg3 arg4 harg4 arg5 harg5 arg6 harg6 arg7 harg7 arg8 harg8 arg9 harg9 x0 x1 x2 x3 x4 x5 = newHist x1 (k0_pay3 x0 x2) := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 x0 x1 x2 x3 x4 x5)]
  exact held7 c arg0 harg0 arg1 harg1 arg2 harg2 arg3 harg3 arg4 harg4 arg5 harg5 arg6 harg6 arg7 harg7 arg8 harg8 arg9 harg9 x0 x1 x2 x3 x4 x5

end Cert.Kernel4Ideal.Hist
-- ==== Proof.Hist.Arrays.lean ====
module

public import proofs.«01_k».proof.Proof.Hist.Blocks
public import proofs.«01_k».proof.Proof.Hist.Link
public import proofs.«01_k».proof.Proof.Hist.LinkH
public import Idealize.ShloMosaic.Lib.Pipeline.ReadBack

@[expose] public section

set_option maxRecDepth 16384

noncomputable section

namespace Cert.Kernel4Ideal.Hist

open Cert.Kernel4Ideal.Gen
open Idealize.ShloMosaic Idealize.ShloMosaic.TcCoe Idealize.ShloMosaic.StableHlo Idealize.SL.Sem
open Idealize.ShloMosaic.Pipeline (Dat Cfg Window)
open Cert.KernelIdeal.Pool (row)

variable (m : (ℓ : Loc nD τ sig) → Buf (Elt Ideal) ℓ) (ρ : Dev nD → PrngReg)

/-! ## The arguments, by index -/

/-- The rows being sampled, step by step. -/
def aX (c : Dev nD) (r : Fin 512) (j : Fin 1024) : EReal := (m ((c : Thread nD τ).loc main_arg0) : Vec Ideal S512x1024 .f32) (ix2 r j)
/-- The history, by sequence. -/
def aH (c : Dev nD) (n : Fin 128) (q : ℕ) (j : Fin 1024) : EReal := (m ((c : Thread nD τ).loc main_arg1) : Vec Ideal S15x128x1024 .f32) (ix3 ⟨min q 14, by omega⟩ n j)
/-- The gain before the mixer. -/
def aG (c : Dev nD) (j : Fin 1024) : EReal := (m ((c : Thread nD τ).loc main_arg2) : Vec Ideal S1024 .f32) (ix1 j)
/-- The groups' weights. -/
def aW (c : Dev nD) (g : Fin 4) (i l : Fin 256) : EReal := (m ((c : Thread nD τ).loc main_arg3) : Vec Ideal S4x256x256 .f32) (ix3 g i l)
/-- The bias. -/
def aB (c : Dev nD) (j : Fin 1024) : EReal := (m ((c : Thread nD τ).loc main_arg4) : Vec Ideal S1024 .f32) (ix1 j)
/-- The scale. -/
def aS (c : Dev nD) (j : Fin 1024) : EReal := (m ((c : Thread nD τ).loc main_arg5) : Vec Ideal S1024 .f32) (ix1 j)

/-! ## The blocks at the arguments -/

theorem x_row (c : Dev nD) (t : Fin cfg0.N) : row (iblk m c 0 t : Vec Ideal S512x1024 .f32) = aX m c := by
  funext r j
  show (iblk m c 0 t : Vec Ideal S512x1024 .f32) (ix2 r j) = _
  rw [iblk0_eq, V_main_arg0]; rfl
theorem h_row (c : Dev nD) (t : Fin cfg0.N) : hist (iblk m c 1 t : Vec Ideal S15x128x1024 .f32) = aH m c := by
  funext n q j
  show (iblk m c 1 t : Vec Ideal S15x128x1024 .f32) (ix3 ⟨min q 14, by omega⟩ n j) = _
  rw [iblk1_eq, V_main_arg1]; rfl
theorem w_row (c : Dev nD) (t : Fin cfg0.N) : (fun (g : Fin 4) (i l : Fin 256) => ((iblk m c 3 t : Vec Ideal S4x256x256 .bf16) (ix3 g i l) : EReal)) = aW m c := by
  funext g i l
  show (iblk m c 3 t : Vec Ideal S4x256x256 .bf16) (ix3 g i l) = _
  rw [iblk3_eq, V_main_v0]
  unfold aW
  pointwise
theorem g_row (c : Dev nD) (t : Fin cfg0.N) : row (iblk m c 2 t : Vec Ideal S1x1024 .f32) 0 = aG m c := by
  funext j
  show (iblk m c 2 t : Vec Ideal S1x1024 .f32) (ix2 0 j) = _
  rw [iblk2_eq, V_main_v1]
  unfold aG
  pointwise
theorem b_row (c : Dev nD) (t : Fin cfg0.N) : row (iblk m c 4 t : Vec Ideal S1x1024 .f32) 0 = aB m c := by
  funext j
  show (iblk m c 4 t : Vec Ideal S1x1024 .f32) (ix2 0 j) = _
  rw [iblk4_eq, V_main_v2]
  unfold aB
  pointwise
theorem s_row (c : Dev nD) (t : Fin cfg0.N) : row (iblk m c 5 t : Vec Ideal S1x1024 .f32) 0 = aS m c := by
  funext j
  show (iblk m c 5 t : Vec Ideal S1x1024 .f32) (ix2 0 j) = _
  rw [iblk5_eq, V_main_v3]
  unfold aS
  pointwise

/-! ## What the two output buffers hold at the end of the body -/

theorem kept6 (c : Dev nD) (t : Fin cfg0.N) : (outsAt0 m c t).1 = rowsOut (iblk m c 0 t) (pooled (iblk m c 1 t) (k0_pay3 (iblk m c 0 t) (iblk m c 2 t))) (iblk m c 3 t) (iblk m c 4 t) (iblk m c 5 t) := by
  unfold outsAt0
  dsimp only
  refine (out6 c _ _ _ _ _ _ _ _ _ _ _ _ _ _ _ _ _ _ _ _ _ _ _ _ _ _).trans ?_
  rfl
theorem kept7 (c : Dev nD) (t : Fin cfg0.N) : (outsAt0 m c t).2 = newHist (iblk m c 1 t) (k0_pay3 (iblk m c 0 t) (iblk m c 2 t)) := by
  unfold outsAt0
  dsimp only
  refine (out7 c _ _ _ _ _ _ _ _ _ _ _ _ _ _ _ _ _ _ _ _ _ _ _ _ _ _).trans ?_
  rfl

/-! ## What the two result arrays end holding -/

/-- The first result: the rows. -/
def res0 (c : Dev nD) : Vec Ideal S512x1024 .f32 := fun y => Spec.mixedIn (aX m c) (aG m c) (aH m c) (aW m c) (aB m c) (aS m c) (y 0) (y 1)
/-- The second: the history after the steps. -/
def res1 (c : Dev nD) : Vec Ideal S15x128x1024 .f32 := fun y => Spec.lined (aX m c) (aG m c) (aH m c) (y 1) ((y 0).val + 4) (y 2)

theorem final6 (c : Dev nD) : ((dats m 0 c).arrAt 6 cfg0.N : Vec Ideal S512x1024 .f32) = res0 m c := by
  refine (dats m 0 c).arrAt_eq_of_covers 6 (res0 m c) (by decide +kernel) fun t hf y => ?_
  blk_simp
  rw [after0_6, kept6]
  obtain ⟨r, j, rfl⟩ : ∃ (r : Fin 512) (j : Fin 1024), y = ix2 r j := ⟨y 0, y 1, eq_ix2 y⟩
  refine (out_apply _ _ _ _ _ _ r j).trans ?_
  rw [x_row, g_row, w_row, h_row, b_row, s_row]
  have e0 : ((((cfg0.win 6).blk t).view.emb (ix2 r j)) 0 : ℕ) = r := by
    blk_simp [idx6 t]
  have e1 : ((((cfg0.win 6).blk t).view.emb (ix2 r j)) 1 : ℕ) = j := by
    blk_simp [idx6 t]
  exact congrArg₂ (fun p q => Spec.mixedIn (aX m c) (aG m c) (aH m c) (aW m c) (aB m c) (aS m c) p q) (Fin.ext e0.symm) (Fin.ext e1.symm)

theorem final7 (c : Dev nD) : ((dats m 0 c).arrAt 7 cfg0.N : Vec Ideal S15x128x1024 .f32) = res1 m c := by
  refine (dats m 0 c).arrAt_eq_of_covers 7 (res1 m c) (by decide +kernel) fun t hf y => ?_
  blk_simp
  rw [after0_7, kept7]
  obtain ⟨q, n, j, rfl⟩ : ∃ (q : Fin 15) (n : Fin 128) (j : Fin 1024), y = ix3 q n j := ⟨y 0, y 1, y 2, eq_ix3 y⟩
  refine (newHist_norm _ _ _ q n j).trans ?_
  rw [x_row, g_row, h_row]
  have e0 : ((((cfg0.win 7).blk t).view.emb (ix3 q n j)) 0 : ℕ) = q := by
    blk_simp [idx7 t]
  have e1 : ((((cfg0.win 7).blk t).view.emb (ix3 q n j)) 1 : ℕ) = n := by
    blk_simp [idx7 t]
  have e2 : ((((cfg0.win 7).blk t).view.emb (ix3 q n j)) 2 : ℕ) = j := by
    blk_simp [idx7 t]
  have E : ∀ (q q' : Fin 15) (n n' : Fin 128) (j j' : Fin 1024), q = q' → n = n' → j = j' →
      Spec.lined (aX m c) (aG m c) (aH m c) n (q.val + 4) j = Spec.lined (aX m c) (aG m c) (aH m c) n' (q'.val + 4) j' := by
    rintro _ _ _ _ _ _ rfl rfl rfl; rfl
  exact E _ _ _ _ _ _ (Fin.ext e0.symm) (Fin.ext e1.symm) (Fin.ext e2.symm)

end Cert.Kernel4Ideal.Hist
-- ==== Proof.Hist.Finish.lean ====
module

public import proofs.«01_k».proof.Proof.Hist.Arrays

@[expose] public section

set_option maxRecDepth 16384

noncomputable section

namespace Cert.Kernel4Ideal.Hist

open Cert.Kernel4Ideal.Gen
open Idealize.ShloMosaic Idealize.ShloMosaic.TcCoe Idealize.ShloMosaic.StableHlo Idealize.SL.Sem
open Idealize.ShloMosaic.Pipeline (Dat Cfg Window)

/-- The call's two results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4_0) = res0 m c
      ∧ r.2.mem ((c.tc : Thread nD τ).loc main_v4_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 6).trans (final6 m c), ((h c).1 7).trans (final7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Kernel4Ideal.Hist
-- ==== Proof.Hist.RefOps.lean ====
module

public import proofs.«01_k».proof.Proof.Gen.Reference4Ideal.Run
public import proofs.«01_k».proof.Proof.Pool.RefOps
public import proofs.«01_k».proof.Proof.Pool.Cumsum
public import proofs.«01_k».proof.Proof.Hist.Spec

@[expose] public section

set_option maxRecDepth 16384

noncomputable section

namespace Cert.Ref4

open Cert.Reference4Ideal Cert.Reference4Ideal.Gen
open Idealize.ShloMosaic Idealize.ShloMosaic.TcCoe

/-! The reference's parts as functions of arrays, each read at an index. Its arrays are sequence by step by channel. -/

abbrev X := FVec Ideal S512x1024 .f32
abbrev A3 := FVec Ideal S128x4x1024 .f32
abbrev L := FVec Ideal S128x19x1024 .f32
abbrev K := FVec Ideal S128x20x1024 .f32
abbrev A1 := FVec Ideal S1024 .f32

/-- Rows in step order, arranged by sequence. -/
def steps (h : X) : A3 := transpose S128x4x1024 [1, 0, 2] (shapeCast S4x128x1024 h shapeCasts_S512x1024_S4x128x1024) transposes_S4x128x1024_S128x4x1024_1_0_2
theorem steps_apply (h : X) (n : Fin 128) (t : Fin 4) (j : Fin 1024) : (steps h (ix3 n t j) : EReal) = h (ix2 ⟨128 * t + n, by omega⟩ j) := by
  have key : ∀ a : FVec Ideal S4x128x1024 .f32, (transpose S128x4x1024 [1, 0, 2] a transposes_S4x128x1024_S128x4x1024_1_0_2 (ix3 n t j) : EReal) = a (ix3 t n j) := by
    intro a
    pointwise
  unfold steps
  rw [key]
  refine shapeCast_apply (s := S512x1024) _ _ _ _ ?_
  rw [Shape.rowMajor_val_two, Shape.rowMajor_val_three]
  show (128 * t.val + n.val) * 1024 + j.val = (t.val * 128 + n.val) * 1024 + j.val
  omega

/-- The history, arranged by sequence, then the steps. -/
def ext (c : FVec Ideal S15x128x1024 .f32) (h : A3) : L :=
  concatenate S128x19x1024 1 [⟨S128x15x1024, (transpose S128x15x1024 [1, 0, 2] c transposes_S15x128x1024_S128x15x1024_1_0_2)⟩, ⟨S128x4x1024, h⟩] concatenates_S128x15x1024_S128x4x1024_S128x19x1024_d1
theorem ext_apply (c : FVec Ideal S15x128x1024 .f32) (h : A3) (n : Fin 128) (q : Fin 19) (j : Fin 1024) :
    (ext c h (ix3 n q j) : EReal) = Spec.follow 15 (fun q j => c (ix3 ⟨min q 14, by omega⟩ n j)) (fun t j => h (ix3 n ⟨min t 3, by omega⟩ j)) q j := by
  have e : (ext c h (ix3 n q j) : EReal) = if hq : q.val < 15 then c (ix3 ⟨q, hq⟩ n j) else h (ix3 n ⟨q - 15, by omega⟩ j) := by
    pointwise [ext]
  rw [e]
  unfold Spec.follow
  by_cases hq : q.val < 15
  · rw [dif_pos hq, if_pos hq]
    exact congrArg (fun p : Fin 15 => c (ix3 p n j)) (Fin.ext (show q.val = min q.val 14 by omega))
  · rw [dif_neg hq, if_neg hq]
    exact congrArg (fun p : Fin 4 => h (ix3 n p j)) (Fin.ext (show q.val - 15 = min (q.val - 15) 3 by omega))

/-- The steps' positions as floats. -/
def pos : FVec Ideal S4 .f32 := sitofp .f32 (addi (broadcastInDim S4 ![] bcast_S_S4 (constantI S_ 32 16384#32)) (iotaInDim S4 32 0))
theorem pos_apply (p : Fin 4) : pos (ix1 p) = FloatOps.sitofp (F := Ideal) .f32 (16384#32 + BitVec.ofNat 32 p) := by
  pointwise [pos]
  rfl
/-- The positions lie past every window, so a window is never cut short. -/
theorem count_eq (p : Fin 4) (G : ℕ) (hG : G < 4) : min (pos (ix1 p) + 1) (Spec.cap G) = Spec.cap G := by
  rw [pos_apply]
  refine min_eq_right ?_
  have hp : (((16384#32 + BitVec.ofNat 32 p.val).toInt : ℝ) : EReal) + 1 = (((16385 + p.val : ℕ) : ℝ) : EReal) := by
    fin_cases p <;> norm_num [BitVec.toInt] <;> norm_cast
  refine le_trans ?_ (le_of_eq hp.symm)
  have hc : Spec.cap G ≤ ((16 : ℝ) : EReal) := by
    interval_cases G <;> simp [Spec.cap, Ideal.ofBits, Ideal.ieee, -EReal.coe_mul] <;> norm_num
  refine hc.trans (EReal.coe_le_coe_iff.2 ?_)
  push_cast
  have := Nat.cast_nonneg (α := ℝ) p.val
  linarith

/-- A group's means over its window, from the running sums `C`: the group's channels begin at `l`, its window reaches back to `o`, and `b` holds its length. -/
def quot (o l : ℕ) (b : BitVec 32) (C : K) (h : S128x20x1024.Slices ![0, 16, l] S128x4x256) (h' : S128x20x1024.Slices ![0, o, l] S128x4x256) : FVec Ideal S128x4x256 .f32 :=
  Host.divf (subf (extractStridedSlice S128x4x256 ![0, 16, l] C h) (extractStridedSlice S128x4x256 ![0, o, l] C h')) (broadcastInDim S128x4x256 ![0, 1, 2] bcast_S1x4x1_S128x4x256_0_1_2 (broadcastInDim S1x4x1 ![1] bcast_S4_S1x4x1_1 (minimumf (addf pos (broadcastInDim S4 ![] bcast_S_S4 (constant S_ .f32 0x3F800000#32))) (broadcastInDim S4 ![] bcast_S_S4 (constant S_ .f32 b)))))
theorem quot_apply (o l : ℕ) (b : BitVec 32) (C : K) (h : S128x20x1024.Slices ![0, 16, l] S128x4x256) (h' : S128x20x1024.Slices ![0, o, l] S128x4x256)
    (G : ℕ) (hG : G < 4) (hb : Ideal.ofBits .f32 b = Spec.cap G) (ho : o ≤ 16) (hl : l ≤ 768) (n : Fin 128) (t : Fin 4) (j : Fin 256) :
    (quot o l b C h h' (ix3 n t j) : EReal) = Ideal.div (C (ix3 n ⟨16 + t, by omega⟩ ⟨l + j, by omega⟩) - C (ix3 n ⟨o + t, by omega⟩ ⟨l + j, by omega⟩)) (Spec.cap G) := by
  have e : (quot o l b C h h' (ix3 n t j) : EReal) = Ideal.div (C (ix3 n ⟨16 + t, by omega⟩ ⟨l + j, by omega⟩) - C (ix3 n ⟨o + t, by omega⟩ ⟨l + j, by omega⟩)) (min (pos (ix1 t) + 1) (Ideal.ofBits .f32 b)) := by
    pointwise [quot]
  rw [e, hb, count_eq t G hG]

/-- The four groups' means side by side, less the rows. -/
def pooled (C : K) (h : A3) : A3 :=
  subf (concatenate S128x4x1024 2 [⟨S128x4x256, (quot 14 0 0x40000000#32 C slices_S128x20x1024_S128x4x256_0_16_0 slices_S128x20x1024_S128x4x256_0_14_0 : FVec Ideal S128x4x256 .f32)⟩,
    ⟨S128x4x256, (quot 12 256 0x40800000#32 C slices_S128x20x1024_S128x4x256_0_16_256 slices_S128x20x1024_S128x4x256_0_12_256 : FVec Ideal S128x4x256 .f32)⟩,
    ⟨S128x4x256, (quot 8 512 0x41000000#32 C slices_S128x20x1024_S128x4x256_0_16_512 slices_S128x20x1024_S128x4x256_0_8_512 : FVec Ideal S128x4x256 .f32)⟩,
    ⟨S128x4x256, (quot 0 768 0x41800000#32 C slices_S128x20x1024_S128x4x256_0_16_768 slices_S128x20x1024_S128x4x256_0_0_768 : FVec Ideal S128x4x256 .f32)⟩] concatenates_S128x4x256_S128x4x256_S128x4x256_S128x4x256_S128x4x1024_d2) h
theorem pooled_apply (C : K) (h : A3) (f : ℕ → Fin 1024 → EReal) (n : Fin 128) (hC : ∀ (q : Fin 20) (j : Fin 1024), (C (ix3 n q j) : EReal) = f q j) (t : Fin 4) (j : Fin 1024) :
    (pooled C h (ix3 n t j) : EReal) = Ideal.div (f (16 + t) j - f (16 - 2 ^ (j.val / 256 + 1) + t) j) (Spec.cap (j / 256)) - h (ix3 n t j) := by
  have key : ∀ (G : ℕ) (hG : j.val / 256 = G) (a b : Fin 20) (ha : a.val = 16 + t.val) (hb : b.val = 16 - 2 ^ (G + 1) + t.val) (l : Fin 1024) (hl : l.val = j.val),
      Ideal.div (C (ix3 n a l) - C (ix3 n b l)) (Spec.cap G) = Ideal.div (f (16 + t) j - f (16 - 2 ^ (j.val / 256 + 1) + t) j) (Spec.cap (j / 256)) := by
    intro G hG a b ha hb l hl
    subst hG
    obtain rfl : l = j := Fin.ext hl
    rw [hC, hC, ha, hb]
  pointwise [pooled]
  refine congrArg (fun z : EReal => z - h (ix3 n t j)) ?_
  have hj := j.2
  by_cases h0 : j.val < 256
  · refine (dif_pos h0).trans ((quot_apply _ _ _ _ _ _ 0 (by omega) rfl (by omega) (by omega) n t _).trans (key 0 (by omega) _ _ rfl rfl _ ?_))
    show 0 + j.val = j.val; omega
  refine (dif_neg h0).trans ?_
  by_cases h1 : j.val - 256 < 256
  · refine (dif_pos h1).trans ((quot_apply _ _ _ _ _ _ 1 (by omega) rfl (by omega) (by omega) n t _).trans (key 1 (by omega) _ _ rfl rfl _ ?_))
    show 256 + (j.val - 256) = j.val; omega
  refine (dif_neg h1).trans ?_
  by_cases h2 : j.val - 256 - 256 < 256
  · refine (dif_pos h2).trans ((quot_apply _ _ _ _ _ _ 2 (by omega) rfl (by omega) (by omega) n t _).trans (key 2 (by omega) _ _ rfl rfl _ ?_))
    show 512 + (j.val - 256 - 256) = j.val; omega
  refine (dif_neg h2).trans ((quot_apply _ _ _ _ _ _ 3 (by omega) rfl (by omega) (by omega) n t _).trans (key 3 (by omega) _ _ rfl rfl _ ?_))
  show 768 + (j.val - 256 - 256 - 256) = j.val; omega

/-- The mixer's product, bias and scale. -/
def mixes (p : A3) (W : FVec Ideal S4x256x256 .f32) (b s : A1) : A3 :=
  mulf (addf (shapeCast S128x4x1024 (transpose S128x4x4x256 [2, 3, 0, 1] (Host.dotGeneral dot_S4x256x256_S128x4x4x256_S4x256x128x4_1_3_2_01_0_2 none W (shapeCast S128x4x4x256 p shapeCasts_S128x4x1024_S128x4x4x256)) transposes_S4x256x128x4_S128x4x4x256_2_3_0_1) shapeCasts_S128x4x4x256_S128x4x1024) (broadcastInDim S128x4x1024 ![0, 1, 2] bcast_S1x1x1024_S128x4x1024_0_1_2 (broadcastInDim S1x1x1024 ![2] bcast_S1024_S1x1x1024_2 b))) (broadcastInDim S128x4x1024 ![0, 1, 2] bcast_S1x1x1024_S128x4x1024_0_1_2 (broadcastInDim S1x1x1024 ![2] bcast_S1024_S1x1x1024_2 s))
theorem mixes_apply (p : A3) (W : FVec Ideal S4x256x256 .f32) (b sc : A1) (n : Fin 128) (t : Fin 4) (j : Fin 1024) (x : Fin 1024 → EReal) :
    x j + mixes p W b sc (ix3 n t j) = Spec.mix x (fun k => p (ix3 n t k)) (fun g i l => W (ix3 g i l)) (fun k => b (ix1 k)) (fun k => sc (ix1 k)) j := by
  refine congrArg (fun z : EReal => x j + z) ?_
  pointwise [mixes]
  refine congrArg (fun z : EReal => (z + b (ix1 j)) * sc (ix1 j)) (Finset.sum_congr rfl fun i _ => ?_)
  rw [mul_comm (W _)]
  refine congrArg (fun k => p (ix3 n t k) * W _) (Fin.ext ?_)
  show j.val / 256 * 256 + i.val = 256 * (j.val / 256) + i.val
  omega

/-- The steps put back in step order and added to the rows. -/
def addBack (x : X) (y : A3) : X :=
  addf x (shapeCast S512x1024 (transpose S4x128x1024 [1, 0, 2] y transposes_S128x4x1024_S4x128x1024_1_0_2) shapeCasts_S4x128x1024_S512x1024)
theorem addBack_apply (x : X) (y : A3) (r : Fin 512) (j : Fin 1024) :
    (addBack x y (ix2 r j) : EReal) = x (ix2 r j) + y (ix3 (⟨r % 128, by omega⟩ : Fin 128) (⟨r / 128, by omega⟩ : Fin 4) j) := by
  unfold addBack
  refine congrArg (fun z : EReal => x (ix2 r j) + z) ?_
  refine Eq.trans (shapeCast_apply (s := S4x128x1024) _ _ _ (ix3 (⟨r / 128, by omega⟩ : Fin 4) (⟨r % 128, by omega⟩ : Fin 128) j) ?_) ?_
  · rw [Shape.rowMajor_val_two, Shape.rowMajor_val_three]
    show (r.val / 128 * 128 + r.val % 128) * 1024 + j.val = r.val * 1024 + j.val
    omega
  · pointwise

end Cert.Ref4
-- ==== Proof.Hist.RefSum.lean ====
module

public import proofs.«01_k».proof.Proof.Hist.RefOps

@[expose] public section

set_option maxRecDepth 16384

noncomputable section

namespace Cert.Ref4

open Cert.Reference4Ideal Cert.Reference4Ideal.Gen
open Idealize.ShloMosaic Idealize.ShloMosaic.TcCoe

/-! The reference's running sums along the history and the steps. -/

/-- The running sum at position `n` is the sum of the entries at positions up to `n`. -/
theorem running_sum (X : FVec Ideal S128x19x1024 .f32) (v : FVec Ideal S_ .f32) (hv : ∀ i, v i = (0 : EReal)) (s : Fin 128) (n : Fin 19) (j : Fin 1024) :
    (Host.reduceWindowAdd ![1, 19, 1] ![1, 1, 1] ![0, 18, 0] ![0, 0, 0] X v reduceWindows_S128x19x1024_S128x19x1024_w1s1p0_0_w19s1p18_0_w1s1p0_0 h_S_ (ix3 s n j) : EReal)
      = ∑ q ∈ Finset.range (n + 1), if h : q < 19 then (X (ix3 s ⟨q, h⟩ j) : EReal) else 0 := by
  let W : Shape := ⟨3, ![1, 19, 1]⟩
  have hN : W.numel = 19 := by
    show ∏ a : Fin 3, (![1, 19, 1] : Fin 3 → ℕ) a = 19
    rw [Fin.prod_univ_three]; rfl
  have hsymm : ∀ w : Fin W.numel, W.rowMajor.symm w = ix3 (0 : Fin 1) (w.cast hN) (0 : Fin 1) := fun w =>
    (W.rowMajor.symm_apply_eq).2 (Fin.ext (by
      rw [Shape.rowMajor_val_three]
      show w.val = (0 * 19 + w.val) * 1 + 0
      omega))
  let f : ℕ → EReal := fun q => if h : q < 19 then X (ix3 s ⟨q, h⟩ j) else 0
  have step : ∀ w : Fin W.numel, ∀ hr : S128x19x1024.rank = S128x19x1024.rank,
      (if hin : ∀ a : Fin 3, (![0, 18, 0] : Fin 3 → ℕ) a ≤ (ix3 s n j a).val * (![1, 1, 1] : Fin 3 → ℕ) a + (W.rowMajor.symm w a).val
          ∧ (ix3 s n j a).val * (![1, 1, 1] : Fin 3 → ℕ) a + (W.rowMajor.symm w a).val - (![0, 18, 0] : Fin 3 → ℕ) a < S128x19x1024.size a
        then (X (fun a => ⟨(ix3 s n j a).val * (![1, 1, 1] : Fin 3 → ℕ) a + (W.rowMajor.symm w a).val - (![0, 18, 0] : Fin 3 → ℕ) a, (hin a).2⟩) : EReal) else 0)
      = if 18 ≤ n.val + w.val then f (n.val + w.val - 18) else 0 := by
    intro w _
    have hw : w.val < 19 := lt_of_lt_of_eq w.2 hN
    have e1 : (W.rowMajor.symm w 1).val = w.val := by rw [hsymm]; rfl
    have e0 : (W.rowMajor.symm w 0).val = 0 := by rw [hsymm]; rfl
    have e2 : (W.rowMajor.symm w 2).val = 0 := by rw [hsymm]; rfl
    by_cases hc : 18 ≤ n.val + w.val
    · rw [if_pos hc]
      have hin : ∀ a : Fin 3, (![0, 18, 0] : Fin 3 → ℕ) a ≤ (ix3 s n j a).val * (![1, 1, 1] : Fin 3 → ℕ) a + (W.rowMajor.symm w a).val
          ∧ (ix3 s n j a).val * (![1, 1, 1] : Fin 3 → ℕ) a + (W.rowMajor.symm w a).val - (![0, 18, 0] : Fin 3 → ℕ) a < S128x19x1024.size a := by
        intro a
        fin_cases a
        · show 0 ≤ s.val * 1 + (W.rowMajor.symm w 0).val ∧ s.val * 1 + (W.rowMajor.symm w 0).val - 0 < 128
          rw [e0]; omega
        · show 18 ≤ n.val * 1 + (W.rowMajor.symm w 1).val ∧ n.val * 1 + (W.rowMajor.symm w 1).val - 18 < 19
          rw [e1]; omega
        · show 0 ≤ j.val * 1 + (W.rowMajor.symm w 2).val ∧ j.val * 1 + (W.rowMajor.symm w 2).val - 0 < 1024
          rw [e2]; omega
      rw [dif_pos hin]
      show _ = if h : n.val + w.val - 18 < 19 then (X (ix3 s ⟨n.val + w.val - 18, h⟩ j) : EReal) else 0
      rw [dif_pos (by omega)]
      refine congrArg X (funext fun a => Fin.ext ?_)
      fin_cases a
      · show s.val * 1 + (W.rowMajor.symm w 0).val - 0 = s.val
        rw [e0]; omega
      · show n.val * 1 + (W.rowMajor.symm w 1).val - 18 = n.val + w.val - 18
        rw [e1]; omega
      · show j.val * 1 + (W.rowMajor.symm w 2).val - 0 = j.val
        rw [e2]; omega
    · rw [if_neg hc, dif_neg]
      intro hin
      have := (hin 1).1
      have h' : 18 ≤ n.val * 1 + (W.rowMajor.symm w 1).val := this
      rw [e1] at h'
      omega
  obtain rfl : v = fun _ => (0 : EReal) := funext hv
  rw [Cert.Ref.windowAdd_fold, Cert.Ref.foldl_add, zero_add, ← Fin.sum_univ_def]
  refine (Fintype.sum_congr _ (fun w : Fin W.numel => if 18 ≤ n.val + w.val then f (n.val + w.val - 18) else 0) fun w => step w rfl).trans ?_
  have := Fin.sum_univ_eq_sum_range (fun w => if 18 ≤ n.val + w then f (n.val + w - 18) else 0) W.numel
  rw [this, hN]
  have hn := n.2
  have := Cert.Ref.window_prefix f (18 - n) n
  rw [show 18 - n.val + n.val = 18 by omega] at this
  exact this

/-- The running sums, with a zero put in front. -/
def shifted (R : FVec Ideal S128x19x1024 .f32) : FVec Ideal S128x20x1024 .f32 :=
  pad S128x20x1024 ![0, 1, 0] ![0, 0, 0] ![0, 0, 0] R (sitofp .f32 (constantI S_ 32 0#32)) pads_S128x19x1024_S128x20x1024_000_100_000 h_S_
theorem shifted_apply (R : FVec Ideal S128x19x1024 .f32) (s : Fin 128) (n : Fin 20) (j : Fin 1024) :
    (shifted R (ix3 s n j) : EReal) = if h : n.val = 0 then 0 else R (ix3 s ⟨n - 1, by omega⟩ j) := by
  pointwise [shifted]
  by_cases h : n.val = 0
  · rw [dif_pos h, dif_neg (by omega)]
    show (((0#32 : BitVec 32).toInt : ℝ) : EReal) = 0
    simp
  · rw [dif_neg h, dif_pos (by omega)]

/-- The running sums of an array, with a zero in front. -/
def sums (Z : FVec Ideal S128x19x1024 .f32) : FVec Ideal S128x20x1024 .f32 :=
  shifted (Host.reduceWindowAdd ![1, 19, 1] ![1, 1, 1] ![0, 18, 0] ![0, 0, 0] Z (broadcastInDim S_ ![] bcast_S_S_ (constant S_ .f32 0x00000000#32)) reduceWindows_S128x19x1024_S128x19x1024_w1s1p0_0_w19s1p18_0_w1s1p0_0 h_S_)
/-- Entry `n` is the sum of the first `n` entries. -/
theorem sums_apply (Z : FVec Ideal S128x19x1024 .f32) (s : Fin 128) (n : Fin 20) (j : Fin 1024) :
    (sums Z (ix3 s n j) : EReal) = ∑ q ∈ Finset.range n, if h : q < 19 then (Z (ix3 s ⟨q, h⟩ j) : EReal) else 0 := by
  refine (shifted_apply _ s n j).trans ?_
  by_cases h : n.val = 0
  · rw [dif_pos h, h, Finset.sum_range_zero]
  · rw [dif_neg h, running_sum]
    · show ∑ q ∈ Finset.range (n.val - 1 + 1), _ = _
      rw [Nat.sub_add_cancel (by omega)]
    · intro i
      exact Ideal.ofBits_zero_f32

end Cert.Ref4
-- ==== Proof.Hist.RefVal.lean ====
module

public import proofs.«01_k».proof.Proof.Hist.RefSum
public import proofs.«01_k».proof.Proof.Pool.Finite

@[expose] public section

set_option maxRecDepth 16384

noncomputable section

namespace Cert.Ref4

open Cert.Reference4Ideal Cert.Reference4Ideal.Gen Cert.Reference4Ideal.Value
open Idealize.ShloMosaic Idealize.ShloMosaic.TcCoe Idealize.SL.Sem

/-! The reference's results as functions of its arguments, and read at an index. -/

/-- The normalised rows, arranged by sequence. -/
def rows (x : X) (g : A1) : A3 := steps (Cert.Ref.norm2 x g)
/-- The history and the normalised rows. -/
def line (x : X) (c : FVec Ideal S15x128x1024 .f32) (g : A1) : L := ext c (rows x g)

/-- The rows put out. -/
def ref0 (x : X) (c : FVec Ideal S15x128x1024 .f32) (g : A1) (W : FVec Ideal S4x256x256 .f32) (b s : A1) : X :=
  addBack x (mixes (pooled (sums (line x c g)) (rows x g)) W b s)
/-- The history after the steps. -/
def ref1 (x : X) (c : FVec Ideal S15x128x1024 .f32) (g : A1) : FVec Ideal S15x128x1024 .f32 :=
  transpose S15x128x1024 [1, 0, 2] (extractStridedSlice S128x15x1024 ![0, 4, 0] (line x c g) slices_S128x19x1024_S128x15x1024_0_4_0) transposes_S128x15x1024_S15x128x1024_1_0_2

section read
variable (x : X) (c : FVec Ideal S15x128x1024 .f32) (g : A1) (W : FVec Ideal S4x256x256 .f32) (b s : A1)

/-- The reference's arguments by index. -/
abbrev rX (r : Fin 512) (j : Fin 1024) : EReal := x (ix2 r j)
abbrev rH (n : Fin 128) (q : ℕ) (j : Fin 1024) : EReal := c (ix3 ⟨min q 14, by omega⟩ n j)
abbrev rV (v : A1) (j : Fin 1024) : EReal := v (ix1 j)
abbrev rW (i : Fin 4) (k l : Fin 256) : EReal := W (ix3 i k l)

theorem rows_apply (n : Fin 128) (t : Fin 4) (j : Fin 1024) : (rows x g (ix3 n t j) : EReal) = Spec.norm (rX x ⟨128 * t + n, by omega⟩) (rV g) j := by
  unfold rows
  rw [steps_apply, Cert.Ref.norm2_apply]
theorem line_apply (n : Fin 128) (q : Fin 19) (j : Fin 1024) : (line x c g (ix3 n q j) : EReal) = Spec.lined (rX x) (rV g) (rH c) n q j := by
  unfold line
  rw [ext_apply]
  refine congrArg (fun v => Spec.follow 15 (rH c n) v q j) (funext fun t => funext fun k => ?_)
  rw [rows_apply]
  rfl

variable (hc : ∀ i, ∃ r : ℝ, (c i : EReal) = r) (hg : ∀ i, ∃ r : ℝ, (g i : EReal) = r)

include hc hg
/-- With a finite history and gain, every row of the line is finite. -/
theorem lined_real (n : Fin 128) (q : ℕ) (j : Fin 1024) : ∃ r : ℝ, Spec.lined (rX x) (rV g) (rH c) n q j = r := by
  unfold Spec.lined Spec.follow
  split_ifs
  · exact hc _
  · exact Spec.norm_real _ _ (fun k => hg _) j

/-- The pooled rows. -/
theorem pooled_line (n : Fin 128) (t : Fin 4) (j : Fin 1024) :
    (pooled (sums (line x c g)) (rows x g) (ix3 n t j) : EReal) = Spec.means (Spec.lined (rX x) (rV g) (rH c) n) t j := by
  have hs : ∀ (q : Fin 20) (j : Fin 1024), (sums (line x c g) (ix3 n q j) : EReal) = ∑ i ∈ Finset.range q, Spec.lined (rX x) (rV g) (rH c) n i j := by
    intro q j
    rw [sums_apply]
    refine Finset.sum_congr rfl fun i hi => ?_
    have hi' : i < 19 := by have := Finset.mem_range.1 hi; omega
    rw [dif_pos hi', line_apply]
  have hw : 2 ^ (j.val / 256 + 1) ≤ 16 := by
    calc 2 ^ (j.val / 256 + 1) ≤ 2 ^ 4 := Nat.pow_le_pow_right (by decide) (by omega)
      _ = 16 := by decide
  rw [pooled_apply _ _ (fun q j => ∑ i ∈ Finset.range q, Spec.lined (rX x) (rV g) (rH c) n i j) n hs t j]
  unfold Spec.means
  refine congrArg₂ (fun a b : EReal => Ideal.div a _ - b) ?_ ?_
  · show ∑ q ∈ Finset.range (16 + t.val), _ - ∑ q ∈ Finset.range (16 - 2 ^ (j.val / 256 + 1) + t.val), _ = _
    rw [show 16 + t.val = (16 - 2 ^ (j.val / 256 + 1) + t.val) + 2 ^ (j.val / 256 + 1) by omega,
      Cert.Ref.window_diff (fun q => Spec.lined (rX x) (rV g) (rH c) n q j) (fun q => lined_real x c g hc hg n q j)]
    refine Finset.sum_congr rfl fun i hi => ?_
    have hi' := Finset.mem_range.1 hi
    exact congrArg (fun k => Spec.lined (rX x) (rV g) (rH c) n k j) (by omega)
  · rw [rows_apply]
    unfold Spec.lined Spec.follow
    rw [if_neg (by omega)]
    unfold Spec.normed
    exact congrArg (fun k : Fin 512 => Spec.norm (rX x k) (rV g) j) (Fin.ext (by show 128 * t.val + n.val = 128 * min (15 + t.val - 15) 3 + n.val; omega))

/-- The rows put out, at an index. -/
theorem ref0_apply (r : Fin 512) (j : Fin 1024) :
    (ref0 x c g W b s (ix2 r j) : EReal) = Spec.mixedIn (rX x) (rV g) (rH c) (rW W) (rV b) (rV s) r j := by
  unfold ref0
  rw [addBack_apply]
  refine (mixes_apply _ W b s _ _ j (rX x r)).trans ?_
  unfold Spec.mixedIn
  exact congrArg (fun v => Spec.mix (rX x r) v (rW W) (rV b) (rV s) j) (funext fun k => pooled_line x c g hc hg _ _ k)

omit hc hg
/-- The history after the steps, at an index. -/
theorem ref1_apply (q : Fin 15) (n : Fin 128) (j : Fin 1024) : (ref1 x c g (ix3 q n j) : EReal) = Spec.lined (rX x) (rV g) (rH c) n (q.val + 4) j := by
  have key : ∀ e : L, (transpose S15x128x1024 [1, 0, 2] (extractStridedSlice S128x15x1024 ![0, 4, 0] e slices_S128x19x1024_S128x15x1024_0_4_0) transposes_S128x15x1024_S15x128x1024_1_0_2 (ix3 q n j) : EReal) = e (ix3 n ⟨4 + q, by omega⟩ j) := by
    intro e
    pointwise
  unfold ref1
  rw [key, line_apply]
  exact congrArg (fun k => Spec.lined (rX x) (rV g) (rH c) n k j) (Nat.add_comm 4 q)
end read

/-- The reference's two results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v78) = ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v79) = ref1 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨(h c).1.trans ?_, (h c).2.1.trans ?_, (h c).2.2⟩) (run (F := Ideal) m ρ)
  · unfold res_main_v78
    rfl
  · rfl

end Cert.Ref4
-- ==== Proof.Hist.Pre.lean ====
module

public import proofs.«01_k».proof.Proof.Pool.Pre

@[expose] public section

set_option maxRecDepth 16384

noncomputable section

namespace Cert.Pre_rows_finite

open Idealize.ShloMosaic

/-- The shape relations the precondition's text states. -/
theorem facts : Facts where
  bcast_S_S15x128x1024 := by decide
  reducesTo_S15x128x1024_S_d0_1_2 := by decide
  h_S_ := by decide
  bcast_S_S1024 := by decide
  reducesTo_S1024_S_d0 := by decide

/-- Both of two bits are set when their conjunction is. -/
theorem both (a b : BitVec 1) (h : IntOp.andi a b = 1#1) : a = 1#1 ∧ b = 1#1 := by
  revert a b
  decide

/-- A number which compares equal to zero after subtracting itself is finite. -/
theorem real_of_cmp (a : EReal) (h : Ideal.cmp .oeq (a - a) (Ideal.ofBits .f32 0x00000000#32) = 1#1) : ∃ r : ℝ, a = r := by
  rw [Ideal.ofBits_zero_f32] at h
  refine Cert.Pre_gains_finite.real_of_sub_self _ ?_
  by_contra hne
  simp [Ideal.cmp, hne] at h

/-- The precondition says that every entry of the history and of the gain is finite. -/
theorem rows_real [Facts] (a0 : FVec Ideal S512x1024 .f32) (a1 : FVec Ideal S15x128x1024 .f32) (a2 : FVec Ideal S1024 .f32) (a3 : FVec Ideal S4x256x256 .f32) (a4 a5 : FVec Ideal S1024 .f32)
    (h : fn a0 a1 a2 a3 a4 a5 = fun _ => 1#1) : (∀ i : S15x128x1024.Idx, ∃ r : ℝ, (a1 i : EReal) = r) ∧ ∀ i : S1024.Idx, ∃ r : ℝ, (a2 i : EReal) = r := by
  have : Subsingleton S_.Idx := ⟨fun a b => funext fun k => k.elim0⟩
  have hh := both _ _ (congrFun h (fun k => k.elim0))
  exact ⟨fun i => real_of_cmp _ (Host.reduce_andi_all _ _ _ _ (fun k => k.elim0) hh.1 i), fun i => real_of_cmp _ (Host.reduce_andi_all _ _ _ _ (fun k => k.elim0) hh.2 i)⟩

end Cert.Pre_rows_finite
-- ==== Proof.First.Setup.lean ====
module

public import proofs.«01_k».proof.Proof.Gen.Kernel5Ideal.Frame
public import proofs.«01_k».proof.Proof.Gen.Kernel5Ideal.Skeleton

@[expose] public section

set_option maxRecDepth 16384

noncomputable section

namespace Cert.Kernel5Ideal.First

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Branch 0 of the body is taken: the point loads a block of the weights. -/
abbrev cond0_0 (i : grid0.Coords) : Prop := k0_cond1 i = 1#1
/-- When branch 0 is taken, by the position of the point. -/
theorem hcond0_0 : ∀ t : Fin cfg0.N, cond0_0 (grid0.coords t) ↔ t.val < 8 :=
  (by decide +kernel : ∀ t : Fin grid0.N, cond0_0 (grid0.coords t) ↔ t.val < 8)

/-- Branch 1 of the body is taken: the point takes a tile of the first batch. -/
abbrev cond0_1 (i : grid0.Coords) : Prop := k0_cond2 i = 1#1
/-- When branch 1 is taken, by the position of the point. -/
theorem hcond0_1 : ∀ t : Fin cfg0.N, cond0_1 (grid0.coords t) ↔ 8 ≤ t.val ∧ t.val < 40 :=
  (by decide +kernel : ∀ t : Fin grid0.N, cond0_1 (grid0.coords t) ↔ 8 ≤ t.val ∧ t.val < 40)

/-- Branch 2 of the body is taken: the point takes the second batch. -/
abbrev cond0_2 (i : grid0.Coords) : Prop := k0_cond3 i = 1#1
/-- When branch 2 is taken, by the position of the point. -/
theorem hcond0_2 : ∀ t : Fin cfg0.N, cond0_2 (grid0.coords t) ↔ t.val = 40 :=
  (by decide +kernel : ∀ t : Fin grid0.N, cond0_2 (grid0.coords t) ↔ t.val = 40)

/-! Where a loading point stores its rows. -/
theorem off1_eq : ∀ t : Fin cfg0.N, k0_off1 (grid0.coords t) = ![128 * t.val, 0] :=
  (by decide +kernel : ∀ t : Fin grid0.N, k0_off1 (grid0.coords t) = ![128 * t.val, 0])
theorem off2_eq : ∀ t : Fin cfg0.N, k0_off2 (grid0.coords t) = ![352 * t.val, 0] :=
  (by decide +kernel : ∀ t : Fin grid0.N, k0_off2 (grid0.coords t) = ![352 * t.val, 0])

/-! The buffer that stages window `w` at point `t`. -/
abbrev st0 (t : Fin cfg0.N) : Memref sig .tc .vmem S512x1024 .f32 := win0_0.stage (cfg0.slots t 0)
abbrev st1 (t : Fin cfg0.N) : Memref sig .tc .vmem S512x1024 .f32 := win0_1.stage (cfg0.slots t 1)
abbrev st2 (t : Fin cfg0.N) : Memref sig .tc .vmem S1x1024 .f32 := win0_2.stage (cfg0.slots t 2)
abbrev st3 (t : Fin cfg0.N) : Memref sig .tc .vmem S1x1x128x5632 .f32 := win0_3.stage (cfg0.slots t 3)
abbrev st4 (t : Fin cfg0.N) : Memref sig .tc .vmem S1x1x352x1024 .f32 := win0_4.stage (cfg0.slots t 4)
abbrev st5 (t : Fin cfg0.N) : Memref sig .tc .vmem S1x1x32x5632 .f32 := win0_5.stage (cfg0.slots t 5)
abbrev st6 (t : Fin cfg0.N) : Memref sig .tc .vmem S1x1x176x1024 .f32 := win0_6.stage (cfg0.slots t 6)
abbrev st7 (t : Fin cfg0.N) : Memref sig .tc .vmem S1x32x2560 .f32 := win0_7.stage (cfg0.slots t 7)
abbrev st8 (t : Fin cfg0.N) : Memref sig .tc .vmem S1x32x1024 .f32 := win0_8.stage (cfg0.slots t 8)
abbrev st9 (t : Fin cfg0.N) : Memref sig .tc .vmem S1x32x256 .f32 := win0_9.stage (cfg0.slots t 9)
abbrev st10 (t : Fin cfg0.N) : Memref sig .tc .vmem S512x1024 .f32 := win0_10.stage (cfg0.slots t 10)
abbrev st11 (t : Fin cfg0.N) : Memref sig .tc .vmem S512x1024 .f32 := win0_11.stage (cfg0.slots t 11)
abbrev st12 (t : Fin cfg0.N) : Memref sig .tc .vmem S32x5632 .bf16 := win0_12.stage (cfg0.slots t 12)
abbrev st13 (t : Fin cfg0.N) : Memref sig .tc .vmem S176x1024 .bf16 := win0_13.stage (cfg0.slots t 13)
abbrev st14 (t : Fin cfg0.N) : Memref sig .tc .vmem S32x2560 .bf16 := win0_14.stage (cfg0.slots t 14)
abbrev st15 (t : Fin cfg0.N) : Memref sig .tc .vmem S32x1024 .bf16 := win0_15.stage (cfg0.slots t 15)
abbrev st16 (t : Fin cfg0.N) : Memref sig .tc .vmem S32x256 .bf16 := win0_16.stage (cfg0.slots t 16)
/-- The scratch buffers: the rounded first weights, the rounded second weights, the gated activations. -/
abbrev sc0 : Memref sig .tc .vmem S1024x5632 .bf16 := Memref.whole cc0_scratch0
abbrev sc1 : Memref sig .tc .vmem S2816x1024 .bf16 := Memref.whole cc0_scratch1
abbrev sc2 : Memref sig .tc .vmem S512x2816 .bf16 := Memref.whole cc0_scratch2

/-- The scoped buffers beside the windows: the scratch buffers at some contents, and the generator's register. -/
theorem scoped_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel5Ideal.First

end
-- ==== Proof.First.Tile.lean ====
module

public import proofs.«01_k».proof.Proof.First.Setup
public import Idealize.ShloMosaic.Lib.Pipeline.ReadBack
public import Idealize.ShloMosaic.Lib.Pipeline.ValueKit.Acc
public import Idealize.ShloMosaic.Lib.WritesUnit
public import Idealize.ShloMosaic.Lib.Pipeline.ValueKit

@[expose] public section

set_option maxRecDepth 16384

noncomputable section

namespace Cert.Kernel5Ideal.First

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One chunk of 256 columns of the gated activations of the normalised rows `h`. -/
def gate (h : FVec F S512x1024 .bf16) (w : Vec F S1024x5632 .bf16) (o o' : ℕ)
    (i : ∀ a, (![0, o] : Fin 2 → Nat) a + S1024x256.size a ≤ S1024x5632.size a) (i' : ∀ a, (![0, o'] : Fin 2 → Nat) a + S1024x256.size a ≤ S1024x5632.size a) : FVec F S512x256 .bf16 :=
  k0_pay9 h (View.ld w (Rect.unit (s := S1024x5632) ![0, o] S1024x256.size i)) (View.ld w (Rect.unit (s := S1024x5632) ![0, o'] S1024x256.size i'))

/-- The gated activations of the normalised rows, chunk by chunk. -/
def gated (h : FVec F S512x1024 .bf16) (w : Vec F S1024x5632 .bf16) : Vec F S512x2816 .bf16 :=
  View.canon [
    ⟨Rect.unit (s := S512x2816) ![0, 2560] S512x256.size inb_S512x2816_S512x256_0_2560, gate h w 2560 5376 (by decide) (by decide)⟩,
    ⟨Rect.unit (s := S512x2816) ![0, 2304] S512x256.size inb_S512x2816_S512x256_0_2304, gate h w 2304 5120 (by decide) (by decide)⟩,
    ⟨Rect.unit (s := S512x2816) ![0, 2048] S512x256.size inb_S512x2816_S512x256_0_2048, gate h w 2048 4864 (by decide) (by decide)⟩,
    ⟨Rect.unit (s := S512x2816) ![0, 1792] S512x256.size inb_S512x2816_S512x256_0_1792, gate h w 1792 4608 (by decide) (by decide)⟩,
    ⟨Rect.unit (s := S512x2816) ![0, 1536] S512x256.size inb_S512x2816_S512x256_0_1536, gate h w 1536 4352 (by decide) (by decide)⟩,
    ⟨Rect.unit (s := S512x2816) ![0, 1280] S512x256.size inb_S512x2816_S512x256_0_1280, gate h w 1280 4096 (by decide) (by decide)⟩,
    ⟨Rect.unit (s := S512x2816) ![0, 1024] S512x256.size inb_S512x2816_S512x256_0_1024, gate h w 1024 3840 (by decide) (by decide)⟩,
    ⟨Rect.unit (s := S512x2816) ![0, 768] S512x256.size inb_S512x2816_S512x256_0_768, gate h w 768 3584 (by decide) (by decide)⟩,
    ⟨Rect.unit (s := S512x2816) ![0, 512] S512x256.size inb_S512x2816_S512x256_0_512, gate h w 512 3328 (by decide) (by decide)⟩,
    ⟨Rect.unit (s := S512x2816) ![0, 256] S512x256.size inb_S512x2816_S512x256_0_256, gate h w 256 3072 (by decide) (by decide)⟩,
    ⟨Rect.unit (s := S512x2816) ![0, 0] S512x256.size inb_S512x2816_S512x256_0_0, gate h w 0 2816 (by decide) (by decide)⟩]

/-- The rows after half the feed-forward layer. -/
def ffnOut (y : Vec F S512x1024 .f32) (g : Vec F S1x1024 .f32) (win : Vec F S1024x5632 .bf16) (wout : Vec F S2816x1024 .bf16) : Vec F S512x1024 .f32 :=
  k0_pay4 (gated (k0_pay20 y g) win) wout y

/-- The normalised rows are one computation in both branches. -/
theorem norm_eq (y : Vec F S512x1024 .f32) (g : Vec F S1x1024 .f32) : k0_pay5 y g = k0_pay20 y g := by
  simp only [k0_pay5, k0_pay20, shapeCast_self]
/-- So is the last sum. -/
theorem sum_eq (a : Vec F S512x2816 .bf16) (w : Vec F S2816x1024 .bf16) (y : Vec F S512x1024 .f32) : k0_pay2 a w y = k0_pay4 a w y := by
  simp only [k0_pay2, k0_pay4, shapeCast_self]

/-! The chunks of the gated activations are one computation, however the body cuts it. -/
section chunks
variable (h : FVec F S512x1024 .bf16) (y : Vec F S512x1024 .f32) (g : Vec F S1x1024 .f32) (w v : Vec F S1024x256 .bf16)
theorem chunk_6 : k0_pay6 y g w v = k0_pay9 (k0_pay5 y g) w v := rfl
theorem chunk_8 : k0_pay8 (k0_pay7 y g w v) = k0_pay9 (k0_pay5 y g) w v := rfl
theorem chunk_12 : k0_pay12 (k0_pay11 h w v) = k0_pay9 h w v := rfl
theorem chunk_16 : k0_pay16 (k0_pay15 h w v) = k0_pay9 h w v := rfl
theorem chunk_1 : k0_pay1 (k0_pay19 h w v) = k0_pay9 h w v := rfl
theorem chunk_21 : k0_pay21 y g w v = k0_pay9 (k0_pay20 y g) w v := rfl
theorem chunk_23 : k0_pay23 (k0_pay22 y g w v) = k0_pay9 (k0_pay20 y g) w v := rfl
theorem chunk_27 : k0_pay27 (k0_pay26 h w v) = k0_pay9 h w v := rfl
theorem chunk_31 : k0_pay31 (k0_pay30 h w v) = k0_pay9 h w v := rfl
theorem chunk_3 : k0_pay3 (k0_pay34 h w v) = k0_pay9 h w v := rfl
theorem chunk_10 : k0_pay10 h w v = k0_pay9 h w v := rfl
theorem chunk_13 : k0_pay13 h w v = k0_pay9 h w v := rfl
theorem chunk_14 : k0_pay14 h w v = k0_pay9 h w v := rfl
theorem chunk_17 : k0_pay17 h w v = k0_pay9 h w v := rfl
theorem chunk_18 : k0_pay18 h w v = k0_pay9 h w v := rfl
theorem chunk_24 : k0_pay24 h w v = k0_pay9 h w v := rfl
theorem chunk_25 : k0_pay25 h w v = k0_pay9 h w v := rfl
theorem chunk_28 : k0_pay28 h w v = k0_pay9 h w v := rfl
theorem chunk_29 : k0_pay29 h w v = k0_pay9 h w v := rfl
theorem chunk_32 : k0_pay32 h w v = k0_pay9 h w v := rfl
theorem chunk_33 : k0_pay33 h w v = k0_pay9 h w v := rfl
end chunks

/-- A load of a whole buffer after stores is their contents. -/
theorem cov_whole {S : Shape} {e : EltTy} (v : View sig .tc .vmem S e) (L : List (View.Piece (Elt F) S e)) {off : Fin S.rank → ℕ}
    (inb : ∀ a, off a + S.size a ≤ S.size a) (h : ∀ a, off a = 0) :
    v.readCov L (Rect.unit off (no_index S.size) inb).toLoadRect = View.canon L := by
  rw [View.readCov_eq_canon']
  exact View.ld_unit_lit' inb (View.canon L) h

/-- The weights `w` with the rows `p` laid over their `n`-th 128 rows. -/
def layIn (n : ℕ) (w : Vec F S1024x5632 .bf16) (p : Vec F S128x5632 .bf16) : Vec F S1024x5632 .bf16 := fun y =>
  if h : 128 * n ≤ (y 0).val ∧ (y 0).val < 128 * n + 128 then p (ix2 ⟨(y 0).val - 128 * n, by omega⟩ (y 1)) else w y

theorem read_layIn (v : View sig .tc .vmem S1024x5632 .bf16) (f : v.ty.Contents (Elt F)) (w : Vec F S1024x5632 .bf16) (hf : v.read (Elt F) f = w) (n : ℕ) (off : Fin 2 → ℕ)
    (hoff : off = ![128 * n, 0]) (inb : ∀ a, off a + S128x5632.size a ≤ S1024x5632.size a) (p : Vec F S128x5632 .bf16) :
    v.read (Elt F) (v.writes (Elt F) f [⟨Rect.unit (s := S1024x5632) off S128x5632.size inb, p⟩]) = layIn n w p := by
  funext y
  refine (View.read_writes_cons_rows (W := 128) v f inb p [] y hoff rfl rfl).trans ?_
  unfold layIn
  split
  · refine congrArg p (funext fun a => ?_)
    revert a
    refine Fin.forall_fin_two.mpr ⟨Fin.ext rfl, Fin.ext ?_⟩
    show (y 1).val - 0 = (y 1).val
    omega
  · exact congrFun hf y

/-- The weights `w` with the rows `p` laid over their `n`-th 352 rows. -/
def layOut (n : ℕ) (w : Vec F S2816x1024 .bf16) (p : Vec F S352x1024 .bf16) : Vec F S2816x1024 .bf16 := fun y =>
  if h : 352 * n ≤ (y 0).val ∧ (y 0).val < 352 * n + 352 then p (ix2 ⟨(y 0).val - 352 * n, by omega⟩ (y 1)) else w y

theorem read_layOut (v : View sig .tc .vmem S2816x1024 .bf16) (f : v.ty.Contents (Elt F)) (w : Vec F S2816x1024 .bf16) (hf : v.read (Elt F) f = w) (n : ℕ) (off : Fin 2 → ℕ)
    (hoff : off = ![352 * n, 0]) (inb : ∀ a, off a + S352x1024.size a ≤ S2816x1024.size a) (p : Vec F S352x1024 .bf16) :
    v.read (Elt F) (v.writes (Elt F) f [⟨Rect.unit (s := S2816x1024) off S352x1024.size inb, p⟩]) = layOut n w p := by
  funext y
  refine (View.read_writes_cons_rows (W := 352) v f inb p [] y hoff rfl rfl).trans ?_
  unfold layOut
  split
  · refine congrArg p (funext fun a => ?_)
    revert a
    refine Fin.forall_fin_two.mpr ⟨Fin.ext rfl, Fin.ext ?_⟩
    show (y 1).val - 0 = (y 1).val
    omega
  · exact congrFun hf y

end Cert.Kernel5Ideal.First

end
-- ==== Proof.First.RunA.lean ====
module

public import proofs.«01_k».proof.Proof.First.Tile

@[expose] public section

set_option maxRecDepth 16384

noncomputable section

namespace Cert.Kernel5Ideal.First

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body run once at a loading point: what each buffer holds after it. -/
theorem runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x128x5632 .f32) (harg4 : arg4.IsWhole) (arg5 : Memref sig .tc .vmem S1x1x352x1024 .f32) (harg5 : arg5.IsWhole) (arg6 : Memref sig .tc .vmem S1x1x32x5632 .f32) (harg6 : arg6.IsWhole) (arg7 : Memref sig .tc .vmem S1x1x176x1024 .f32) (harg7 : arg7.IsWhole) (arg8 : Memref sig .tc .vmem S1x32x2560 .f32) (harg8 : arg8.IsWhole) (arg9 : Memref sig .tc .vmem S1x32x1024 .f32) (harg9 : arg9.IsWhole) (arg10 : Memref sig .tc .vmem S1x32x256 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x2560 .bf16) (harg15 : arg15.IsWhole) (arg16 : Memref sig .tc .vmem S32x1024 .bf16) (harg16 : arg16.IsWhole) (arg17 : Memref sig .tc .vmem S32x256 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S512x2816 .bf16) (harg20 : arg20.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1x128x5632 .f32) (x4 : Vec F S1x1x352x1024 .f32) (x5 : Vec F S1x1x32x5632 .f32) (x6 : Vec F S1x1x176x1024 .f32) (x7 : Vec F S1x32x2560 .f32) (x8 : Vec F S1x32x1024 .f32) (x9 : Vec F S1x32x256 .f32) (d10 : Vec F S512x1024 .f32) (d11 : Vec F S512x1024 .f32) (w0 : Vec F S1024x5632 .bf16) (w1 : Vec F S2816x1024 .bf16) (n : ℕ) (hn1 : k0_off1 i = ![128 * n, 0]) (hn2 : k0_off2 i = ![352 * n, 0]) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d10 ∗ owns (c : Thread nD τ) arg12 fullShare d11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare w0 ∗ owns (c : Thread nD τ) arg19 fullShare w1 ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d10 ∗ owns (c : Thread nD τ) arg12 fullShare d11 ∗ owns (c : Thread nD τ) arg13 fullShare (k0_pay37 x5) ∗ owns (c : Thread nD τ) arg14 fullShare (k0_pay38 x6) ∗ owns (c : Thread nD τ) arg15 fullShare (k0_pay39 x7) ∗ owns (c : Thread nD τ) arg16 fullShare (k0_pay40 x8) ∗ owns (c : Thread nD τ) arg17 fullShare (k0_pay41 x9) ∗ owns (c : Thread nD τ) arg18 fullShare (layIn n w0 (k0_pay35 x3)) ∗ owns (c : Thread nD τ) arg19 fullShare (layOut n w1 (k0_pay36 x4)) ∗ (∃ d, owns (c : Thread nD τ) arg20 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn_eq_skeleton]; unfold cc0_ffn_skel
  simp only [k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%e13, %f13, -, H13⟩, ⟨%e14, %f14, -, H14⟩, ⟨%e15, %f15, -, H15⟩, ⟨%e16, %f16, -, H16⟩, ⟨%e17, %f17, -, H17⟩, ⟨%f18, %hf18, H18⟩, ⟨%f19, %hf19, H19⟩, ⟨%e20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg18.eq_unread hf18; obtain rfl := harg19.eq_unread hf19
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro; refine (View.read_writes_eq_canon _ _ _ (View.cover_of_tiledBy _ ![32, 5632] (by sl_kernel_rfl))).trans ?_
    simp (disch := decide) only [View.readAt_eq_ld, Memref.IsWhole.read_unread, View.canon_cons_unit_lit', View.ld_unit_lit']
    try rfl
  isplitl [H14]
  · iexists _; isplitr; swap; · iexact H14
    ipureintro; refine (View.read_writes_eq_canon _ _ _ (View.cover_of_tiledBy _ ![176, 1024] (by sl_kernel_rfl))).trans ?_
    simp (disch := decide) only [View.readAt_eq_ld, Memref.IsWhole.read_unread, View.canon_cons_unit_lit', View.ld_unit_lit']
    try rfl
  isplitl [H15]
  · iexists _; isplitr; swap; · iexact H15
    ipureintro; refine (View.read_writes_eq_canon _ _ _ (View.cover_of_tiledBy _ ![32, 2560] (by sl_kernel_rfl))).trans ?_
    simp (disch := decide) only [View.readAt_eq_ld, Memref.IsWhole.read_unread, View.canon_cons_unit_lit', View.ld_unit_lit']
    try rfl
  isplitl [H16]
  · iexists _; isplitr; swap; · iexact H16
    ipureintro; refine (View.read_writes_eq_canon _ _ _ (View.cover_of_tiledBy _ ![32, 1024] (by sl_kernel_rfl))).trans ?_
    simp (disch := decide) only [View.readAt_eq_ld, Memref.IsWhole.read_unread, View.canon_cons_unit_lit', View.ld_unit_lit']
    try rfl
  isplitl [H17]
  · iexists _; isplitr; swap; · iexact H17
    ipureintro; refine (View.read_writes_eq_canon _ _ _ (View.cover_of_tiledBy _ ![32, 256] (by sl_kernel_rfl))).trans ?_
    frame_open
    simp (disch := decide) only [View.readAt_eq_ld, Memref.IsWhole.read_unread, View.canon_cons_unit_lit', View.ld_unit_lit']
    try rfl
  isplitl [H18]
  · iexists _; isplitr; swap; · iexact H18
    ipureintro; refine (read_layIn _ _ _ (harg18.read_unread _) n _ hn1 _ _).trans ?_
    simp (disch := decide) only [View.readAt_eq_ld, Memref.IsWhole.read_unread, View.ld_unit_lit']
  isplitl [H19]
  · iexists _; isplitr; swap; · iexact H19
    ipureintro; refine (read_layOut _ _ _ (harg19.read_unread _) n _ hn2 _ _).trans ?_
    simp (disch := decide) only [View.readAt_eq_ld, Memref.IsWhole.read_unread, View.ld_unit_lit']
  iexists _, _; isplitr; swap; · iexact H20
  ipureintro; rfl

end Cert.Kernel5Ideal.First

end
-- ==== Proof.First.RunB.lean ====
module

public import proofs.«01_k».proof.Proof.First.Tile

@[expose] public section

set_option maxRecDepth 16384

noncomputable section

namespace Cert.Kernel5Ideal.First

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body run once at a tile of the first batch: what each buffer holds after it. -/
theorem runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x128x5632 .f32) (harg4 : arg4.IsWhole) (arg5 : Memref sig .tc .vmem S1x1x352x1024 .f32) (harg5 : arg5.IsWhole) (arg6 : Memref sig .tc .vmem S1x1x32x5632 .f32) (harg6 : arg6.IsWhole) (arg7 : Memref sig .tc .vmem S1x1x176x1024 .f32) (harg7 : arg7.IsWhole) (arg8 : Memref sig .tc .vmem S1x32x2560 .f32) (harg8 : arg8.IsWhole) (arg9 : Memref sig .tc .vmem S1x32x1024 .f32) (harg9 : arg9.IsWhole) (arg10 : Memref sig .tc .vmem S1x32x256 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x2560 .bf16) (harg15 : arg15.IsWhole) (arg16 : Memref sig .tc .vmem S32x1024 .bf16) (harg16 : arg16.IsWhole) (arg17 : Memref sig .tc .vmem S32x256 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S512x2816 .bf16) (harg20 : arg20.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1x128x5632 .f32) (x4 : Vec F S1x1x352x1024 .f32) (x5 : Vec F S1x1x32x5632 .f32) (x6 : Vec F S1x1x176x1024 .f32) (x7 : Vec F S1x32x2560 .f32) (x8 : Vec F S1x32x1024 .f32) (x9 : Vec F S1x32x256 .f32) (d11 : Vec F S512x1024 .f32) (w0 : Vec F S1024x5632 .bf16) (w1 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare d11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare w0 ∗ owns (c : Thread nD τ) arg19 fullShare w1 ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (ffnOut x0 x2 w0 w1) ∗ owns (c : Thread nD τ) arg12 fullShare d11 ∗ owns (c : Thread nD τ) arg13 fullShare (k0_pay37 x5) ∗ owns (c : Thread nD τ) arg14 fullShare (k0_pay38 x6) ∗ owns (c : Thread nD τ) arg15 fullShare (k0_pay39 x7) ∗ owns (c : Thread nD τ) arg16 fullShare (k0_pay40 x8) ∗ owns (c : Thread nD τ) arg17 fullShare (k0_pay41 x9) ∗ owns (c : Thread nD τ) arg18 fullShare w0 ∗ owns (c : Thread nD τ) arg19 fullShare w1 ∗ (∃ d, owns (c : Thread nD τ) arg20 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn_eq_skeleton]; unfold cc0_ffn_skel
  simp only [k0_part9_eq_skeleton, k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%e11, %f11, -, H11⟩, ⟨%f12, %hf12, H12⟩, ⟨%e13, %f13, -, H13⟩, ⟨%e14, %f14, -, H14⟩, ⟨%e15, %f15, -, H15⟩, ⟨%e16, %f16, -, H16⟩, ⟨%e17, %f17, -, H17⟩, ⟨%f18, %hf18, H18⟩, ⟨%f19, %hf19, H19⟩, ⟨%e20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg18.eq_unread hf18; obtain rfl := harg19.eq_unread hf19
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro; refine (View.read_writes_eq_canon _ _ _ (View.cover_of_tiledBy _ ![512, 1024] (by sl_kernel_rfl))).trans ?_
    frame_open
    simp (disch := decide) only [↓cov_whole, View.readAt_eq_ld, Memref.IsWhole.read_unread, View.canon_cons_unit_lit', View.ld_unit_lit', chunk_6, chunk_8, chunk_12, chunk_16, chunk_1, chunk_21, chunk_23, chunk_27, chunk_31, chunk_3, chunk_10, chunk_13, chunk_14, chunk_17, chunk_18, chunk_24, chunk_25, chunk_28, chunk_29, chunk_32, chunk_33, norm_eq, sum_eq]
    try rfl
  isplitl [H12]
  · iexists _; isplitr; · ipureintro; exact harg12.read_unread _
    iexact H12
  isplitl [H13]
  · iexists _; isplitr; swap; · iexact H13
    ipureintro; refine (View.read_writes_eq_canon _ _ _ (View.cover_of_tiledBy _ ![32, 5632] (by sl_kernel_rfl))).trans ?_
    simp (disch := decide) only [View.readAt_eq_ld, Memref.IsWhole.read_unread, View.canon_cons_unit_lit', View.ld_unit_lit']
    try rfl
  isplitl [H14]
  · iexists _; isplitr; swap; · iexact H14
    ipureintro; refine (View.read_writes_eq_canon _ _ _ (View.cover_of_tiledBy _ ![176, 1024] (by sl_kernel_rfl))).trans ?_
    simp (disch := decide) only [View.readAt_eq_ld, Memref.IsWhole.read_unread, View.canon_cons_unit_lit', View.ld_unit_lit']
    try rfl
  isplitl [H15]
  · iexists _; isplitr; swap; · iexact H15
    ipureintro; refine (View.read_writes_eq_canon _ _ _ (View.cover_of_tiledBy _ ![32, 2560] (by sl_kernel_rfl))).trans ?_
    simp (disch := decide) only [View.readAt_eq_ld, Memref.IsWhole.read_unread, View.canon_cons_unit_lit', View.ld_unit_lit']
    try rfl
  isplitl [H16]
  · iexists _; isplitr; swap; · iexact H16
    ipureintro; refine (View.read_writes_eq_canon _ _ _ (View.cover_of_tiledBy _ ![32, 1024] (by sl_kernel_rfl))).trans ?_
    simp (disch := decide) only [View.readAt_eq_ld, Memref.IsWhole.read_unread, View.canon_cons_unit_lit', View.ld_unit_lit']
    try rfl
  isplitl [H17]
  · iexists _; isplitr; swap; · iexact H17
    ipureintro; refine (View.read_writes_eq_canon _ _ _ (View.cover_of_tiledBy _ ![32, 256] (by sl_kernel_rfl))).trans ?_
    frame_open
    simp (disch := decide) only [View.readAt_eq_ld, Memref.IsWhole.read_unread, View.canon_cons_unit_lit', View.ld_unit_lit']
    try rfl
  isplitl [H18]
  · iexists _; isplitr; · ipureintro; exact harg18.read_unread _
    iexact H18
  isplitl [H19]
  · iexists _; isplitr; · ipureintro; exact harg19.read_unread _
    iexact H19
  iexists _, _; isplitr; swap; · iexact H20
  ipureintro; rfl

end Cert.Kernel5Ideal.First

end
-- ==== Proof.First.RunC.lean ====
module

public import proofs.«01_k».proof.Proof.First.Tile

@[expose] public section

set_option maxRecDepth 16384

noncomputable section

namespace Cert.Kernel5Ideal.First

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body run once at the second batch: what each buffer holds after it. -/
theorem runC (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x128x5632 .f32) (harg4 : arg4.IsWhole) (arg5 : Memref sig .tc .vmem S1x1x352x1024 .f32) (harg5 : arg5.IsWhole) (arg6 : Memref sig .tc .vmem S1x1x32x5632 .f32) (harg6 : arg6.IsWhole) (arg7 : Memref sig .tc .vmem S1x1x176x1024 .f32) (harg7 : arg7.IsWhole) (arg8 : Memref sig .tc .vmem S1x32x2560 .f32) (harg8 : arg8.IsWhole) (arg9 : Memref sig .tc .vmem S1x32x1024 .f32) (harg9 : arg9.IsWhole) (arg10 : Memref sig .tc .vmem S1x32x256 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x2560 .bf16) (harg15 : arg15.IsWhole) (arg16 : Memref sig .tc .vmem S32x1024 .bf16) (harg16 : arg16.IsWhole) (arg17 : Memref sig .tc .vmem S32x256 .bf16) (harg17 : arg17.IsWhole) (arg18 : Memref sig .tc .vmem S1024x5632 .bf16) (harg18 : arg18.IsWhole) (arg19 : Memref sig .tc .vmem S2816x1024 .bf16) (harg19 : arg19.IsWhole) (arg20 : Memref sig .tc .vmem S512x2816 .bf16) (harg20 : arg20.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1x128x5632 .f32) (x4 : Vec F S1x1x352x1024 .f32) (x5 : Vec F S1x1x32x5632 .f32) (x6 : Vec F S1x1x176x1024 .f32) (x7 : Vec F S1x32x2560 .f32) (x8 : Vec F S1x32x1024 .f32) (x9 : Vec F S1x32x256 .f32) (d10 : Vec F S512x1024 .f32) (w0 : Vec F S1024x5632 .bf16) (w1 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare w0 ∗ owns (c : Thread nD τ) arg19 fullShare w1 ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d10 ∗ owns (c : Thread nD τ) arg12 fullShare (ffnOut x1 x2 w0 w1) ∗ owns (c : Thread nD τ) arg13 fullShare (k0_pay37 x5) ∗ owns (c : Thread nD τ) arg14 fullShare (k0_pay38 x6) ∗ owns (c : Thread nD τ) arg15 fullShare (k0_pay39 x7) ∗ owns (c : Thread nD τ) arg16 fullShare (k0_pay40 x8) ∗ owns (c : Thread nD τ) arg17 fullShare (k0_pay41 x9) ∗ owns (c : Thread nD τ) arg18 fullShare w0 ∗ owns (c : Thread nD τ) arg19 fullShare w1 ∗ (∃ d, owns (c : Thread nD τ) arg20 fullShare d)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn_eq_skeleton]; unfold cc0_ffn_skel
  simp only [k0_part9_eq_skeleton, k0_part5_eq_skeleton, k0_part6_eq_skeleton, k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%e12, %f12, -, H12⟩, ⟨%e13, %f13, -, H13⟩, ⟨%e14, %f14, -, H14⟩, ⟨%e15, %f15, -, H15⟩, ⟨%e16, %f16, -, H16⟩, ⟨%e17, %f17, -, H17⟩, ⟨%f18, %hf18, H18⟩, ⟨%f19, %hf19, H19⟩, ⟨%e20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg18.eq_unread hf18; obtain rfl := harg19.eq_unread hf19
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro; refine (View.read_writes_eq_canon _ _ _ (View.cover_of_tiledBy _ ![512, 1024] (by sl_kernel_rfl))).trans ?_
    frame_open
    simp (disch := decide) only [↓cov_whole, View.readAt_eq_ld, Memref.IsWhole.read_unread, View.canon_cons_unit_lit', View.ld_unit_lit', chunk_6, chunk_8, chunk_12, chunk_16, chunk_1, chunk_21, chunk_23, chunk_27, chunk_31, chunk_3, chunk_10, chunk_13, chunk_14, chunk_17, chunk_18, chunk_24, chunk_25, chunk_28, chunk_29, chunk_32, chunk_33, norm_eq, sum_eq]
    try rfl
  isplitl [H13]
  · iexists _; isplitr; swap; · iexact H13
    ipureintro; refine (View.read_writes_eq_canon _ _ _ (View.cover_of_tiledBy _ ![32, 5632] (by sl_kernel_rfl))).trans ?_
    simp (disch := decide) only [View.readAt_eq_ld, Memref.IsWhole.read_unread, View.canon_cons_unit_lit', View.ld_unit_lit']
    try rfl
  isplitl [H14]
  · iexists _; isplitr; swap; · iexact H14
    ipureintro; refine (View.read_writes_eq_canon _ _ _ (View.cover_of_tiledBy _ ![176, 1024] (by sl_kernel_rfl))).trans ?_
    simp (disch := decide) only [View.readAt_eq_ld, Memref.IsWhole.read_unread, View.canon_cons_unit_lit', View.ld_unit_lit']
    try rfl
  isplitl [H15]
  · iexists _; isplitr; swap; · iexact H15
    ipureintro; refine (View.read_writes_eq_canon _ _ _ (View.cover_of_tiledBy _ ![32, 2560] (by sl_kernel_rfl))).trans ?_
    simp (disch := decide) only [View.readAt_eq_ld, Memref.IsWhole.read_unread, View.canon_cons_unit_lit', View.ld_unit_lit']
    try rfl
  isplitl [H16]
  · iexists _; isplitr; swap; · iexact H16
    ipureintro; refine (View.read_writes_eq_canon _ _ _ (View.cover_of_tiledBy _ ![32, 1024] (by sl_kernel_rfl))).trans ?_
    simp (disch := decide) only [View.readAt_eq_ld, Memref.IsWhole.read_unread, View.canon_cons_unit_lit', View.ld_unit_lit']
    try rfl
  isplitl [H17]
  · iexists _; isplitr; swap; · iexact H17
    ipureintro; refine (View.read_writes_eq_canon _ _ _ (View.cover_of_tiledBy _ ![32, 256] (by sl_kernel_rfl))).trans ?_
    frame_open
    simp (disch := decide) only [View.readAt_eq_ld, Memref.IsWhole.read_unread, View.canon_cons_unit_lit', View.ld_unit_lit']
    try rfl
  isplitl [H18]
  · iexists _; isplitr; · ipureintro; exact harg18.read_unread _
    iexact H18
  isplitl [H19]
  · iexists _; isplitr; · ipureintro; exact harg19.read_unread _
    iexact H19
  iexists _, _; isplitr; swap; · iexact H20
  ipureintro; rfl

end Cert.Kernel5Ideal.First

end
-- ==== Proof.First.Frame.lean ====
module

public import proofs.«01_k».proof.Proof.First.RunA
public import proofs.«01_k».proof.Proof.First.RunB
public import proofs.«01_k».proof.Proof.First.RunC

@[expose] public section

set_option maxRecDepth 16384

noncomputable section

namespace Cert.Kernel5Ideal.First

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_lt (t : Fin cfg0.N) : t.val < 41 := lt_of_lt_of_eq t.isLt (show cfg0.N = 41 from N_0)

/-! ## The weights the loading points round, block by block -/

/-- The first weights, rounded. -/
def wIn (c : Dev nD) : Vec F S1024x5632 .bf16 := fun y =>
  k0_pay35 (iblk m c 3 ⟨(y 0).val / 128, by have : (y 0).val < 1024 := (y 0).isLt; rw [show cfg0.N = 41 from N_0]; omega⟩) (ix2 ⟨(y 0).val % 128, by omega⟩ (y 1))
/-- The second weights, rounded. -/
def wOut (c : Dev nD) : Vec F S2816x1024 .bf16 := fun y =>
  k0_pay36 (iblk m c 4 ⟨(y 0).val / 352, by have : (y 0).val < 2816 := (y 0).isLt; rw [show cfg0.N = 41 from N_0]; omega⟩) (ix2 ⟨(y 0).val % 352, by omega⟩ (y 1))

/-- The scratch buffers hold the first `n` blocks of the rounded weights. -/
def Filled (c : Dev nD) (n : ℕ) (d0 : Vec F S1024x5632 .bf16) (d1 : Vec F S2816x1024 .bf16) : Prop :=
  (∀ y : S1024x5632.Idx, (y 0).val < 128 * n → d0 y = wIn m c y) ∧ (∀ y : S2816x1024.Idx, (y 0).val < 352 * n → d1 y = wOut m c y)

theorem filled_zero (c : Dev nD) (d0 d1) : Filled m c 0 d0 d1 := ⟨fun y h => absurd h (by omega), fun y h => absurd h (by omega)⟩

/-- A loading point adds its block. -/
theorem filled_succ (c : Dev nD) (t : Fin cfg0.N) (d0 d1) (h : Filled m c t.val d0 d1) :
    Filled m c (t.val + 1) (layIn t.val d0 (k0_pay35 (iblk m c 3 t))) (layOut t.val d1 (k0_pay36 (iblk m c 4 t))) := by
  constructor
  · intro y hy
    have E : ∀ (a b : Fin cfg0.N) (p q : Fin 128), a = b → p = q → k0_pay35 (iblk m c 3 a) (ix2 p (y 1)) = k0_pay35 (iblk m c 3 b) (ix2 q (y 1)) := by
      rintro _ _ _ _ rfl rfl; rfl
    unfold layIn
    split
    · exact E _ _ _ _ (Fin.ext (by show t.val = (y 0).val / 128; omega)) (Fin.ext (by show (y 0).val - 128 * t.val = (y 0).val % 128; omega))
    · exact h.1 y (by omega)
  · intro y hy
    have E : ∀ (a b : Fin cfg0.N) (p q : Fin 352), a = b → p = q → k0_pay36 (iblk m c 4 a) (ix2 p (y 1)) = k0_pay36 (iblk m c 4 b) (ix2 q (y 1)) := by
      rintro _ _ _ _ rfl rfl; rfl
    unfold layOut
    split
    · exact E _ _ _ _ (Fin.ext (by show t.val = (y 0).val / 352; omega)) (Fin.ext (by show (y 0).val - 352 * t.val = (y 0).val % 352; omega))
    · exact h.2 y (by omega)

/-- After the eighth block the buffers hold all the weights. -/
theorem filled_full (c : Dev nD) (d0 d1) : Filled m c 8 d0 d1 ↔ d0 = wIn m c ∧ d1 = wOut m c :=
  ⟨fun h => ⟨funext fun y => h.1 y (by have : (y 0).val < 1024 := (y 0).isLt; omega), funext fun y => h.2 y (by have : (y 0).val < 2816 := (y 0).isLt; omega)⟩,
    fun h => ⟨fun y _ => congrFun h.1 y, fun y _ => congrFun h.2 y⟩⟩

/-! ## What the result buffers hold after a point -/

/-- The tile of the first batch a point last took: its own, or the last tile at the last point. -/
abbrev tl (t : Fin cfg0.N) : Fin cfg0.N := ⟨min t.val 39, by have := t.isLt; omega⟩
theorem tl_of_lt (t : Fin cfg0.N) (h : t.val < 40) : tl t = t := Fin.ext (by show min t.val 39 = t.val; omega)
/-- The point before. -/
abbrev pt (t : Fin cfg0.N) : Fin cfg0.N := ⟨t.val - 1, Nat.lt_of_le_of_lt (Nat.sub_le _ _) t.isLt⟩
theorem tl_last (t : Fin cfg0.N) (h : t.val = 40) : tl (pt t) = tl t := Fin.ext (by show min (t.val - 1) 39 = min t.val 39; omega)

def out10 (c : Dev nD) (t : Fin cfg0.N) : Vec F S512x1024 .f32 := ffnOut (iblk m c 0 (tl t)) (iblk m c 2 (tl t)) (wIn m c) (wOut m c)
def out11 (c : Dev nD) (t : Fin cfg0.N) : Vec F S512x1024 .f32 := ffnOut (iblk m c 1 t) (iblk m c 2 t) (wIn m c) (wOut m c)
theorem out10_last (c : Dev nD) (t : Fin cfg0.N) (h : t.val = 40) : out10 m c (pt t) = out10 m c t := by
  unfold out10; rw [tl_last t h]

/-! ## Where the results are written back, and where the body leaves them alone -/

theorem flush10 : ∀ t : Fin cfg0.N, (cfg0.win 10).flush t = decide (8 ≤ t.val ∧ t.val ≠ 39) :=
  (by decide +kernel : ∀ t : Fin grid0.N, win0_10.flush t = decide (8 ≤ t.val ∧ t.val ≠ 39))
theorem idle10 : ∀ t : Fin cfg0.N, cfg0.idle 10 (cfg0.grid.coords t) = decide (t.val < 8 ∨ t.val = 40) :=
  (by decide +kernel : ∀ t : Fin grid0.N, idle0 10 (grid0.coords t) = decide (t.val < 8 ∨ t.val = 40))
theorem idle11 : ∀ t : Fin cfg0.N, cfg0.idle 11 (cfg0.grid.coords t) = decide (t.val ≠ 40) :=
  (by decide +kernel : ∀ t : Fin grid0.N, idle0 11 (grid0.coords t) = decide (t.val ≠ 40))
theorem live0 : ∀ t : Fin cfg0.N, cfg0.idle 0 (cfg0.grid.coords t) = false := (by decide +kernel : ∀ t : Fin grid0.N, idle0 0 (grid0.coords t) = false)
theorem live1 : ∀ t : Fin cfg0.N, cfg0.idle 1 (cfg0.grid.coords t) = false := (by decide +kernel : ∀ t : Fin grid0.N, idle0 1 (grid0.coords t) = false)
theorem live2 : ∀ t : Fin cfg0.N, cfg0.idle 2 (cfg0.grid.coords t) = false := (by decide +kernel : ∀ t : Fin grid0.N, idle0 2 (grid0.coords t) = false)
theorem live3 : ∀ t : Fin cfg0.N, cfg0.idle 3 (cfg0.grid.coords t) = false := (by decide +kernel : ∀ t : Fin grid0.N, idle0 3 (grid0.coords t) = false)
theorem live4 : ∀ t : Fin cfg0.N, cfg0.idle 4 (cfg0.grid.coords t) = false := (by decide +kernel : ∀ t : Fin grid0.N, idle0 4 (grid0.coords t) = false)
theorem live5 : ∀ t : Fin cfg0.N, cfg0.idle 5 (cfg0.grid.coords t) = false := (by decide +kernel : ∀ t : Fin grid0.N, idle0 5 (grid0.coords t) = false)
theorem live6 : ∀ t : Fin cfg0.N, cfg0.idle 6 (cfg0.grid.coords t) = false := (by decide +kernel : ∀ t : Fin grid0.N, idle0 6 (grid0.coords t) = false)
theorem live7 : ∀ t : Fin cfg0.N, cfg0.idle 7 (cfg0.grid.coords t) = false := (by decide +kernel : ∀ t : Fin grid0.N, idle0 7 (grid0.coords t) = false)
theorem live8 : ∀ t : Fin cfg0.N, cfg0.idle 8 (cfg0.grid.coords t) = false := (by decide +kernel : ∀ t : Fin grid0.N, idle0 8 (grid0.coords t) = false)
theorem live9 : ∀ t : Fin cfg0.N, cfg0.idle 9 (cfg0.grid.coords t) = false := (by decide +kernel : ∀ t : Fin grid0.N, idle0 9 (grid0.coords t) = false)
theorem live12 : ∀ t : Fin cfg0.N, cfg0.idle 12 (cfg0.grid.coords t) = false := (by decide +kernel : ∀ t : Fin grid0.N, idle0 12 (grid0.coords t) = false)
theorem live13 : ∀ t : Fin cfg0.N, cfg0.idle 13 (cfg0.grid.coords t) = false := (by decide +kernel : ∀ t : Fin grid0.N, idle0 13 (grid0.coords t) = false)
theorem live14 : ∀ t : Fin cfg0.N, cfg0.idle 14 (cfg0.grid.coords t) = false := (by decide +kernel : ∀ t : Fin grid0.N, idle0 14 (grid0.coords t) = false)
theorem live15 : ∀ t : Fin cfg0.N, cfg0.idle 15 (cfg0.grid.coords t) = false := (by decide +kernel : ∀ t : Fin grid0.N, idle0 15 (grid0.coords t) = false)
theorem live16 : ∀ t : Fin cfg0.N, cfg0.idle 16 (cfg0.grid.coords t) = false := (by decide +kernel : ∀ t : Fin grid0.N, idle0 16 (grid0.coords t) = false)

/-- Between the points: the scratch buffers hold the blocks of the weights loaded so far; the third holds anything. -/
def between (c : Dev nD) (n : ℕ) : sProp 𝕄 :=
  iprop((∃ d0 d1, ⌜Filled m c (min n 8) d0 d1⌝ ∗ owns (c : Thread nD τ) sc0 fullShare d0 ∗ owns (c : Thread nD τ) sc1 fullShare d1)
    ∗ (∃ d, owns (c : Thread nD τ) sc2 fullShare d) ∗ (∃ r, prngReg c r))

/-- The proof data of the pipeline: each input's buffer holds its block, each result's what the definitions above say. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => k0_pay37 (iblk m c 5 t)
    | ⟨13, _⟩ => k0_pay38 (iblk m c 6 t)
    | ⟨14, _⟩ => k0_pay39 (iblk m c 7 t)
    | ⟨15, _⟩ => k0_pay40 (iblk m c 8 t)
    | ⟨16, _⟩ => k0_pay41 (iblk m c 9 t)
    | ⟨n + 17, h⟩ => absurd (show n + 17 < 17 from h) (by omega)
  Φ t := between m c t.val
  q w := Pipeline.shareOf spec0 w
  owed _ := 0

theorem A_eq (c : Dev nD) (w : Fin cfg0.W) : (dats m 0 c).A w = V m c (Pipeline.arrRef spec0 w) := by
  dsimp only [dats]

section at_point
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = out10 m c t := by dsimp only [dats]
theorem after11 : (dats m 0 c).after 11 t = out11 m c t := by dsimp only [dats]
theorem after12 : (dats m 0 c).after 12 t = k0_pay37 (iblk m c 5 t) := by dsimp only [dats]
theorem after13 : (dats m 0 c).after 13 t = k0_pay38 (iblk m c 6 t) := by dsimp only [dats]
theorem after14 : (dats m 0 c).after 14 t = k0_pay39 (iblk m c 7 t) := by dsimp only [dats]
theorem after15 : (dats m 0 c).after 15 t = k0_pay40 (iblk m c 8 t) := by dsimp only [dats]
theorem after16 : (dats m 0 c).after 16 t = k0_pay41 (iblk m c 9 t) := by dsimp only [dats]
theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d
theorem leaves0 : (dats m 0 c).leavesExact 0 t = owns (c : Thread nD τ) (st0 t) fullShare (iblk m c 0 t) := by
  unfold Dat.leavesExact; rw [live0 t, after0]
theorem leaves1 : (dats m 0 c).leavesExact 1 t = owns (c : Thread nD τ) (st1 t) fullShare (iblk m c 1 t) := by
  unfold Dat.leavesExact; rw [live1 t, after1]
theorem leaves2 : (dats m 0 c).leavesExact 2 t = owns (c : Thread nD τ) (st2 t) fullShare (iblk m c 2 t) := by
  unfold Dat.leavesExact; rw [live2 t, after2]
theorem leaves3 : (dats m 0 c).leavesExact 3 t = owns (c : Thread nD τ) (st3 t) fullShare (iblk m c 3 t) := by
  unfold Dat.leavesExact; rw [live3 t, after3]
theorem leaves4 : (dats m 0 c).leavesExact 4 t = owns (c : Thread nD τ) (st4 t) fullShare (iblk m c 4 t) := by
  unfold Dat.leavesExact; rw [live4 t, after4]
theorem leaves5 : (dats m 0 c).leavesExact 5 t = owns (c : Thread nD τ) (st5 t) fullShare (iblk m c 5 t) := by
  unfold Dat.leavesExact; rw [live5 t, after5]
theorem leaves6 : (dats m 0 c).leavesExact 6 t = owns (c : Thread nD τ) (st6 t) fullShare (iblk m c 6 t) := by
  unfold Dat.leavesExact; rw [live6 t, after6]
theorem leaves7 : (dats m 0 c).leavesExact 7 t = owns (c : Thread nD τ) (st7 t) fullShare (iblk m c 7 t) := by
  unfold Dat.leavesExact; rw [live7 t, after7]
theorem leaves8 : (dats m 0 c).leavesExact 8 t = owns (c : Thread nD τ) (st8 t) fullShare (iblk m c 8 t) := by
  unfold Dat.leavesExact; rw [live8 t, after8]
theorem leaves9 : (dats m 0 c).leavesExact 9 t = owns (c : Thread nD τ) (st9 t) fullShare (iblk m c 9 t) := by
  unfold Dat.leavesExact; rw [live9 t, after9]
theorem leaves12 : (dats m 0 c).leavesExact 12 t = owns (c : Thread nD τ) (st12 t) fullShare (k0_pay37 (iblk m c 5 t)) := by
  unfold Dat.leavesExact; rw [live12 t, after12]
theorem leaves13 : (dats m 0 c).leavesExact 13 t = owns (c : Thread nD τ) (st13 t) fullShare (k0_pay38 (iblk m c 6 t)) := by
  unfold Dat.leavesExact; rw [live13 t, after13]
theorem leaves14 : (dats m 0 c).leavesExact 14 t = owns (c : Thread nD τ) (st14 t) fullShare (k0_pay39 (iblk m c 7 t)) := by
  unfold Dat.leavesExact; rw [live14 t, after14]
theorem leaves15 : (dats m 0 c).leavesExact 15 t = owns (c : Thread nD τ) (st15 t) fullShare (k0_pay40 (iblk m c 8 t)) := by
  unfold Dat.leavesExact; rw [live15 t, after15]
theorem leaves16 : (dats m 0 c).leavesExact 16 t = owns (c : Thread nD τ) (st16 t) fullShare (k0_pay41 (iblk m c 9 t)) := by
  unfold Dat.leavesExact; rw [live16 t, after16]

/-- At the last point the first result's buffer still holds the last tile's rows. -/
theorem before10 (h : t.val = 40) (d) : (dats m 0 c).before 10 t d = out10 m c t := by
  have hf : (cfg0.win 10).flush (pt t) = false := by rw [flush10]; exact decide_eq_false (by show ¬ (8 ≤ t.val - 1 ∧ t.val - 1 ≠ 39); omega)
  have hi : cfg0.idle 10 (cfg0.grid.coords (pt t)) = false := by rw [idle10]; exact decide_eq_false (by show ¬ (t.val - 1 < 8 ∨ t.val - 1 = 40); omega)
  rw [Dat.before_of_pos _ 10 t (by omega) ((cfg0.win 10).fetch_out rfl t), hf, if_neg Bool.false_ne_true]
  unfold Dat.left; rw [hi]
  show (dats m 0 c).kept 10 (pt t) d = _
  unfold Dat.kept
  rw [Pipeline.fill_of_clip_none (cfg := cfg0) 10 _ (fun _ => rfl) d ((dats m 0 c).after 10 (pt t)), Window.fill_cut, after10]
  exact out10_last m c t h

/-! What the body owes of each result's buffer, by the position of the point. -/
theorem leaves10_load (h : t.val < 8) :
    (dats m 0 c).leavesExact 10 t = iprop(∃ d, owns (c : Thread nD τ) (st10 t) fullShare ((dats m 0 c).before 10 t d)) :=
  Dat.leavesExact_idle _ 10 t (by rw [idle10]; exact decide_eq_true (Or.inl h)) (by rw [flush10]; exact decide_eq_false (by omega))
theorem leaves10_tile (h0 : 8 ≤ t.val) (h : t.val < 40) : (dats m 0 c).leavesExact 10 t = owns (c : Thread nD τ) (st10 t) fullShare (out10 m c t) := by
  have hi : cfg0.idle 10 (cfg0.grid.coords t) = false := by rw [idle10]; exact decide_eq_false (by omega)
  unfold Dat.leavesExact; rw [hi, after10]
theorem leaves10_last (h : t.val = 40) : (dats m 0 c).leavesExact 10 t = owns (c : Thread nD τ) (st10 t) fullShare (out10 m c t) := by
  have hi : cfg0.idle 10 (cfg0.grid.coords t) = true := by rw [idle10]; exact decide_eq_true (Or.inr h)
  have hf : (cfg0.win 10).flush t = true := by rw [flush10]; exact decide_eq_true (by omega)
  unfold Dat.leavesExact; rw [hi, hf, after10]
theorem leaves11_before (h : t.val < 40) :
    (dats m 0 c).leavesExact 11 t = iprop(∃ d, owns (c : Thread nD τ) (st11 t) fullShare ((dats m 0 c).before 11 t d)) :=
  Dat.leavesExact_idle _ 11 t (by rw [idle11]; exact decide_eq_true (by omega)) (by rw [← Bool.not_eq_true, flush0_11]; omega)
theorem leaves11_last (h : t.val = 40) : (dats m 0 c).leavesExact 11 t = owns (c : Thread nD τ) (st11 t) fullShare (out11 m c t) := by
  have hi : cfg0.idle 11 (cfg0.grid.coords t) = false := by rw [idle11]; exact decide_eq_false (by omega)
  unfold Dat.leavesExact; rw [hi, after11]

/-! ## The body at any point -/

/-- What the body is called with, -/
def bodyPre : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d)))
/-- and what it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 4000000 in
theorem body_A (h : t.val < 8) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9, leaves12, leaves13, leaves14, leaves15, leaves16]
  rw [show (dats m 0 c).owesAt () t.succ = (dats m 0 c).owesAt () t.castSucc from rfl]
  rw [show (dats m 0 c).Φ t.succ = between m c (t.val + 1) from rfl, show (dats m 0 c).Φ t.castSucc = between m c t.val from rfl]
  rw [leaves10_load m c t h, leaves11_before m c t (by omega)]
  unfold between
  iintro ⟨⟨⟨%w0, %w1, %hw, HW0, HW1⟩, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hw' := filled_succ m c t w0 w1 (by rwa [Nat.min_eq_left (by omega)] at hw)
  iapply (runA c (grid0.coords t) _ _ _ _ _ _ _ _ _ _ _ _ _ _ _ _ _ _ _ _ _ _ _ _ _ _ _ _ _ _ _ _ _ _ _ _ _ _ _ _ ((hcond0_0 t).mpr h) (fun e => by have := (hcond0_1 t).mp e; omega) (fun e => by have := (hcond0_2 t).mp e; omega) (iblk m c 0 t) (iblk m c 1 t) (iblk m c 2 t) (iblk m c 3 t) (iblk m c 4 t) (iblk m c 5 t) (iblk m c 6 t) (iblk m c 7 t) (iblk m c 8 t) (iblk m c 9 t) _ _ w0 w1 t.val (off1_eq t) (off2_eq t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HW0]; · iexact HW0
  isplitl [HW1]; · iexact HW1
  isplitl [HS]; · iexact HS
  iintro ⟨H0, H1, H2, H3, H4, H5, H6, H7, H8, H9, H10, H11, H12, H13, H14, H15, H16, HW0, HW1, HS⟩
  isplitl [HW0 HW1 HS Hg]
  · isplitl [HW0 HW1]
    · iexists _, _
      isplitr
      · ipureintro; rw [Nat.min_eq_left (by omega)]; exact hw'
      isplitl [HW0]; · iexact HW0
      iexact HW1
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  isplitl [H15]; · iexact H15
  iexact H16

set_option maxHeartbeats 4000000 in
theorem body_B (h0 : 8 ≤ t.val) (h : t.val < 40) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9, leaves12, leaves13, leaves14, leaves15, leaves16]
  rw [show (dats m 0 c).owesAt () t.succ = (dats m 0 c).owesAt () t.castSucc from rfl]
  rw [show (dats m 0 c).Φ t.succ = between m c (t.val + 1) from rfl, show (dats m 0 c).Φ t.castSucc = between m c t.val from rfl]
  rw [leaves10_tile m c t h0 h, leaves11_before m c t h]
  unfold between
  iintro ⟨⟨⟨%w0, %w1, %hw, HW0, HW1⟩, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨rfl, rfl⟩ := (filled_full m c w0 w1).mp (by rwa [Nat.min_eq_right (by omega)] at hw)
  iapply (runB c (grid0.coords t) _ _ _ _ _ _ _ _ _ _ _ _ _ _ _ _ _ _ _ _ _ _ _ _ _ _ _ _ _ _ _ _ _ _ _ _ _ _ _ _ (fun e => by have := (hcond0_0 t).mp e; omega) ((hcond0_1 t).mpr ⟨h0, h⟩) (fun e => by have := (hcond0_2 t).mp e; omega) (iblk m c 0 t) (iblk m c 1 t) (iblk m c 2 t) (iblk m c 3 t) (iblk m c 4 t) (iblk m c 5 t) (iblk m c 6 t) (iblk m c 7 t) (iblk m c 8 t) (iblk m c 9 t) _ (wIn m c) (wOut m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HW0]; · iexact HW0
  isplitl [HW1]; · iexact HW1
  isplitl [HS]; · iexact HS
  iintro ⟨H0, H1, H2, H3, H4, H5, H6, H7, H8, H9, H10, H11, H12, H13, H14, H15, H16, HW0, HW1, HS⟩
  isplitl [HW0 HW1 HS Hg]
  · isplitl [HW0 HW1]
    · iexists _, _
      isplitr
      · ipureintro; rw [Nat.min_eq_right (by omega)]; exact (filled_full m c _ _).mpr ⟨rfl, rfl⟩
      isplitl [HW0]; · iexact HW0
      iexact HW1
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · unfold out10; rw [tl_of_lt t h]; iexact H10
  isplitl [H11]; · iexists _; iexact H11
  isplitl [H12]; · iexact H12
  isplitl [H13]; · iexact H13
  isplitl [H14]; · iexact H14
  isplitl [H15]; · iexact H15
  iexact H16

set_option maxHeartbeats 4000000 in
theorem body_C (h : t.val = 40) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, leaves0, leaves1, leaves2, leaves3, leaves4, leaves5, leaves6, leaves7, leaves8, leaves9, leaves12, leaves13, leaves14, leaves15, leaves16]
  rw [show (dats m 0 c).owesAt () t.succ = (dats m 0 c).owesAt () t.castSucc from rfl]
  rw [show (dats m 0 c).Φ t.succ = between m c (t.val + 1) from rfl, show (dats m 0 c).Φ t.castSucc = between m c t.val from rfl]
  rw [leaves10_last m c t h, leaves11_last m c t h]
  simp only [before10 m c t h]
  unfold between
  iintro ⟨⟨⟨%w0, %w1, %hw, HW0, HW1⟩, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨rfl, rfl⟩ := (filled_full m c w0 w1).mp (by rwa [Nat.min_eq_right (by omega)] at hw)
  iapply (runC c (grid0.coords t) _ _ _ _ _ _ _ _ _ _ _ _ _ _ _ _ _ _ _ _ _ _ _ _ _ _ _ _ _ _ _ _ _ _ _ _ _ _ _ _ (fun e => by have := (hcond0_0 t).mp e; omega) (fun e => by have := (hcond0_1 t).mp e; omega) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t) (out10 m c t) (wIn m c) (wOut m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HW0]; · iexact HW0
  isplitl [HW1]; · iexact HW1
  isplitl [HS]; · iexact HS
  iintro ⟨H0, H1, H2, H3, H4, H5, H6, H7, H8, H9, H10, H11, H12, H13, H14, H15, H16, HW0, HW1, HS⟩
  isplitl [HW0 HW1 HS Hg]
  · isplitl [HW0 HW1]
    · iexists _, _
      isplitr
      · ipureintro; rw [Nat.min_eq_right (by omega)]; exact (filled_full m c _ _).mpr ⟨rfl, rfl⟩
      isplitl [HW0]; · iexact HW0
      iexact HW1
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · unfold out11; iexact H11
  isplitl [H12]; · iexact H12
  isplitl [H13]; · iexact H13
  isplitl [H14]; · iexact H14
  isplitl [H15]; · iexact H15
  iexact H16

/-- The body at any point. -/
theorem sound_body :
    bodyPre m c t ⊢ wp frame (wpE (defs₀ (F := F)) Variants.none c none) Set.univ (bodyAt0 t) (fun _ => bodyPost m c t) := by
  have hN := N_lt t
  by_cases h0 : t.val < 8
  · exact body_A m c t h0
  · by_cases h1 : t.val < 40
    · exact body_B m c t (by omega) h1
    · exact body_C m c t (by omega)
end at_point

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch buffers hold anything, -/
theorem enter (c : Dev nD) : (Pipeline.ΦA spec0 c : sProp 𝕄) ⊢ between m c 0 := by
  rw [scoped_eq]; unfold between
  iintro ⟨⟨⟨%d0, H0⟩, ⟨%d1, H1⟩, H2⟩, Hg⟩
  isplitl [H0 H1]
  · iexists d0, d1
    isplitr
    · ipureintro; exact filled_zero m c d0 d1
    isplitl [H0]; · iexact H0
    iexact H1
  isplitl [H2]; · iexact H2
  iexact Hg
/-- and what they hold after the last point is forgotten. -/
theorem leave (c : Dev nD) (n : ℕ) : between m c n ⊢ (Pipeline.ΦA spec0 c : sProp 𝕄) := by
  rw [scoped_eq]; unfold between
  iintro ⟨⟨%d0, %d1, -, H0, H1⟩, H2, Hg⟩
  isplitl [H0 H1 H2]
  · isplitl [H0]; · iexists _; iexact H0
    isplitl [H1]; · iexists _; iexact H1
    iexact H2
  iexact Hg

set_option backward.isDefEq.respectTransparency.types false in
/-- The whole run: every execution ends, with every array at the contents the proof data name and the counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => enter m c) (hout := fun c => leave m c _)

end Cert.Kernel5Ideal.First

end
-- ==== Proof.First.KVal.lean ====
module

public import proofs.«01_k».proof.Proof.First.Tile
public import proofs.«01_k».proof.Proof.Ffn.KVal

@[expose] public section

set_option maxRecDepth 16384

noncomputable section

namespace Cert.Kernel5Ideal.First

open Cert.Kernel5Ideal.Gen
open Idealize.ShloMosaic

/-! The later layer's call computes the half layer the same way: its row-by-row readings serve both. -/

theorem chunk_eq (h : FVec Ideal S512x1024 .bf16) (w v : Vec Ideal S1024x256 .bf16) : k0_pay9 h w v = Cert.Kernel2Ideal.Gen.k0_pay14 h w v := by
  simp only [k0_pay9, Cert.Kernel2Ideal.Gen.k0_pay14, shapeCast_self]
  try rfl
theorem gated_eq (h : FVec Ideal S512x1024 .bf16) (w : Vec Ideal S1024x5632 .bf16) : gated h w = Cert.Kernel2Ideal.Ffn.gated h w := by
  unfold gated Cert.Kernel2Ideal.Ffn.gated gate Cert.Kernel2Ideal.Ffn.gate
  simp only [chunk_eq]
theorem norm20_eq (y : Vec Ideal S512x1024 .f32) (g : Vec Ideal S1x1024 .f32) : k0_pay20 y g = Cert.Kernel2Ideal.Gen.k0_pay23 y g := by
  simp only [k0_pay20, Cert.Kernel2Ideal.Gen.k0_pay23, shapeCast_self]
  try rfl
theorem sum4_eq (a : Vec Ideal S512x2816 .bf16) (w : Vec Ideal S2816x1024 .bf16) (y : Vec Ideal S512x1024 .f32) : k0_pay4 a w y = Cert.Kernel2Ideal.Gen.k0_pay8 a w y := by
  simp only [k0_pay4, Cert.Kernel2Ideal.Gen.k0_pay8, shapeCast_self]
  try rfl

/-- The rows after half the feed-forward layer. -/
theorem ffnOut_apply (y : Vec Ideal S512x1024 .f32) (g : Vec Ideal S1x1024 .f32) (win : Vec Ideal S1024x5632 .bf16) (wout : Vec Ideal S2816x1024 .bf16) (r : Fin 512) (j : Fin 1024) :
    ffnOut y g win wout (ix2 r j) = Spec.half (KernelIdeal.Pool.row y r) (KernelIdeal.Pool.row g 0) (KernelIdeal.Pool.row win) (KernelIdeal.Pool.row wout) j := by
  unfold ffnOut
  rw [sum4_eq, gated_eq, norm20_eq]
  exact Cert.Kernel2Ideal.Ffn.ffnOut_apply y g win wout r j

/-! A block of weights, rounded: over the reals, the block itself. -/
theorem pay35_apply (x : Vec Ideal S1x1x128x5632 .f32) (r : Fin 128) (j : Fin 5632) : (k0_pay35 x (ix2 r j) : EReal) = x (ix4 0 0 r j) := by
  simp only [k0_pay35, shapeCast_self]
  refine shapeCast_apply (s := S1x1x128x5632) _ _ _ _ ?_
  rw [Shape.rowMajor_val_two, Shape.rowMajor_val_four]
  show ((0 * 1 + 0) * 128 + r.val) * 5632 + j.val = r.val * 5632 + j.val
  omega
theorem pay36_apply (x : Vec Ideal S1x1x352x1024 .f32) (r : Fin 352) (j : Fin 1024) : (k0_pay36 x (ix2 r j) : EReal) = x (ix4 0 0 r j) := by
  simp only [k0_pay36, shapeCast_self]
  refine shapeCast_apply (s := S1x1x352x1024) _ _ _ _ ?_
  rw [Shape.rowMajor_val_two, Shape.rowMajor_val_four]
  show ((0 * 1 + 0) * 352 + r.val) * 1024 + j.val = r.val * 1024 + j.val
  omega
theorem pay37_apply (x : Vec Ideal S1x1x32x5632 .f32) (r : Fin 32) (j : Fin 5632) : (k0_pay37 x (ix2 r j) : EReal) = x (ix4 0 0 r j) := by
  simp only [k0_pay37, shapeCast_self]
  refine shapeCast_apply (s := S1x1x32x5632) _ _ _ _ ?_
  rw [Shape.rowMajor_val_two, Shape.rowMajor_val_four]
  show ((0 * 1 + 0) * 32 + r.val) * 5632 + j.val = r.val * 5632 + j.val
  omega
theorem pay38_apply (x : Vec Ideal S1x1x176x1024 .f32) (r : Fin 176) (j : Fin 1024) : (k0_pay38 x (ix2 r j) : EReal) = x (ix4 0 0 r j) := by
  simp only [k0_pay38, shapeCast_self]
  refine shapeCast_apply (s := S1x1x176x1024) _ _ _ _ ?_
  rw [Shape.rowMajor_val_two, Shape.rowMajor_val_four]
  show ((0 * 1 + 0) * 176 + r.val) * 1024 + j.val = r.val * 1024 + j.val
  omega
theorem pay39_apply (x : Vec Ideal S1x32x2560 .f32) (r : Fin 32) (j : Fin 2560) : (k0_pay39 x (ix2 r j) : EReal) = x (ix3 0 r j) := by
  simp only [k0_pay39, shapeCast_self]
  refine shapeCast_apply (s := S1x32x2560) _ _ _ _ ?_
  rw [Shape.rowMajor_val_two, Shape.rowMajor_val_three]
  show (0 * 32 + r.val) * 2560 + j.val = r.val * 2560 + j.val
  omega
theorem pay40_apply (x : Vec Ideal S1x32x1024 .f32) (r : Fin 32) (j : Fin 1024) : (k0_pay40 x (ix2 r j) : EReal) = x (ix3 0 r j) := by
  simp only [k0_pay40, shapeCast_self]
  refine shapeCast_apply (s := S1x32x1024) _ _ _ _ ?_
  rw [Shape.rowMajor_val_two, Shape.rowMajor_val_three]
  show (0 * 32 + r.val) * 1024 + j.val = r.val * 1024 + j.val
  omega
theorem pay41_apply (x : Vec Ideal S1x32x256 .f32) (r : Fin 32) (j : Fin 256) : (k0_pay41 x (ix2 r j) : EReal) = x (ix3 0 r j) := by
  simp only [k0_pay41, shapeCast_self]
  refine shapeCast_apply (s := S1x32x256) _ _ _ _ ?_
  rw [Shape.rowMajor_val_two, Shape.rowMajor_val_three]
  show (0 * 32 + r.val) * 256 + j.val = r.val * 256 + j.val
  omega

end Cert.Kernel5Ideal.First

end
-- ==== Proof.First.Blocks.lean ====
module

public import proofs.«01_k».proof.Proof.First.Frame
public import proofs.«01_k».proof.Proof.First.KVal
public import Idealize.ShloMosaic.Lib.Pipeline.ValueKit
public import Idealize.ShloMosaic.Lib.StableHlo.Run
public import Idealize.ShloMosaic.Lib.Pointwise

@[expose] public section

set_option maxRecDepth 16384

noncomputable section

namespace Cert.Kernel5Ideal.First

open Cert.Kernel5Ideal.Gen
open Idealize.ShloMosaic Idealize.ShloMosaic.TcCoe Idealize.ShloMosaic.StableHlo Idealize.SL.Sem
open Idealize.ShloMosaic.Pipeline (Dat Cfg Window)

variable {F : FTy → Type} [FloatOps F]
variable (m : (ℓ : Loc nD τ sig) → Buf (Elt F) ℓ)

/-! ## The arrays the call finds -/

theorem V_main_v0 (c : Dev nD) : (V m c main_v0 : Vec F S1x1024x256 .f32) = shapeCast S1x1024x256 (m ((c : Thread nD τ).loc main_arg7)) shapeCasts_S1x4x256x256_S1x1024x256 := by
  show after hostOps0 _ (Proc.devRef .tc main_v0) = _
  after_results
  rfl
theorem V_main_v1 (c : Dev nD) : (V m c main_v1 : Vec F S16384x1024 .f32) = shapeCast S16384x1024 (m ((c : Thread nD τ).loc main_arg0)) shapeCasts_S8x2048x1024_S16384x1024 := by
  show after hostOps0 _ (Proc.devRef .tc main_v1) = _
  after_results
  rfl
theorem V_main_v2 (c : Dev nD) : (V m c main_v2 : Vec F S1x1024 .f32) = shapeCast S1x1024 (m ((c : Thread nD τ).loc main_arg2)) shapeCasts_S1024_S1x1024 := by
  show after hostOps0 _ (Proc.devRef .tc main_v2) = _
  after_results
  rfl

/-! ## Where each window's block sits -/

theorem idx0 : ∀ t : Fin cfg0.N, win0_0.index t = ![min (t.val - 8) 31, 0] := (by decide +kernel : ∀ t : Fin grid0.N, win0_0.index t = ![min (t.val - 8) 31, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0, min t.val 7, 0] := (by decide +kernel : ∀ t : Fin grid0.N, win0_3.index t = ![0, 0, min t.val 7, 0])
theorem idx4 : ∀ t : Fin cfg0.N, win0_4.index t = ![0, 0, min t.val 7, 0] := (by decide +kernel : ∀ t : Fin grid0.N, win0_4.index t = ![0, 0, min t.val 7, 0])
theorem idx5 : ∀ t : Fin cfg0.N, win0_5.index t = ![0, 1, min (t.val - 8) 31, 0] := (by decide +kernel : ∀ t : Fin grid0.N, win0_5.index t = ![0, 1, min (t.val - 8) 31, 0])
theorem idx6 : ∀ t : Fin cfg0.N, win0_6.index t = ![0, 1, min (t.val - 8) 31 / 2, 0] := (by decide +kernel : ∀ t : Fin grid0.N, win0_6.index t = ![0, 1, min (t.val - 8) 31 / 2, 0])
theorem idx7 : ∀ t : Fin cfg0.N, win0_7.index t = ![0, min (t.val - 8) 31, 0] := (by decide +kernel : ∀ t : Fin grid0.N, win0_7.index t = ![0, min (t.val - 8) 31, 0])
theorem idx8 : ∀ t : Fin cfg0.N, win0_8.index t = ![0, min (t.val - 8) 31, 0] := (by decide +kernel : ∀ t : Fin grid0.N, win0_8.index t = ![0, min (t.val - 8) 31, 0])
theorem idx9 : ∀ t : Fin cfg0.N, win0_9.index t = ![0, min (t.val - 8) 31, 0] := (by decide +kernel : ∀ t : Fin grid0.N, win0_9.index t = ![0, min (t.val - 8) 31, 0])
theorem idx10 : ∀ t : Fin cfg0.N, win0_10.index t = ![min (t.val - 8) 31, 0] := (by decide +kernel : ∀ t : Fin grid0.N, win0_10.index t = ![min (t.val - 8) 31, 0])
theorem idx11 : ∀ t : Fin cfg0.N, win0_11.index t = ![0, 0] := (by decide +kernel : ∀ t : Fin grid0.N, win0_11.index t = ![0, 0])
theorem idx12 : ∀ t : Fin cfg0.N, win0_12.index t = ![min (t.val - 8) 31, 0] := (by decide +kernel : ∀ t : Fin grid0.N, win0_12.index t = ![min (t.val - 8) 31, 0])
theorem idx13 : ∀ t : Fin cfg0.N, win0_13.index t = ![min (t.val - 8) 31 / 2, 0] := (by decide +kernel : ∀ t : Fin grid0.N, win0_13.index t = ![min (t.val - 8) 31 / 2, 0])
theorem idx14 : ∀ t : Fin cfg0.N, win0_14.index t = ![min (t.val - 8) 31, 0] := (by decide +kernel : ∀ t : Fin grid0.N, win0_14.index t = ![min (t.val - 8) 31, 0])
theorem idx15 : ∀ t : Fin cfg0.N, win0_15.index t = ![min (t.val - 8) 31, 0] := (by decide +kernel : ∀ t : Fin grid0.N, win0_15.index t = ![min (t.val - 8) 31, 0])
theorem idx16 : ∀ t : Fin cfg0.N, win0_16.index t = ![min (t.val - 8) 31, 0] := (by decide +kernel : ∀ t : Fin grid0.N, win0_16.index t = ![min (t.val - 8) 31, 0])

/-! ## The blocks, read -/

theorem iblk0_apply (c : Dev nD) (t : Fin cfg0.N) (r : Fin 512) (j : Fin 1024) :
    (iblk m c 0 t : Vec F S512x1024 .f32) (ix2 r j) = (V m c main_v1 : Vec F S16384x1024 .f32) (ix2 ⟨512 * min (t.val - 8) 31 + r, by omega⟩ j) := by
  blk_simp [iblk]
  refine congrArg (V m c main_v1) ?_
  blk_ext [idx0 t]
theorem iblk1_eq (c : Dev nD) (t : Fin cfg0.N) : (iblk m c 1 t : Vec F S512x1024 .f32) = V m c main_arg1 := by
  funext y
  blk_simp [iblk]
  refine congrArg (V m c main_arg1) ?_
  blk_ext [idx1 t]
theorem iblk2_eq (c : Dev nD) (t : Fin cfg0.N) : (iblk m c 2 t : Vec F S1x1024 .f32) = V m c main_v2 := by
  funext y
  blk_simp [iblk]
  refine congrArg (V m c main_v2) ?_
  blk_ext [idx2 t]
theorem iblk3_apply (c : Dev nD) (t : Fin cfg0.N) (r : Fin 128) (j : Fin 5632) :
    (iblk m c 3 t : Vec F S1x1x128x5632 .f32) (ix4 0 0 r j) = (V m c main_arg3 : Vec F S2x2x1024x5632 .f32) (ix4 0 0 ⟨128 * min t.val 7 + r, by omega⟩ j) := by
  blk_simp [iblk]
  refine congrArg (V m c main_arg3) ?_
  blk_ext [idx3 t]
theorem iblk4_apply (c : Dev nD) (t : Fin cfg0.N) (r : Fin 352) (j : Fin 1024) :
    (iblk m c 4 t : Vec F S1x1x352x1024 .f32) (ix4 0 0 r j) = (V m c main_arg4 : Vec F S2x2x2816x1024 .f32) (ix4 0 0 ⟨352 * min t.val 7 + r, by omega⟩ j) := by
  blk_simp [iblk]
  refine congrArg (V m c main_arg4) ?_
  blk_ext [idx4 t]
theorem iblk5_apply (c : Dev nD) (t : Fin cfg0.N) (r : Fin 32) (j : Fin 5632) :
    (iblk m c 5 t : Vec F S1x1x32x5632 .f32) (ix4 0 0 r j) = (V m c main_arg3 : Vec F S2x2x1024x5632 .f32) (ix4 0 1 ⟨32 * min (t.val - 8) 31 + r, by omega⟩ j) := by
  blk_simp [iblk]
  refine congrArg (V m c main_arg3) ?_
  blk_ext [idx5 t]
theorem iblk6_apply (c : Dev nD) (t : Fin cfg0.N) (r : Fin 176) (j : Fin 1024) :
    (iblk m c 6 t : Vec F S1x1x176x1024 .f32) (ix4 0 0 r j) = (V m c main_arg4 : Vec F S2x2x2816x1024 .f32) (ix4 0 1 ⟨176 * (min (t.val - 8) 31 / 2) + r, by omega⟩ j) := by
  blk_simp [iblk]
  refine congrArg (V m c main_arg4) ?_
  blk_ext [idx6 t]
theorem iblk7_apply (c : Dev nD) (t : Fin cfg0.N) (r : Fin 32) (j : Fin 2560) :
    (iblk m c 7 t : Vec F S1x32x2560 .f32) (ix3 0 r j) = (V m c main_arg5 : Vec F S1x1024x2560 .f32) (ix3 0 ⟨32 * min (t.val - 8) 31 + r, by omega⟩ j) := by
  blk_simp [iblk]
  refine congrArg (V m c main_arg5) ?_
  blk_ext [idx7 t]
theorem iblk8_apply (c : Dev nD) (t : Fin cfg0.N) (r : Fin 32) (j : Fin 1024) :
    (iblk m c 8 t : Vec F S1x32x1024 .f32) (ix3 0 r j) = (V m c main_arg6 : Vec F S1x1024x1024 .f32) (ix3 0 ⟨32 * min (t.val - 8) 31 + r, by omega⟩ j) := by
  blk_simp [iblk]
  refine congrArg (V m c main_arg6) ?_
  blk_ext [idx8 t]
theorem iblk9_apply (c : Dev nD) (t : Fin cfg0.N) (r : Fin 32) (j : Fin 256) :
    (iblk m c 9 t : Vec F S1x32x256 .f32) (ix3 0 r j) = (V m c main_v0 : Vec F S1x1024x256 .f32) (ix3 0 ⟨32 * min (t.val - 8) 31 + r, by omega⟩ j) := by
  blk_simp [iblk]
  refine congrArg (V m c main_v0) ?_
  blk_ext [idx9 t]

end Cert.Kernel5Ideal.First

end
-- ==== Proof.First.Arrays.lean ====
module

public import proofs.«01_k».proof.Proof.First.Blocks

@[expose] public section

set_option maxRecDepth 16384

noncomputable section

namespace Cert.Kernel5Ideal.First

open Cert.Kernel5Ideal.Gen
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-! ## The arguments, by index -/

/-- The first batch, by sequence, position and column. -/
def aX (c : Dev nD) (s : Fin 8) (p : Fin 2048) (j : Fin 1024) : EReal := (m ((c : Thread nD τ).loc main_arg0) : Vec Ideal S8x2048x1024 .f32) (ix3 s p j)
/-- The second batch. -/
def aXs (c : Dev nD) (r : Fin 512) (j : Fin 1024) : EReal := (m ((c : Thread nD τ).loc main_arg1) : Vec Ideal S512x1024 .f32) (ix2 r j)
/-- The gain before the feed-forward layer. -/
def aG (c : Dev nD) (j : Fin 1024) : EReal := (m ((c : Thread nD τ).loc main_arg2) : Vec Ideal S1024 .f32) (ix1 j)
/-- The first half layer's first weights. -/
def aWin (c : Dev nD) (i : Fin 1024) (j : Fin 5632) : EReal := (m ((c : Thread nD τ).loc main_arg3) : Vec Ideal S2x2x1024x5632 .f32) (ix4 0 0 i j)
/-- The first half layer's second weights. -/
def aWout (c : Dev nD) (i : Fin 2816) (j : Fin 1024) : EReal := (m ((c : Thread nD τ).loc main_arg4) : Vec Ideal S2x2x2816x1024 .f32) (ix4 0 0 i j)

/-! ## The blocks at the arguments -/

theorem x_row (c : Dev nD) (t : Fin cfg0.N) (h : 8 ≤ t.val) (r : Fin 512) :
    KernelIdeal.Pool.row (iblk m c 0 (tl t) : Vec Ideal S512x1024 .f32) r = aX m c ⟨min (t.val - 8) 31 / 4, by omega⟩ ⟨512 * (min (t.val - 8) 31 % 4) + r, by omega⟩ := by
  funext j
  show (iblk m c 0 (tl t) : Vec Ideal S512x1024 .f32) (ix2 r j) = _
  rw [iblk0_apply, V_main_v1]
  unfold aX
  refine shapeCast_apply (s := S8x2048x1024) _ _ _ _ ?_
  rw [Shape.rowMajor_val_two, Shape.rowMajor_val_three]
  show (min (t.val - 8) 31 / 4 * 2048 + (512 * (min (t.val - 8) 31 % 4) + r.val)) * 1024 + j.val = (512 * min (min t.val 39 - 8) 31 + r.val) * 1024 + j.val
  omega
theorem xs_row (c : Dev nD) (t : Fin cfg0.N) (r : Fin 512) : KernelIdeal.Pool.row (iblk m c 1 t : Vec Ideal S512x1024 .f32) r = aXs m c r := by
  funext j
  show (iblk m c 1 t : Vec Ideal S512x1024 .f32) (ix2 r j) = _
  rw [iblk1_eq, V_main_arg1]
  rfl
theorem g_row (c : Dev nD) (t : Fin cfg0.N) : KernelIdeal.Pool.row (iblk m c 2 t : Vec Ideal S1x1024 .f32) 0 = aG m c := by
  funext j
  show (iblk m c 2 t : Vec Ideal S1x1024 .f32) (ix2 0 j) = _
  rw [iblk2_eq, V_main_v2]
  unfold aG
  pointwise
/-- The rounded blocks, put together, are the weights. -/
theorem win_row (c : Dev nD) : KernelIdeal.Pool.row (wIn m c : Vec Ideal S1024x5632 .bf16) = aWin m c := by
  funext i j
  show k0_pay35 (iblk m c 3 ⟨i.val / 128, _⟩) (ix2 ⟨i.val % 128, _⟩ j) = _
  refine (pay35_apply _ _ _).trans ?_
  rw [iblk3_apply, V_main_arg3]
  unfold aWin
  have E : ∀ s s' : Fin 1024, s = s' → (m ((c : Thread nD τ).loc main_arg3) : Vec Ideal S2x2x1024x5632 .f32) (ix4 0 0 s j) = (m ((c : Thread nD τ).loc main_arg3) : Vec Ideal S2x2x1024x5632 .f32) (ix4 0 0 s' j) := by
    rintro _ _ rfl; rfl
  exact E _ _ (Fin.ext (by show 128 * min (i.val / 128) 7 + i.val % 128 = i.val; omega))
/-- The rounded blocks, put together, are the weights. -/
theorem wout_row (c : Dev nD) : KernelIdeal.Pool.row (wOut m c : Vec Ideal S2816x1024 .bf16) = aWout m c := by
  funext i j
  show k0_pay36 (iblk m c 4 ⟨i.val / 352, _⟩) (ix2 ⟨i.val % 352, _⟩ j) = _
  refine (pay36_apply _ _ _).trans ?_
  rw [iblk4_apply, V_main_arg4]
  unfold aWout
  have E : ∀ s s' : Fin 2816, s = s' → (m ((c : Thread nD τ).loc main_arg4) : Vec Ideal S2x2x2816x1024 .f32) (ix4 0 0 s j) = (m ((c : Thread nD τ).loc main_arg4) : Vec Ideal S2x2x2816x1024 .f32) (ix4 0 0 s' j) := by
    rintro _ _ rfl; rfl
  exact E _ _ (Fin.ext (by show 352 * min (i.val / 352) 7 + i.val % 352 = i.val; omega))

/-! ## What the seven result arrays end holding -/

/-- The first result: every row of every sequence, one sequence after another. -/
def res0 (c : Dev nD) : Vec Ideal S16384x1024 .f32 := fun y =>
  Spec.half (aX m c ⟨(y 0).val / 2048, by have := (y 0).isLt; have : (y 0).val < 16384 := this; omega⟩ ⟨(y 0).val % 2048, by omega⟩) (aG m c) (aWin m c) (aWout m c) (y 1)
/-- The second result: the second batch's rows. -/
def res1 (c : Dev nD) : Vec Ideal S512x1024 .f32 := fun y => Spec.half (aXs m c (y 0)) (aG m c) (aWin m c) (aWout m c) (y 1)
/-- The third result: the layer's next first weights. -/
def res2 (c : Dev nD) : Vec Ideal S1024x5632 .bf16 := fun y => (m ((c : Thread nD τ).loc main_arg3) : Vec Ideal S2x2x1024x5632 .f32) (ix4 0 1 (y 0) (y 1))
/-- The fourth result: the layer's next second weights. -/
def res3 (c : Dev nD) : Vec Ideal S2816x1024 .bf16 := fun y => (m ((c : Thread nD τ).loc main_arg4) : Vec Ideal S2x2x2816x1024 .f32) (ix4 0 1 (y 0) (y 1))
/-- The fifth result: the convolution mixer's first weights. -/
def res4 (c : Dev nD) : Vec Ideal S1024x2560 .bf16 := fun y => (m ((c : Thread nD τ).loc main_arg5) : Vec Ideal S1x1024x2560 .f32) (ix3 0 (y 0) (y 1))
/-- The sixth result: the convolution mixer's second weights. -/
def res5 (c : Dev nD) : Vec Ideal S1024x1024 .bf16 := fun y => (m ((c : Thread nD τ).loc main_arg6) : Vec Ideal S1x1024x1024 .f32) (ix3 0 (y 0) (y 1))
/-- The seventh result: the pool mixer's weights, one group after another. -/
def res6 (c : Dev nD) : Vec Ideal S1024x256 .bf16 := fun y =>
  (m ((c : Thread nD τ).loc main_arg7) : Vec Ideal S1x4x256x256 .f32) (ix4 0 ⟨(y 0).val / 256, by have : (y 0).val < 1024 := (y 0).isLt; omega⟩ ⟨(y 0).val % 256, by omega⟩ (y 1))

theorem final10 (c : Dev nD) : ((dats m 0 c).arrAt 10 cfg0.N : Vec Ideal S16384x1024 .f32) = res0 m c := by
  refine (dats m 0 c).arrAt_eq_of_covers 10 (res0 m c) (by decide +kernel) fun t hf y => ?_
  have h8 : 8 ≤ t.val := (of_decide_eq_true ((flush10 t).symm.trans hf)).1
  blk_simp
  rw [after10]
  obtain ⟨r, j, rfl⟩ : ∃ (r : Fin 512) (j : Fin 1024), y = ix2 r j := ⟨y 0, y 1, eq_ix2 y⟩
  refine (ffnOut_apply _ _ _ _ r j).trans ?_
  rw [x_row m c t h8, g_row, win_row, wout_row]
  have e0 : ((((cfg0.win 10).blk t).view.emb (ix2 r j)) 0 : ℕ) = 512 * min (t.val - 8) 31 + r := by
    blk_simp [idx10 t]; show min (t.val - 8) 31 * 512 + r.val = _; omega
  have e1 : ((((cfg0.win 10).blk t).view.emb (ix2 r j)) 1 : ℕ) = j := by
    blk_simp [idx10 t]
  unfold res0
  have E : ∀ (s s' : Fin 8) (p p' : Fin 2048) (j j' : Fin 1024), s = s' → p = p' → j = j' →
      Spec.half (aX m c s p) (aG m c) (aWin m c) (aWout m c) j = Spec.half (aX m c s' p') (aG m c) (aWin m c) (aWout m c) j' := by
    rintro _ _ _ _ _ _ rfl rfl rfl; rfl
  refine E _ _ _ _ _ _ (Fin.ext ?_) (Fin.ext ?_) (Fin.ext e1.symm)
  · refine Eq.trans ?_ (congrArg (· / 2048) e0.symm); show min (t.val - 8) 31 / 4 = (512 * min (t.val - 8) 31 + r.val) / 2048; omega
  · refine Eq.trans ?_ (congrArg (· % 2048) e0.symm); show 512 * (min (t.val - 8) 31 % 4) + r.val = (512 * min (t.val - 8) 31 + r.val) % 2048; omega

theorem final11 (c : Dev nD) : ((dats m 0 c).arrAt 11 cfg0.N : Vec Ideal S512x1024 .f32) = res1 m c := by
  refine (dats m 0 c).arrAt_eq_of_covers 11 (res1 m c) (by decide +kernel) fun t hf y => ?_
  blk_simp
  rw [after11]
  obtain ⟨r, j, rfl⟩ : ∃ (r : Fin 512) (j : Fin 1024), y = ix2 r j := ⟨y 0, y 1, eq_ix2 y⟩
  refine (ffnOut_apply _ _ _ _ r j).trans ?_
  rw [xs_row, g_row, win_row, wout_row]
  have e0 : ((((cfg0.win 11).blk t).view.emb (ix2 r j)) 0 : ℕ) = r := by
    blk_simp [idx11 t]
  have e1 : ((((cfg0.win 11).blk t).view.emb (ix2 r j)) 1 : ℕ) = j := by
    blk_simp [idx11 t]
  unfold res1
  have E : ∀ (s s' : Fin 512) (j j' : Fin 1024), s = s' → j = j' →
      Spec.half (aXs m c s) (aG m c) (aWin m c) (aWout m c) j = Spec.half (aXs m c s') (aG m c) (aWin m c) (aWout m c) j' := by
    rintro _ _ _ _ rfl rfl; rfl
  exact E _ _ _ _ (Fin.ext e0.symm) (Fin.ext e1.symm)

theorem final12 (c : Dev nD) : ((dats m 0 c).arrAt 12 cfg0.N : Vec Ideal S1024x5632 .bf16) = res2 m c := by
  refine (dats m 0 c).arrAt_eq_of_covers 12 (res2 m c) (by decide +kernel) fun t hf y => ?_
  blk_simp
  rw [after12]
  obtain ⟨r, j, rfl⟩ : ∃ (r : Fin 32) (j : Fin 5632), y = ix2 r j := ⟨y 0, y 1, eq_ix2 y⟩
  refine (pay37_apply _ r j).trans ?_
  rw [iblk5_apply, V_main_arg3]
  have e0 : ((((cfg0.win 12).blk t).view.emb (ix2 r j)) 0 : ℕ) = 32 * min (t.val - 8) 31 + r := by
    blk_simp [idx12 t]; show min (t.val - 8) 31 * 32 + r.val = _; omega
  have e1 : ((((cfg0.win 12).blk t).view.emb (ix2 r j)) 1 : ℕ) = j := by
    blk_simp [idx12 t]
  unfold res2
  have E : ∀ (s s' : Fin 1024) (j j' : Fin 5632), s = s' → j = j' → (m ((c : Thread nD τ).loc main_arg3) : Vec Ideal S2x2x1024x5632 .f32) (ix4 0 1 s j) = (m ((c : Thread nD τ).loc main_arg3) : Vec Ideal S2x2x1024x5632 .f32) (ix4 0 1 s' j') := by
    rintro _ _ _ _ rfl rfl; rfl
  exact E _ _ _ _ (Fin.ext e0.symm) (Fin.ext e1.symm)

theorem final13 (c : Dev nD) : ((dats m 0 c).arrAt 13 cfg0.N : Vec Ideal S2816x1024 .bf16) = res3 m c := by
  refine (dats m 0 c).arrAt_eq_of_covers 13 (res3 m c) (by decide +kernel) fun t hf y => ?_
  blk_simp
  rw [after13]
  obtain ⟨r, j, rfl⟩ : ∃ (r : Fin 176) (j : Fin 1024), y = ix2 r j := ⟨y 0, y 1, eq_ix2 y⟩
  refine (pay38_apply _ r j).trans ?_
  rw [iblk6_apply, V_main_arg4]
  have e0 : ((((cfg0.win 13).blk t).view.emb (ix2 r j)) 0 : ℕ) = 176 * (min (t.val - 8) 31 / 2) + r := by
    blk_simp [idx13 t]; show (min (t.val - 8) 31 / 2) * 176 + r.val = _; omega
  have e1 : ((((cfg0.win 13).blk t).view.emb (ix2 r j)) 1 : ℕ) = j := by
    blk_simp [idx13 t]
  unfold res3
  have E : ∀ (s s' : Fin 2816) (j j' : Fin 1024), s = s' → j = j' → (m ((c : Thread nD τ).loc main_arg4) : Vec Ideal S2x2x2816x1024 .f32) (ix4 0 1 s j) = (m ((c : Thread nD τ).loc main_arg4) : Vec Ideal S2x2x2816x1024 .f32) (ix4 0 1 s' j') := by
    rintro _ _ _ _ rfl rfl; rfl
  exact E _ _ _ _ (Fin.ext e0.symm) (Fin.ext e1.symm)

theorem final14 (c : Dev nD) : ((dats m 0 c).arrAt 14 cfg0.N : Vec Ideal S1024x2560 .bf16) = res4 m c := by
  refine (dats m 0 c).arrAt_eq_of_covers 14 (res4 m c) (by decide +kernel) fun t hf y => ?_
  blk_simp
  rw [after14]
  obtain ⟨r, j, rfl⟩ : ∃ (r : Fin 32) (j : Fin 2560), y = ix2 r j := ⟨y 0, y 1, eq_ix2 y⟩
  refine (pay39_apply _ r j).trans ?_
  rw [iblk7_apply, V_main_arg5]
  have e0 : ((((cfg0.win 14).blk t).view.emb (ix2 r j)) 0 : ℕ) = 32 * min (t.val - 8) 31 + r := by
    blk_simp [idx14 t]; show min (t.val - 8) 31 * 32 + r.val = _; omega
  have e1 : ((((cfg0.win 14).blk t).view.emb (ix2 r j)) 1 : ℕ) = j := by
    blk_simp [idx14 t]
  unfold res4
  have E : ∀ (s s' : Fin 1024) (j j' : Fin 2560), s = s' → j = j' → (m ((c : Thread nD τ).loc main_arg5) : Vec Ideal S1x1024x2560 .f32) (ix3 0 s j) = (m ((c : Thread nD τ).loc main_arg5) : Vec Ideal S1x1024x2560 .f32) (ix3 0 s' j') := by
    rintro _ _ _ _ rfl rfl; rfl
  exact E _ _ _ _ (Fin.ext e0.symm) (Fin.ext e1.symm)

theorem final15 (c : Dev nD) : ((dats m 0 c).arrAt 15 cfg0.N : Vec Ideal S1024x1024 .bf16) = res5 m c := by
  refine (dats m 0 c).arrAt_eq_of_covers 15 (res5 m c) (by decide +kernel) fun t hf y => ?_
  blk_simp
  rw [after15]
  obtain ⟨r, j, rfl⟩ : ∃ (r : Fin 32) (j : Fin 1024), y = ix2 r j := ⟨y 0, y 1, eq_ix2 y⟩
  refine (pay40_apply _ r j).trans ?_
  rw [iblk8_apply, V_main_arg6]
  have e0 : ((((cfg0.win 15).blk t).view.emb (ix2 r j)) 0 : ℕ) = 32 * min (t.val - 8) 31 + r := by
    blk_simp [idx15 t]; show min (t.val - 8) 31 * 32 + r.val = _; omega
  have e1 : ((((cfg0.win 15).blk t).view.emb (ix2 r j)) 1 : ℕ) = j := by
    blk_simp [idx15 t]
  unfold res5
  have E : ∀ (s s' : Fin 1024) (j j' : Fin 1024), s = s' → j = j' → (m ((c : Thread nD τ).loc main_arg6) : Vec Ideal S1x1024x1024 .f32) (ix3 0 s j) = (m ((c : Thread nD τ).loc main_arg6) : Vec Ideal S1x1024x1024 .f32) (ix3 0 s' j') := by
    rintro _ _ _ _ rfl rfl; rfl
  exact E _ _ _ _ (Fin.ext e0.symm) (Fin.ext e1.symm)

theorem final16 (c : Dev nD) : ((dats m 0 c).arrAt 16 cfg0.N : Vec Ideal S1024x256 .bf16) = res6 m c := by
  refine (dats m 0 c).arrAt_eq_of_covers 16 (res6 m c) (by decide +kernel) fun t hf y => ?_
  blk_simp
  rw [after16]
  obtain ⟨r, j, rfl⟩ : ∃ (r : Fin 32) (j : Fin 256), y = ix2 r j := ⟨y 0, y 1, eq_ix2 y⟩
  refine (pay41_apply _ r j).trans ?_
  rw [iblk9_apply, V_main_v0]
  have e0 : ((((cfg0.win 16).blk t).view.emb (ix2 r j)) 0 : ℕ) = 32 * min (t.val - 8) 31 + r := by
    blk_simp [idx16 t]; show min (t.val - 8) 31 * 32 + r.val = _; omega
  have e1 : ((((cfg0.win 16).blk t).view.emb (ix2 r j)) 1 : ℕ) = j := by
    blk_simp [idx16 t]
  unfold res6
  have E : ∀ (s s' : Fin 4) (p p' : Fin 256) (j j' : Fin 256), s = s' → p = p' → j = j' →
      (m ((c : Thread nD τ).loc main_arg7) : Vec Ideal S1x4x256x256 .f32) (ix4 0 s p j) = (m ((c : Thread nD τ).loc main_arg7) : Vec Ideal S1x4x256x256 .f32) (ix4 0 s' p' j') := by
    rintro _ _ _ _ _ _ rfl rfl rfl; rfl
  refine (shapeCast_apply (s := S1x4x256x256) _ _ _ (ix4 0 ⟨(32 * min (t.val - 8) 31 + r.val) / 256, by omega⟩ ⟨(32 * min (t.val - 8) 31 + r.val) % 256, by omega⟩ j) ?_).trans
    (E _ _ _ _ _ _ (Fin.ext (congrArg (· / 256) e0.symm)) (Fin.ext (congrArg (· % 256) e0.symm)) (Fin.ext e1.symm))
  rw [Shape.rowMajor_val_three, Shape.rowMajor_val_four]
  show ((0 * 4 + (32 * min (t.val - 8) 31 + r.val) / 256) * 256 + (32 * min (t.val - 8) 31 + r.val) % 256) * 256 + j.val = (0 * 1024 + (32 * min (t.val - 8) 31 + r.val)) * 256 + j.val
  omega

end Cert.Kernel5Ideal.First

end
-- ==== Proof.First.Finish.lean ====
module

public import proofs.«01_k».proof.Proof.First.Arrays

@[expose] public section

set_option maxRecDepth 16384

noncomputable section

namespace Cert.Kernel5Ideal.First

open Cert.Kernel5Ideal.Gen
open Idealize.ShloMosaic Idealize.ShloMosaic.TcCoe Idealize.ShloMosaic.StableHlo Idealize.SL.Sem
open Idealize.ShloMosaic.Pipeline (Dat Cfg Window)

section frame
variable {F : FTy → Type} [FloatOps F]
variable (m : (ℓ : Loc nD τ sig) → Buf (Elt F) ℓ) (ρ : Dev nD → PrngReg)

/-- At the end of a run every argument array holds what it held at the start. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 5).trans (((dats m 0 c).arrAt_in 5 rfl _).trans ((A_eq m c 5).trans (V_main_arg3 m c))),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c))),
    ((h c).1 8).trans (((dats m 0 c).arrAt_in 8 rfl _).trans ((A_eq m c 8).trans (V_main_arg6 m c))),
    ((h c).2 main_arg7 (Pipeline.mem_restRefs_of main_arg7 (by decide) (by decide))).trans (V_main_arg7 m c)⟩

/-- The call runs, leaves its arguments unchanged and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m r h.1, h.2⟩) (run_quiescent m ρ)
end frame

/-- The call's seven results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3_0) = res0 m c
      ∧ r.2.mem ((c.tc : Thread nD τ).loc main_v3_1) = res1 m c
      ∧ r.2.mem ((c.tc : Thread nD τ).loc main_v3_2) = res2 m c
      ∧ r.2.mem ((c.tc : Thread nD τ).loc main_v3_3) = res3 m c
      ∧ r.2.mem ((c.tc : Thread nD τ).loc main_v3_4) = res4 m c
      ∧ r.2.mem ((c.tc : Thread nD τ).loc main_v3_5) = res5 m c
      ∧ r.2.mem ((c.tc : Thread nD τ).loc main_v3_6) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 10).trans (final10 m c), ((h.1 c).1 11).trans (final11 m c), ((h.1 c).1 12).trans (final12 m c), ((h.1 c).1 13).trans (final13 m c), ((h.1 c).1 14).trans (final14 m c), ((h.1 c).1 15).trans (final15 m c), ((h.1 c).1 16).trans (final16 m c),
    args_kept m r h.1 c⟩) (run_quiescent m ρ)

end Cert.Kernel5Ideal.First

end
-- ==== Proof.First.RefVal.lean ====
module

public import proofs.«01_k».proof.Proof.Gen.Reference5Ideal.Run
public import proofs.«01_k».proof.Proof.Ffn.RefVal

@[expose] public section

set_option maxRecDepth 16384

noncomputable section

namespace Cert.Ref5

open Cert.Reference5Ideal.Gen
open Cert.Reference5Ideal Cert.Reference5Ideal.Value
open Idealize.ShloMosaic Idealize.ShloMosaic.TcCoe Idealize.SL.Sem

/-! The reference's results as functions of its arguments. The feed-forward half's are the later layer's reference's. -/

/-- The weights the half layer reads. -/
def winOf (w : FVec Ideal S2x2x1024x5632 .f32) : FVec Ideal S1024x5632 .f32 := shapeCast S1024x5632 (extractStridedSlice S1x1x1024x5632 ![0, 0, 0, 0] w slices_S2x2x1024x5632_S1x1x1024x5632_0_0_0_0) shapeCasts_S1x1x1024x5632_S1024x5632
theorem winOf_apply (w : FVec Ideal S2x2x1024x5632 .f32) (r : Fin 1024) (j : Fin 5632) : (winOf w (ix2 r j) : EReal) = w (ix4 0 0 r j) := by
  unfold winOf
  refine (shapeCast_apply (s := S1x1x1024x5632) _ _ _ (ix4 0 0 r j) ?_).trans ?_
  · rw [Shape.rowMajor_val_two, Shape.rowMajor_val_four]
    show ((0 * 1 + 0) * 1024 + r.val) * 5632 + j.val = r.val * 5632 + j.val
    omega
  · pointwise

/-- The layer's next weights. -/
def winOfNext (w : FVec Ideal S2x2x1024x5632 .f32) : FVec Ideal S1024x5632 .f32 := shapeCast S1024x5632 (extractStridedSlice S1x1x1024x5632 ![0, 1, 0, 0] w slices_S2x2x1024x5632_S1x1x1024x5632_0_1_0_0) shapeCasts_S1x1x1024x5632_S1024x5632
theorem winOfNext_apply (w : FVec Ideal S2x2x1024x5632 .f32) (r : Fin 1024) (j : Fin 5632) : (winOfNext w (ix2 r j) : EReal) = w (ix4 0 1 r j) := by
  unfold winOfNext
  refine (shapeCast_apply (s := S1x1x1024x5632) _ _ _ (ix4 0 0 r j) ?_).trans ?_
  · rw [Shape.rowMajor_val_two, Shape.rowMajor_val_four]
    show ((0 * 1 + 0) * 1024 + r.val) * 5632 + j.val = r.val * 5632 + j.val
    omega
  · pointwise

/-- The weights the half layer reads. -/
def woutOf (w : FVec Ideal S2x2x2816x1024 .f32) : FVec Ideal S2816x1024 .f32 := shapeCast S2816x1024 (extractStridedSlice S1x1x2816x1024 ![0, 0, 0, 0] w slices_S2x2x2816x1024_S1x1x2816x1024_0_0_0_0) shapeCasts_S1x1x2816x1024_S2816x1024
theorem woutOf_apply (w : FVec Ideal S2x2x2816x1024 .f32) (r : Fin 2816) (j : Fin 1024) : (woutOf w (ix2 r j) : EReal) = w (ix4 0 0 r j) := by
  unfold woutOf
  refine (shapeCast_apply (s := S1x1x2816x1024) _ _ _ (ix4 0 0 r j) ?_).trans ?_
  · rw [Shape.rowMajor_val_two, Shape.rowMajor_val_four]
    show ((0 * 1 + 0) * 2816 + r.val) * 1024 + j.val = r.val * 1024 + j.val
    omega
  · pointwise

/-- The layer's next weights. -/
def woutOfNext (w : FVec Ideal S2x2x2816x1024 .f32) : FVec Ideal S2816x1024 .f32 := shapeCast S2816x1024 (extractStridedSlice S1x1x2816x1024 ![0, 1, 0, 0] w slices_S2x2x2816x1024_S1x1x2816x1024_0_1_0_0) shapeCasts_S1x1x2816x1024_S2816x1024
theorem woutOfNext_apply (w : FVec Ideal S2x2x2816x1024 .f32) (r : Fin 2816) (j : Fin 1024) : (woutOfNext w (ix2 r j) : EReal) = w (ix4 0 1 r j) := by
  unfold woutOfNext
  refine (shapeCast_apply (s := S1x1x2816x1024) _ _ _ (ix4 0 0 r j) ?_).trans ?_
  · rw [Shape.rowMajor_val_two, Shape.rowMajor_val_four]
    show ((0 * 1 + 0) * 2816 + r.val) * 1024 + j.val = r.val * 1024 + j.val
    omega
  · pointwise

/-- The convolution mixer's first weights. -/
def mixIn (w : FVec Ideal S1x1024x2560 .f32) : FVec Ideal S1024x2560 .f32 := shapeCast S1024x2560 w shapeCasts_S1x1024x2560_S1024x2560
theorem mixIn_apply (w : FVec Ideal S1x1024x2560 .f32) (r : Fin 1024) (j : Fin 2560) : (mixIn w (ix2 r j) : EReal) = w (ix3 0 r j) := by
  unfold mixIn
  refine shapeCast_apply (s := S1x1024x2560) _ _ _ (ix3 0 r j) ?_
  rw [Shape.rowMajor_val_two, Shape.rowMajor_val_three]
  show (0 * 1024 + r.val) * 2560 + j.val = r.val * 2560 + j.val
  omega

/-- The convolution mixer's second weights. -/
def mixOut (w : FVec Ideal S1x1024x1024 .f32) : FVec Ideal S1024x1024 .f32 := shapeCast S1024x1024 w shapeCasts_S1x1024x1024_S1024x1024
theorem mixOut_apply (w : FVec Ideal S1x1024x1024 .f32) (r : Fin 1024) (j : Fin 1024) : (mixOut w (ix2 r j) : EReal) = w (ix3 0 r j) := by
  unfold mixOut
  refine shapeCast_apply (s := S1x1024x1024) _ _ _ (ix3 0 r j) ?_
  rw [Shape.rowMajor_val_two, Shape.rowMajor_val_three]
  show (0 * 1024 + r.val) * 1024 + j.val = r.val * 1024 + j.val
  omega

/-- The pool mixer's weights, one group after another. -/
def poolW (w : FVec Ideal S1x4x256x256 .f32) : FVec Ideal S1024x256 .f32 :=
  shapeCast S1024x256 (shapeCast S1x1024x256 w shapeCasts_S1x4x256x256_S1x1024x256) shapeCasts_S1x1024x256_S1024x256
theorem poolW_apply (w : FVec Ideal S1x4x256x256 .f32) (r : Fin 1024) (j : Fin 256) :
    (poolW w (ix2 r j) : EReal) = w (ix4 0 ⟨r.val / 256, by omega⟩ ⟨r.val % 256, by omega⟩ j) := by
  unfold poolW
  refine (shapeCast_apply (s := S1x1024x256) _ _ _ (ix3 0 r j) ?_).trans (shapeCast_apply (s := S1x4x256x256) _ _ _ _ ?_)
  · rw [Shape.rowMajor_val_two, Shape.rowMajor_val_three]
    show (0 * 1024 + r.val) * 256 + j.val = r.val * 256 + j.val
    omega
  · rw [Shape.rowMajor_val_three, Shape.rowMajor_val_four]
    show ((0 * 4 + r.val / 256) * 256 + r.val % 256) * 256 + j.val = (0 * 1024 + r.val) * 256 + j.val
    omega

/-! The half layer's results by index, from the weights as they come. -/
section half
variable (g : Cert.Ref.A1) (w : FVec Ideal S2x2x1024x5632 .f32) (v : FVec Ideal S2x2x2816x1024 .f32)
theorem ref0_apply (x : Cert.Ref.A3) (r : Fin 16384) (j : Fin 1024) :
    Cert.Ref2.ref0 x g (winOf w) (woutOf v) (ix2 r j) = Spec.half (Cert.Ref.row3 x ⟨r / 2048, by omega⟩ ⟨r % 2048, by omega⟩) (Cert.Ref.vec g) (fun i l => w (ix4 0 0 i l)) (fun i l => v (ix4 0 0 i l)) j :=
  (Cert.Ref2.ref0_apply x g _ _ r j).trans (congrArg₂ (fun a b => Spec.half _ _ a b j) (funext fun i => funext fun l => winOf_apply w i l) (funext fun i => funext fun l => woutOf_apply v i l))
theorem ref1_apply (x : Cert.Ref.A2) (r : Fin 512) (j : Fin 1024) :
    Cert.Ref2.ref1 x g (winOf w) (woutOf v) (ix2 r j) = Spec.half (fun k => x (ix2 r k)) (Cert.Ref.vec g) (fun i l => w (ix4 0 0 i l)) (fun i l => v (ix4 0 0 i l)) j :=
  (Cert.Ref.half2_apply x g _ _ r j).trans (congrArg₂ (fun a b => Spec.half _ _ a b j) (funext fun i => funext fun l => winOf_apply w i l) (funext fun i => funext fun l => woutOf_apply v i l))
end half

/-- The reference's seven results, and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v48) = Cert.Ref2.ref0 (m ((c.tc : Thread nD τ).loc main_arg0)) (m ((c.tc : Thread nD τ).loc main_arg2)) (winOf (m ((c.tc : Thread nD τ).loc main_arg3))) (woutOf (m ((c.tc : Thread nD τ).loc main_arg4)))
      ∧ r.2.mem ((c.tc : Thread nD τ).loc main_v47) = Cert.Ref2.ref1 (m ((c.tc : Thread nD τ).loc main_arg1)) (m ((c.tc : Thread nD τ).loc main_arg2)) (winOf (m ((c.tc : Thread nD τ).loc main_arg3))) (woutOf (m ((c.tc : Thread nD τ).loc main_arg4)))
      ∧ r.2.mem ((c.tc : Thread nD τ).loc main_v51) = truncf .bf16 (winOfNext (m ((c.tc : Thread nD τ).loc main_arg3))) bitsLt_bf16_f32
      ∧ r.2.mem ((c.tc : Thread nD τ).loc main_v54) = truncf .bf16 (woutOfNext (m ((c.tc : Thread nD τ).loc main_arg4))) bitsLt_bf16_f32
      ∧ r.2.mem ((c.tc : Thread nD τ).loc main_v56) = truncf .bf16 (mixIn (m ((c.tc : Thread nD τ).loc main_arg5))) bitsLt_bf16_f32
      ∧ r.2.mem ((c.tc : Thread nD τ).loc main_v58) = truncf .bf16 (mixOut (m ((c.tc : Thread nD τ).loc main_arg6))) bitsLt_bf16_f32
      ∧ r.2.mem ((c.tc : Thread nD τ).loc main_v61) = truncf .bf16 (poolW (m ((c.tc : Thread nD τ).loc main_arg7))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2⟩) (run (F := Ideal) m ρ)

end Cert.Ref5

end
-- ==== Proof.lean ====
/- The claims about five of the layer's calls, proved: the pool mixer's with the feed-forward layer and the last
   normalisation; the feed-forward layer's own (names ending in 2); the convolution mixer's of the sampled rows (in 3);
   the pool mixer's of the sampled rows (in 4); the first feed-forward half's, before the convolution mixers (in 5).
   `frame_*`: each program runs, leaves its arguments unchanged and ends with every counter at zero.
   `algebraic`: over the extended reals the pool call's three results are the reference's, for a finite mixer gain.
   `algebraic2`: over the extended reals the feed-forward call's four results are the reference's.
   `algebraic3`: over the extended reals the convolution mixer call's three results are the reference's.
   `algebraic4`: over the extended reals the sampled pool mixer call's two results are the reference's, for a finite history and gain.
   `algebraic5`: over the extended reals the first feed-forward call's seven results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Pool.Finish
public import proofs.«01_k».proof.Proof.Pool.RefVal
public import proofs.«01_k».proof.Proof.Pool.Pre
public import proofs.«01_k».proof.Proof.Gen.Kernel2
public import proofs.«01_k».proof.Proof.Gen.Kernel2Ideal
public import proofs.«01_k».proof.Proof.Gen.Reference2Ideal
public import proofs.«01_k».proof.Proof.Ffn.Finish
public import proofs.«01_k».proof.Proof.Ffn.RefVal
public import proofs.«01_k».proof.Proof.Gen.Kernel3
public import proofs.«01_k».proof.Proof.Gen.Kernel3Ideal
public import proofs.«01_k».proof.Proof.Gen.Reference3Ideal
public import proofs.«01_k».proof.Proof.Mix.Finish
public import proofs.«01_k».proof.Proof.Mix.RefVal
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Hist.Finish
public import proofs.«01_k».proof.Proof.Hist.RefVal
public import proofs.«01_k».proof.Proof.Hist.Pre
public import Idealize.ShloMosaic.Lib.Quiescent
public import Idealize.ShloMosaic.Adequacy
public import Idealize.ShloMosaic.Init
public import proofs.«01_k».proof.Proof.Gen.Kernel5
public import proofs.«01_k».proof.Proof.Gen.Kernel5Ideal
public import proofs.«01_k».proof.Proof.Gen.Reference5Ideal
public import proofs.«01_k».proof.Proof.First.Finish
public import proofs.«01_k».proof.Proof.First.RefVal

@[expose] public section

set_option maxRecDepth 16384

noncomputable section

namespace Cert.Proof

open Idealize.ShloMosaic Idealize.ShloMosaic.TcCoe Idealize.SL.Sem

instance preFacts : Cert.Pre_gains_finite.Facts := Cert.Pre_gains_finite.facts

/-- The two programs' bodies are one text. -/
theorem body_eq : Cert.Kernel.cc0_pool_ffn_final (F := Bits) = Cert.KernelIdeal.cc0_pool_ffn_final (F := Bits) := rfl
/-- So are their body tables. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_pool_ffn_final (F := Bits) _ _ _ _ _ _ _ _ _ _ _ _ _ _ _ _ _ _ _ _ _ _ _ _ _ _ _ _ _ _ _ _ _ _ _ = _
    rw [body_eq]
    rfl
theorem defs_eq : Cert.Kernel.defs (F := Bits) = Cert.KernelIdeal.defs (F := Bits) := congrArg (Pipeline.defs Cert.KernelIdeal.pcfgs) bodies_eq
/-- The kernel runs, at words: the same text as the ideal kernel's. -/
theorem frame_kernel : Cert.quiescent_Kernel := by
  intro m ρ _
  rw [defs_eq]
  exact (θ_run Cert.KernelIdeal.defs _ _).mono (fun _ h => h) (Cert.KernelIdeal.Pool.frame (F := Bits) m ρ)
/-- The ideal kernel runs. -/
theorem frame_ideal : Cert.quiescent_KernelIdeal := fun m ρ _ => Cert.KernelIdeal.Pool.frame (F := Ideal) m ρ
/-- So it does under the precondition. -/
theorem frame_ideal_pre : Cert.quiescent_KernelIdeal_pre_gains_finite := fun m ρ _ => Cert.KernelIdeal.Pool.frame (F := Ideal) m ρ
/-- The reference runs; it has no counters. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.Ref.run_values m ρ)
/-- So it does under the precondition. -/
theorem frame_reference_pre : Cert.quiescent_ReferenceIdeal_pre_gains_finite := fun m ρ _ => frame_reference m ρ trivial
/-- The ideal kernel is the kernel's text. -/
theorem preserves : Cert.preserves_Kernel_KernelIdeal := trivial

section results
open Cert.KernelIdeal Cert.KernelIdeal.Pool
variable (m : (ℓ : Loc nD τ sig) → Buf (Elt Ideal) ℓ) (c : Dev nD)

/-- The reference's first result, of the kernel's arguments, is the kernel's. -/
theorem first_eq (h : ∀ i : S1024.Idx, ∃ r : ℝ, ((m ((c.tc : Thread nD τ).loc main_arg2) : FVec Ideal S1024 .f32) i : EReal) = ((r : ℝ) : EReal)) :
    Cert.Ref.ref0 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = res0 m c := by
  refine funext fun (y : S16384x1024.Idx) => ?_
  obtain ⟨r, j, rfl⟩ : ∃ (r : Fin 16384) (j : Fin 1024), y = ix2 r j := ⟨y 0, y 1, eq_ix2 y⟩
  refine Cert.Ref.ref0_apply _ _ _ _ _ _ _ _ _ (fun i => ?_) r j
  obtain ⟨s, p, k, rfl⟩ : ∃ (s : Fin 8) (p : Fin 2048) (k : Fin 1024), i = ix3 s p k := ⟨i 0, i 1, i 2, eq_ix3 i⟩
  rw [Cert.Ref.norm3_apply]
  exact Cert.Spec.norm_real _ _ (fun k => h (ix1 k)) k
/-- The reference's second result is the kernel's. -/
theorem second_eq : Cert.Ref.ref1 (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) = res1 m c := by
  refine funext fun (y : S512x1024.Idx) => ?_
  obtain ⟨r, j, rfl⟩ : ∃ (r : Fin 512) (j : Fin 1024), y = ix2 r j := ⟨y 0, y 1, eq_ix2 y⟩
  exact Cert.Ref.ref1_apply _ _ _ _ _ r j
/-- The reference's third result is the kernel's. -/
theorem third_eq : Cert.Ref.ref2 (m ((c.tc : Thread nD τ).loc main_arg0)) (m ((c.tc : Thread nD τ).loc main_arg2)) = res2 m c := by
  refine funext fun (y : S8x15x1024.Idx) => ?_
  obtain ⟨s, i, j, rfl⟩ : ∃ (s : Fin 8) (i : Fin 15) (j : Fin 1024), y = ix3 s i j := ⟨y 0, y 1, y 2, eq_ix3 y⟩
  exact Cert.Ref.ref2_apply _ _ s i j
end results

/-- The call's results are the reference's. -/
theorem algebraic : Cert.algebraic_KernelIdeal_ReferenceIdeal_pre_gains_finite := by
  intro m ρ m' ρ' hpre hagree
  refine ⟨fun c => Cert.KernelIdeal.Pool.res0 m c, fun c => Cert.KernelIdeal.Pool.res1 m c, fun c => Cert.KernelIdeal.Pool.res2 m c, Cert.KernelIdeal.Pool.run_values m ρ, ?_⟩
  refine (θ_run Cert.ReferenceIdeal.defs _ _).mono (fun r h c => ⟨(h c).1.trans ?_, (h c).2.1.trans ?_, (h c).2.2.1.trans ?_, (h c).2.2.2⟩) (Cert.Ref.run_values m' ρ')
  · obtain ⟨h0, h1, h2, h3, h4, h5, h6, h7, h8, h9⟩ := hagree c
    rw [h0, h2, h3, h4, h5, h6, h7, h8, h9]
    exact first_eq m c (Cert.Pre_gains_finite.gain_real _ _ _ _ _ _ _ _ _ _ (hpre c))
  · obtain ⟨h0, h1, h2, h3, h4, h5, h6, h7, h8, h9⟩ := hagree c
    rw [h1, h6, h7, h8, h9]
    exact second_eq m c
  · obtain ⟨h0, h1, h2, h3, h4, h5, h6, h7, h8, h9⟩ := hagree c
    rw [h0, h2]
    exact third_eq m c

/-! ## The feed-forward call -/

/-- The two programs' bodies are one text. -/
theorem body2_eq : Cert.Kernel2.cc0_ffn (F := Bits) = Cert.Kernel2Ideal.cc0_ffn (F := Bits) := rfl
/-- So are their body tables. -/
theorem bodies2_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) =>
    show Cert.Kernel2.cc0_ffn (F := Bits) _ _ _ _ _ _ _ _ _ _ _ _ _ _ _ _ _ _ _ _ _ _ _ _ _ = _
    rw [body2_eq]
    rfl
theorem defs2_eq : Cert.Kernel2.defs (F := Bits) = Cert.Kernel2Ideal.defs (F := Bits) := congrArg (Pipeline.defs Cert.Kernel2Ideal.pcfgs) bodies2_eq
/-- The kernel runs, at words: the same text as the ideal kernel's. -/
theorem frame_kernel2 : Cert.quiescent_Kernel2 := by
  intro m ρ _
  rw [defs2_eq]
  exact (θ_run Cert.Kernel2Ideal.defs _ _).mono (fun _ h => h) (Cert.Kernel2Ideal.Ffn.frame (F := Bits) m ρ)
/-- The ideal kernel runs. -/
theorem frame_ideal2 : Cert.quiescent_Kernel2Ideal := fun m ρ _ => Cert.Kernel2Ideal.Ffn.frame (F := Ideal) m ρ
/-- The reference runs; it has no counters. -/
theorem frame_reference2 : Cert.quiescent_Reference2Ideal := fun m ρ _ =>
  (θ_run Cert.Reference2Ideal.defs _ _).mono (fun r h => ⟨fun c => (h c).2.2.2.2, sem_eq_zero_of_no_sems (by decide) r.2⟩) (Cert.Ref2.run_values m ρ)
/-- The ideal kernel is the kernel's text. -/
theorem preserves2 : Cert.preserves_Kernel2_Kernel2Ideal := trivial

/-- The call's results are the reference's. -/
theorem algebraic2 : Cert.algebraic_Kernel2Ideal_Reference2Ideal := by
  intro m ρ m' ρ' _ hagree
  refine ⟨fun c => Cert.Kernel2Ideal.Ffn.res0 m c, fun c => Cert.Kernel2Ideal.Ffn.res1 m c, fun c => Cert.Kernel2Ideal.Ffn.res2 m c, fun c => Cert.Kernel2Ideal.Ffn.res3 m c, Cert.Kernel2Ideal.Ffn.run_values m ρ, ?_⟩
  refine (θ_run Cert.Reference2Ideal.defs _ _).mono (fun r h c => ⟨(h c).1.trans ?_, (h c).2.1.trans ?_, (h c).2.2.1.trans ?_, (h c).2.2.2.1.trans ?_, (h c).2.2.2.2⟩) (Cert.Ref2.run_values m' ρ')
  · obtain ⟨h0, h1, h2, h3, h4, h5, h6⟩ := hagree c
    rw [h0, h2, h3, h4]
    refine funext fun (y : Cert.Kernel2Ideal.S16384x1024.Idx) => ?_
    obtain ⟨r, j, rfl⟩ : ∃ (r : Fin 16384) (j : Fin 1024), y = ix2 r j := ⟨y 0, y 1, eq_ix2 y⟩
    exact Cert.Ref2.ref0_apply _ _ _ _ r j
  · obtain ⟨h0, h1, h2, h3, h4, h5, h6⟩ := hagree c
    rw [h1, h2, h3, h4]
    refine funext fun (y : Cert.Kernel2Ideal.S512x1024.Idx) => ?_
    obtain ⟨r, j, rfl⟩ : ∃ (r : Fin 512) (j : Fin 1024), y = ix2 r j := ⟨y 0, y 1, eq_ix2 y⟩
    exact Cert.Ref.half2_apply _ _ _ _ r j
  · obtain ⟨h0, h1, h2, h3, h4, h5, h6⟩ := hagree c
    rw [h5]
    refine funext fun (y : Cert.Kernel2Ideal.S1024x5632.Idx) => ?_
    obtain ⟨r, j, rfl⟩ : ∃ (r : Fin 1024) (j : Fin 5632), y = ix2 r j := ⟨y 0, y 1, eq_ix2 y⟩
    exact Cert.Ref2.ref2_apply _ r j
  · obtain ⟨h0, h1, h2, h3, h4, h5, h6⟩ := hagree c
    rw [h6]
    refine funext fun (y : Cert.Kernel2Ideal.S2816x1024.Idx) => ?_
    obtain ⟨r, j, rfl⟩ : ∃ (r : Fin 2816) (j : Fin 1024), y = ix2 r j := ⟨y 0, y 1, eq_ix2 y⟩
    exact Cert.Ref2.ref3_apply _ r j

/-! ## The convolution mixer's call -/

/-- The two programs' bodies are one text. -/
theorem body3_eq : Cert.Kernel3.cc0_mix_ab_sample (F := Bits) = Cert.Kernel3Ideal.cc0_mix_ab_sample (F := Bits) := rfl
/-- So are their body tables. -/
theorem bodies3_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) =>
    show Cert.Kernel3.cc0_mix_ab_sample (F := Bits) _ _ _ _ _ _ _ _ _ _ _ _ _ _ _ _ _ _ _ _ _ _ _ _ _ _ _ _ _ _ _ _ _ _ = _
    rw [body3_eq]
theorem defs3_eq : Cert.Kernel3.defs (F := Bits) = Cert.Kernel3Ideal.defs (F := Bits) := congrArg (Pipeline.defs Cert.Kernel3Ideal.pcfgs) bodies3_eq
/-- The kernel runs, at words: the same text as the ideal kernel's. -/
theorem frame_kernel3 : Cert.quiescent_Kernel3 := by
  intro m ρ _
  rw [defs3_eq]
  exact (θ_run Cert.Kernel3Ideal.defs _ _).mono (fun _ h => h) (Cert.Kernel3Ideal.Gen.frame (F := Bits) m ρ)
/-- The ideal kernel runs. -/
theorem frame_ideal3 : Cert.quiescent_Kernel3Ideal := fun m ρ _ => Cert.Kernel3Ideal.Gen.frame (F := Ideal) m ρ
/-- The reference runs; it has no counters. -/
theorem frame_reference3 : Cert.quiescent_Reference3Ideal := fun m ρ _ =>
  (θ_run Cert.Reference3Ideal.defs _ _).mono (fun r h => ⟨fun c => (h c).2.2.2, sem_eq_zero_of_no_sems (by decide) r.2⟩) (Cert.Ref3.run_values m ρ)
/-- The ideal kernel is the kernel's text. -/
theorem preserves3 : Cert.preserves_Kernel3_Kernel3Ideal := trivial

/-- The call's results are the reference's. -/
theorem algebraic3 : Cert.algebraic_Kernel3Ideal_Reference3Ideal := by
  intro m ρ m' ρ' _ hagree
  refine ⟨fun c => Cert.Kernel3Ideal.Mix.res0 m c, fun c => Cert.Kernel3Ideal.Mix.res1 m c, fun c => Cert.Kernel3Ideal.Mix.res2 m c, Cert.Kernel3Ideal.Mix.run_values m ρ, ?_⟩
  refine (θ_run Cert.Reference3Ideal.defs _ _).mono (fun r h c => ⟨(h c).1.trans ?_, (h c).2.1.trans ?_, (h c).2.2.1.trans ?_, (h c).2.2.2⟩) (Cert.Ref3.run_values m' ρ')
  · obtain ⟨h0, h1, h2, h3, h4, h5, h6, h7, h8, h9, h10⟩ := hagree c
    rw [h0, h1, h2, h3, h4, h5, h6, h7, h8, h9, h10]
    refine funext fun (y : Cert.Kernel3Ideal.S512x1024.Idx) => ?_
    obtain ⟨r, j, rfl⟩ : ∃ (r : Fin 512) (j : Fin 1024), y = ix2 r j := ⟨y 0, y 1, eq_ix2 y⟩
    exact Cert.Ref3.ref0_apply _ _ _ _ _ _ _ _ _ _ _ r j
  · obtain ⟨h0, h1, h2, h3, h4, h5, h6, h7, h8, h9, h10⟩ := hagree c
    rw [h0, h1, h3, h4]
    refine funext fun (y : Cert.Kernel3Ideal.S30x128x512.Idx) => ?_
    obtain ⟨q, n, j, rfl⟩ : ∃ (q : Fin 30) (n : Fin 128) (j : Fin 512), y = ix3 q n j := ⟨y 0, y 1, y 2, eq_ix3 y⟩
    exact Cert.Ref3.ref1_apply _ _ _ _ q n j
  · obtain ⟨h0, h1, h2, h3, h4, h5, h6, h7, h8, h9, h10⟩ := hagree c
    rw [h0, h2, h3, h4]
    refine funext fun (y : Cert.Kernel3Ideal.S2x128x512.Idx) => ?_
    obtain ⟨q, n, j, rfl⟩ : ∃ (q : Fin 2) (n : Fin 128) (j : Fin 512), y = ix3 q n j := ⟨y 0, y 1, y 2, eq_ix3 y⟩
    exact Cert.Ref3.ref2_apply _ _ _ _ q n j

/-! ## The pool mixer's call of the sampled rows -/

instance rowsFacts : Cert.Pre_rows_finite.Facts := Cert.Pre_rows_finite.facts
/-- The two programs' bodies are one text. -/
theorem body4_eq : Cert.Kernel4.cc0_pool_sample (F := Bits) = Cert.Kernel4Ideal.cc0_pool_sample (F := Bits) := rfl
/-- So are their body tables. -/
theorem bodies4_eq : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) =>
    show Cert.Kernel4.cc0_pool_sample (F := Bits) _ _ _ _ _ _ _ _ _ _ _ _ _ _ _ _ _ _ _ _ = _
    rw [body4_eq]
theorem defs4_eq : Cert.Kernel4.defs (F := Bits) = Cert.Kernel4Ideal.defs (F := Bits) := congrArg (Pipeline.defs Cert.Kernel4Ideal.pcfgs) bodies4_eq
/-- The kernel runs, at words: the same text as the ideal kernel's. -/
theorem frame_kernel4 : Cert.quiescent_Kernel4 := by
  intro m ρ _
  rw [defs4_eq]
  exact (θ_run Cert.Kernel4Ideal.defs _ _).mono (fun _ h => h) (Cert.Kernel4Ideal.Gen.frame (F := Bits) m ρ)
/-- The ideal kernel runs. -/
theorem frame_ideal4 : Cert.quiescent_Kernel4Ideal := fun m ρ _ => Cert.Kernel4Ideal.Gen.frame (F := Ideal) m ρ
/-- So it does under the precondition. -/
theorem frame_ideal_pre4 : Cert.quiescent_Kernel4Ideal_pre_rows_finite := fun m ρ _ => Cert.Kernel4Ideal.Gen.frame (F := Ideal) m ρ
/-- The reference runs; it has no counters. -/
theorem frame_reference4 : Cert.quiescent_Reference4Ideal := fun m ρ _ =>
  (θ_run Cert.Reference4Ideal.defs _ _).mono (fun r h => ⟨fun c => (h c).2.2, sem_eq_zero_of_no_sems (by decide) r.2⟩) (Cert.Ref4.run_values m ρ)
/-- So it does under the precondition. -/
theorem frame_reference_pre4 : Cert.quiescent_Reference4Ideal_pre_rows_finite := fun m ρ _ => frame_reference4 m ρ trivial
/-- The ideal kernel is the kernel's text. -/
theorem preserves4 : Cert.preserves_Kernel4_Kernel4Ideal := trivial

/-- The call's results are the reference's. -/
theorem algebraic4 : Cert.algebraic_Kernel4Ideal_Reference4Ideal_pre_rows_finite := by
  intro m ρ m' ρ' hpre hagree
  refine ⟨fun c => Cert.Kernel4Ideal.Hist.res0 m c, fun c => Cert.Kernel4Ideal.Hist.res1 m c, Cert.Kernel4Ideal.Hist.run_values m ρ, ?_⟩
  refine (θ_run Cert.Reference4Ideal.defs _ _).mono (fun r h c => ⟨(h c).1.trans ?_, (h c).2.1.trans ?_, (h c).2.2⟩) (Cert.Ref4.run_values m' ρ')
  · obtain ⟨h0, h1, h2, h3, h4, h5⟩ := hagree c
    rw [h0, h1, h2, h3, h4, h5]
    obtain ⟨hc, hg⟩ := Cert.Pre_rows_finite.rows_real _ _ _ _ _ _ (hpre c)
    refine funext fun (y : Cert.Kernel4Ideal.S512x1024.Idx) => ?_
    obtain ⟨r, j, rfl⟩ : ∃ (r : Fin 512) (j : Fin 1024), y = ix2 r j := ⟨y 0, y 1, eq_ix2 y⟩
    exact Cert.Ref4.ref0_apply _ _ _ _ _ _ hc hg r j
  · obtain ⟨h0, h1, h2, h3, h4, h5⟩ := hagree c
    rw [h0, h1, h2]
    refine funext fun (y : Cert.Kernel4Ideal.S15x128x1024.Idx) => ?_
    obtain ⟨q, n, j, rfl⟩ : ∃ (q : Fin 15) (n : Fin 128) (j : Fin 1024), y = ix3 q n j := ⟨y 0, y 1, y 2, eq_ix3 y⟩
    exact Cert.Ref4.ref1_apply _ _ _ q n j

/-! ## The call before the convolution mixers -/

/-- The two programs' bodies are one text. -/
theorem body5_eq : Cert.Kernel5.cc0_ffn (F := Bits) = Cert.Kernel5Ideal.cc0_ffn (F := Bits) := rfl
set_option maxHeartbeats 4000000 in
/-- So are their body tables. -/
theorem bodies5_eq : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) =>
    show Cert.Kernel5.cc0_ffn (F := Bits) _ _ _ _ _ _ _ _ _ _ _ _ _ _ _ _ _ _ _ _ _ _ _ _ _ _ _ _ _ _ _ _ _ _ _ _ _ _ _ _ _ = _
    rw [body5_eq]
    rfl
theorem defs5_eq : Cert.Kernel5.defs (F := Bits) = Cert.Kernel5Ideal.defs (F := Bits) := congrArg (Pipeline.defs Cert.Kernel5Ideal.pcfgs) bodies5_eq
/-- The kernel runs, at words: the same text as the ideal kernel's. -/
theorem frame_kernel5 : Cert.quiescent_Kernel5 := by
  intro m ρ _
  rw [defs5_eq]
  exact (θ_run Cert.Kernel5Ideal.defs _ _).mono (fun _ h => h) (Cert.Kernel5Ideal.First.frame (F := Bits) m ρ)
/-- The ideal kernel runs. -/
theorem frame_ideal5 : Cert.quiescent_Kernel5Ideal := fun m ρ _ => Cert.Kernel5Ideal.First.frame (F := Ideal) m ρ
/-- The reference runs; it has no counters. -/
theorem frame_reference5 : Cert.quiescent_Reference5Ideal := fun m ρ _ =>
  (θ_run Cert.Reference5Ideal.defs _ _).mono (fun r h => ⟨fun c => (h c).2.2.2.2.2.2.2, sem_eq_zero_of_no_sems (by decide) r.2⟩) (Cert.Ref5.run_values m ρ)
/-- The ideal kernel is the kernel's text. -/
theorem preserves5 : Cert.preserves_Kernel5_Kernel5Ideal := trivial

/-- The call's results are the reference's. -/
theorem algebraic5 : Cert.algebraic_Kernel5Ideal_Reference5Ideal := by
  intro m ρ m' ρ' _ hagree
  refine ⟨fun c => Cert.Kernel5Ideal.First.res0 m c, fun c => Cert.Kernel5Ideal.First.res1 m c, fun c => Cert.Kernel5Ideal.First.res2 m c, fun c => Cert.Kernel5Ideal.First.res3 m c, fun c => Cert.Kernel5Ideal.First.res4 m c, fun c => Cert.Kernel5Ideal.First.res5 m c, fun c => Cert.Kernel5Ideal.First.res6 m c, Cert.Kernel5Ideal.First.run_values m ρ, ?_⟩
  refine (θ_run Cert.Reference5Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Ref5.run_values m' ρ')
  · obtain ⟨h0, h1, h2, h3, h4, h5, h6, h7⟩ := hagree c
    rw [h0, h2, h3, h4]
    refine funext fun (y : Cert.Kernel5Ideal.S16384x1024.Idx) => ?_
    obtain ⟨r, j, rfl⟩ : ∃ (r : Fin 16384) (j : Fin 1024), y = ix2 r j := ⟨y 0, y 1, eq_ix2 y⟩
    exact Cert.Ref5.ref0_apply _ _ _ _ r j
  · obtain ⟨h0, h1, h2, h3, h4, h5, h6, h7⟩ := hagree c
    rw [h1, h2, h3, h4]
    refine funext fun (y : Cert.Kernel5Ideal.S512x1024.Idx) => ?_
    obtain ⟨r, j, rfl⟩ : ∃ (r : Fin 512) (j : Fin 1024), y = ix2 r j := ⟨y 0, y 1, eq_ix2 y⟩
    exact Cert.Ref5.ref1_apply _ _ _ _ r j
  · obtain ⟨h0, h1, h2, h3, h4, h5, h6, h7⟩ := hagree c
    rw [h3]
    refine funext fun (y : Cert.Kernel5Ideal.S1024x5632.Idx) => ?_
    obtain ⟨r, j, rfl⟩ : ∃ (r : Fin 1024) (j : Fin 5632), y = ix2 r j := ⟨y 0, y 1, eq_ix2 y⟩
    exact Cert.Ref5.winOfNext_apply _ r j
  · obtain ⟨h0, h1, h2, h3, h4, h5, h6, h7⟩ := hagree c
    rw [h4]
    refine funext fun (y : Cert.Kernel5Ideal.S2816x1024.Idx) => ?_
    obtain ⟨r, j, rfl⟩ : ∃ (r : Fin 2816) (j : Fin 1024), y = ix2 r j := ⟨y 0, y 1, eq_ix2 y⟩
    exact Cert.Ref5.woutOfNext_apply _ r j
  · obtain ⟨h0, h1, h2, h3, h4, h5, h6, h7⟩ := hagree c
    rw [h5]
    refine funext fun (y : Cert.Kernel5Ideal.S1024x2560.Idx) => ?_
    obtain ⟨r, j, rfl⟩ : ∃ (r : Fin 1024) (j : Fin 2560), y = ix2 r j := ⟨y 0, y 1, eq_ix2 y⟩
    exact Cert.Ref5.mixIn_apply _ r j
  · obtain ⟨h0, h1, h2, h3, h4, h5, h6, h7⟩ := hagree c
    rw [h6]
    refine funext fun (y : Cert.Kernel5Ideal.S1024x1024.Idx) => ?_
    obtain ⟨r, j, rfl⟩ : ∃ (r : Fin 1024) (j : Fin 1024), y = ix2 r j := ⟨y 0, y 1, eq_ix2 y⟩
    exact Cert.Ref5.mixOut_apply _ r j
  · obtain ⟨h0, h1, h2, h3, h4, h5, h6, h7⟩ := hagree c
    rw [h7]
    refine funext fun (y : Cert.Kernel5Ideal.S1024x256.Idx) => ?_
    obtain ⟨r, j, rfl⟩ : ∃ (r : Fin 1024) (j : Fin 256), y = ix2 r j := ⟨y 0, y 1, eq_ix2 y⟩
    exact Cert.Ref5.poolW_apply _ r j

/-! ## Every claim -/

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_gains_finite.facts, Cert.Pre_rows_finite.facts,
    frame_kernel, frame_ideal, frame_ideal_pre, frame_reference, frame_reference_pre,
    frame_kernel2, frame_ideal2, frame_reference2, frame_kernel3, frame_ideal3, frame_reference3,
    frame_kernel4, frame_ideal4, frame_ideal_pre4, frame_reference4, frame_reference_pre4,
    frame_kernel5, frame_ideal5, frame_reference5,
    preserves, algebraic, preserves2, algebraic2, preserves3, algebraic3, preserves4, algebraic4, preserves5, algebraic5⟩

end Cert.Proof

end
